-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_UqDw (m : (ℓ : Loc Cert.UqDw.nD Cert.UqDw.τ Cert.UqDw.sig) → Buf (Elt Bits) ℓ) : Prop :=
  True

def Pre_UqDwIdeal (m : (ℓ : Loc Cert.UqDwIdeal.nD Cert.UqDwIdeal.τ Cert.UqDwIdeal.sig) → Buf (Elt Ideal) ℓ) : Prop :=
  True

def Pre_UqDwRefIdeal (m : (ℓ : Loc Cert.UqDwRefIdeal.nD Cert.UqDwRefIdeal.τ Cert.UqDwRefIdeal.sig) → Buf (Elt Ideal) ℓ) : Prop :=
  True

def Pre_UqDx (m : (ℓ : Loc Cert.UqDx.nD Cert.UqDx.τ Cert.UqDx.sig) → Buf (Elt Bits) ℓ) : Prop :=
  True

def Pre_UqDxIdeal (m : (ℓ : Loc Cert.UqDxIdeal.nD Cert.UqDxIdeal.τ Cert.UqDxIdeal.sig) → Buf (Elt Ideal) ℓ) : Prop :=
  True

def Pre_UqDxRefIdeal (m : (ℓ : Loc Cert.UqDxRefIdeal.nD Cert.UqDxRefIdeal.τ Cert.UqDxRefIdeal.sig) → Buf (Elt Ideal) ℓ) : Prop :=
  True

def Pre_UkvDw (m : (ℓ : Loc Cert.UkvDw.nD Cert.UkvDw.τ Cert.UkvDw.sig) → Buf (Elt Bits) ℓ) : Prop :=
  True

def Pre_UkvDwIdeal (m : (ℓ : Loc Cert.UkvDwIdeal.nD Cert.UkvDwIdeal.τ Cert.UkvDwIdeal.sig) → Buf (Elt Ideal) ℓ) : Prop :=
  True

def Pre_UkvDwRefIdeal (m : (ℓ : Loc Cert.UkvDwRefIdeal.nD Cert.UkvDwRefIdeal.τ Cert.UkvDwRefIdeal.sig) → Buf (Elt Ideal) ℓ) : Prop :=
  True

def Pre_UkvDx (m : (ℓ : Loc Cert.UkvDx.nD Cert.UkvDx.τ Cert.UkvDx.sig) → Buf (Elt Bits) ℓ) : Prop :=
  True

def Pre_UkvDxIdeal (m : (ℓ : Loc Cert.UkvDxIdeal.nD Cert.UkvDxIdeal.τ Cert.UkvDxIdeal.sig) → Buf (Elt Ideal) ℓ) : Prop :=
  True

def Pre_UkvDxRefIdeal (m : (ℓ : Loc Cert.UkvDxRefIdeal.nD Cert.UkvDxRefIdeal.τ Cert.UkvDxRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvRefIdeal (m : (ℓ : Loc Cert.UkvRefIdeal.nD Cert.UkvRefIdeal.τ Cert.UkvRefIdeal.sig) → Buf (Elt Ideal) ℓ) : Prop :=
  True

def Pre_MemDw (m : (ℓ : Loc Cert.MemDw.nD Cert.MemDw.τ Cert.MemDw.sig) → Buf (Elt Bits) ℓ) : Prop :=
  True

def Pre_MemDwIdeal (m : (ℓ : Loc Cert.MemDwIdeal.nD Cert.MemDwIdeal.τ Cert.MemDwIdeal.sig) → Buf (Elt Ideal) ℓ) : Prop :=
  True

def Pre_MemDwRefIdeal (m : (ℓ : Loc Cert.MemDwRefIdeal.nD Cert.MemDwRefIdeal.τ Cert.MemDwRefIdeal.sig) → Buf (Elt Ideal) ℓ) : Prop :=
  True

def Pre_MemDx (m : (ℓ : Loc Cert.MemDx.nD Cert.MemDx.τ Cert.MemDx.sig) → Buf (Elt Bits) ℓ) : Prop :=
  True

def Pre_MemDxIdeal (m : (ℓ : Loc Cert.MemDxIdeal.nD Cert.MemDxIdeal.τ Cert.MemDxIdeal.sig) → Buf (Elt Ideal) ℓ) : Prop :=
  True

def Pre_MemDxRefIdeal (m : (ℓ : Loc Cert.MemDxRefIdeal.nD Cert.MemDxRefIdeal.τ Cert.MemDxRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MlaFwd (m : (ℓ : Loc Cert.MlaFwd.nD Cert.MlaFwd.τ Cert.MlaFwd.sig) → Buf (Elt Bits) ℓ) : Prop :=
  True

def Pre_MlaFwdIdeal (m : (ℓ : Loc Cert.MlaFwdIdeal.nD Cert.MlaFwdIdeal.τ Cert.MlaFwdIdeal.sig) → Buf (Elt Ideal) ℓ) : Prop :=
  True

def Pre_MlaFwdIdeal_finite_fwd [hPre_finite_fwd : Cert.Pre_finite_fwd.Facts] (m : (ℓ : Loc Cert.MlaFwdIdeal.nD Cert.MlaFwdIdeal.τ Cert.MlaFwdIdeal.sig) → Buf (Elt Ideal) ℓ) : Prop :=
  ∀ c : Dev Cert.MlaFwdIdeal.nD,
    (Cert.Pre_finite_fwd.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2)) (m ((c.tc : Thread Cert.MlaFwdIdeal.nD Cert.MlaFwdIdeal.τ).loc Cert.MlaFwdIdeal.main_arg3))) = (fun _ => 1#1)

def Pre_MlaFwdRefIdeal (m : (ℓ : Loc Cert.MlaFwdRefIdeal.nD Cert.MlaFwdRefIdeal.τ Cert.MlaFwdRefIdeal.sig) → Buf (Elt Ideal) ℓ) : Prop :=
  True

def Pre_MlaFwdRefIdeal_finite_fwd [hPre_finite_fwd : Cert.Pre_finite_fwd.Facts] (m : (ℓ : Loc Cert.MlaFwdRefIdeal.nD Cert.MlaFwdRefIdeal.τ Cert.MlaFwdRefIdeal.sig) → Buf (Elt Ideal) ℓ) : Prop :=
  ∀ c : Dev Cert.MlaFwdRefIdeal.nD,
    (Cert.Pre_finite_fwd.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2)) (m ((c.tc : Thread Cert.MlaFwdRefIdeal.nD Cert.MlaFwdRefIdeal.τ).loc Cert.MlaFwdRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_UqDw [hUqDw : Cert.UqDw.Facts] : Prop :=
  ∀ (m : (ℓ : Loc Cert.UqDw.nD Cert.UqDw.τ Cert.UqDw.sig) → Buf (Elt Bits) ℓ) (g : Dev Cert.UqDw.nD → PrngReg), Pre_UqDw m →
    θ_run (Cert.UqDw.defs (F := Bits)) (onTc (τ := Cert.UqDw.τ) (Cert.UqDw.main (F := Bits))) ⟨m, fun _ => 0, g⟩ (fun r => (∀ c : Dev Cert.UqDw.nD,
      r.2.mem ((c.tc : Thread Cert.UqDw.nD Cert.UqDw.τ).loc Cert.UqDw.main_arg0) = m ((c.tc : Thread Cert.UqDw.nD Cert.UqDw.τ).loc Cert.UqDw.main_arg0)
      ∧ r.2.mem ((c.tc : Thread Cert.UqDw.nD Cert.UqDw.τ).loc Cert.UqDw.main_arg1) = m ((c.tc : Thread Cert.UqDw.nD Cert.UqDw.τ).loc Cert.UqDw.main_arg1))
      ∧ r.2.sem = fun _ => 0)

def quiescent_UqDwIdeal [hUqDwIdeal : Cert.UqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg), Pre_UqDwIdeal m →
    θ_run (Cert.UqDwIdeal.defs (F := Ideal)) (onTc (τ := Cert.UqDwIdeal.τ) (Cert.UqDwIdeal.main (F := Ideal))) ⟨m, fun _ => 0, g⟩ (fun r => (∀ c : Dev Cert.UqDwIdeal.nD,
      r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
      ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ r.2.sem = fun _ => 0)

def quiescent_UqDwRefIdeal [hUqDwRefIdeal : Cert.UqDwRefIdeal.Facts] : Prop :=
  ∀ (m : (ℓ : Loc Cert.UqDwRefIdeal.nD Cert.UqDwRefIdeal.τ Cert.UqDwRefIdeal.sig) → Buf (Elt Ideal) ℓ) (g : Dev Cert.UqDwRefIdeal.nD → PrngReg), Pre_UqDwRefIdeal m →
    θ_run (Cert.UqDwRefIdeal.defs (F := Ideal)) (onTc (τ := Cert.UqDwRefIdeal.τ) (Cert.UqDwRefIdeal.main (F := Ideal))) ⟨m, fun _ => 0, g⟩ (fun r => (∀ c : Dev Cert.UqDwRefIdeal.nD,
      r.2.mem ((c.tc : Thread Cert.UqDwRefIdeal.nD Cert.UqDwRefIdeal.τ).loc Cert.UqDwRefIdeal.main_arg0) = m ((c.tc : Thread Cert.UqDwRefIdeal.nD Cert.UqDwRefIdeal.τ).loc Cert.UqDwRefIdeal.main_arg0)
      ∧ r.2.mem ((c.tc : Thread Cert.UqDwRefIdeal.nD Cert.UqDwRefIdeal.τ).loc Cert.UqDwRefIdeal.main_arg1) = m ((c.tc : Thread Cert.UqDwRefIdeal.nD Cert.UqDwRefIdeal.τ).loc Cert.UqDwRefIdeal.main_arg1))
      ∧ r.2.sem = fun _ => 0)

def quiescent_UqDx [hUqDx : Cert.UqDx.Facts] : Prop :=
  ∀ (m : (ℓ : Loc Cert.UqDx.nD Cert.UqDx.τ Cert.UqDx.sig) → Buf (Elt Bits) ℓ) (g : Dev Cert.UqDx.nD → PrngReg), Pre_UqDx m →
    θ_run (Cert.UqDx.defs (F := Bits)) (onTc (τ := Cert.UqDx.τ) (Cert.UqDx.main (F := Bits))) ⟨m, fun _ => 0, g⟩ (fun r => (∀ c : Dev Cert.UqDx.nD,
      r.2.mem ((c.tc : Thread Cert.UqDx.nD Cert.UqDx.τ).loc Cert.UqDx.main_arg0) = m ((c.tc : Thread Cert.UqDx.nD Cert.UqDx.τ).loc Cert.UqDx.main_arg0)
      ∧ r.2.mem ((c.tc : Thread Cert.UqDx.nD Cert.UqDx.τ).loc Cert.UqDx.main_arg1) = m ((c.tc : Thread Cert.UqDx.nD Cert.UqDx.τ).loc Cert.UqDx.main_arg1))
      ∧ r.2.sem = fun _ => 0)

def quiescent_UqDxIdeal [hUqDxIdeal : Cert.UqDxIdeal.Facts] : Prop :=
  ∀ (m : (ℓ : Loc Cert.UqDxIdeal.nD Cert.UqDxIdeal.τ Cert.UqDxIdeal.sig) → Buf (Elt Ideal) ℓ) (g : Dev Cert.UqDxIdeal.nD → PrngReg), Pre_UqDxIdeal m →
    θ_run (Cert.UqDxIdeal.defs (F := Ideal)) (onTc (τ := Cert.UqDxIdeal.τ) (Cert.UqDxIdeal.main (F := Ideal))) ⟨m, fun _ => 0, g⟩ (fun r => (∀ c : Dev Cert.UqDxIdeal.nD,
      r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
      ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1))
      ∧ r.2.sem = fun _ => 0)

def quiescent_UqDxRefIdeal [hUqDxRefIdeal : Cert.UqDxRefIdeal.Facts] : Prop :=
  ∀ (m : (ℓ : Loc Cert.UqDxRefIdeal.nD Cert.UqDxRefIdeal.τ Cert.UqDxRefIdeal.sig) → Buf (Elt Ideal) ℓ) (g : Dev Cert.UqDxRefIdeal.nD → PrngReg), Pre_UqDxRefIdeal m →
    θ_run (Cert.UqDxRefIdeal.defs (F := Ideal)) (onTc (τ := Cert.UqDxRefIdeal.τ) (Cert.UqDxRefIdeal.main (F := Ideal))) ⟨m, fun _ => 0, g⟩ (fun r => (∀ c : Dev Cert.UqDxRefIdeal.nD,
      r.2.mem ((c.tc : Thread Cert.UqDxRefIdeal.nD Cert.UqDxRefIdeal.τ).loc Cert.UqDxRefIdeal.main_arg0) = m ((c.tc : Thread Cert.UqDxRefIdeal.nD Cert.UqDxRefIdeal.τ).loc Cert.UqDxRefIdeal.main_arg0)
      ∧ r.2.mem ((c.tc : Thread Cert.UqDxRefIdeal.nD Cert.UqDxRefIdeal.τ).loc Cert.UqDxRefIdeal.main_arg1) = m ((c.tc : Thread Cert.UqDxRefIdeal.nD Cert.UqDxRefIdeal.τ).loc Cert.UqDxRefIdeal.main_arg1))
      ∧ r.2.sem = fun _ => 0)

def quiescent_UkvDw [hUkvDw : Cert.UkvDw.Facts] : Prop :=
  ∀ (m : (ℓ : Loc Cert.UkvDw.nD Cert.UkvDw.τ Cert.UkvDw.sig) → Buf (Elt Bits) ℓ) (g : Dev Cert.UkvDw.nD → PrngReg), Pre_UkvDw m →
    θ_run (Cert.UkvDw.defs (F := Bits)) (onTc (τ := Cert.UkvDw.τ) (Cert.UkvDw.main (F := Bits))) ⟨m, fun _ => 0, g⟩ (fun r => (∀ c : Dev Cert.UkvDw.nD,
      r.2.mem ((c.tc : Thread Cert.UkvDw.nD Cert.UkvDw.τ).loc Cert.UkvDw.main_arg0) = m ((c.tc : Thread Cert.UkvDw.nD Cert.UkvDw.τ).loc Cert.UkvDw.main_arg0)
      ∧ r.2.mem ((c.tc : Thread Cert.UkvDw.nD Cert.UkvDw.τ).loc Cert.UkvDw.main_arg1) = m ((c.tc : Thread Cert.UkvDw.nD Cert.UkvDw.τ).loc Cert.UkvDw.main_arg1))
      ∧ r.2.sem = fun _ => 0)

def quiescent_UkvDwIdeal [hUkvDwIdeal : Cert.UkvDwIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg), Pre_UkvDwIdeal m →
    θ_run (Cert.UkvDwIdeal.defs (F := Ideal)) (onTc (τ := Cert.UkvDwIdeal.τ) (Cert.UkvDwIdeal.main (F := Ideal))) ⟨m, fun _ => 0, g⟩ (fun r => (∀ c : Dev Cert.UkvDwIdeal.nD,
      r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
      ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ r.2.sem = fun _ => 0)

def quiescent_UkvDwRefIdeal [hUkvDwRefIdeal : Cert.UkvDwRefIdeal.Facts] : Prop :=
  ∀ (m : (ℓ : Loc Cert.UkvDwRefIdeal.nD Cert.UkvDwRefIdeal.τ Cert.UkvDwRefIdeal.sig) → Buf (Elt Ideal) ℓ) (g : Dev Cert.UkvDwRefIdeal.nD → PrngReg), Pre_UkvDwRefIdeal m →
    θ_run (Cert.UkvDwRefIdeal.defs (F := Ideal)) (onTc (τ := Cert.UkvDwRefIdeal.τ) (Cert.UkvDwRefIdeal.main (F := Ideal))) ⟨m, fun _ => 0, g⟩ (fun r => (∀ c : Dev Cert.UkvDwRefIdeal.nD,
      r.2.mem ((c.tc : Thread Cert.UkvDwRefIdeal.nD Cert.UkvDwRefIdeal.τ).loc Cert.UkvDwRefIdeal.main_arg0) = m ((c.tc : Thread Cert.UkvDwRefIdeal.nD Cert.UkvDwRefIdeal.τ).loc Cert.UkvDwRefIdeal.main_arg0)
      ∧ r.2.mem ((c.tc : Thread Cert.UkvDwRefIdeal.nD Cert.UkvDwRefIdeal.τ).loc Cert.UkvDwRefIdeal.main_arg1) = m ((c.tc : Thread Cert.UkvDwRefIdeal.nD Cert.UkvDwRefIdeal.τ).loc Cert.UkvDwRefIdeal.main_arg1))
      ∧ r.2.sem = fun _ => 0)

def quiescent_UkvDx [hUkvDx : Cert.UkvDx.Facts] : Prop :=
  ∀ (m : (ℓ : Loc Cert.UkvDx.nD Cert.UkvDx.τ Cert.UkvDx.sig) → Buf (Elt Bits) ℓ) (g : Dev Cert.UkvDx.nD → PrngReg), Pre_UkvDx m →
    θ_run (Cert.UkvDx.defs (F := Bits)) (onTc (τ := Cert.UkvDx.τ) (Cert.UkvDx.main (F := Bits))) ⟨m, fun _ => 0, g⟩ (fun r => (∀ c : Dev Cert.UkvDx.nD,
      r.2.mem ((c.tc : Thread Cert.UkvDx.nD Cert.UkvDx.τ).loc Cert.UkvDx.main_arg0) = m ((c.tc : Thread Cert.UkvDx.nD Cert.UkvDx.τ).loc Cert.UkvDx.main_arg0)
      ∧ r.2.mem ((c.tc : Thread Cert.UkvDx.nD Cert.UkvDx.τ).loc Cert.UkvDx.main_arg1) = m ((c.tc : Thread Cert.UkvDx.nD Cert.UkvDx.τ).loc Cert.UkvDx.main_arg1))
      ∧ r.2.sem = fun _ => 0)

def quiescent_UkvDxIdeal [hUkvDxIdeal : Cert.UkvDxIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg), Pre_UkvDxIdeal m →
    θ_run (Cert.UkvDxIdeal.defs (F := Ideal)) (onTc (τ := Cert.UkvDxIdeal.τ) (Cert.UkvDxIdeal.main (F := Ideal))) ⟨m, fun _ => 0, g⟩ (fun r => (∀ c : Dev Cert.UkvDxIdeal.nD,
      r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
      ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1))
      ∧ r.2.sem = fun _ => 0)

def quiescent_UkvDxRefIdeal [hUkvDxRefIdeal : Cert.UkvDxRefIdeal.Facts] : Prop :=
  ∀ (m : (ℓ : Loc Cert.UkvDxRefIdeal.nD Cert.UkvDxRefIdeal.τ Cert.UkvDxRefIdeal.sig) → Buf (Elt Ideal) ℓ) (g : Dev Cert.UkvDxRefIdeal.nD → PrngReg), Pre_UkvDxRefIdeal m →
    θ_run (Cert.UkvDxRefIdeal.defs (F := Ideal)) (onTc (τ := Cert.UkvDxRefIdeal.τ) (Cert.UkvDxRefIdeal.main (F := Ideal))) ⟨m, fun _ => 0, g⟩ (fun r => (∀ c : Dev Cert.UkvDxRefIdeal.nD,
      r.2.mem ((c.tc : Thread Cert.UkvDxRefIdeal.nD Cert.UkvDxRefIdeal.τ).loc Cert.UkvDxRefIdeal.main_arg0) = m ((c.tc : Thread Cert.UkvDxRefIdeal.nD Cert.UkvDxRefIdeal.τ).loc Cert.UkvDxRefIdeal.main_arg0)
      ∧ r.2.mem ((c.tc : Thread Cert.UkvDxRefIdeal.nD Cert.UkvDxRefIdeal.τ).loc Cert.UkvDxRefIdeal.main_arg1) = m ((c.tc : Thread Cert.UkvDxRefIdeal.nD Cert.UkvDxRefIdeal.τ).loc Cert.UkvDxRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvRefIdeal [hUkvRefIdeal : Cert.UkvRefIdeal.Facts] : Prop :=
  ∀ (m : (ℓ : Loc Cert.UkvRefIdeal.nD Cert.UkvRefIdeal.τ Cert.UkvRefIdeal.sig) → Buf (Elt Ideal) ℓ) (g : Dev Cert.UkvRefIdeal.nD → PrngReg), Pre_UkvRefIdeal m →
    θ_run (Cert.UkvRefIdeal.defs (F := Ideal)) (onTc (τ := Cert.UkvRefIdeal.τ) (Cert.UkvRefIdeal.main (F := Ideal))) ⟨m, fun _ => 0, g⟩ (fun r => (∀ c : Dev Cert.UkvRefIdeal.nD,
      r.2.mem ((c.tc : Thread Cert.UkvRefIdeal.nD Cert.UkvRefIdeal.τ).loc Cert.UkvRefIdeal.main_arg0) = m ((c.tc : Thread Cert.UkvRefIdeal.nD Cert.UkvRefIdeal.τ).loc Cert.UkvRefIdeal.main_arg0)
      ∧ r.2.mem ((c.tc : Thread Cert.UkvRefIdeal.nD Cert.UkvRefIdeal.τ).loc Cert.UkvRefIdeal.main_arg1) = m ((c.tc : Thread Cert.UkvRefIdeal.nD Cert.UkvRefIdeal.τ).loc Cert.UkvRefIdeal.main_arg1))
      ∧ r.2.sem = fun _ => 0)

def quiescent_MemDw [hMemDw : Cert.MemDw.Facts] : Prop :=
  ∀ (m : (ℓ : Loc Cert.MemDw.nD Cert.MemDw.τ Cert.MemDw.sig) → Buf (Elt Bits) ℓ) (g : Dev Cert.MemDw.nD → PrngReg), Pre_MemDw m →
    θ_run (Cert.MemDw.defs (F := Bits)) (onTc (τ := Cert.MemDw.τ) (Cert.MemDw.main (F := Bits))) ⟨m, fun _ => 0, g⟩ (fun r => (∀ c : Dev Cert.MemDw.nD,
      r.2.mem ((c.tc : Thread Cert.MemDw.nD Cert.MemDw.τ).loc Cert.MemDw.main_arg0) = m ((c.tc : Thread Cert.MemDw.nD Cert.MemDw.τ).loc Cert.MemDw.main_arg0)
      ∧ r.2.mem ((c.tc : Thread Cert.MemDw.nD Cert.MemDw.τ).loc Cert.MemDw.main_arg1) = m ((c.tc : Thread Cert.MemDw.nD Cert.MemDw.τ).loc Cert.MemDw.main_arg1))
      ∧ r.2.sem = fun _ => 0)

def quiescent_MemDwIdeal [hMemDwIdeal : Cert.MemDwIdeal.Facts] : Prop :=
  ∀ (m : (ℓ : Loc Cert.MemDwIdeal.nD Cert.MemDwIdeal.τ Cert.MemDwIdeal.sig) → Buf (Elt Ideal) ℓ) (g : Dev Cert.MemDwIdeal.nD → PrngReg), Pre_MemDwIdeal m →
    θ_run (Cert.MemDwIdeal.defs (F := Ideal)) (onTc (τ := Cert.MemDwIdeal.τ) (Cert.MemDwIdeal.main (F := Ideal))) ⟨m, fun _ => 0, g⟩ (fun r => (∀ c : Dev Cert.MemDwIdeal.nD,
      r.2.mem ((c.tc : Thread Cert.MemDwIdeal.nD Cert.MemDwIdeal.τ).loc Cert.MemDwIdeal.main_arg0) = m ((c.tc : Thread Cert.MemDwIdeal.nD Cert.MemDwIdeal.τ).loc Cert.MemDwIdeal.main_arg0)
      ∧ r.2.mem ((c.tc : Thread Cert.MemDwIdeal.nD Cert.MemDwIdeal.τ).loc Cert.MemDwIdeal.main_arg1) = m ((c.tc : Thread Cert.MemDwIdeal.nD Cert.MemDwIdeal.τ).loc Cert.MemDwIdeal.main_arg1))
      ∧ r.2.sem = fun _ => 0)

def quiescent_MemDwRefIdeal [hMemDwRefIdeal : Cert.MemDwRefIdeal.Facts] : Prop :=
  ∀ (m : (ℓ : Loc Cert.MemDwRefIdeal.nD Cert.MemDwRefIdeal.τ Cert.MemDwRefIdeal.sig) → Buf (Elt Ideal) ℓ) (g : Dev Cert.MemDwRefIdeal.nD → PrngReg), Pre_MemDwRefIdeal m →
    θ_run (Cert.MemDwRefIdeal.defs (F := Ideal)) (onTc (τ := Cert.MemDwRefIdeal.τ) (Cert.MemDwRefIdeal.main (F := Ideal))) ⟨m, fun _ => 0, g⟩ (fun r => (∀ c : Dev Cert.MemDwRefIdeal.nD,
      r.2.mem ((c.tc : Thread Cert.MemDwRefIdeal.nD Cert.MemDwRefIdeal.τ).loc Cert.MemDwRefIdeal.main_arg0) = m ((c.tc : Thread Cert.MemDwRefIdeal.nD Cert.MemDwRefIdeal.τ).loc Cert.MemDwRefIdeal.main_arg0)
      ∧ r.2.mem ((c.tc : Thread Cert.MemDwRefIdeal.nD Cert.MemDwRefIdeal.τ).loc Cert.MemDwRefIdeal.main_arg1) = m ((c.tc : Thread Cert.MemDwRefIdeal.nD Cert.MemDwRefIdeal.τ).loc Cert.MemDwRefIdeal.main_arg1))
      ∧ r.2.sem = fun _ => 0)

def quiescent_MemDx [hMemDx : Cert.MemDx.Facts] : Prop :=
  ∀ (m : (ℓ : Loc Cert.MemDx.nD Cert.MemDx.τ Cert.MemDx.sig) → Buf (Elt Bits) ℓ) (g : Dev Cert.MemDx.nD → PrngReg), Pre_MemDx m →
    θ_run (Cert.MemDx.defs (F := Bits)) (onTc (τ := Cert.MemDx.τ) (Cert.MemDx.main (F := Bits))) ⟨m, fun _ => 0, g⟩ (fun r => (∀ c : Dev Cert.MemDx.nD,
      r.2.mem ((c.tc : Thread Cert.MemDx.nD Cert.MemDx.τ).loc Cert.MemDx.main_arg0) = m ((c.tc : Thread Cert.MemDx.nD Cert.MemDx.τ).loc Cert.MemDx.main_arg0)
      ∧ r.2.mem ((c.tc : Thread Cert.MemDx.nD Cert.MemDx.τ).loc Cert.MemDx.main_arg1) = m ((c.tc : Thread Cert.MemDx.nD Cert.MemDx.τ).loc Cert.MemDx.main_arg1))
      ∧ r.2.sem = fun _ => 0)

def quiescent_MemDxIdeal [hMemDxIdeal : Cert.MemDxIdeal.Facts] : Prop :=
  ∀ (m : (ℓ : Loc Cert.MemDxIdeal.nD Cert.MemDxIdeal.τ Cert.MemDxIdeal.sig) → Buf (Elt Ideal) ℓ) (g : Dev Cert.MemDxIdeal.nD → PrngReg), Pre_MemDxIdeal m →
    θ_run (Cert.MemDxIdeal.defs (F := Ideal)) (onTc (τ := Cert.MemDxIdeal.τ) (Cert.MemDxIdeal.main (F := Ideal))) ⟨m, fun _ => 0, g⟩ (fun r => (∀ c : Dev Cert.MemDxIdeal.nD,
      r.2.mem ((c.tc : Thread Cert.MemDxIdeal.nD Cert.MemDxIdeal.τ).loc Cert.MemDxIdeal.main_arg0) = m ((c.tc : Thread Cert.MemDxIdeal.nD Cert.MemDxIdeal.τ).loc Cert.MemDxIdeal.main_arg0)
      ∧ r.2.mem ((c.tc : Thread Cert.MemDxIdeal.nD Cert.MemDxIdeal.τ).loc Cert.MemDxIdeal.main_arg1) = m ((c.tc : Thread Cert.MemDxIdeal.nD Cert.MemDxIdeal.τ).loc Cert.MemDxIdeal.main_arg1))
      ∧ r.2.sem = fun _ => 0)

def quiescent_MemDxRefIdeal [hMemDxRefIdeal : Cert.MemDxRefIdeal.Facts] : Prop :=
  ∀ (m : (ℓ : Loc Cert.MemDxRefIdeal.nD Cert.MemDxRefIdeal.τ Cert.MemDxRefIdeal.sig) → Buf (Elt Ideal) ℓ) (g : Dev Cert.MemDxRefIdeal.nD → PrngReg), Pre_MemDxRefIdeal m →
    θ_run (Cert.MemDxRefIdeal.defs (F := Ideal)) (onTc (τ := Cert.MemDxRefIdeal.τ) (Cert.MemDxRefIdeal.main (F := Ideal))) ⟨m, fun _ => 0, g⟩ (fun r => (∀ c : Dev Cert.MemDxRefIdeal.nD,
      r.2.mem ((c.tc : Thread Cert.MemDxRefIdeal.nD Cert.MemDxRefIdeal.τ).loc Cert.MemDxRefIdeal.main_arg0) = m ((c.tc : Thread Cert.MemDxRefIdeal.nD Cert.MemDxRefIdeal.τ).loc Cert.MemDxRefIdeal.main_arg0)
      ∧ r.2.mem ((c.tc : Thread Cert.MemDxRefIdeal.nD Cert.MemDxRefIdeal.τ).loc Cert.MemDxRefIdeal.main_arg1) = m ((c.tc : Thread Cert.MemDxRefIdeal.nD Cert.MemDxRefIdeal.τ).loc Cert.MemDxRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MlaFwd [hMlaFwd : Cert.MlaFwd.Facts] : Prop :=
  ∀ (m : (ℓ : Loc Cert.MlaFwd.nD Cert.MlaFwd.τ Cert.MlaFwd.sig) → Buf (Elt Bits) ℓ) (g : Dev Cert.MlaFwd.nD → PrngReg), Pre_MlaFwd m →
    θ_run (Cert.MlaFwd.defs (F := Bits)) (onTc (τ := Cert.MlaFwd.τ) (Cert.MlaFwd.main (F := Bits))) ⟨m, fun _ => 0, g⟩ (fun r => (∀ c : Dev Cert.MlaFwd.nD,
      r.2.mem ((c.tc : Thread Cert.MlaFwd.nD Cert.MlaFwd.τ).loc Cert.MlaFwd.main_arg0) = m ((c.tc : Thread Cert.MlaFwd.nD Cert.MlaFwd.τ).loc Cert.MlaFwd.main_arg0)
      ∧ r.2.mem ((c.tc : Thread Cert.MlaFwd.nD Cert.MlaFwd.τ).loc Cert.MlaFwd.main_arg1) = m ((c.tc : Thread Cert.MlaFwd.nD Cert.MlaFwd.τ).loc Cert.MlaFwd.main_arg1)
      ∧ r.2.mem ((c.tc : Thread Cert.MlaFwd.nD Cert.MlaFwd.τ).loc Cert.MlaFwd.main_arg2) = m ((c.tc : Thread Cert.MlaFwd.nD Cert.MlaFwd.τ).loc Cert.MlaFwd.main_arg2)
      ∧ r.2.mem ((c.tc : Thread Cert.MlaFwd.nD Cert.MlaFwd.τ).loc Cert.MlaFwd.main_arg3) = m ((c.tc : Thread Cert.MlaFwd.nD Cert.MlaFwd.τ).loc Cert.MlaFwd.main_arg3))
      ∧ r.2.sem = fun _ => 0)

def quiescent_MlaFwdIdeal [hMlaFwdIdeal : Cert.MlaFwdIdeal.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2)
      ∧ r.2.mem ((c.tc : Thread Cert.MlaFwdIdeal.nD Cert.MlaFwdIdeal.τ).loc Cert.MlaFwdIdeal.main_arg3) = m ((c.tc : Thread Cert.MlaFwdIdeal.nD Cert.MlaFwdIdeal.τ).loc Cert.MlaFwdIdeal.main_arg3))
      ∧ r.2.sem = fun _ => 0)

def quiescent_MlaFwdIdeal_pre_finite_fwd [hMlaFwdIdeal : Cert.MlaFwdIdeal.Facts] [hPre_finite_fwd : Cert.Pre_finite_fwd.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal_finite_fwd m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2)
      ∧ r.2.mem ((c.tc : Thread Cert.MlaFwdIdeal.nD Cert.MlaFwdIdeal.τ).loc Cert.MlaFwdIdeal.main_arg3) = m ((c.tc : Thread Cert.MlaFwdIdeal.nD Cert.MlaFwdIdeal.τ).loc Cert.MlaFwdIdeal.main_arg3))
      ∧ r.2.sem = fun _ => 0)

def quiescent_MlaFwdRefIdeal [hMlaFwdRefIdeal : Cert.MlaFwdRefIdeal.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2)
      ∧ r.2.mem ((c.tc : Thread Cert.MlaFwdRefIdeal.nD Cert.MlaFwdRefIdeal.τ).loc Cert.MlaFwdRefIdeal.main_arg3) = m ((c.tc : Thread Cert.MlaFwdRefIdeal.nD Cert.MlaFwdRefIdeal.τ).loc Cert.MlaFwdRefIdeal.main_arg3))
      ∧ r.2.sem = fun _ => 0)

def quiescent_MlaFwdRefIdeal_pre_finite_fwd [hMlaFwdRefIdeal : Cert.MlaFwdRefIdeal.Facts] [hPre_finite_fwd : Cert.Pre_finite_fwd.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal_finite_fwd m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2)
      ∧ r.2.mem ((c.tc : Thread Cert.MlaFwdRefIdeal.nD Cert.MlaFwdRefIdeal.τ).loc Cert.MlaFwdRefIdeal.main_arg3) = m ((c.tc : Thread Cert.MlaFwdRefIdeal.nD Cert.MlaFwdRefIdeal.τ).loc Cert.MlaFwdRefIdeal.main_arg3))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v86_0)) (v1 : (c : Dev Cert.KernelIdeal.nD) → Buf (Elt Ideal) ((c.tc : Thread Cert.KernelIdeal.nD Cert.KernelIdeal.τ).loc Cert.KernelIdeal.main_v86_1)) (v2 : (c : Dev Cert.KernelIdeal.nD) → Buf (Elt Ideal) ((c.tc : Thread Cert.KernelIdeal.nD Cert.KernelIdeal.τ).loc Cert.KernelIdeal.main_v86_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86_0) = v0 c
          ∧ r.2.mem ((c.tc : Thread Cert.KernelIdeal.nD Cert.KernelIdeal.τ).loc Cert.KernelIdeal.main_v86_1) = v1 c
          ∧ r.2.mem ((c.tc : Thread Cert.KernelIdeal.nD Cert.KernelIdeal.τ).loc Cert.KernelIdeal.main_v86_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v114) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v12) = v0 c
          ∧ r.2.mem ((c.tc : Thread Cert.GateRefIdeal.nD Cert.GateRefIdeal.τ).loc Cert.GateRefIdeal.main_v13) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)) (v3 : (c : Dev Cert.ConvIdeal.nD) → Buf (Elt Ideal) ((c.tc : Thread Cert.ConvIdeal.nD Cert.ConvIdeal.τ).loc Cert.ConvIdeal.main_v0_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_v0_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v60) = v0 c
          ∧ r.2.mem ((c.tc : Thread Cert.ConvRefIdeal.nD Cert.ConvRefIdeal.τ).loc Cert.ConvRefIdeal.main_v61) = v1 c
          ∧ r.2.mem ((c.tc : Thread Cert.ConvRefIdeal.nD Cert.ConvRefIdeal.τ).loc Cert.ConvRefIdeal.main_v62) = v2 c
          ∧ r.2.mem ((c.tc : Thread Cert.ConvRefIdeal.nD Cert.ConvRefIdeal.τ).loc Cert.ConvRefIdeal.main_v52) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v6) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v7) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_UqDw_UqDwIdeal : Prop :=
  True

def algebraic_UqDwIdeal_UqDwRefIdeal [hUqDwIdeal : Cert.UqDwIdeal.Facts] [hUqDwRefIdeal : Cert.UqDwRefIdeal.Facts] : Prop :=
  ∀ (m : (ℓ : Loc Cert.UqDwIdeal.nD Cert.UqDwIdeal.τ Cert.UqDwIdeal.sig) → Buf (Elt Ideal) ℓ) (g : Dev Cert.UqDwIdeal.nD → PrngReg)
    (m' : (ℓ : Loc Cert.UqDwRefIdeal.nD Cert.UqDwRefIdeal.τ Cert.UqDwRefIdeal.sig) → Buf (Elt Ideal) ℓ) (g' : Dev Cert.UqDwRefIdeal.nD → PrngReg), Pre_UqDwIdeal m →
    (∀ c : Dev Cert.UqDwIdeal.nD,
      m' ((c.tc : Thread Cert.UqDwRefIdeal.nD Cert.UqDwRefIdeal.τ).loc Cert.UqDwRefIdeal.main_arg0) = m ((c.tc : Thread Cert.UqDwIdeal.nD Cert.UqDwIdeal.τ).loc Cert.UqDwIdeal.main_arg0)
      ∧ m' ((c.tc : Thread Cert.UqDwRefIdeal.nD Cert.UqDwRefIdeal.τ).loc Cert.UqDwRefIdeal.main_arg1) = m ((c.tc : Thread Cert.UqDwIdeal.nD Cert.UqDwIdeal.τ).loc Cert.UqDwIdeal.main_arg1)) →
    ∃ (v0 : (c : Dev Cert.UqDwIdeal.nD) → Buf (Elt Ideal) ((c.tc : Thread Cert.UqDwIdeal.nD Cert.UqDwIdeal.τ).loc Cert.UqDwIdeal.main_v0)),
      θ_run (Cert.UqDwIdeal.defs (F := Ideal)) (onTc (τ := Cert.UqDwIdeal.τ) (Cert.UqDwIdeal.main (F := Ideal))) ⟨m, fun _ => 0, g⟩ (fun r => ∀ c : Dev Cert.UqDwIdeal.nD,
          r.2.mem ((c.tc : Thread Cert.UqDwIdeal.nD Cert.UqDwIdeal.τ).loc Cert.UqDwIdeal.main_v0) = v0 c
          ∧ r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
          ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ θ_run (Cert.UqDwRefIdeal.defs (F := Ideal)) (onTc (τ := Cert.UqDwRefIdeal.τ) (Cert.UqDwRefIdeal.main (F := Ideal))) ⟨m', fun _ => 0, g'⟩ (fun r => ∀ c : Dev Cert.UqDwRefIdeal.nD,
          r.2.mem ((c.tc : Thread Cert.UqDwRefIdeal.nD Cert.UqDwRefIdeal.τ).loc Cert.UqDwRefIdeal.main_v6) = v0 c
          ∧ r.2.mem ((c.tc : Thread Cert.UqDwRefIdeal.nD Cert.UqDwRefIdeal.τ).loc Cert.UqDwRefIdeal.main_arg0) = m' ((c.tc : Thread Cert.UqDwRefIdeal.nD Cert.UqDwRefIdeal.τ).loc Cert.UqDwRefIdeal.main_arg0)
          ∧ r.2.mem ((c.tc : Thread Cert.UqDwRefIdeal.nD Cert.UqDwRefIdeal.τ).loc Cert.UqDwRefIdeal.main_arg1) = m' ((c.tc : Thread Cert.UqDwRefIdeal.nD Cert.UqDwRefIdeal.τ).loc Cert.UqDwRefIdeal.main_arg1))

def preserves_UqDx_UqDxIdeal : Prop :=
  True

def algebraic_UqDxIdeal_UqDxRefIdeal [hUqDxIdeal : Cert.UqDxIdeal.Facts] [hUqDxRefIdeal : Cert.UqDxRefIdeal.Facts] : Prop :=
  ∀ (m : (ℓ : Loc Cert.UqDxIdeal.nD Cert.UqDxIdeal.τ Cert.UqDxIdeal.sig) → Buf (Elt Ideal) ℓ) (g : Dev Cert.UqDxIdeal.nD → PrngReg)
    (m' : (ℓ : Loc Cert.UqDxRefIdeal.nD Cert.UqDxRefIdeal.τ Cert.UqDxRefIdeal.sig) → Buf (Elt Ideal) ℓ) (g' : Dev Cert.UqDxRefIdeal.nD → PrngReg), Pre_UqDxIdeal m →
    (∀ c : Dev Cert.UqDxIdeal.nD,
      m' ((c.tc : Thread Cert.UqDxRefIdeal.nD Cert.UqDxRefIdeal.τ).loc Cert.UqDxRefIdeal.main_arg0) = m ((c.tc : Thread Cert.UqDxIdeal.nD Cert.UqDxIdeal.τ).loc Cert.UqDxIdeal.main_arg0)
      ∧ m' ((c.tc : Thread Cert.UqDxRefIdeal.nD Cert.UqDxRefIdeal.τ).loc Cert.UqDxRefIdeal.main_arg1) = m ((c.tc : Thread Cert.UqDxIdeal.nD Cert.UqDxIdeal.τ).loc Cert.UqDxIdeal.main_arg1)) →
    ∃ (v0 : (c : Dev Cert.UqDxIdeal.nD) → Buf (Elt Ideal) ((c.tc : Thread Cert.UqDxIdeal.nD Cert.UqDxIdeal.τ).loc Cert.UqDxIdeal.main_v0)),
      θ_run (Cert.UqDxIdeal.defs (F := Ideal)) (onTc (τ := Cert.UqDxIdeal.τ) (Cert.UqDxIdeal.main (F := Ideal))) ⟨m, fun _ => 0, g⟩ (fun r => ∀ c : Dev Cert.UqDxIdeal.nD,
          r.2.mem ((c.tc : Thread Cert.UqDxIdeal.nD Cert.UqDxIdeal.τ).loc Cert.UqDxIdeal.main_v0) = v0 c
          ∧ r.2.mem ((c.tc : Thread Cert.UqDxIdeal.nD Cert.UqDxIdeal.τ).loc Cert.UqDxIdeal.main_arg0) = m ((c.tc : Thread Cert.UqDxIdeal.nD Cert.UqDxIdeal.τ).loc Cert.UqDxIdeal.main_arg0)
          ∧ r.2.mem ((c.tc : Thread Cert.UqDxIdeal.nD Cert.UqDxIdeal.τ).loc Cert.UqDxIdeal.main_arg1) = m ((c.tc : Thread Cert.UqDxIdeal.nD Cert.UqDxIdeal.τ).loc Cert.UqDxIdeal.main_arg1))
      ∧ θ_run (Cert.UqDxRefIdeal.defs (F := Ideal)) (onTc (τ := Cert.UqDxRefIdeal.τ) (Cert.UqDxRefIdeal.main (F := Ideal))) ⟨m', fun _ => 0, g'⟩ (fun r => ∀ c : Dev Cert.UqDxRefIdeal.nD,
          r.2.mem ((c.tc : Thread Cert.UqDxRefIdeal.nD Cert.UqDxRefIdeal.τ).loc Cert.UqDxRefIdeal.main_v5) = v0 c
          ∧ r.2.mem ((c.tc : Thread Cert.UqDxRefIdeal.nD Cert.UqDxRefIdeal.τ).loc Cert.UqDxRefIdeal.main_arg0) = m' ((c.tc : Thread Cert.UqDxRefIdeal.nD Cert.UqDxRefIdeal.τ).loc Cert.UqDxRefIdeal.main_arg0)
          ∧ r.2.mem ((c.tc : Thread Cert.UqDxRefIdeal.nD Cert.UqDxRefIdeal.τ).loc Cert.UqDxRefIdeal.main_arg1) = m' ((c.tc : Thread Cert.UqDxRefIdeal.nD Cert.UqDxRefIdeal.τ).loc Cert.UqDxRefIdeal.main_arg1))

def preserves_UkvDw_UkvDwIdeal : Prop :=
  True

def algebraic_UkvDwIdeal_UkvDwRefIdeal [hUkvDwIdeal : Cert.UkvDwIdeal.Facts] [hUkvDwRefIdeal : Cert.UkvDwRefIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg)
    (m' : (ℓ : Loc Cert.UkvDwRefIdeal.nD Cert.UkvDwRefIdeal.τ Cert.UkvDwRefIdeal.sig) → Buf (Elt Ideal) ℓ) (g' : Dev Cert.UkvDwRefIdeal.nD → PrngReg), Pre_UkvDwIdeal m →
    (∀ c : Dev Cert.UkvDwIdeal.nD,
      m' ((c.tc : Thread Cert.UkvDwRefIdeal.nD Cert.UkvDwRefIdeal.τ).loc Cert.UkvDwRefIdeal.main_arg0) = m ((c.tc : Thread Cert.UkvDwIdeal.nD Cert.UkvDwIdeal.τ).loc Cert.UkvDwIdeal.main_arg0)
      ∧ m' ((c.tc : Thread Cert.UkvDwRefIdeal.nD Cert.UkvDwRefIdeal.τ).loc Cert.UkvDwRefIdeal.main_arg1) = m ((c.tc : Thread Cert.UkvDwIdeal.nD Cert.UkvDwIdeal.τ).loc Cert.UkvDwIdeal.main_arg1)) →
    ∃ (v0 : (c : Dev Cert.UkvDwIdeal.nD) → Buf (Elt Ideal) ((c.tc : Thread Cert.UkvDwIdeal.nD Cert.UkvDwIdeal.τ).loc Cert.UkvDwIdeal.main_v0)),
      θ_run (Cert.UkvDwIdeal.defs (F := Ideal)) (onTc (τ := Cert.UkvDwIdeal.τ) (Cert.UkvDwIdeal.main (F := Ideal))) ⟨m, fun _ => 0, g⟩ (fun r => ∀ c : Dev Cert.UkvDwIdeal.nD,
          r.2.mem ((c.tc : Thread Cert.UkvDwIdeal.nD Cert.UkvDwIdeal.τ).loc Cert.UkvDwIdeal.main_v0) = v0 c
          ∧ r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
          ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ θ_run (Cert.UkvDwRefIdeal.defs (F := Ideal)) (onTc (τ := Cert.UkvDwRefIdeal.τ) (Cert.UkvDwRefIdeal.main (F := Ideal))) ⟨m', fun _ => 0, g'⟩ (fun r => ∀ c : Dev Cert.UkvDwRefIdeal.nD,
          r.2.mem ((c.tc : Thread Cert.UkvDwRefIdeal.nD Cert.UkvDwRefIdeal.τ).loc Cert.UkvDwRefIdeal.main_v6) = v0 c
          ∧ r.2.mem ((c.tc : Thread Cert.UkvDwRefIdeal.nD Cert.UkvDwRefIdeal.τ).loc Cert.UkvDwRefIdeal.main_arg0) = m' ((c.tc : Thread Cert.UkvDwRefIdeal.nD Cert.UkvDwRefIdeal.τ).loc Cert.UkvDwRefIdeal.main_arg0)
          ∧ r.2.mem ((c.tc : Thread Cert.UkvDwRefIdeal.nD Cert.UkvDwRefIdeal.τ).loc Cert.UkvDwRefIdeal.main_arg1) = m' ((c.tc : Thread Cert.UkvDwRefIdeal.nD Cert.UkvDwRefIdeal.τ).loc Cert.UkvDwRefIdeal.main_arg1))

def preserves_UkvDx_UkvDxIdeal : Prop :=
  True

def algebraic_UkvDxIdeal_UkvDxRefIdeal [hUkvDxIdeal : Cert.UkvDxIdeal.Facts] [hUkvDxRefIdeal : Cert.UkvDxRefIdeal.Facts] : Prop :=
  ∀ (m : (ℓ : Loc Cert.UkvDxIdeal.nD Cert.UkvDxIdeal.τ Cert.UkvDxIdeal.sig) → Buf (Elt Ideal) ℓ) (g : Dev Cert.UkvDxIdeal.nD → PrngReg)
    (m' : (ℓ : Loc Cert.UkvDxRefIdeal.nD Cert.UkvDxRefIdeal.τ Cert.UkvDxRefIdeal.sig) → Buf (Elt Ideal) ℓ) (g' : Dev Cert.UkvDxRefIdeal.nD → PrngReg), Pre_UkvDxIdeal m →
    (∀ c : Dev Cert.UkvDxIdeal.nD,
      m' ((c.tc : Thread Cert.UkvDxRefIdeal.nD Cert.UkvDxRefIdeal.τ).loc Cert.UkvDxRefIdeal.main_arg0) = m ((c.tc : Thread Cert.UkvDxIdeal.nD Cert.UkvDxIdeal.τ).loc Cert.UkvDxIdeal.main_arg0)
      ∧ m' ((c.tc : Thread Cert.UkvDxRefIdeal.nD Cert.UkvDxRefIdeal.τ).loc Cert.UkvDxRefIdeal.main_arg1) = m ((c.tc : Thread Cert.UkvDxIdeal.nD Cert.UkvDxIdeal.τ).loc Cert.UkvDxIdeal.main_arg1)) →
    ∃ (v0 : (c : Dev Cert.UkvDxIdeal.nD) → Buf (Elt Ideal) ((c.tc : Thread Cert.UkvDxIdeal.nD Cert.UkvDxIdeal.τ).loc Cert.UkvDxIdeal.main_v0)),
      θ_run (Cert.UkvDxIdeal.defs (F := Ideal)) (onTc (τ := Cert.UkvDxIdeal.τ) (Cert.UkvDxIdeal.main (F := Ideal))) ⟨m, fun _ => 0, g⟩ (fun r => ∀ c : Dev Cert.UkvDxIdeal.nD,
          r.2.mem ((c.tc : Thread Cert.UkvDxIdeal.nD Cert.UkvDxIdeal.τ).loc Cert.UkvDxIdeal.main_v0) = v0 c
          ∧ r.2.mem ((c.tc : Thread Cert.UkvDxIdeal.nD Cert.UkvDxIdeal.τ).loc Cert.UkvDxIdeal.main_arg0) = m ((c.tc : Thread Cert.UkvDxIdeal.nD Cert.UkvDxIdeal.τ).loc Cert.UkvDxIdeal.main_arg0)
          ∧ r.2.mem ((c.tc : Thread Cert.UkvDxIdeal.nD Cert.UkvDxIdeal.τ).loc Cert.UkvDxIdeal.main_arg1) = m ((c.tc : Thread Cert.UkvDxIdeal.nD Cert.UkvDxIdeal.τ).loc Cert.UkvDxIdeal.main_arg1))
      ∧ θ_run (Cert.UkvDxRefIdeal.defs (F := Ideal)) (onTc (τ := Cert.UkvDxRefIdeal.τ) (Cert.UkvDxRefIdeal.main (F := Ideal))) ⟨m', fun _ => 0, g'⟩ (fun r => ∀ c : Dev Cert.UkvDxRefIdeal.nD,
          r.2.mem ((c.tc : Thread Cert.UkvDxRefIdeal.nD Cert.UkvDxRefIdeal.τ).loc Cert.UkvDxRefIdeal.main_v5) = v0 c
          ∧ r.2.mem ((c.tc : Thread Cert.UkvDxRefIdeal.nD Cert.UkvDxRefIdeal.τ).loc Cert.UkvDxRefIdeal.main_arg0) = m' ((c.tc : Thread Cert.UkvDxRefIdeal.nD Cert.UkvDxRefIdeal.τ).loc Cert.UkvDxRefIdeal.main_arg0)
          ∧ r.2.mem ((c.tc : Thread Cert.UkvDxRefIdeal.nD Cert.UkvDxRefIdeal.τ).loc Cert.UkvDxRefIdeal.main_arg1) = m' ((c.tc : Thread Cert.UkvDxRefIdeal.nD Cert.UkvDxRefIdeal.τ).loc Cert.UkvDxRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v0)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v0) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v3) = v0 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1))

def preserves_Ukv_UkvIdeal : Prop :=
  True

def algebraic_UkvIdeal_UkvRefIdeal [hUkvIdeal : Cert.UkvIdeal.Facts] [hUkvRefIdeal : Cert.UkvRefIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvRefIdeal.nD Cert.UkvRefIdeal.τ Cert.UkvRefIdeal.sig) → Buf (Elt Ideal) ℓ) (g' : Dev Cert.UkvRefIdeal.nD → PrngReg), Pre_UkvIdeal m →
    (∀ c : Dev Cert.UkvIdeal.nD,
      m' ((c.tc : Thread Cert.UkvRefIdeal.nD Cert.UkvRefIdeal.τ).loc Cert.UkvRefIdeal.main_arg0) = m ((c.tc : Thread Cert.UkvIdeal.nD Cert.UkvIdeal.τ).loc Cert.UkvIdeal.main_arg0)
      ∧ m' ((c.tc : Thread Cert.UkvRefIdeal.nD Cert.UkvRefIdeal.τ).loc Cert.UkvRefIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v0)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v0) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvRefIdeal.defs (F := Ideal)) (onTc (τ := Cert.UkvRefIdeal.τ) (Cert.UkvRefIdeal.main (F := Ideal))) ⟨m', fun _ => 0, g'⟩ (fun r => ∀ c : Dev Cert.UkvRefIdeal.nD,
          r.2.mem ((c.tc : Thread Cert.UkvRefIdeal.nD Cert.UkvRefIdeal.τ).loc Cert.UkvRefIdeal.main_v3) = v0 c
          ∧ r.2.mem ((c.tc : Thread Cert.UkvRefIdeal.nD Cert.UkvRefIdeal.τ).loc Cert.UkvRefIdeal.main_arg0) = m' ((c.tc : Thread Cert.UkvRefIdeal.nD Cert.UkvRefIdeal.τ).loc Cert.UkvRefIdeal.main_arg0)
          ∧ r.2.mem ((c.tc : Thread Cert.UkvRefIdeal.nD Cert.UkvRefIdeal.τ).loc Cert.UkvRefIdeal.main_arg1) = m' ((c.tc : Thread Cert.UkvRefIdeal.nD Cert.UkvRefIdeal.τ).loc Cert.UkvRefIdeal.main_arg1))

def preserves_MemDw_MemDwIdeal : Prop :=
  True

def algebraic_MemDwIdeal_MemDwRefIdeal [hMemDwIdeal : Cert.MemDwIdeal.Facts] [hMemDwRefIdeal : Cert.MemDwRefIdeal.Facts] : Prop :=
  ∀ (m : (ℓ : Loc Cert.MemDwIdeal.nD Cert.MemDwIdeal.τ Cert.MemDwIdeal.sig) → Buf (Elt Ideal) ℓ) (g : Dev Cert.MemDwIdeal.nD → PrngReg)
    (m' : (ℓ : Loc Cert.MemDwRefIdeal.nD Cert.MemDwRefIdeal.τ Cert.MemDwRefIdeal.sig) → Buf (Elt Ideal) ℓ) (g' : Dev Cert.MemDwRefIdeal.nD → PrngReg), Pre_MemDwIdeal m →
    (∀ c : Dev Cert.MemDwIdeal.nD,
      m' ((c.tc : Thread Cert.MemDwRefIdeal.nD Cert.MemDwRefIdeal.τ).loc Cert.MemDwRefIdeal.main_arg0) = m ((c.tc : Thread Cert.MemDwIdeal.nD Cert.MemDwIdeal.τ).loc Cert.MemDwIdeal.main_arg0)
      ∧ m' ((c.tc : Thread Cert.MemDwRefIdeal.nD Cert.MemDwRefIdeal.τ).loc Cert.MemDwRefIdeal.main_arg1) = m ((c.tc : Thread Cert.MemDwIdeal.nD Cert.MemDwIdeal.τ).loc Cert.MemDwIdeal.main_arg1)) →
    ∃ (v0 : (c : Dev Cert.MemDwIdeal.nD) → Buf (Elt Ideal) ((c.tc : Thread Cert.MemDwIdeal.nD Cert.MemDwIdeal.τ).loc Cert.MemDwIdeal.main_v0)),
      θ_run (Cert.MemDwIdeal.defs (F := Ideal)) (onTc (τ := Cert.MemDwIdeal.τ) (Cert.MemDwIdeal.main (F := Ideal))) ⟨m, fun _ => 0, g⟩ (fun r => ∀ c : Dev Cert.MemDwIdeal.nD,
          r.2.mem ((c.tc : Thread Cert.MemDwIdeal.nD Cert.MemDwIdeal.τ).loc Cert.MemDwIdeal.main_v0) = v0 c
          ∧ r.2.mem ((c.tc : Thread Cert.MemDwIdeal.nD Cert.MemDwIdeal.τ).loc Cert.MemDwIdeal.main_arg0) = m ((c.tc : Thread Cert.MemDwIdeal.nD Cert.MemDwIdeal.τ).loc Cert.MemDwIdeal.main_arg0)
          ∧ r.2.mem ((c.tc : Thread Cert.MemDwIdeal.nD Cert.MemDwIdeal.τ).loc Cert.MemDwIdeal.main_arg1) = m ((c.tc : Thread Cert.MemDwIdeal.nD Cert.MemDwIdeal.τ).loc Cert.MemDwIdeal.main_arg1))
      ∧ θ_run (Cert.MemDwRefIdeal.defs (F := Ideal)) (onTc (τ := Cert.MemDwRefIdeal.τ) (Cert.MemDwRefIdeal.main (F := Ideal))) ⟨m', fun _ => 0, g'⟩ (fun r => ∀ c : Dev Cert.MemDwRefIdeal.nD,
          r.2.mem ((c.tc : Thread Cert.MemDwRefIdeal.nD Cert.MemDwRefIdeal.τ).loc Cert.MemDwRefIdeal.main_v6) = v0 c
          ∧ r.2.mem ((c.tc : Thread Cert.MemDwRefIdeal.nD Cert.MemDwRefIdeal.τ).loc Cert.MemDwRefIdeal.main_arg0) = m' ((c.tc : Thread Cert.MemDwRefIdeal.nD Cert.MemDwRefIdeal.τ).loc Cert.MemDwRefIdeal.main_arg0)
          ∧ r.2.mem ((c.tc : Thread Cert.MemDwRefIdeal.nD Cert.MemDwRefIdeal.τ).loc Cert.MemDwRefIdeal.main_arg1) = m' ((c.tc : Thread Cert.MemDwRefIdeal.nD Cert.MemDwRefIdeal.τ).loc Cert.MemDwRefIdeal.main_arg1))

def preserves_MemDx_MemDxIdeal : Prop :=
  True

def algebraic_MemDxIdeal_MemDxRefIdeal [hMemDxIdeal : Cert.MemDxIdeal.Facts] [hMemDxRefIdeal : Cert.MemDxRefIdeal.Facts] : Prop :=
  ∀ (m : (ℓ : Loc Cert.MemDxIdeal.nD Cert.MemDxIdeal.τ Cert.MemDxIdeal.sig) → Buf (Elt Ideal) ℓ) (g : Dev Cert.MemDxIdeal.nD → PrngReg)
    (m' : (ℓ : Loc Cert.MemDxRefIdeal.nD Cert.MemDxRefIdeal.τ Cert.MemDxRefIdeal.sig) → Buf (Elt Ideal) ℓ) (g' : Dev Cert.MemDxRefIdeal.nD → PrngReg), Pre_MemDxIdeal m →
    (∀ c : Dev Cert.MemDxIdeal.nD,
      m' ((c.tc : Thread Cert.MemDxRefIdeal.nD Cert.MemDxRefIdeal.τ).loc Cert.MemDxRefIdeal.main_arg0) = m ((c.tc : Thread Cert.MemDxIdeal.nD Cert.MemDxIdeal.τ).loc Cert.MemDxIdeal.main_arg0)
      ∧ m' ((c.tc : Thread Cert.MemDxRefIdeal.nD Cert.MemDxRefIdeal.τ).loc Cert.MemDxRefIdeal.main_arg1) = m ((c.tc : Thread Cert.MemDxIdeal.nD Cert.MemDxIdeal.τ).loc Cert.MemDxIdeal.main_arg1)) →
    ∃ (v0 : (c : Dev Cert.MemDxIdeal.nD) → Buf (Elt Ideal) ((c.tc : Thread Cert.MemDxIdeal.nD Cert.MemDxIdeal.τ).loc Cert.MemDxIdeal.main_v0)),
      θ_run (Cert.MemDxIdeal.defs (F := Ideal)) (onTc (τ := Cert.MemDxIdeal.τ) (Cert.MemDxIdeal.main (F := Ideal))) ⟨m, fun _ => 0, g⟩ (fun r => ∀ c : Dev Cert.MemDxIdeal.nD,
          r.2.mem ((c.tc : Thread Cert.MemDxIdeal.nD Cert.MemDxIdeal.τ).loc Cert.MemDxIdeal.main_v0) = v0 c
          ∧ r.2.mem ((c.tc : Thread Cert.MemDxIdeal.nD Cert.MemDxIdeal.τ).loc Cert.MemDxIdeal.main_arg0) = m ((c.tc : Thread Cert.MemDxIdeal.nD Cert.MemDxIdeal.τ).loc Cert.MemDxIdeal.main_arg0)
          ∧ r.2.mem ((c.tc : Thread Cert.MemDxIdeal.nD Cert.MemDxIdeal.τ).loc Cert.MemDxIdeal.main_arg1) = m ((c.tc : Thread Cert.MemDxIdeal.nD Cert.MemDxIdeal.τ).loc Cert.MemDxIdeal.main_arg1))
      ∧ θ_run (Cert.MemDxRefIdeal.defs (F := Ideal)) (onTc (τ := Cert.MemDxRefIdeal.τ) (Cert.MemDxRefIdeal.main (F := Ideal))) ⟨m', fun _ => 0, g'⟩ (fun r => ∀ c : Dev Cert.MemDxRefIdeal.nD,
          r.2.mem ((c.tc : Thread Cert.MemDxRefIdeal.nD Cert.MemDxRefIdeal.τ).loc Cert.MemDxRefIdeal.main_v4) = v0 c
          ∧ r.2.mem ((c.tc : Thread Cert.MemDxRefIdeal.nD Cert.MemDxRefIdeal.τ).loc Cert.MemDxRefIdeal.main_arg0) = m' ((c.tc : Thread Cert.MemDxRefIdeal.nD Cert.MemDxRefIdeal.τ).loc Cert.MemDxRefIdeal.main_arg0)
          ∧ r.2.mem ((c.tc : Thread Cert.MemDxRefIdeal.nD Cert.MemDxRefIdeal.τ).loc Cert.MemDxRefIdeal.main_arg1) = m' ((c.tc : Thread Cert.MemDxRefIdeal.nD Cert.MemDxRefIdeal.τ).loc Cert.MemDxRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v3) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MlaFwd_MlaFwdIdeal : Prop :=
  IdealRules.named_const.Statement Cert.MlaFwdIdeal.κ "scale_log2e" .f32 0x3DD53B95#32 (((Real.sqrt 192)⁻¹ * (Real.log 2)⁻¹ : ℝ) : EReal)
  ∧ IdealRules.named_const.Statement Cert.MlaFwdIdeal.κ "log2e" .f32 0x3FB8AA3B#32 (((Real.log 2)⁻¹ : ℝ) : EReal)

def algebraic_MlaFwdIdeal_MlaFwdRefIdeal_pre_finite_fwd [hMlaFwdIdeal : Cert.MlaFwdIdeal.Facts] [hMlaFwdRefIdeal : Cert.MlaFwdRefIdeal.Facts] [hPre_finite_fwd : Cert.Pre_finite_fwd.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg)
    (m' : (ℓ : Loc Cert.MlaFwdRefIdeal.nD Cert.MlaFwdRefIdeal.τ Cert.MlaFwdRefIdeal.sig) → Buf (Elt Ideal) ℓ) (g' : Dev Cert.MlaFwdRefIdeal.nD → PrngReg), Pre_MlaFwdIdeal_finite_fwd m →
    (∀ c : Dev Cert.MlaFwdIdeal.nD,
      m' ((c.tc : Thread Cert.MlaFwdRefIdeal.nD Cert.MlaFwdRefIdeal.τ).loc Cert.MlaFwdRefIdeal.main_arg0) = m ((c.tc : Thread Cert.MlaFwdIdeal.nD Cert.MlaFwdIdeal.τ).loc Cert.MlaFwdIdeal.main_arg0)
      ∧ m' ((c.tc : Thread Cert.MlaFwdRefIdeal.nD Cert.MlaFwdRefIdeal.τ).loc Cert.MlaFwdRefIdeal.main_arg1) = m ((c.tc : Thread Cert.MlaFwdIdeal.nD Cert.MlaFwdIdeal.τ).loc Cert.MlaFwdIdeal.main_arg1)
      ∧ m' ((c.tc : Thread Cert.MlaFwdRefIdeal.nD Cert.MlaFwdRefIdeal.τ).loc Cert.MlaFwdRefIdeal.main_arg2) = m ((c.tc : Thread Cert.MlaFwdIdeal.nD Cert.MlaFwdIdeal.τ).loc Cert.MlaFwdIdeal.main_arg2)
      ∧ m' ((c.tc : Thread Cert.MlaFwdRefIdeal.nD Cert.MlaFwdRefIdeal.τ).loc Cert.MlaFwdRefIdeal.main_arg3) = m ((c.tc : Thread Cert.MlaFwdIdeal.nD Cert.MlaFwdIdeal.τ).loc Cert.MlaFwdIdeal.main_arg3)) →
    ∃ (v0 : (c : Dev Cert.MlaFwdIdeal.nD) → Buf (Elt Ideal) ((c.tc : Thread Cert.MlaFwdIdeal.nD Cert.MlaFwdIdeal.τ).loc Cert.MlaFwdIdeal.main_v31_0)),
      θ_run (Cert.MlaFwdIdeal.defs (F := Ideal)) (onTc (τ := Cert.MlaFwdIdeal.τ) (Cert.MlaFwdIdeal.main (F := Ideal))) ⟨m, fun _ => 0, g⟩ (fun r => ∀ c : Dev Cert.MlaFwdIdeal.nD,
          r.2.mem ((c.tc : Thread Cert.MlaFwdIdeal.nD Cert.MlaFwdIdeal.τ).loc Cert.MlaFwdIdeal.main_v31_0) = v0 c
          ∧ r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
          ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
          ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2)
          ∧ r.2.mem ((c.tc : Thread Cert.MlaFwdIdeal.nD Cert.MlaFwdIdeal.τ).loc Cert.MlaFwdIdeal.main_arg3) = m ((c.tc : Thread Cert.MlaFwdIdeal.nD Cert.MlaFwdIdeal.τ).loc Cert.MlaFwdIdeal.main_arg3))
      ∧ θ_run (Cert.MlaFwdRefIdeal.defs (F := Ideal)) (onTc (τ := Cert.MlaFwdRefIdeal.τ) (Cert.MlaFwdRefIdeal.main (F := Ideal))) ⟨m', fun _ => 0, g'⟩ (fun r => ∀ c : Dev Cert.MlaFwdRefIdeal.nD,
          r.2.mem ((c.tc : Thread Cert.MlaFwdRefIdeal.nD Cert.MlaFwdRefIdeal.τ).loc Cert.MlaFwdRefIdeal.main_v67) = v0 c
          ∧ r.2.mem ((c.tc : Thread Cert.MlaFwdRefIdeal.nD Cert.MlaFwdRefIdeal.τ).loc Cert.MlaFwdRefIdeal.main_arg0) = m' ((c.tc : Thread Cert.MlaFwdRefIdeal.nD Cert.MlaFwdRefIdeal.τ).loc Cert.MlaFwdRefIdeal.main_arg0)
          ∧ r.2.mem ((c.tc : Thread Cert.MlaFwdRefIdeal.nD Cert.MlaFwdRefIdeal.τ).loc Cert.MlaFwdRefIdeal.main_arg1) = m' ((c.tc : Thread Cert.MlaFwdRefIdeal.nD Cert.MlaFwdRefIdeal.τ).loc Cert.MlaFwdRefIdeal.main_arg1)
          ∧ r.2.mem ((c.tc : Thread Cert.MlaFwdRefIdeal.nD Cert.MlaFwdRefIdeal.τ).loc Cert.MlaFwdRefIdeal.main_arg2) = m' ((c.tc : Thread Cert.MlaFwdRefIdeal.nD Cert.MlaFwdRefIdeal.τ).loc Cert.MlaFwdRefIdeal.main_arg2)
          ∧ r.2.mem ((c.tc : Thread Cert.MlaFwdRefIdeal.nD Cert.MlaFwdRefIdeal.τ).loc Cert.MlaFwdRefIdeal.main_arg3) = m' ((c.tc : Thread Cert.MlaFwdRefIdeal.nD Cert.MlaFwdRefIdeal.τ).loc Cert.MlaFwdRefIdeal.main_arg3))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hConv : Cert.Conv.Facts) (hConvIdeal : Cert.ConvIdeal.Facts) (hConvRefIdeal : Cert.ConvRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hOutDw : Cert.OutDw.Facts) (hOutDwIdeal : Cert.OutDwIdeal.Facts) (hOutDwRefIdeal : Cert.OutDwRefIdeal.Facts) (hUqDw : Cert.UqDw.Facts) (hUqDwIdeal : Cert.UqDwIdeal.Facts) (hUqDwRefIdeal : Cert.UqDwRefIdeal.Facts) (hUqDx : Cert.UqDx.Facts) (hUqDxIdeal : Cert.UqDxIdeal.Facts) (hUqDxRefIdeal : Cert.UqDxRefIdeal.Facts) (hUkvDw : Cert.UkvDw.Facts) (hUkvDwIdeal : Cert.UkvDwIdeal.Facts) (hUkvDwRefIdeal : Cert.UkvDwRefIdeal.Facts) (hUkvDx : Cert.UkvDx.Facts) (hUkvDxIdeal : Cert.UkvDxIdeal.Facts) (hUkvDxRefIdeal : Cert.UkvDxRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hUq : Cert.Uq.Facts) (hUqIdeal : Cert.UqIdeal.Facts) (hUqRefIdeal : Cert.UqRefIdeal.Facts) (hUkv : Cert.Ukv.Facts) (hUkvIdeal : Cert.UkvIdeal.Facts) (hUkvRefIdeal : Cert.UkvRefIdeal.Facts) (hMemDw : Cert.MemDw.Facts) (hMemDwIdeal : Cert.MemDwIdeal.Facts) (hMemDwRefIdeal : Cert.MemDwRefIdeal.Facts) (hMemDx : Cert.MemDx.Facts) (hMemDxIdeal : Cert.MemDxIdeal.Facts) (hMemDxRefIdeal : Cert.MemDxRefIdeal.Facts) (hMemKv : Cert.MemKv.Facts) (hMemKvIdeal : Cert.MemKvIdeal.Facts) (hMemKvRefIdeal : Cert.MemKvRefIdeal.Facts) (hMlaFwd : Cert.MlaFwd.Facts) (hMlaFwdIdeal : Cert.MlaFwdIdeal.Facts) (hMlaFwdRefIdeal : Cert.MlaFwdRefIdeal.Facts) (hPre_finite : Cert.Pre_finite.Facts) (hPre_finite_gate : Cert.Pre_finite_gate.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_Conv (hConv := hConv)
    ∧ quiescent_ConvIdeal (hConvIdeal := hConvIdeal)
    ∧ quiescent_ConvRefIdeal (hConvRefIdeal := hConvRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_UqDw (hUqDw := hUqDw)
    ∧ quiescent_UqDwIdeal (hUqDwIdeal := hUqDwIdeal)
    ∧ quiescent_UqDwRefIdeal (hUqDwRefIdeal := hUqDwRefIdeal)
    ∧ quiescent_UqDx (hUqDx := hUqDx)
    ∧ quiescent_UqDxIdeal (hUqDxIdeal := hUqDxIdeal)
    ∧ quiescent_UqDxRefIdeal (hUqDxRefIdeal := hUqDxRefIdeal)
    ∧ quiescent_UkvDw (hUkvDw := hUkvDw)
    ∧ quiescent_UkvDwIdeal (hUkvDwIdeal := hUkvDwIdeal)
    ∧ quiescent_UkvDwRefIdeal (hUkvDwRefIdeal := hUkvDwRefIdeal)
    ∧ quiescent_UkvDx (hUkvDx := hUkvDx)
    ∧ quiescent_UkvDxIdeal (hUkvDxIdeal := hUkvDxIdeal)
    ∧ quiescent_UkvDxRefIdeal (hUkvDxRefIdeal := hUkvDxRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Uq (hUq := hUq)
    ∧ quiescent_UqIdeal (hUqIdeal := hUqIdeal)
    ∧ quiescent_UqRefIdeal (hUqRefIdeal := hUqRefIdeal)
    ∧ quiescent_Ukv (hUkv := hUkv)
    ∧ quiescent_UkvIdeal (hUkvIdeal := hUkvIdeal)
    ∧ quiescent_UkvRefIdeal (hUkvRefIdeal := hUkvRefIdeal)
    ∧ quiescent_MemDw (hMemDw := hMemDw)
    ∧ quiescent_MemDwIdeal (hMemDwIdeal := hMemDwIdeal)
    ∧ quiescent_MemDwRefIdeal (hMemDwRefIdeal := hMemDwRefIdeal)
    ∧ quiescent_MemDx (hMemDx := hMemDx)
    ∧ quiescent_MemDxIdeal (hMemDxIdeal := hMemDxIdeal)
    ∧ quiescent_MemDxRefIdeal (hMemDxRefIdeal := hMemDxRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MlaFwd (hMlaFwd := hMlaFwd)
    ∧ quiescent_MlaFwdIdeal (hMlaFwdIdeal := hMlaFwdIdeal)
    ∧ quiescent_MlaFwdIdeal_pre_finite_fwd (hMlaFwdIdeal := hMlaFwdIdeal) (hPre_finite_fwd := hPre_finite_fwd)
    ∧ quiescent_MlaFwdRefIdeal (hMlaFwdRefIdeal := hMlaFwdRefIdeal)
    ∧ quiescent_MlaFwdRefIdeal_pre_finite_fwd (hMlaFwdRefIdeal := hMlaFwdRefIdeal) (hPre_finite_fwd := hPre_finite_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_Conv_ConvIdeal
    ∧ algebraic_ConvIdeal_ConvRefIdeal (hConvIdeal := hConvIdeal) (hConvRefIdeal := hConvRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_OutDw_OutDwIdeal
    ∧ algebraic_OutDwIdeal_OutDwRefIdeal (hOutDwIdeal := hOutDwIdeal) (hOutDwRefIdeal := hOutDwRefIdeal)
    ∧ preserves_UqDw_UqDwIdeal
    ∧ algebraic_UqDwIdeal_UqDwRefIdeal (hUqDwIdeal := hUqDwIdeal) (hUqDwRefIdeal := hUqDwRefIdeal)
    ∧ preserves_UqDx_UqDxIdeal
    ∧ algebraic_UqDxIdeal_UqDxRefIdeal (hUqDxIdeal := hUqDxIdeal) (hUqDxRefIdeal := hUqDxRefIdeal)
    ∧ preserves_UkvDw_UkvDwIdeal
    ∧ algebraic_UkvDwIdeal_UkvDwRefIdeal (hUkvDwIdeal := hUkvDwIdeal) (hUkvDwRefIdeal := hUkvDwRefIdeal)
    ∧ preserves_UkvDx_UkvDxIdeal
    ∧ algebraic_UkvDxIdeal_UkvDxRefIdeal (hUkvDxIdeal := hUkvDxIdeal) (hUkvDxRefIdeal := hUkvDxRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Uq_UqIdeal
    ∧ algebraic_UqIdeal_UqRefIdeal (hUqIdeal := hUqIdeal) (hUqRefIdeal := hUqRefIdeal)
    ∧ preserves_Ukv_UkvIdeal
    ∧ algebraic_UkvIdeal_UkvRefIdeal (hUkvIdeal := hUkvIdeal) (hUkvRefIdeal := hUkvRefIdeal)
    ∧ preserves_MemDw_MemDwIdeal
    ∧ algebraic_MemDwIdeal_MemDwRefIdeal (hMemDwIdeal := hMemDwIdeal) (hMemDwRefIdeal := hMemDwRefIdeal)
    ∧ preserves_MemDx_MemDxIdeal
    ∧ algebraic_MemDxIdeal_MemDxRefIdeal (hMemDxIdeal := hMemDxIdeal) (hMemDxRefIdeal := hMemDxRefIdeal)
    ∧ preserves_MemKv_MemKvIdeal
    ∧ algebraic_MemKvIdeal_MemKvRefIdeal (hMemKvIdeal := hMemKvIdeal) (hMemKvRefIdeal := hMemKvRefIdeal)
    ∧ preserves_MlaFwd_MlaFwdIdeal
    ∧ algebraic_MlaFwdIdeal_MlaFwdRefIdeal_pre_finite_fwd (hMlaFwdIdeal := hMlaFwdIdeal) (hMlaFwdRefIdeal := hMlaFwdRefIdeal) (hPre_finite_fwd := hPre_finite_fwd)
-- ==== Pre_finite.lean ====
abbrev S4096x2048 : Shape := ⟨2, ![4096, 2048]⟩
abbrev S4096x128 : Shape := ⟨2, ![4096, 128]⟩
abbrev S4096 : Shape := ⟨1, ![4096]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_v16 : IVec S_ 1) (main_v17 : FVec F S4096x2048 .f32) : IVec S_ 1 :=
  let main_v18 : FVec F S4096x2048 .f32 := Host.absf main_v17
  let main_cst_4 : FVec F S_ .f32 := constant S_ .f32 0x7F800000#32
  let main_v19 : FVec F S4096x2048 .f32 := broadcastInDim S4096x2048 ![] bcast_S_S4096x2048 main_cst_4
  let main_v20 : IVec S4096x2048 1 := cmpf .olt main_v18 main_v19
  let main_c_5 : IVec S_ 1 := constantI S_ 1 1#1
  let main_v21 : IVec S_ 1 := (fun x v => Host.reduce IntOp.andi x v reducesTo_S4096x2048_S_d0_1 h_S_) main_v20 main_c_5
  let main_v22 : IVec S_ 1 := andi main_v16 main_v21
  main_v22

def fn {F : FTy → Type} [FloatOps F] (main_arg0 : FVec F S4096x2048 .bf16) (main_arg1 : FVec F S4096x2048 .bf16) (main_arg2 : FVec F S4096x128 .bf16) (main_arg3 : IVec S4096 32) (main_arg4 : FVec F S4096x2048 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x2048 .f32 := (extf .f32 · bitsLt_bf16_f32) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  let main_v11 : FVec F S4096x128 .f32 := (extf .f32 · bitsLt_bf16_f32) main_arg2
  let main_v12 : FVec F S4096x128 .f32 := Host.absf main_v11
  let main_cst_2 : FVec F S_ .f32 := constant S_ .f32 0x7F800000#32
  let main_v13 : FVec F S4096x128 .f32 := broadcastInDim S4096x128 ![] bcast_S_S4096x128 main_cst_2
  let main_v14 : IVec S4096x128 1 := cmpf .olt main_v12 main_v13
  let main_c_3 : IVec S_ 1 := constantI S_ 1 1#1
  let main_v15 : IVec S_ 1 := (fun x v => Host.reduce IntOp.andi x v reducesTo_S4096x128_S_d0_1 h_S_) main_v14 main_c_3
  let main_v16 : IVec S_ 1 := andi main_v10 main_v15
  let main_v17 : FVec F S4096x2048 .f32 := (extf .f32 · bitsLt_bf16_f32) main_arg4
  fn_part1 (F := F) main_v16 main_v17
-- ==== Pre_finite_fwd.lean ====
abbrev S4096x2048 : Shape := ⟨2, ![4096, 2048]⟩
abbrev S4096x128 : Shape := ⟨2, ![4096, 128]⟩
abbrev S4096 : Shape := ⟨1, ![4096]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S4096x2048 .bf16) (main_arg1 : FVec F S4096x2048 .bf16) (main_arg2 : FVec F S4096x128 .bf16) (main_arg3 : IVec S4096 32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x2048 .f32 := (extf .f32 · bitsLt_bf16_f32) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  let main_v11 : FVec F S4096x128 .f32 := (extf .f32 · bitsLt_bf16_f32) main_arg2
  let main_v12 : FVec F S4096x128 .f32 := Host.absf main_v11
  let main_cst_2 : FVec F S_ .f32 := constant S_ .f32 0x7F800000#32
  let main_v13 : FVec F S4096x128 .f32 := broadcastInDim S4096x128 ![] bcast_S_S4096x128 main_cst_2
  let main_v14 : IVec S4096x128 1 := cmpf .olt main_v12 main_v13
  let main_c_3 : IVec S_ 1 := constantI S_ 1 1#1
  let main_v15 : IVec S_ 1 := (fun x v => Host.reduce IntOp.andi x v reducesTo_S4096x128_S_d0_1 h_S_) main_v14 main_c_3
  let main_v16 : IVec S_ 1 := andi main_v10 main_v15
  main_v16
-- ==== Pre_finite_gate.lean ====
abbrev S4096x2048 : Shape := ⟨2, ![4096, 2048]⟩
abbrev S2048x2048 : Shape := ⟨2, ![2048, 2048]⟩
abbrev S4096x4992 : Shape := ⟨2, ![4096, 4992]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4096x2048 .bf16) (main_arg1 : FVec F S2048x2048 .bf16) (main_arg2 : FVec F S4096x2048 .bf16) (main_arg3 : FVec F S4096x4992 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S2048x2048 .f32 := (extf .f32 · bitsLt_bf16_f32) main_arg1
  let main_v6 : FVec F S2048x2048 .f32 := Host.absf main_v5
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_c_1 : IVec S_ 1 := constantI S_ 1 1#1
  let main_v9 : IVec S_ 1 := (fun x v => Host.reduce IntOp.andi x v reducesTo_S2048x2048_S_d0_1 h_S_) main_v8 main_c_1
  let main_v10 : IVec S_ 1 := andi main_v4 main_v9
  let main_v11 : FVec F S4096x2048 .f32 := (extf .f32 · bitsLt_bf16_f32) main_arg2
  let main_v12 : FVec F S4096x2048 .f32 := Host.absf main_v11
  let main_cst_2 : FVec F S_ .f32 := constant S_ .f32 0x7F800000#32
  let main_v13 : FVec F S4096x2048 .f32 := broadcastInDim S4096x2048 ![] bcast_S_S4096x2048 main_cst_2
  let main_v14 : IVec S4096x2048 1 := cmpf .olt main_v12 main_v13
  let main_c_3 : IVec S_ 1 := constantI S_ 1 1#1
  let main_v15 : IVec S_ 1 := (fun x v => Host.reduce IntOp.andi x v reducesTo_S4096x2048_S_d0_1 h_S_) main_v14 main_c_3
  let main_v16 : IVec S_ 1 := andi main_v10 main_v15
  main_v16
-- ==== Kernel.lean ====
abbrev S4096x2048 : Shape := ⟨2, ![4096, 2048]⟩
abbrev S4096x128 : Shape := ⟨2, ![4096, 128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x256 : Shape := ⟨2, ![4096, 256]⟩
abbrev S4096x8x256 : Shape := ⟨3, ![4096, 8, 256]⟩
abbrev S4096x1x32 : Shape := ⟨3, ![4096, 1, 32]⟩
abbrev S4096x8x32 : Shape := ⟨3, ![4096, 8, 32]⟩
abbrev S4096x8x128 : Shape := ⟨3, ![4096, 8, 128]⟩
abbrev S4096x8x192 : Shape := ⟨3, ![4096, 8, 192]⟩
abbrev S4096x1x64 : Shape := ⟨3, ![4096, 1, 64]⟩
abbrev S4096x8x64 : Shape := ⟨3, ![4096, 8, 64]⟩
abbrev S8x4096x4096 : Shape := ⟨3, ![8, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8x1 : Shape := ⟨3, ![4096, 8, 1]⟩
abbrev S4096x1024 : Shape := ⟨2, ![4096, 1024]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S512x256 : Shape := ⟨2, ![512, 256]⟩
abbrev S1024x512 : Shape := ⟨2, ![1024, 512]⟩
abbrev S512x128 : Shape := ⟨2, ![512, 128]⟩

abbrev nBuf : Space → Nat
  | .hbm => 110
  | .vmem => 28
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x128, .bf16⟩
  | .hbm, ⟨3, _⟩ => ⟨S4096, .i32⟩
  | .hbm, ⟨4, _⟩ => ⟨S4096x2048, .bf16⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S_, .f32⟩
  | .hbm, ⟨30, _⟩ => ⟨S4096x32, .f32⟩
  | .hbm, ⟨31, _⟩ => ⟨S_, .f32⟩
  | .hbm, ⟨32, _⟩ => ⟨S4096x64, .f32⟩
  | .hbm, ⟨33, _⟩ => ⟨S4096x128, .f32⟩
  | .hbm, ⟨34, _⟩ => ⟨S4096x32, .f32⟩
  | .hbm, ⟨35, _⟩ => ⟨S4096x128, .f32⟩
  | .hbm, ⟨36, _⟩ => ⟨S4096x128, .f32⟩
  | .hbm, ⟨37, _⟩ => ⟨S_, .f32⟩
  | .hbm, ⟨38, _⟩ => ⟨S4096x128, .f32⟩
  | .hbm, ⟨39, _⟩ => ⟨S4096x256, .f32⟩
  | .hbm, ⟨40, _⟩ => ⟨S_, .f32⟩
  | .hbm, ⟨41, _⟩ => ⟨S4096x128, .f32⟩
  | .hbm, ⟨42, _⟩ => ⟨S4096x256, .f32⟩
  | .hbm, ⟨43, _⟩ => ⟨S_, .f32⟩
  | .hbm, ⟨44, _⟩ => ⟨S4096x128, .f32⟩
  | .hbm, ⟨45, _⟩ => ⟨S4096x256, .f32⟩
  | .hbm, ⟨46, _⟩ => ⟨S4096x2048, .f32⟩
  | .hbm, ⟨47, _⟩ => ⟨S4096x8x256, .f32⟩
  | .hbm, ⟨48, _⟩ => ⟨S4096x32, .f32⟩
  | .hbm, ⟨49, _⟩ => ⟨S4096x1x32, .f32⟩
  | .hbm, ⟨50, _⟩ => ⟨S4096x32, .f32⟩
  | .hbm, ⟨51, _⟩ => ⟨S4096x1x32, .f32⟩
  | .hbm, ⟨52, _⟩ => ⟨S4096x8x32, .f32⟩
  | .hbm, ⟨53, _⟩ => ⟨S4096x8x32, .f32⟩
  | .hbm, ⟨54, _⟩ => ⟨S4096x8x128, .f32⟩
  | .hbm, ⟨55, _⟩ => ⟨S4096x8x32, .f32⟩
  | .hbm, ⟨56, _⟩ => ⟨S4096x8x32, .f32⟩
  | .hbm, ⟨57, _⟩ => ⟨S4096x8x32, .f32⟩
  | .hbm, ⟨58, _⟩ => ⟨S4096x8x32, .f32⟩
  | .hbm, ⟨59, _⟩ => ⟨S4096x8x32, .f32⟩
  | .hbm, ⟨60, _⟩ => ⟨S4096x8x32, .f32⟩
  | .hbm, ⟨61, _⟩ => ⟨S4096x8x32, .f32⟩
  | .hbm, ⟨62, _⟩ => ⟨S4096x8x32, .f32⟩
  | .hbm, ⟨63, _⟩ => ⟨S4096x8x32, .f32⟩
  | .hbm, ⟨64, _⟩ => ⟨S4096x8x32, .f32⟩
  | .hbm, ⟨65, _⟩ => ⟨S4096x8x192, .f32⟩
  | .hbm, ⟨66, _⟩ => ⟨S4096x2048, .f32⟩
  | .hbm, ⟨67, _⟩ => ⟨S4096x8x256, .f32⟩
  | .hbm, ⟨68, _⟩ => ⟨S4096x8x128, .f32⟩
  | .hbm, ⟨69, _⟩ => ⟨S4096x128, .f32⟩
  | .hbm, ⟨70, _⟩ => ⟨S4096x64, .f32⟩
  | .hbm, ⟨71, _⟩ => ⟨S4096x1x64, .f32⟩
  | .hbm, ⟨72, _⟩ => ⟨S4096x8x64, .f32⟩
  | .hbm, ⟨73, _⟩ => ⟨S4096x8x192, .f32⟩
  | .hbm, ⟨74, _⟩ => ⟨S8x4096x4096, .f32⟩
  | .hbm, ⟨75, _⟩ => ⟨S_, .f32⟩
  | .hbm, ⟨76, _⟩ => ⟨S_, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096, .f32⟩
  | .hbm, ⟨81, _⟩ => ⟨S8x4096x1, .f32⟩
  | .hbm, ⟨82, _⟩ => ⟨S8x4096x4096, .f32⟩
  | .hbm, ⟨83, _⟩ => ⟨S8x4096x4096, .f32⟩
  | .hbm, ⟨84, _⟩ => ⟨S8x4096x4096, .f32⟩
  | .hbm, ⟨85, _⟩ => ⟨S_, .f32⟩
  | .hbm, ⟨86, _⟩ => ⟨S8x4096, .f32⟩
  | .hbm, ⟨87, _⟩ => ⟨S8x4096x1, .f32⟩
  | .hbm, ⟨88, _⟩ => ⟨S8x4096x4096, .f32⟩
  | .hbm, ⟨89, _⟩ => ⟨S8x4096x4096, .f32⟩
  | .hbm, ⟨90, _⟩ => ⟨S4096x8x128, .f32⟩
  | .hbm, ⟨91, _⟩ => ⟨S8x128x4096, .f32⟩
  | .hbm, ⟨92, _⟩ => ⟨S4096x8x128, .f32⟩
  | .hbm, ⟨93, _⟩ => ⟨S8x4096x1, .f32⟩
  | .hbm, ⟨94, _⟩ => ⟨S8x4096x1, .f32⟩
  | .hbm, ⟨95, _⟩ => ⟨S_, .f32⟩
  | .hbm, ⟨96, _⟩ => ⟨S_, .f32⟩
  | .hbm, ⟨97, _⟩ => ⟨S8x4096x1, .f32⟩
  | .hbm, ⟨98, _⟩ => ⟨S8x4096x1, .f32⟩
  | .hbm, ⟨99, _⟩ => ⟨S4096x8x1, .f32⟩
  | .hbm, ⟨100, _⟩ => ⟨S4096x8x128, .f32⟩
  | .hbm, ⟨101, _⟩ => ⟨S4096x1024, .f32⟩
  | .hbm, ⟨102, _⟩ => ⟨S4096x1024, .f32⟩
  | .hbm, ⟨103, _⟩ => ⟨S_, .i32⟩
  | .hbm, ⟨104, _⟩ => ⟨S_, .f32⟩
  | .hbm, ⟨105, _⟩ => ⟨S4096x2048, .f32⟩
  | .hbm, ⟨106, _⟩ => ⟨S4096x2048, .bf16⟩
  | .hbm, ⟨107, _⟩ => ⟨S4096x2048, .bf16⟩
  | .hbm, ⟨108, _⟩ => ⟨S4096x2048, .bf16⟩
  | .hbm, ⟨109, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .f32⟩
  | .local _ .vmem, ⟨12, _⟩ => ⟨S1024x128, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .bf16⟩
  | .local _ .vmem, ⟨20, _⟩ => ⟨S1024x256, .bf16⟩
  | .local _ .vmem, ⟨21, _⟩ => ⟨S4096x256, .bf16⟩
  | .local _ .vmem, ⟨22, _⟩ => ⟨S4096x256, .bf16⟩
  | .local _ .vmem, ⟨23, _⟩ => ⟨S4096x128, .f32⟩
  | .local _ .vmem, ⟨24, _⟩ => ⟨S4096x128, .f32⟩
  | .local _ .vmem, ⟨25, _⟩ => ⟨S4096x256, .bf16⟩
  | .local _ .vmem, ⟨26, _⟩ => ⟨S4096x256, .f32⟩
  | .local _ .vmem, ⟨27, _⟩ => ⟨S4096x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_11 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_12 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_c : Ref sig .tc := ⟨.hbm, 103, rfl⟩
abbrev main_call0_v0 : Ref sig .tc := ⟨.hbm, 104, rfl⟩
abbrev main_v84 : Ref sig .tc := ⟨.hbm, 105, rfl⟩
abbrev main_v85 : Ref sig .tc := ⟨.hbm, 106, rfl⟩
abbrev main_v86_0 : Ref sig .tc := ⟨.hbm, 107, rfl⟩
abbrev main_v86_1 : Ref sig .tc := ⟨.hbm, 108, rfl⟩
abbrev main_v86_2 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v277 : BitVec 1 := Scalar.cmpi .eq arg1 c3_i32
  let v278 : BitVec 32 := Scalar.extui v277
  let c0_i32_178 : BitVec 32 := 0#32
  let v279 : BitVec 1 := Scalar.cmpi .ne v278 c0_i32_178
  v279

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi c1_i32 v0
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4096x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S4096x2048 : Shape := ⟨2, ![4096, 2048]⟩
abbrev S4096x128 : Shape := ⟨2, ![4096, 128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x128 : Shape := ⟨4, ![1, 4096, 1, 128]⟩
abbrev S1x4096x8x128 : Shape := ⟨4, ![1, 4096, 8, 128]⟩
abbrev S4096x1024 : Shape := ⟨2, ![4096, 1024]⟩
abbrev S4096x8x256 : Shape := ⟨3, ![4096, 8, 256]⟩
abbrev S4096x8x192 : Shape := ⟨3, ![4096, 8, 192]⟩
abbrev S4096x8x128 : Shape := ⟨3, ![4096, 8, 128]⟩
abbrev S4096x8x64 : Shape := ⟨3, ![4096, 8, 64]⟩
abbrev S4096x1x32 : Shape := ⟨3, ![4096, 1, 32]⟩
abbrev S4096x8x32 : Shape := ⟨3, ![4096, 8, 32]⟩
abbrev S8x4096x4096 : Shape := ⟨3, ![8, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x192 : Shape := ⟨3, ![8, 4096, 192]⟩

abbrev nBuf : Space → Nat
  | .hbm => 175
  | .vmem => 0
  | .smem => 0
  | _ => 0

abbrev hbmTy0_0 (i : Nat) : BufTy := match i % 128 with
  | 0 => ⟨S4096x2048, .bf16⟩
  | 1 => ⟨S4096x2048, .bf16⟩
  | 2 => ⟨S4096x128, .bf16⟩
  | 3 => ⟨S4096, .i32⟩
  | 4 => ⟨S4096x2048, .bf16⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S4096, .f32⟩
  | 22 => ⟨S4096x1, .f32⟩
  | 23 => ⟨S1x32, .f32⟩
  | 24 => ⟨S4096x32, .f32⟩
  | 25 => ⟨S4096x32, .f32⟩
  | 26 => ⟨S4096x32, .f32⟩
  | 27 => ⟨S4096x32, .f32⟩
  | 28 => ⟨S4096x32, .f32⟩
  | 29 => ⟨S4096x2048, .f32⟩
  | 30 => ⟨S4096x2048, .f32⟩
  | 31 => ⟨S4096x128, .f32⟩
  | 32 => ⟨S4096x2048, .f32⟩
  | 33 => ⟨S1x4096x1x128, .f32⟩
  | 34 => ⟨S1x4096x8x128, .f32⟩
  | 35 => ⟨S4096x1024, .f32⟩
  | 36 => ⟨S4096x8x256, .f32⟩
  | 37 => ⟨S4096x8x192, .f32⟩
  | 38 => ⟨S4096x8x128, .f32⟩
  | 39 => ⟨S4096x8x64, .f32⟩
  | 40 => ⟨S4096x1x32, .f32⟩
  | 41 => ⟨S4096x1x32, .f32⟩
  | 42 => ⟨S4096x8x32, .f32⟩
  | 43 => ⟨S4096x8x32, .f32⟩
  | 44 => ⟨S4096x8x32, .f32⟩
  | 45 => ⟨S4096x8x32, .f32⟩
  | 46 => ⟨S4096x8x32, .f32⟩
  | 47 => ⟨S4096x8x32, .f32⟩
  | 48 => ⟨S4096x8x32, .f32⟩
  | 49 => ⟨S4096x8x32, .f32⟩
  | 50 => ⟨S4096x8x32, .f32⟩
  | 51 => ⟨S4096x8x32, .f32⟩
  | 52 => ⟨S4096x8x32, .f32⟩
  | 53 => ⟨S4096x8x32, .f32⟩
  | 54 => ⟨S4096x8x64, .f32⟩
  | 55 => ⟨S4096x8x192, .f32⟩
  | 56 => ⟨S4096x8x256, .f32⟩
  | 57 => ⟨S4096x8x128, .f32⟩
  | 58 => ⟨S4096x8x128, .f32⟩
  | 59 => ⟨S4096x8x128, .f32⟩
  | 60 => ⟨S4096x8x64, .f32⟩
  | 61 => ⟨S4096x8x192, .f32⟩
  | 62 => ⟨S8x4096x4096, .f32⟩
  | 63 => ⟨S_, .f32⟩
  | 64 => ⟨S_, .f32⟩
  | 65 => ⟨S8x4096x4096, .f32⟩
  | 66 => ⟨S8x4096x4096, .f32⟩
  | 67 => ⟨S_, .f32⟩
  | 68 => ⟨S8x4096, .f32⟩
  | 69 => ⟨S8x4096x1, .f32⟩
  | 70 => ⟨S8x4096x4096, .f32⟩
  | 71 => ⟨S8x4096x4096, .i1⟩
  | 72 => ⟨S8x4096x4096, .f32⟩
  | 73 => ⟨S_, .f32⟩
  | 74 => ⟨S8x4096, .f32⟩
  | 75 => ⟨S_, .f32⟩
  | 76 => ⟨S8x4096, .f32⟩
  | 77 => ⟨S8x4096, .f32⟩
  | 78 => ⟨S_, .f32⟩
  | 79 => ⟨S8x4096, .f32⟩
  | 80 => ⟨S8x4096, .i1⟩
  | 81 => ⟨S_, .f32⟩
  | 82 => ⟨S8x4096, .f32⟩
  | 83 => ⟨S8x4096, .i1⟩
  | 84 => ⟨S_, .f32⟩
  | 85 => ⟨S8x4096, .f32⟩
  | 86 => ⟨S_, .f32⟩
  | 87 => ⟨S8x4096, .f32⟩
  | 88 => ⟨S_, .f32⟩
  | 89 => ⟨S8x4096, .f32⟩
  | 90 => ⟨S8x4096, .f32⟩
  | 91 => ⟨S8x4096, .f32⟩
  | 92 => ⟨S8x4096x1, .f32⟩
  | 93 => ⟨S8x4096x4096, .f32⟩
  | 94 => ⟨S8x4096x4096, .f32⟩
  | 95 => ⟨S8x4096x4096, .f32⟩
  | 96 => ⟨S_, .f32⟩
  | 97 => ⟨S8x4096, .f32⟩
  | 98 => ⟨S8x4096x1, .f32⟩
  | 99 => ⟨S8x4096x4096, .f32⟩
  | 100 => ⟨S8x4096x4096, .f32⟩
  | 101 => ⟨S8x4096x1, .f32⟩
  | 102 => ⟨S_, .f32⟩
  | 103 => ⟨S8x4096x1, .f32⟩
  | 104 => ⟨S8x4096x1, .f32⟩
  | 105 => ⟨S8x128x4096, .f32⟩
  | 106 => ⟨S4096x8x128, .f32⟩
  | 107 => ⟨S4096x1024, .f32⟩
  | 108 => ⟨S4096x1024, .f32⟩
  | 109 => ⟨S4096x8x128, .f32⟩
  | 110 => ⟨S8x128x4096, .f32⟩
  | 111 => ⟨S8x4096x4096, .f32⟩
  | 112 => ⟨S8x128x4096, .f32⟩
  | 113 => ⟨S4096x8x128, .f32⟩
  | 114 => ⟨S8x4096x4096, .f32⟩
  | 115 => ⟨S8x4096x4096, .f32⟩
  | 116 => ⟨S8x4096x4096, .f32⟩
  | 117 => ⟨S_, .f32⟩
  | 118 => ⟨S8x4096, .f32⟩
  | 119 => ⟨S8x4096x1, .f32⟩
  | 120 => ⟨S8x4096x1, .f32⟩
  | 121 => ⟨S8x4096x4096, .f32⟩
  | 122 => ⟨S8x4096x4096, .f32⟩
  | 123 => ⟨S_, .f32⟩
  | 124 => ⟨S8x4096, .f32⟩
  | 125 => ⟨S8x4096x4096, .f32⟩
  | 126 => ⟨S8x4096x4096, .f32⟩
  | 127 => ⟨S8x4096x4096, .f32⟩
  | _ => ⟨S4096x2048, .bf16⟩

abbrev hbmTy0_1 (i : Nat) : BufTy := match i % 128 with
  | 0 => ⟨S8x4096x4096, .f32⟩
  | 1 => ⟨S8x4096x4096, .f32⟩
  | 2 => ⟨S8x4096x192, .f32⟩
  | 3 => ⟨S4096x8x192, .f32⟩
  | 4 => ⟨S8x4096x192, .f32⟩
  | 5 => ⟨S4096x8x192, .f32⟩
  | 6 => ⟨S4096x8x128, .f32⟩
  | 7 => ⟨S4096x8x64, .f32⟩
  | 8 => ⟨S_, .f32⟩
  | 9 => ⟨S4096x8x128, .f32⟩
  | 10 => ⟨S4096x1024, .f32⟩
  | 11 => ⟨S_, .f32⟩
  | 12 => ⟨S4096x8x256, .f32⟩
  | 13 => ⟨S_, .f32⟩
  | 14 => ⟨S4096x8x256, .f32⟩
  | 15 => ⟨S4096x8x256, .f32⟩
  | 16 => ⟨S4096x2048, .f32⟩
  | 17 => ⟨S4096x8x128, .f32⟩
  | 18 => ⟨S4096x8x64, .f32⟩
  | 19 => ⟨S4096x8x32, .f32⟩
  | 20 => ⟨S4096x8x32, .f32⟩
  | 21 => ⟨S4096x8x32, .f32⟩
  | 22 => ⟨S4096x8x32, .f32⟩
  | 23 => ⟨S4096x8x32, .f32⟩
  | 24 => ⟨S4096x8x32, .f32⟩
  | 25 => ⟨S4096x8x32, .f32⟩
  | 26 => ⟨S4096x8x32, .f32⟩
  | 27 => ⟨S4096x8x32, .f32⟩
  | 28 => ⟨S4096x8x32, .f32⟩
  | 29 => ⟨S4096x8x32, .f32⟩
  | 30 => ⟨S4096x8x32, .f32⟩
  | 31 => ⟨S4096x8x32, .f32⟩
  | 32 => ⟨S_, .f32⟩
  | 33 => ⟨S4096x8x64, .f32⟩
  | 34 => ⟨S_, .f32⟩
  | 35 => ⟨S4096x8x64, .f32⟩
  | 36 => ⟨S4096x8x64, .f32⟩
  | 37 => ⟨S_, .f32⟩
  | 38 => ⟨S4096x8x192, .f32⟩
  | 39 => ⟨S_, .f32⟩
  | 40 => ⟨S4096x8x192, .f32⟩
  | 41 => ⟨S4096x8x192, .f32⟩
  | 42 => ⟨S_, .f32⟩
  | 43 => ⟨S4096x8x256, .f32⟩
  | 44 => ⟨S4096x2048, .f32⟩
  | 45 => ⟨S4096x2048, .bf16⟩
  | 46 => ⟨S4096x2048, .bf16⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_4 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_5 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_6 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_cst_8 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_v66 : Ref sig .tc := ⟨.hbm, 82, rfl⟩
abbrev main_v67 : Ref sig .tc := ⟨.hbm, 83, rfl⟩
abbrev main_cst_10 : Ref sig .tc := ⟨.hbm, 84, rfl⟩
abbrev main_v68 : Ref sig .tc := ⟨.hbm, 85, rfl⟩
abbrev main_cst_11 : Ref sig .tc := ⟨.hbm, 86, rfl⟩
abbrev main_v69 : Ref sig .tc := ⟨.hbm, 87, rfl⟩
abbrev main_cst_12 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_13 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_14 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_15 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_16 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_17 : Ref sig .tc := ⟨.hbm, 136, rfl⟩
abbrev main_v113 : Ref sig .tc := ⟨.hbm, 137, rfl⟩
abbrev main_v114 : Ref sig .tc := ⟨.hbm, 138, rfl⟩
abbrev main_cst_18 : Ref sig .tc := ⟨.hbm, 139, rfl⟩
abbrev main_v115 : Ref sig .tc := ⟨.hbm, 140, rfl⟩
abbrev main_cst_19 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_cst_20 : Ref sig .tc := ⟨.hbm, 160, rfl⟩
abbrev main_v134 : Ref sig .tc := ⟨.hbm, 161, rfl⟩
abbrev main_cst_21 : Ref sig .tc := ⟨.hbm, 162, rfl⟩
abbrev main_v135 : Ref sig .tc := ⟨.hbm, 163, rfl⟩
abbrev main_v136 : Ref sig .tc := ⟨.hbm, 164, rfl⟩
abbrev main_cst_22 : Ref sig .tc := ⟨.hbm, 165, rfl⟩
abbrev main_v137 : Ref sig .tc := ⟨.hbm, 166, rfl⟩
abbrev main_cst_23 : Ref sig .tc := ⟨.hbm, 167, rfl⟩
abbrev main_v138 : Ref sig .tc := ⟨.hbm, 168, rfl⟩
abbrev main_v139 : Ref sig .tc := ⟨.hbm, 169, rfl⟩
abbrev main_cst_24 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩

abbrev nD : Nat := 1
abbrev τ : Topo := Topo.v7x

variable {F : FTy → Type} [FloatOps F]
-- ==== Gate.lean ====
abbrev S4096x2048 : Shape := ⟨2, ![4096, 2048]⟩
abbrev S2048x2048 : Shape := ⟨2, ![2048, 2048]⟩
abbrev S4096x4992 : Shape := ⟨2, ![4096, 4992]⟩
abbrev S1024x2048 : Shape := ⟨2, ![1024, 2048]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x4992, .bf16⟩
  | .hbm, ⟨4, _⟩ => ⟨S4096x2048, .bf16⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S4096x2048 : Shape := ⟨2, ![4096, 2048]⟩
abbrev S2048x2048 : Shape := ⟨2, ![2048, 2048]⟩
abbrev S4096x4992 : Shape := ⟨2, ![4096, 4992]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x4992, .bf16⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .bf16⟩
  | .hbm, ⟨32, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Conv.lean ====
abbrev S4096x4992 : Shape := ⟨2, ![4096, 4992]⟩
abbrev S3x512 : Shape := ⟨2, ![3, 512]⟩
abbrev S4096x2048 : Shape := ⟨2, ![4096, 2048]⟩
abbrev S4096x512 : Shape := ⟨2, ![4096, 512]⟩
abbrev S4096x128 : Shape := ⟨2, ![4096, 128]⟩
abbrev S3x128 : Shape := ⟨2, ![3, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S4096x4992, .bf16⟩
  | .hbm, ⟨1, _⟩ => ⟨S3x512, .f32⟩
  | .hbm, ⟨2, _⟩ => ⟨S4096x2048, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S3x512, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S3x128, .f32⟩
  | .local _ .vmem, ⟨17, _⟩ => ⟨S3x128, .f32⟩
  | _, _ => ⟨S4096x4992, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c23_i32 : BitVec 32 := 23#32
  let v0 : BitVec 32 := Scalar.addi c23_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c27_i32 : BitVec 32 := 27#32
  let v0 : BitVec 32 := Scalar.addi c27_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c31_i32 : BitVec 32 := 31#32
  let v0 : BitVec 32 := Scalar.addi c31_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvRefIdeal.lean ====
abbrev S4096x4992 : Shape := ⟨2, ![4096, 4992]⟩
abbrev S3x512 : Shape := ⟨2, ![3, 512]⟩
abbrev S4096x2048 : Shape := ⟨2, ![4096, 2048]⟩
abbrev S4096x512 : Shape := ⟨2, ![4096, 512]⟩
abbrev S_ : Shape := ⟨0, ![]⟩
abbrev S1x512 : Shape := ⟨2, ![1, 512]⟩
abbrev S4098x512 : Shape := ⟨2, ![4098, 512]⟩
abbrev S512 : Shape := ⟨1, ![512]⟩

abbrev nBuf : Space → Nat
  | .hbm => 78
  | .vmem => 0
  | .smem => 0
  | _ => 0

abbrev bufTy : (tb : Table) → Fin (tcTables nBuf tb) → BufTy
  | .hbm, ⟨0, _⟩ => ⟨S4096x4992, .bf16⟩
  | .hbm, ⟨1, _⟩ => ⟨S3x512, .f32⟩
  | .hbm, ⟨2, _⟩ => ⟨S4096x2048, .bf16⟩
  | .hbm, ⟨3, _⟩ => ⟨S4096x512, .bf16⟩
  | .hbm, ⟨4, _⟩ => ⟨S4096x512, .f32⟩
  | .hbm, ⟨5, _⟩ => ⟨S4096x512, .bf16⟩
  | .hbm, ⟨6, _⟩ => ⟨S4096x512, .f32⟩
  | .hbm, ⟨7, _⟩ => ⟨S4096x512, .bf16⟩
  | .hbm, ⟨8, _⟩ => ⟨S4096x512, .f32⟩
  | .hbm, ⟨9, _⟩ => ⟨S4096x512, .f32⟩
  | .hbm, ⟨10, _⟩ => ⟨S_, .f32⟩
  | .hbm, ⟨11, _⟩ => ⟨S1x512, .f32⟩
  | .hbm, ⟨12, _⟩ => ⟨S4098x512, .f32⟩
  | .hbm, ⟨13, _⟩ => ⟨S_, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S1x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .bf16⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S512, .f32⟩
  | .hbm, ⟨39, _⟩ => ⟨S1x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S3x512, .f32⟩
  | .hbm, ⟨44, _⟩ => ⟨S_, .f32⟩
  | .hbm, ⟨45, _⟩ => ⟨S4098x512, .f32⟩
  | .hbm, ⟨46, _⟩ => ⟨S4096x512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S4096x512, .f32⟩
  | .hbm, ⟨51, _⟩ => ⟨S4096x512, .f32⟩
  | .hbm, ⟨52, _⟩ => ⟨S_, .f32⟩
  | .hbm, ⟨53, _⟩ => ⟨S3x512, .f32⟩
  | .hbm, ⟨54, _⟩ => ⟨S3x512, .f32⟩
  | .hbm, ⟨55, _⟩ => ⟨S_, .f32⟩
  | .hbm, ⟨56, _⟩ => ⟨S4098x512, .f32⟩
  | .hbm, ⟨57, _⟩ => ⟨S4098x512, .f32⟩
  | .hbm, ⟨58, _⟩ => ⟨S4096x512, .f32⟩
  | .hbm, ⟨59, _⟩ => ⟨S_, .f32⟩
  | .hbm, ⟨60, _⟩ => ⟨S512, .f32⟩
  | .hbm, ⟨61, _⟩ => ⟨S1x512, .f32⟩
  | .hbm, ⟨62, _⟩ => ⟨S4096x512, .f32⟩
  | .hbm, ⟨63, _⟩ => ⟨S4096x512, .f32⟩
  | .hbm, ⟨64, _⟩ => ⟨S_, .f32⟩
  | .hbm, ⟨65, _⟩ => ⟨S3x512, .f32⟩
  | .hbm, ⟨66, _⟩ => ⟨S3x512, .f32⟩
  | .hbm, ⟨67, _⟩ => ⟨S_, .f32⟩
  | .hbm, ⟨68, _⟩ => ⟨S4098x512, .f32⟩
  | .hbm, ⟨69, _⟩ => ⟨S4098x512, .f32⟩
  | .hbm, ⟨70, _⟩ => ⟨S1x512, .f32⟩
  | .hbm, ⟨71, _⟩ => ⟨S4096x512, .f32⟩
  | .hbm, ⟨72, _⟩ => ⟨S1x512, .f32⟩
  | .hbm, ⟨73, _⟩ => ⟨S4096x512, .f32⟩
  | .hbm, ⟨74, _⟩ => ⟨S4096x512, .f32⟩
  | .hbm, ⟨75, _⟩ => ⟨S4096x512, .bf16⟩
  | .hbm, ⟨76, _⟩ => ⟨S4096x512, .bf16⟩
  | .hbm, ⟨77, _⟩ => ⟨S4096x512, .bf16⟩
  | _, _ => ⟨S4096x4992, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== InDx.lean ====
abbrev S4096x4992 : Shape := ⟨2, ![4096, 4992]⟩
abbrev S4992x2048 : Shape := ⟨2, ![4992, 2048]⟩
abbrev S4096x2048 : Shape := ⟨2, ![4096, 2048]⟩
abbrev S1024x1664 : Shape := ⟨2, ![1024, 1664]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4992, .bf16⟩
  | .hbm, ⟨1, _⟩ => ⟨S4992x2048, .bf16⟩
  | .hbm, ⟨2, _⟩ => ⟨S4096x2048, .bf16⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4992, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S4096x4992 : Shape := ⟨2, ![4096, 4992]⟩
abbrev S4992x2048 : Shape := ⟨2, ![4992, 2048]⟩
abbrev S2048x4992 : Shape := ⟨2, ![2048, 4992]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x4992, .bf16⟩
  | .hbm, ⟨1, _⟩ => ⟨S4992x2048, .bf16⟩
  | .hbm, ⟨2, _⟩ => ⟨S4992x2048, .f32⟩
  | .hbm, ⟨3, _⟩ => ⟨S2048x4992, .f32⟩
  | .hbm, ⟨4, _⟩ => ⟨S_, .f32⟩
  | .hbm, ⟨5, _⟩ => ⟨S4096x2048, .f32⟩
  | .hbm, ⟨6, _⟩ => ⟨S4096x4992, .f32⟩
  | .hbm, ⟨7, _⟩ => ⟨S4096x4992, .f32⟩
  | .hbm, ⟨8, _⟩ => ⟨S4096x2048, .f32⟩
  | .hbm, ⟨9, _⟩ => ⟨S4096x2048, .bf16⟩
  | _, _ => ⟨S4096x4992, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDw.lean ====
abbrev S4096x4992 : Shape := ⟨2, ![4096, 4992]⟩
abbrev S4096x2048 : Shape := ⟨2, ![4096, 2048]⟩
abbrev S4992x2048 : Shape := ⟨2, ![4992, 2048]⟩
abbrev S2048x1664 : Shape := ⟨2, ![2048, 1664]⟩
abbrev S2048x1024 : Shape := ⟨2, ![2048, 1024]⟩
abbrev S1664x1024 : Shape := ⟨2, ![1664, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4992, .bf16⟩
  | .hbm, ⟨1, _⟩ => ⟨S4096x2048, .bf16⟩
  | .hbm, ⟨2, _⟩ => ⟨S4992x2048, .bf16⟩
  | .local _ .vmem, ⟨0, _⟩ => ⟨S2048x1664, .bf16⟩
  | .local _ .vmem, ⟨1, _⟩ => ⟨S2048x1664, .bf16⟩
  | .local _ .vmem, ⟨2, _⟩ => ⟨S2048x1024, .bf16⟩
  | .local _ .vmem, ⟨3, _⟩ => ⟨S2048x1024, .bf16⟩
  | .local _ .vmem, ⟨4, _⟩ => ⟨S1664x1024, .bf16⟩
  | .local _ .vmem, ⟨5, _⟩ => ⟨S1664x1024, .bf16⟩
  | .local _ .vmem, ⟨6, _⟩ => ⟨S1664x1024, .f32⟩
  | _, _ => ⟨S4096x4992, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x4992 : Shape := ⟨2, ![4096, 4992]⟩
abbrev S4096x2048 : Shape := ⟨2, ![4096, 2048]⟩
abbrev S_ : Shape := ⟨0, ![]⟩
abbrev S2048x4992 : Shape := ⟨2, ![2048, 4992]⟩
abbrev S4992x2048 : Shape := ⟨2, ![4992, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x4992, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x4992, .f32⟩
  | .hbm, ⟨5, _⟩ => ⟨S4096x4992, .f32⟩
  | .hbm, ⟨6, _⟩ => ⟨S4096x4992, .f32⟩
  | .hbm, ⟨7, _⟩ => ⟨S4992x2048, .f32⟩
  | .hbm, ⟨8, _⟩ => ⟨S2048x4992, .f32⟩
  | .hbm, ⟨9, _⟩ => ⟨S4992x2048, .f32⟩
  | .hbm, ⟨10, _⟩ => ⟨S4992x2048, .bf16⟩
  | _, _ => ⟨S4096x4992, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UqDw.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDwRefIdeal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S4096x512, .f32⟩
  | .hbm, ⟨3, _⟩ => ⟨S4096x2048, .f32⟩
  | .hbm, ⟨4, _⟩ => ⟨S_, .f32⟩
  | .hbm, ⟨5, _⟩ => ⟨S512x2048, .f32⟩
  | .hbm, ⟨6, _⟩ => ⟨S4096x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UqDx.lean ====
abbrev S4096x2048 : Shape := ⟨2, ![4096, 2048]⟩
abbrev S512x2048 : Shape := ⟨2, ![512, 2048]⟩
abbrev S4096x512 : Shape := ⟨2, ![4096, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x512, .bf16⟩
  | .local _ .vmem, ⟨4, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDxRefIdeal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x2048, .f32⟩
  | .hbm, ⟨3, _⟩ => ⟨S512x2048, .f32⟩
  | .hbm, ⟨4, _⟩ => ⟨S_, .f32⟩
  | .hbm, ⟨5, _⟩ => ⟨S4096x512, .f32⟩
  | .hbm, ⟨6, _⟩ => ⟨S4096x2048, .f32⟩
  | .hbm, ⟨7, _⟩ => ⟨S4096x512, .f32⟩
  | .hbm, ⟨8, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UkvDw.lean ====
abbrev S4096x256 : Shape := ⟨2, ![4096, 256]⟩
abbrev S4096x2048 : Shape := ⟨2, ![4096, 2048]⟩
abbrev S256x2048 : Shape := ⟨2, ![256, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDwRefIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S4096x256, .f32⟩
  | .hbm, ⟨3, _⟩ => ⟨S4096x2048, .f32⟩
  | .hbm, ⟨4, _⟩ => ⟨S_, .f32⟩
  | .hbm, ⟨5, _⟩ => ⟨S256x2048, .f32⟩
  | .hbm, ⟨6, _⟩ => ⟨S4096x2048, .f32⟩
  | .hbm, ⟨7, _⟩ => ⟨S2048x256, .f32⟩
  | .hbm, ⟨8, _⟩ => ⟨S256x2048, .f32⟩
  | .hbm, ⟨9, _⟩ => ⟨S256x2048, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UkvDx.lean ====
abbrev S4096x2048 : Shape := ⟨2, ![4096, 2048]⟩
abbrev S256x2048 : Shape := ⟨2, ![256, 2048]⟩
abbrev S4096x256 : Shape := ⟨2, ![4096, 256]⟩
abbrev S512x2048 : Shape := ⟨2, ![512, 2048]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S4096x256, .bf16⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S512x256, .bf16⟩
  | .local _ .vmem, ⟨4, _⟩ => ⟨S512x256, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDxRefIdeal.lean ====
abbrev S4096x2048 : Shape := ⟨2, ![4096, 2048]⟩
abbrev S256x2048 : Shape := ⟨2, ![256, 2048]⟩
abbrev S_ : Shape := ⟨0, ![]⟩
abbrev S4096x256 : Shape := ⟨2, ![4096, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .bf16⟩
  | .hbm, ⟨2, _⟩ => ⟨S4096x2048, .f32⟩
  | .hbm, ⟨3, _⟩ => ⟨S256x2048, .f32⟩
  | .hbm, ⟨4, _⟩ => ⟨S_, .f32⟩
  | .hbm, ⟨5, _⟩ => ⟨S4096x256, .f32⟩
  | .hbm, ⟨6, _⟩ => ⟨S4096x2048, .f32⟩
  | .hbm, ⟨7, _⟩ => ⟨S4096x256, .f32⟩
  | .hbm, ⟨8, _⟩ => ⟨S4096x256, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProj.lean ====
abbrev S4096x2048 : Shape := ⟨2, ![4096, 2048]⟩
abbrev S4992x2048 : Shape := ⟨2, ![4992, 2048]⟩
abbrev S4096x4992 : Shape := ⟨2, ![4096, 4992]⟩
abbrev S1024x2048 : Shape := ⟨2, ![1024, 2048]⟩
abbrev S1664x2048 : Shape := ⟨2, ![1664, 2048]⟩
abbrev S1024x1664 : Shape := ⟨2, ![1024, 1664]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4992x2048, .bf16⟩
  | .hbm, ⟨2, _⟩ => ⟨S4096x4992, .bf16⟩
  | .local _ .vmem, ⟨0, _⟩ => ⟨S1024x2048, .bf16⟩
  | .local _ .vmem, ⟨1, _⟩ => ⟨S1024x2048, .bf16⟩
  | .local _ .vmem, ⟨2, _⟩ => ⟨S1664x2048, .bf16⟩
  | .local _ .vmem, ⟨3, _⟩ => ⟨S1664x2048, .bf16⟩
  | .local _ .vmem, ⟨4, _⟩ => ⟨S1024x1664, .bf16⟩
  | .local _ .vmem, ⟨5, _⟩ => ⟨S1024x1664, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x2048 : Shape := ⟨2, ![4096, 2048]⟩
abbrev S4992x2048 : Shape := ⟨2, ![4992, 2048]⟩
abbrev S2048x4992 : Shape := ⟨2, ![2048, 4992]⟩
abbrev S4096x4992 : Shape := ⟨2, ![4096, 4992]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4992x2048, .bf16⟩
  | .hbm, ⟨2, _⟩ => ⟨S4096x2048, .f32⟩
  | .hbm, ⟨3, _⟩ => ⟨S4992x2048, .f32⟩
  | .hbm, ⟨4, _⟩ => ⟨S2048x4992, .f32⟩
  | .hbm, ⟨5, _⟩ => ⟨S4096x4992, .f32⟩
  | .hbm, ⟨6, _⟩ => ⟨S4096x4992, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Uq.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqRefIdeal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x512, .f32⟩
  | .hbm, ⟨3, _⟩ => ⟨S512x2048, .f32⟩
  | .hbm, ⟨4, _⟩ => ⟨S4096x2048, .f32⟩
  | .hbm, ⟨5, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ukv.lean ====
abbrev S4096x256 : Shape := ⟨2, ![4096, 256]⟩
abbrev S256x2048 : Shape := ⟨2, ![256, 2048]⟩
abbrev S4096x2048 : Shape := ⟨2, ![4096, 2048]⟩
abbrev S512x256 : Shape := ⟨2, ![512, 256]⟩
abbrev S256x1024 : Shape := ⟨2, ![256, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x2048, .bf16⟩
  | .local _ .vmem, ⟨0, _⟩ => ⟨S512x256, .bf16⟩
  | .local _ .vmem, ⟨1, _⟩ => ⟨S512x256, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvRefIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S4096x256, .f32⟩
  | .hbm, ⟨3, _⟩ => ⟨S256x2048, .f32⟩
  | .hbm, ⟨4, _⟩ => ⟨S4096x2048, .f32⟩
  | .hbm, ⟨5, _⟩ => ⟨S4096x2048, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MemDw.lean ====
abbrev S256x2048 : Shape := ⟨2, ![256, 2048]⟩
abbrev S256x1024 : Shape := ⟨2, ![256, 1024]⟩
abbrev S2048x1024 : Shape := ⟨2, ![2048, 1024]⟩
abbrev S256x512 : Shape := ⟨2, ![256, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S2048x1024, .bf16⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S512x1024, .bf16⟩
  | .local _ .vmem, ⟨4, _⟩ => ⟨S512x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemDwRefIdeal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S256x2048, .f32⟩
  | .hbm, ⟨3, _⟩ => ⟨S256x1024, .f32⟩
  | .hbm, ⟨4, _⟩ => ⟨S_, .f32⟩
  | .hbm, ⟨5, _⟩ => ⟨S2048x1024, .f32⟩
  | .hbm, ⟨6, _⟩ => ⟨S256x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemDx.lean ====
abbrev S256x1024 : Shape := ⟨2, ![256, 1024]⟩
abbrev S2048x1024 : Shape := ⟨2, ![2048, 1024]⟩
abbrev S256x2048 : Shape := ⟨2, ![256, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S2048x1024, .bf16⟩
  | .hbm, ⟨2, _⟩ => ⟨S256x2048, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemDxRefIdeal.lean ====
abbrev S256x1024 : Shape := ⟨2, ![256, 1024]⟩
abbrev S2048x1024 : Shape := ⟨2, ![2048, 1024]⟩
abbrev S_ : Shape := ⟨0, ![]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S256x2048, .f32⟩
  | .hbm, ⟨5, _⟩ => ⟨S256x1024, .f32⟩
  | .hbm, ⟨6, _⟩ => ⟨S256x1024, .f32⟩
  | .hbm, ⟨7, _⟩ => ⟨S256x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemKv.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .bf16⟩
  | .local _ .vmem, ⟨0, _⟩ => ⟨S256x2048, .bf16⟩
  | .local _ .vmem, ⟨1, _⟩ => ⟨S2048x1024, .bf16⟩
  | .local _ .vmem, ⟨2, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvRefIdeal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x2048, .f32⟩
  | .hbm, ⟨3, _⟩ => ⟨S2048x1024, .f32⟩
  | .hbm, ⟨4, _⟩ => ⟨S256x1024, .f32⟩
  | .hbm, ⟨5, _⟩ => ⟨S256x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MlaFwd.lean ====
abbrev S4096x2048 : Shape := ⟨2, ![4096, 2048]⟩
abbrev S4096x128 : Shape := ⟨2, ![4096, 128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x256 : Shape := ⟨2, ![4096, 256]⟩
abbrev S4096x1024 : Shape := ⟨2, ![4096, 1024]⟩
abbrev S512x256 : Shape := ⟨2, ![512, 256]⟩
abbrev S512x128 : Shape := ⟨2, ![512, 128]⟩
abbrev S1024x256 : Shape := ⟨2, ![1024, 256]⟩
abbrev S512x1024 : Shape := ⟨2, ![512, 1024]⟩
abbrev S512 : Shape := ⟨1, ![512]⟩
abbrev S512x1 : Shape := ⟨2, ![512, 1]⟩
abbrev S1024x128 : Shape := ⟨2, ![1024, 128]⟩

abbrev nBuf : Space → Nat
  | .hbm => 47
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x128, .bf16⟩
  | .hbm, ⟨3, _⟩ => ⟨S4096, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S_, .f32⟩
  | .hbm, ⟨29, _⟩ => ⟨S4096x32, .f32⟩
  | .hbm, ⟨30, _⟩ => ⟨S_, .f32⟩
  | .hbm, ⟨31, _⟩ => ⟨S4096x64, .f32⟩
  | .hbm, ⟨32, _⟩ => ⟨S4096x128, .f32⟩
  | .hbm, ⟨33, _⟩ => ⟨S4096x32, .f32⟩
  | .hbm, ⟨34, _⟩ => ⟨S4096x128, .f32⟩
  | .hbm, ⟨35, _⟩ => ⟨S4096x128, .f32⟩
  | .hbm, ⟨36, _⟩ => ⟨S_, .f32⟩
  | .hbm, ⟨37, _⟩ => ⟨S4096x128, .f32⟩
  | .hbm, ⟨38, _⟩ => ⟨S4096x256, .f32⟩
  | .hbm, ⟨39, _⟩ => ⟨S_, .f32⟩
  | .hbm, ⟨40, _⟩ => ⟨S4096x128, .f32⟩
  | .hbm, ⟨41, _⟩ => ⟨S4096x256, .f32⟩
  | .hbm, ⟨42, _⟩ => ⟨S_, .f32⟩
  | .hbm, ⟨43, _⟩ => ⟨S4096x128, .f32⟩
  | .hbm, ⟨44, _⟩ => ⟨S4096x256, .f32⟩
  | .hbm, ⟨45, _⟩ => ⟨S4096x1024, .bf16⟩
  | .hbm, ⟨46, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x128, .bf16⟩
  | .local _ .vmem, ⟨14, _⟩ => ⟨S512x128, .bf16⟩
  | .local _ .vmem, ⟨15, _⟩ => ⟨S512x128, .f32⟩
  | .local _ .vmem, ⟨16, _⟩ => ⟨S512x128, .f32⟩
  | .local _ .vmem, ⟨17, _⟩ => ⟨S4096x256, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31_0 : Ref sig .tc := ⟨.hbm, 45, rfl⟩
abbrev main_v31_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi c1_i32 v0
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MlaFwdIdeal.lean ====
variable {F : FTy → Type} [FloatOps F] [Named F]
def κ : String → Option EReal := fun
  | "log2e" => some (((Real.log 2)⁻¹ : ℝ) : EReal)
  | "scale_log2e" => some (((Real.sqrt 192)⁻¹ * (Real.log 2)⁻¹ : ℝ) : EReal)
  | _ => none
-- ==== MlaFwdRefIdeal.lean ====
abbrev S4096x2048 : Shape := ⟨2, ![4096, 2048]⟩
abbrev S4096x128 : Shape := ⟨2, ![4096, 128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x8x256 : Shape := ⟨3, ![4096, 8, 256]⟩
abbrev S4096x8x192 : Shape := ⟨3, ![4096, 8, 192]⟩
abbrev S4096x8x128 : Shape := ⟨3, ![4096, 8, 128]⟩
abbrev S4096x8x64 : Shape := ⟨3, ![4096, 8, 64]⟩
abbrev S4096x1x32 : Shape := ⟨3, ![4096, 1, 32]⟩
abbrev S4096x8x32 : Shape := ⟨3, ![4096, 8, 32]⟩
abbrev S4096x64 : Shape := ⟨2, ![4096, 64]⟩
abbrev S4096x1x64 : Shape := ⟨3, ![4096, 1, 64]⟩
abbrev S8x4096x4096 : Shape := ⟨3, ![8, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x1024 : Shape := ⟨2, ![4096, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x128, .bf16⟩
  | .hbm, ⟨3, _⟩ => ⟨S4096, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x2048, .f32⟩
  | .hbm, ⟨29, _⟩ => ⟨S4096x2048, .f32⟩
  | .hbm, ⟨30, _⟩ => ⟨S4096x128, .f32⟩
  | .hbm, ⟨31, _⟩ => ⟨S4096x8x256, .f32⟩
  | .hbm, ⟨32, _⟩ => ⟨S4096x8x192, .f32⟩
  | .hbm, ⟨33, _⟩ => ⟨S4096x8x128, .f32⟩
  | .hbm, ⟨34, _⟩ => ⟨S4096x8x64, .f32⟩
  | .hbm, ⟨35, _⟩ => ⟨S4096x1x32, .f32⟩
  | .hbm, ⟨36, _⟩ => ⟨S4096x1x32, .f32⟩
  | .hbm, ⟨37, _⟩ => ⟨S4096x8x32, .f32⟩
  | .hbm, ⟨38, _⟩ => ⟨S4096x8x32, .f32⟩
  | .hbm, ⟨39, _⟩ => ⟨S4096x8x32, .f32⟩
  | .hbm, ⟨40, _⟩ => ⟨S4096x8x32, .f32⟩
  | .hbm, ⟨41, _⟩ => ⟨S4096x8x32, .f32⟩
  | .hbm, ⟨42, _⟩ => ⟨S4096x8x32, .f32⟩
  | .hbm, ⟨43, _⟩ => ⟨S4096x8x32, .f32⟩
  | .hbm, ⟨44, _⟩ => ⟨S4096x8x32, .f32⟩
  | .hbm, ⟨45, _⟩ => ⟨S4096x8x32, .f32⟩
  | .hbm, ⟨46, _⟩ => ⟨S4096x8x32, .f32⟩
  | .hbm, ⟨47, _⟩ => ⟨S4096x8x32, .f32⟩
  | .hbm, ⟨48, _⟩ => ⟨S4096x8x32, .f32⟩
  | .hbm, ⟨49, _⟩ => ⟨S4096x8x64, .f32⟩
  | .hbm, ⟨50, _⟩ => ⟨S4096x8x192, .f32⟩
  | .hbm, ⟨51, _⟩ => ⟨S4096x8x256, .f32⟩
  | .hbm, ⟨52, _⟩ => ⟨S4096x8x128, .f32⟩
  | .hbm, ⟨53, _⟩ => ⟨S4096x8x128, .f32⟩
  | .hbm, ⟨54, _⟩ => ⟨S4096x64, .f32⟩
  | .hbm, ⟨55, _⟩ => ⟨S4096x1x64, .f32⟩
  | .hbm, ⟨56, _⟩ => ⟨S4096x8x64, .f32⟩
  | .hbm, ⟨57, _⟩ => ⟨S4096x8x192, .f32⟩
  | .hbm, ⟨58, _⟩ => ⟨S8x4096x4096, .f32⟩
  | .hbm, ⟨59, _⟩ => ⟨S_, .f32⟩
  | .hbm, ⟨60, _⟩ => ⟨S_, .f32⟩
  | .hbm, ⟨61, _⟩ => ⟨S8x4096x4096, .f32⟩
  | .hbm, ⟨62, _⟩ => ⟨S8x4096x4096, .f32⟩
  | .hbm, ⟨63, _⟩ => ⟨S_, .f32⟩
  | .hbm, ⟨64, _⟩ => ⟨S8x4096, .f32⟩
  | .hbm, ⟨65, _⟩ => ⟨S_, .f32⟩
  | .hbm, ⟨66, _⟩ => ⟨S8x4096, .f32⟩
  | .hbm, ⟨67, _⟩ => ⟨S8x4096, .f32⟩
  | .hbm, ⟨68, _⟩ => ⟨S8x4096x1, .f32⟩
  | .hbm, ⟨69, _⟩ => ⟨S8x4096x4096, .f32⟩
  | .hbm, ⟨70, _⟩ => ⟨S8x4096x4096, .f32⟩
  | .hbm, ⟨71, _⟩ => ⟨S8x4096x4096, .f32⟩
  | .hbm, ⟨72, _⟩ => ⟨S_, .f32⟩
  | .hbm, ⟨73, _⟩ => ⟨S8x4096, .f32⟩
  | .hbm, ⟨74, _⟩ => ⟨S8x4096x1, .f32⟩
  | .hbm, ⟨75, _⟩ => ⟨S8x4096x4096, .f32⟩
  | .hbm, ⟨76, _⟩ => ⟨S8x4096x4096, .f32⟩
  | .hbm, ⟨77, _⟩ => ⟨S8x128x4096, .f32⟩
  | .hbm, ⟨78, _⟩ => ⟨S4096x8x128, .f32⟩
  | .hbm, ⟨79, _⟩ => ⟨S4096x1024, .f32⟩
  | .hbm, ⟨80, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_4 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩

abbrev nD : Nat := 1
abbrev τ : Topo := Topo.v7x

variable {F : FTy → Type} [FloatOps F]
-- ==== Proof.Model.lean ====
/- The gradient of the latent attention over the real numbers: what every result of the certificate is compared with.
   Rows, heads and lanes are natural numbers; an array of the program is a function of two of them. -/
module

public import Idealize.ShloMosaic.Lib.Pointwise

@[expose] public section

noncomputable section

namespace Cert.Model

open Finset

/-- The arguments as real matrices: queries, keys beside values, shared rotary key, cotangent; and the rotary tables. -/
structure Args where
  q : ℕ → ℕ → ℝ
  kv : ℕ → ℕ → ℝ
  kp : ℕ → ℕ → ℝ
  ct : ℕ → ℕ → ℝ
  cs : ℕ → ℕ → ℝ
  sn : ℕ → ℕ → ℝ

variable (A : Args)

/-- Lane `d` of head `h`'s query in row `n`, the rotary lanes rotated; zero past lane 192. -/
def qh (n h d : ℕ) : ℝ :=
  if d < 128 then A.q n (h * 256 + d)
  else if d < 160 then A.q n (h * 256 + d) * A.cs n (d - 128) - A.q n (h * 256 + (d + 32)) * A.sn n (d - 128)
  else if d < 192 then A.q n (h * 256 + d) * A.cs n (d - 160) + A.q n (h * 256 + (d - 32)) * A.sn n (d - 160)
  else 0

/-- Lane `d` of head `h`'s key in row `k`: its own lanes, then the shared rotary ones. -/
def key (k h d : ℕ) : ℝ := if d < 128 then A.kv k (h * 256 + d) else A.kp k (d - 128)

/-- Lane `d` of head `h`'s value in row `k`. -/
def val (k h d : ℕ) : ℝ := A.kv k (h * 256 + (128 + d))

/-- Lane `d` of head `h`'s cotangent in row `n`. -/
def co (n h d : ℕ) : ℝ := A.ct n (h * 128 + d)

/-- The product of a query and a key. -/
def dotp (n h k : ℕ) : ℝ := ∑ d ∈ range 192, qh A n h d * key A k h d

/-- The score. -/
def sc (n h k : ℕ) : ℝ := dotp A n h k / Real.sqrt 192

/-- The softmax's denominator, unshifted. -/
def Z (n h : ℕ) : ℝ := ∑ k ∈ range 4096, Real.exp (sc A n h k)

/-- The attention's weight. -/
def pr (n h k : ℕ) : ℝ := Real.exp (sc A n h k) / Z A n h

/-- The attention's output. -/
def out (n h d : ℕ) : ℝ := ∑ k ∈ range 4096, pr A n h k * val A k h d

/-- The gradient of a weight. -/
def dp (n h k : ℕ) : ℝ := ∑ d ∈ range 128, co A n h d * val A k h d

/-- The row's mean of the weights' gradients. -/
def dl (n h : ℕ) : ℝ := ∑ k ∈ range 4096, pr A n h k * dp A n h k

/-- The gradient of a score. -/
def ds (n h k : ℕ) : ℝ := pr A n h k * (dp A n h k - dl A n h)

/-- The gradient of a rotated query. -/
def dq (n h d : ℕ) : ℝ := (∑ k ∈ range 4096, ds A n h k * key A k h d) / Real.sqrt 192

/-- The gradient of a key. -/
def dk (k h d : ℕ) : ℝ := (∑ n ∈ range 4096, ds A n h k * qh A n h d) / Real.sqrt 192

/-- The gradient of a value. -/
def dv (k h d : ℕ) : ℝ := ∑ n ∈ range 4096, pr A n h k * co A n h d

/-- The first result: the queries' gradient, rotated back. -/
def resQ (n h d : ℕ) : ℝ :=
  if d < 128 then dq A n h d
  else if d < 160 then dq A n h d * A.cs n (d - 128) + dq A n h (d + 32) * A.sn n (d - 128)
  else if d < 192 then dq A n h d * A.cs n (d - 160) - dq A n h (d - 32) * A.sn n (d - 160)
  else 0

/-- The second result: the keys' gradient beside the values'. -/
def resKV (k h d : ℕ) : ℝ := if d < 128 then dk A k h d else dv A k h (d - 128)

/-- The third result: the shared rotary key's gradient, head by head. -/
def resP (k h d : ℕ) : ℝ := if d < 64 then dk A k h (128 + d) else 0

/-! ## Facts -/

theorem Z_pos (n h : ℕ) : 0 < Z A n h :=
  Finset.sum_pos (fun _ _ => Real.exp_pos _) ⟨0, by simp⟩

/-- A query is zero past lane 192, so 256 lanes contract as 192 do. -/
theorem dotp_eq (n h k : ℕ) : ∑ d ∈ range 256, qh A n h d * key A k h d = dotp A n h k := by
  unfold dotp
  rw [show 256 = 192 + 64 from rfl, Finset.sum_range_add, Finset.sum_eq_zero (s := range 64), add_zero]
  intro x _
  have : qh A n h (192 + x) = 0 := by
    unfold qh; rw [if_neg (by omega), if_neg (by omega), if_neg (by omega)]
  rw [this, zero_mul]

/-- The denominator of the shifted softmax. -/
theorem shifted_sum (n h : ℕ) (μ : ℝ) : ∑ k ∈ range 4096, Real.exp (sc A n h k - μ) = Z A n h * Real.exp (-μ) := by
  unfold Z; rw [Finset.sum_mul]
  exact Finset.sum_congr rfl fun k _ => by rw [← Real.exp_add]; rfl

/-- The softmax does not see a shift of a row's scores. -/
theorem shifted (n h k : ℕ) (μ : ℝ) :
    Real.exp (sc A n h k - μ) / ∑ k ∈ range 4096, Real.exp (sc A n h k - μ) = pr A n h k := by
  rw [shifted_sum, sub_eq_add_neg, Real.exp_add]
  have := (Z_pos A n h).ne'
  have := (Real.exp_pos (-μ)).ne'
  unfold pr; field_simp

/-- The weight from the score in base two and the row's log-sum-exp in base two. -/
theorem weight_base_two (n h k : ℕ) (μ : ℝ) :
    Real.rpow 2 (dotp A n h k * ((Real.sqrt 192)⁻¹ * (Real.log 2)⁻¹)
      - (μ + Real.log (∑ k ∈ range 4096, Real.exp (sc A n h k - μ))) / Real.log 2) = pr A n h k := by
  have h2 : Real.log 2 ≠ 0 := (Real.log_pos (by norm_num)).ne'
  have hl : (∑ k ∈ range 4096, Real.exp (sc A n h k - μ)) ≠ 0 := by
    rw [shifted_sum]; exact (mul_pos (Z_pos A n h) (Real.exp_pos _)).ne'
  have hz := Z_pos A n h
  have e : Real.log 2 * (dotp A n h k * ((Real.sqrt 192)⁻¹ * (Real.log 2)⁻¹)
      - (μ + Real.log (∑ k ∈ range 4096, Real.exp (sc A n h k - μ))) / Real.log 2)
      = sc A n h k - Real.log (Z A n h) := by
    rw [shifted_sum, Real.log_mul hz.ne' (Real.exp_pos _).ne', Real.log_exp]
    unfold sc; field_simp; ring
  rw [Real.rpow_eq_pow]
  rw [Real.rpow_def_of_pos (by norm_num), e, Real.exp_sub, Real.exp_log hz]; rfl

/-- The row sum of cotangent times output is the mean of the weights' gradients. -/
theorem delta_eq (n h : ℕ) : ∑ d ∈ range 128, co A n h d * out A n h d = dl A n h := by
  unfold out dl dp
  simp only [Finset.mul_sum]
  rw [Finset.sum_comm]
  exact Finset.sum_congr rfl fun k _ => Finset.sum_congr rfl fun d _ => by ring

/-! ## The rotary tables -/

/-- The table a row's lanes are multiplied by. -/
def tabC (n d : ℕ) : ℝ := if d < 128 then 1 else if d < 160 then A.cs n (d - 128) else if d < 192 then A.cs n (d - 160) else 0

/-- The table the lanes 32 to the right are multiplied by. -/
def tabA (n d : ℕ) : ℝ := if d < 128 then 0 else if d < 160 then -A.sn n (d - 128) else 0

/-- The table the lanes 32 to the left are multiplied by. -/
def tabB (n d : ℕ) : ℝ := if d < 160 then 0 else if d < 192 then A.sn n (d - 160) else 0

/-- The rotation of a row by the three tables. -/
theorem rotate (n h d : ℕ) :
    A.q n (h * 256 + d) * tabC A n d + (A.q n (h * 256 + (d + 32) % 256) * tabA A n d + A.q n (h * 256 + (d + 224) % 256) * tabB A n d) = qh A n h d := by
  unfold qh tabC tabA tabB
  split_ifs <;> first | omega | skip
  · ring
  · rw [show (d + 32) % 256 = d + 32 by omega]; ring
  · rw [show (d + 224) % 256 = d - 32 by omega]; ring
  · ring

/-- The rotation back. -/
theorem rotate_back (n h d : ℕ) :
    dq A n h d * tabC A n d - (dq A n h ((d + 32) % 256) * tabA A n d + dq A n h ((d + 224) % 256) * tabB A n d) = resQ A n h d := by
  unfold resQ tabC tabA tabB
  split_ifs <;> first | omega | skip
  · ring
  · rw [show (d + 32) % 256 = d + 32 by omega]; ring
  · rw [show (d + 224) % 256 = d - 32 by omega]; ring
  · ring

end Cert.Model

end
-- ==== Proof.Coe.lean ====
/- Extended reals that are real numbers: sums, quotients, exponentials, logarithms and maxima of them. -/
module

public import Idealize.ShloMosaic.Lib.Pointwise
public import Idealize.ShloMosaic.PureOps.Ideal.Laws

@[expose] public section

noncomputable section

namespace Cert.Coe

open Finset Idealize.ShloMosaic

/-- A finite sum of reals, taken among the extended reals. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A sum over `Fin n` whose terms are reals that depend on the number alone. -/
theorem sum_fin (n : ℕ) (F : Fin n → EReal) (f : ℕ → ℝ) (h : ∀ k : Fin n, F k = ((f k : ℝ) : EReal)) :
    ∑ k, F k = ((∑ k ∈ range n, f k : ℝ) : EReal) := by
  rw [Finset.sum_congr rfl fun k _ => h k, sum_coe, Finset.sum_range]

theorem mul_coe (a b : ℝ) : ((a : ℝ) : EReal) * (b : EReal) = ((a * b : ℝ) : EReal) := (EReal.coe_mul a b).symm
theorem add_coe (a b : ℝ) : ((a : ℝ) : EReal) + (b : EReal) = ((a + b : ℝ) : EReal) := (EReal.coe_add a b).symm
theorem sub_coe (a b : ℝ) : ((a : ℝ) : EReal) - (b : EReal) = ((a - b : ℝ) : EReal) := (EReal.coe_sub a b).symm
theorem neg_coe (a : ℝ) : -((a : ℝ) : EReal) = ((-a : ℝ) : EReal) := (EReal.coe_neg a).symm
theorem exp_coe (a : ℝ) : Ideal.exp (a : EReal) = ((Real.exp a : ℝ) : EReal) := rfl
theorem exp2_coe (a : ℝ) : Ideal.exp2 (a : EReal) = ((Real.rpow 2 a : ℝ) : EReal) := rfl

theorem div_coe (a b : ℝ) (hb : b ≠ 0) : Ideal.div (a : EReal) (b : EReal) = ((a / b : ℝ) : EReal) := by
  unfold Ideal.div
  rw [if_neg (by simpa using hb), ← EReal.coe_inv, mul_coe, div_eq_mul_inv]

theorem log_coe (a : ℝ) (ha : 0 < a) : Ideal.log (a : EReal) = ((Real.log a : ℝ) : EReal) := if_neg (not_le.mpr ha)

theorem sqrt_coe (a : ℝ) (ha : 0 ≤ a) : Ideal.sqrt (a : EReal) = ((Real.sqrt a : ℝ) : EReal) := if_neg (not_lt.mpr ha)

theorem sqrt192_ne : Real.sqrt 192 ≠ 0 := (Real.sqrt_pos.mpr (by norm_num)).ne'

theorem log2_ne : Real.log 2 ≠ 0 := (Real.log_pos (by norm_num)).ne'

/-- The maximum of a non-empty row of reals, started at minus infinity, is a real. -/
theorem fold_max {n : ℕ} (hn : 0 < n) (F : Fin n → EReal) (f : Fin n → ℝ) (h : ∀ k, F k = ((f k : ℝ) : EReal)) :
    ∃ μ : ℝ, Finset.univ.fold max (⊥ : EReal) F = (μ : EReal) := by
  have hF : F = fun k => ((f k : ℝ) : EReal) := funext h
  subst hF
  have key : ∀ s : Finset (Fin n), s.fold max (⊥ : EReal) (fun k => ((f k : ℝ) : EReal)) = ⊥ ∨
      ∃ μ : ℝ, s.fold max (⊥ : EReal) (fun k => ((f k : ℝ) : EReal)) = (μ : EReal) := by
    intro s
    induction s using Finset.induction_on with
    | empty => left; rfl
    | insert a s ha ih =>
      right
      rw [Finset.fold_insert ha]
      rcases ih with e | ⟨μ, e⟩
      · exact ⟨f a, by rw [e]; exact max_bot_right _⟩
      · exact ⟨max (f a) μ, by rw [e]; exact (EReal.coe_strictMono.monotone.map_max).symm⟩
  rcases key Finset.univ with e | e
  · exfalso
    have : ((f ⟨0, hn⟩ : ℝ) : EReal) ≤ Finset.univ.fold max (⊥ : EReal) (fun k => ((f k : ℝ) : EReal)) :=
      (Finset.le_fold_max _).mpr (Or.inr ⟨⟨0, hn⟩, Finset.mem_univ _, le_rfl⟩)
    rw [e] at this
    exact absurd (le_bot_iff.mp this) (EReal.coe_ne_bot _)
  · exact e

/-- A host's maximum along the last axis of rank 3, started at minus infinity, over a non-empty row of reals: a real. -/
theorem reduce_max {n0 n1 n2 : ℕ} {t u : Shape} (h : (⟨3, ![n0, n1, n2]⟩ : Shape).ReducesTo [2] t) (x : (⟨3, ![n0, n1, n2]⟩ : Shape).Idx → EReal)
    (init : u.Idx → EReal) (hu : 0 < u.numel) (j : t.Idx) (hn : 0 < n2) (hi : ∀ i, init i = ⊥)
    (f : Fin n2 → ℝ) (hx : ∀ k, x (ix3 ⟨(j ⟨0, h.lt_r3_a2_0⟩).val, Shape.coordLt (j ⟨0, h.lt_r3_a2_0⟩) h.size_r3_a2_0⟩
      ⟨(j ⟨1, h.lt_r3_a2_1⟩).val, Shape.coordLt (j ⟨1, h.lt_r3_a2_1⟩) h.size_r3_a2_1⟩ k) = ((f k : ℝ) : EReal)) :
    ∃ μ : ℝ, Host.reduce (FloatOps.maximumf : Ideal .f32 → Ideal .f32 → Ideal .f32) x init h hu j = (μ : EReal) := by
  rw [Host.reduce_eq_fold, h.fold_fiber_r3_a2, hi]
  exact fold_max hn _ f hx

/-- Reals found index by index are the values of one function of the numbers. -/
theorem choice {a b : ℕ} {F : Fin a → Fin b → EReal} (key : ∀ h n, ∃ μ : ℝ, F h n = (μ : EReal)) :
    ∃ μ : ℕ → ℕ → ℝ, ∀ (h : Fin a) (n : Fin b), F h n = ((μ h n : ℝ) : EReal) := by
  refine ⟨fun h n => if hh : h < a ∧ n < b then (key ⟨h, hh.1⟩ ⟨n, hh.2⟩).choose else 0, fun h n => ?_⟩
  have := (key h n).choose_spec
  simp only [h.isLt, n.isLt, and_self, dite_true]
  exact this

/-! ## The programs' float constants -/

theorem bits_ninf : Ideal.ofBits .f32 0xFF800000#32 = ⊥ := by simp [Ideal.ofBits, Ideal.ieee, -EReal.coe_mul]
theorem bits_inf : Ideal.ofBits .f32 0x7F800000#32 = ⊤ := by simp [Ideal.ofBits, Ideal.ieee, -EReal.coe_mul]
theorem bits_two : Ideal.ofBits .f32 0x40000000#32 = ((2 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_192 : Ideal.ofBits .f32 0x43400000#32 = ((192 : ℝ) : EReal) := by
  simp [Ideal.ofBits, Ideal.ieee, -EReal.coe_mul]; norm_num
theorem bits_10000 : Ideal.ofBits .f32 0x461C4000#32 = ((10000 : ℝ) : EReal) := by
  simp [Ideal.ofBits, Ideal.ieee, -EReal.coe_mul]; norm_num

end Cert.Coe

end
-- ==== Proof.RefScores.lean ====
module

public import proofs.«01_k».proof.Proof.Model
public import proofs.«01_k».proof.Proof.Coe
public import proofs.«01_k».proof.Proof.Gen.ReferenceIdeal.Read

@[expose] public section

set_option maxRecDepth 16384

noncomputable section

namespace Cert.RefSide

open Finset Idealize.ShloMosaic Cert.Model Cert.Coe Cert.ReferenceIdeal Cert.ReferenceIdeal.Read

variable (A : Args)
  (x0 x1 : FVec Ideal S4096x2048 .bf16) (x2 : FVec Ideal S4096x128 .bf16) (x3 : (⟨S4096, .i32⟩ : BufTy).Contents (Elt Ideal)) (x4 : FVec Ideal S4096x2048 .bf16)
  (h0 : ∀ (r : Fin 4096) (c : Fin 2048), x0 (ix2 r c) = ((A.q r c : ℝ) : EReal))
  (h1 : ∀ (r : Fin 4096) (c : Fin 2048), x1 (ix2 r c) = ((A.kv r c : ℝ) : EReal))
  (h2 : ∀ (r : Fin 4096) (c : Fin 128), x2 (ix2 r c) = ((A.kp r c : ℝ) : EReal))
  (h4 : ∀ (r : Fin 4096) (c : Fin 2048), x4 (ix2 r c) = ((A.ct r c : ℝ) : EReal))
  (hc : ∀ (r : Fin 4096) (c : Fin 32), val_main_v17 (F := Ideal) x3 (ix2 r c) = ((A.cs r c : ℝ) : EReal))
  (hs : ∀ (r : Fin 4096) (c : Fin 32), val_main_v18 (F := Ideal) x3 (ix2 r c) = ((A.sn r c : ℝ) : EReal))

include h0 hc hs in
/-- The rotated queries. -/
theorem query (n : Fin 4096) (h : Fin 8) (d : Fin 192) :
    val_main_v45 (F := Ideal) x0 x3 (ix3 n h d) = ((qh A n h d : ℝ) : EReal) := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v19]
  have hd := d.isLt
  unfold qh
  simp only [h0, hc, hs, mul_coe, sub_coe, add_coe]
  split_ifs <;> first | omega | rfl | skip
  all_goals (congr 1; try simp only [Nat.sub_sub])
  · rw [show (128 + (d.val - 128)) = d.val by omega, show (128 + (32 + (d.val - 128))) = d.val + 32 by omega]
  · rw [show (128 + (32 + (d.val - 160))) = d.val by omega, show (128 + (d.val - 160)) = d.val - 32 by omega]

include h1 h2 in
/-- The keys. -/
theorem keys (n : Fin 4096) (h : Fin 8) (d : Fin 192) :
    val_main_v51 (F := Ideal) x1 x2 (ix3 n h d) = ((key A n h d : ℝ) : EReal) := by
  pointwise [val_main_v51, val_main_v50, val_main_v49, val_main_v47, val_main_v46, val_main_v25, val_main_v24, val_main_v23, val_main_v21, val_main_v20]
  unfold key
  simp only [h1, h2]
  split_ifs <;> rfl

include h1 in
/-- The values. -/
theorem values (n : Fin 4096) (h : Fin 8) (d : Fin 128) :
    val_main_v48 (F := Ideal) x1 (ix3 n h d) = ((val A n h d : ℝ) : EReal) := by
  pointwise [val_main_v48, val_main_v46, val_main_v20]
  simp only [h1]; rfl

include h4 in
/-- The cotangent, head by head. -/
theorem cots (n : Fin 4096) (h : Fin 8) (d : Fin 128) :
    val_main_v89 (F := Ideal) x4 (ix3 h d n) = ((co A n h d : ℝ) : EReal) := by
  pointwise [val_main_v89, val_main_v88, val_main_v87, val_main_v22]
  simp only [h4]; rfl

include h0 h1 h2 hc hs in
/-- Queries times keys. -/
theorem dots (n k : Fin 4096) (h : Fin 8) :
    val_main_v52 (F := Ideal) x0 x1 x2 x3 (ix3 h n k) = ((dotp A n h k : ℝ) : EReal) := by
  pointwise [val_main_v52]
  exact sum_fin 192 _ (fun d => qh A n h d * key A k h d) fun d => by
    rw [query A x0 x3 h0 hc hs, keys A x1 x2 h1 h2, mul_coe]

theorem root (i : S_.Idx) : val_main_v53 (F := Ideal) i = ((Real.sqrt 192 : ℝ) : EReal) := by
  pointwise [val_main_v53, val_main_cst_4]
  rw [bits_192, sqrt_coe _ (by norm_num)]

include h0 h1 h2 hc hs in
/-- The scores. -/
theorem scores (n k : Fin 4096) (h : Fin 8) :
    val_main_v55 (F := Ideal) x0 x1 x2 x3 (ix3 h n k) = ((sc A n h k : ℝ) : EReal) := by
  pointwise [val_main_v55, val_main_v54]
  rw [dots A x0 x1 x2 x3 h0 h1 h2 hc hs, root, div_coe _ _ sqrt192_ne]; rfl

end Cert.RefSide

end
-- ==== Proof.RefMax.lean ====
module

public import proofs.«01_k».proof.Proof.RefScores

@[expose] public section

set_option maxRecDepth 16384

noncomputable section

namespace Cert.RefSide

open Finset Idealize.ShloMosaic Cert.Model Cert.Coe Cert.ReferenceIdeal Cert.ReferenceIdeal.Read

variable (A : Args)
  (x0 x1 : FVec Ideal S4096x2048 .bf16) (x2 : FVec Ideal S4096x128 .bf16) (x3 : (⟨S4096, .i32⟩ : BufTy).Contents (Elt Ideal)) (x4 : FVec Ideal S4096x2048 .bf16)
  (h0 : ∀ (r : Fin 4096) (c : Fin 2048), x0 (ix2 r c) = ((A.q r c : ℝ) : EReal))
  (h1 : ∀ (r : Fin 4096) (c : Fin 2048), x1 (ix2 r c) = ((A.kv r c : ℝ) : EReal))
  (h2 : ∀ (r : Fin 4096) (c : Fin 128), x2 (ix2 r c) = ((A.kp r c : ℝ) : EReal))
  (h4 : ∀ (r : Fin 4096) (c : Fin 2048), x4 (ix2 r c) = ((A.ct r c : ℝ) : EReal))
  (hc : ∀ (r : Fin 4096) (c : Fin 32), val_main_v17 (F := Ideal) x3 (ix2 r c) = ((A.cs r c : ℝ) : EReal))
  (hs : ∀ (r : Fin 4096) (c : Fin 32), val_main_v18 (F := Ideal) x3 (ix2 r c) = ((A.sn r c : ℝ) : EReal))

include h0 h1 h2 hc hs in
/-- A row's maximum is a real. -/
theorem maximum (h : Fin 8) (n : Fin 4096) : ∃ μ : ℝ, val_main_v63 (F := Ideal) x0 x1 x2 x3 (ix2 h n) = ((μ : ℝ) : EReal) := by
  obtain ⟨μ, e⟩ := reduce_max Gen.reducesTo_S8x4096x4096_S8x4096_d2 (val_main_v55 (F := Ideal) x0 x1 x2 x3) (val_main_cst_5 (F := Ideal)) Gen.h_S_ (ix2 h n)
    (by norm_num) (fun _ => bits_ninf) (fun k => sc A n h k) (fun k => scores A x0 x1 x2 x3 h0 h1 h2 hc hs n k h)
  refine ⟨μ, ?_⟩
  rw [val_main_v63_apply, val_main_v56, e]
  pointwise [val_main_v62, val_main_cst_7]
  rw [bits_ninf, max_bot_left]

include h0 h1 h2 hc hs in
/-- The rows' maxima are reals. -/
theorem maxima : ∃ μ : ℕ → ℕ → ℝ, ∀ (h : Fin 8) (n : Fin 4096), val_main_v63 (F := Ideal) x0 x1 x2 x3 (ix2 h n) = ((μ h n : ℝ) : EReal) :=
  choice (fun h n => maximum A x0 x1 x2 x3 h0 h1 h2 hc hs h n)

end Cert.RefSide

end
-- ==== Proof.RefSide.lean ====
module

public import proofs.«01_k».proof.Proof.RefMax

@[expose] public section

set_option maxRecDepth 16384

noncomputable section

namespace Cert.RefSide

open Finset Idealize.ShloMosaic Cert.Model Cert.Coe Cert.ReferenceIdeal Cert.ReferenceIdeal.Read

variable (A : Args)
  (x0 x1 : FVec Ideal S4096x2048 .bf16) (x2 : FVec Ideal S4096x128 .bf16) (x3 : (⟨S4096, .i32⟩ : BufTy).Contents (Elt Ideal)) (x4 : FVec Ideal S4096x2048 .bf16)
  (h0 : ∀ (r : Fin 4096) (c : Fin 2048), x0 (ix2 r c) = ((A.q r c : ℝ) : EReal))
  (h1 : ∀ (r : Fin 4096) (c : Fin 2048), x1 (ix2 r c) = ((A.kv r c : ℝ) : EReal))
  (h2 : ∀ (r : Fin 4096) (c : Fin 128), x2 (ix2 r c) = ((A.kp r c : ℝ) : EReal))
  (h4 : ∀ (r : Fin 4096) (c : Fin 2048), x4 (ix2 r c) = ((A.ct r c : ℝ) : EReal))
  (hc : ∀ (r : Fin 4096) (c : Fin 32), val_main_v17 (F := Ideal) x3 (ix2 r c) = ((A.cs r c : ℝ) : EReal))
  (hs : ∀ (r : Fin 4096) (c : Fin 32), val_main_v18 (F := Ideal) x3 (ix2 r c) = ((A.sn r c : ℝ) : EReal))

variable (μ : ℕ → ℕ → ℝ) (hμ : ∀ (h : Fin 8) (n : Fin 4096), val_main_v63 (F := Ideal) x0 x1 x2 x3 (ix2 h n) = ((μ h n : ℝ) : EReal))

include h0 h1 h2 hc hs hμ in
/-- The exponentials. -/
theorem exps (n k : Fin 4096) (h : Fin 8) :
    val_main_v76 (F := Ideal) x0 x1 x2 x3 (ix3 h n k) = ((Real.exp (sc A n h k - μ h n) : ℝ) : EReal) := by
  pointwise [val_main_v76, val_main_v75, val_main_v74, val_main_v73]
  rw [scores A x0 x1 x2 x3 h0 h1 h2 hc hs, hμ, sub_coe, exp_coe]

/-- The denominator. -/
def L (h n : ℕ) : ℝ := ∑ k ∈ range 4096, Real.exp (sc A n h k - μ h n)

theorem L_pos (h n : ℕ) : 0 < L A μ h n := Finset.sum_pos (fun _ _ => Real.exp_pos _) ⟨0, by simp⟩

include h0 h1 h2 hc hs hμ in
theorem denominators (n : Fin 4096) (h : Fin 8) :
    val_main_v77 (F := Ideal) x0 x1 x2 x3 (ix2 h n) = ((L A μ h n : ℝ) : EReal) := by
  pointwise [val_main_v77, val_main_cst_13]
  exact sum_fin 4096 _ (fun k => Real.exp (sc A n h k - μ h n)) fun k => exps A x0 x1 x2 x3 h0 h1 h2 hc hs μ hμ n k h

include h0 h1 h2 hc hs hμ in
/-- The weights. -/
theorem weights (n k : Fin 4096) (h : Fin 8) :
    val_main_v80 (F := Ideal) x0 x1 x2 x3 (ix3 h n k) = ((pr A n h k : ℝ) : EReal) := by
  pointwise [val_main_v80, val_main_v79, val_main_v78]
  rw [exps A x0 x1 x2 x3 h0 h1 h2 hc hs μ hμ, denominators A x0 x1 x2 x3 h0 h1 h2 hc hs μ hμ, div_coe _ _ (L_pos A μ h n).ne']
  exact congrArg _ (shifted A n h k (μ h n))

include h1 h4 in
/-- The weights' gradients. -/
theorem dps (n k : Fin 4096) (h : Fin 8) :
    val_main_v90 (F := Ideal) x1 x4 (ix3 h n k) = ((dp A n h k : ℝ) : EReal) := by
  pointwise [val_main_v90]
  exact sum_fin 128 _ (fun d => co A n h d * val A k h d) fun d => by
    rw [cots A x4 h4, values A x1 h1, mul_coe]

include h0 h1 h2 hc hs hμ h4 in
/-- The values' gradients. -/
theorem dvs (k : Fin 4096) (h : Fin 8) (d : Fin 128) :
    val_main_v92 (F := Ideal) x0 x1 x2 x3 x4 (ix3 k h d) = ((dv A k h d : ℝ) : EReal) := by
  pointwise [val_main_v92, val_main_v91]
  exact sum_fin 4096 _ (fun n => pr A n h k * co A n h d) fun n => by
    rw [cots A x4 h4, weights A x0 x1 x2 x3 h0 h1 h2 hc hs μ hμ, mul_coe, mul_comm]

include h0 h1 h2 hc hs hμ h4 in
/-- The rows' means, negated and divided by the denominator. -/
theorem means (n : Fin 4096) (h : Fin 8) :
    val_main_v101 (F := Ideal) x0 x1 x2 x3 x4 (ix2 h n) = ((-(dl A n h / L A μ h n) : ℝ) : EReal) := by
  pointwise [val_main_v101, val_main_v98, val_main_v97, val_main_v96, val_main_v95, val_main_v94, val_main_v93, val_main_v83, val_main_v82, val_main_v81, val_main_v78, val_main_cst_14, val_main_cst_15, val_main_cst_16]
  have e : ∀ k : Fin 4096, val_main_v90 (F := Ideal) x1 x4 (ix3 h n k) * Ideal.div 1 (val_main_v77 (F := Ideal) x0 x1 x2 x3 (ix2 h n) * val_main_v77 (F := Ideal) x0 x1 x2 x3 (ix2 h n)) *
      val_main_v76 (F := Ideal) x0 x1 x2 x3 (ix3 h n k) = ((pr A n h k * dp A n h k / L A μ h n : ℝ) : EReal) := by
    intro k
    rw [dps A x1 x4 h1 h4, exps A x0 x1 x2 x3 h0 h1 h2 hc hs μ hμ, denominators A x0 x1 x2 x3 h0 h1 h2 hc hs μ hμ, mul_coe, ← EReal.coe_one,
      div_coe _ _ (mul_pos (L_pos A μ h n) (L_pos A μ h n)).ne', mul_coe, mul_coe, ← shifted A n h k (μ h n)]
    change _ = ((_ / L A μ h n * _ / L A μ h n : ℝ) : EReal)
    have := (L_pos A μ h n).ne'
    congr 1
    field_simp
  rw [sum_fin 4096 _ (fun k => pr A n h k * dp A n h k / L A μ h n) e, neg_coe, ← Finset.sum_div]
  exact (Finset.sum_const _).trans (by simp [dl])

include h0 h1 h2 hc hs hμ h4 in
/-- The scores' gradients, divided by the root. -/
theorem dss (n k : Fin 4096) (h : Fin 8) :
    val_main_v106 (F := Ideal) x0 x1 x2 x3 x4 (ix3 h n k) = ((ds A n h k / Real.sqrt 192 : ℝ) : EReal) := by
  pointwise [val_main_v106, val_main_v105, val_main_v104, val_main_v103, val_main_v102, val_main_v100, val_main_v99, val_main_v78]
  rw [means A x0 x1 x2 x3 x4 h0 h1 h2 h4 hc hs μ hμ, dps A x1 x4 h1 h4, exps A x0 x1 x2 x3 h0 h1 h2 hc hs μ hμ,
    denominators A x0 x1 x2 x3 h0 h1 h2 hc hs μ hμ, root, div_coe _ _ (L_pos A μ h n).ne', add_coe, mul_coe, div_coe _ _ sqrt192_ne]
  congr 2
  unfold ds
  rw [← shifted A n h k (μ h n)]
  change _ = _ / L A μ h n * _
  ring

include h0 h1 h2 hc hs hμ h4 in
/-- The keys' gradients. -/
theorem dks (k : Fin 4096) (h : Fin 8) (d : Fin 192) :
    val_main_v108 (F := Ideal) x0 x1 x2 x3 x4 (ix3 k h d) = ((dk A k h d : ℝ) : EReal) := by
  pointwise [val_main_v108, val_main_v107]
  rw [dk, Finset.sum_div]
  exact sum_fin 4096 _ (fun n => ds A n h k * qh A n h d / Real.sqrt 192) fun n => by
    rw [dss A x0 x1 x2 x3 x4 h0 h1 h2 h4 hc hs μ hμ, query A x0 x3 h0 hc hs, mul_coe]; congr 1; ring

include h0 h1 h2 hc hs hμ h4 in
/-- The rotated queries' gradients. -/
theorem dqs (n : Fin 4096) (h : Fin 8) (d : Fin 192) :
    val_main_v110 (F := Ideal) x0 x1 x2 x3 x4 (ix3 n h d) = ((dq A n h d : ℝ) : EReal) := by
  pointwise [val_main_v110, val_main_v109]
  rw [dq, Finset.sum_div]
  exact sum_fin 4096 _ (fun k => ds A n h k * key A k h d / Real.sqrt 192) fun k => by
    rw [dss A x0 x1 x2 x3 x4 h0 h1 h2 h4 hc hs μ hμ, keys A x1 x2 h1 h2, mul_coe]; congr 1; ring

end Cert.RefSide

end
-- ==== Proof.RefRes.lean ====
module

public import proofs.«01_k».proof.Proof.RefSide

@[expose] public section

set_option maxRecDepth 16384

noncomputable section

namespace Cert.RefSide

open Finset Idealize.ShloMosaic Cert.Model Cert.Coe Cert.ReferenceIdeal Cert.ReferenceIdeal.Read

variable (A : Args)
  (x0 x1 : FVec Ideal S4096x2048 .bf16) (x2 : FVec Ideal S4096x128 .bf16) (x3 : (⟨S4096, .i32⟩ : BufTy).Contents (Elt Ideal)) (x4 : FVec Ideal S4096x2048 .bf16)
  (h0 : ∀ (r : Fin 4096) (c : Fin 2048), x0 (ix2 r c) = ((A.q r c : ℝ) : EReal))
  (h1 : ∀ (r : Fin 4096) (c : Fin 2048), x1 (ix2 r c) = ((A.kv r c : ℝ) : EReal))
  (h2 : ∀ (r : Fin 4096) (c : Fin 128), x2 (ix2 r c) = ((A.kp r c : ℝ) : EReal))
  (h4 : ∀ (r : Fin 4096) (c : Fin 2048), x4 (ix2 r c) = ((A.ct r c : ℝ) : EReal))
  (hc : ∀ (r : Fin 4096) (c : Fin 32), val_main_v17 (F := Ideal) x3 (ix2 r c) = ((A.cs r c : ℝ) : EReal))
  (hs : ∀ (r : Fin 4096) (c : Fin 32), val_main_v18 (F := Ideal) x3 (ix2 r c) = ((A.sn r c : ℝ) : EReal))

variable (μ : ℕ → ℕ → ℝ) (hμ : ∀ (h : Fin 8) (n : Fin 4096), val_main_v63 (F := Ideal) x0 x1 x2 x3 (ix2 h n) = ((μ h n : ℝ) : EReal))

include h0 h1 h2 hc hs hμ h4 in
/-- The third result. -/
theorem res_p (k : Fin 4096) (c : Fin 1024) :
    val_main_v114 (F := Ideal) x0 x1 x2 x3 x4 (ix2 k c) = ((resP A k (c / 128) (c % 128) : ℝ) : EReal) := by
  pointwise [val_main_v114, val_main_v113, val_main_v112, val_main_cst_17]
  have hc' := c.isLt
  simp only [dks A x0 x1 x2 x3 x4 h0 h1 h2 h4 hc hs μ hμ, dite_eq_ite]
  unfold resP
  split_ifs <;> first | omega | rfl | exact EReal.coe_zero.symm

include h0 h1 h2 hc hs hμ h4 in
/-- The second result. -/
theorem res_kv (k : Fin 4096) (c : Fin 2048) :
    val_main_v143 (F := Ideal) x0 x1 x2 x3 x4 (ix2 k c) = ((resKV A k (c / 256) (c % 256) : ℝ) : EReal) := by
  pointwise [val_main_v143, val_main_v118, val_main_v117, val_main_v116, val_main_v115, val_main_v111, val_main_cst_18, val_main_cst_19]
  have hc' := c.isLt
  simp only [dks A x0 x1 x2 x3 x4 h0 h1 h2 h4 hc hs μ hμ, dvs A x0 x1 x2 x3 x4 h0 h1 h2 h4 hc hs μ hμ, dite_eq_ite]
  unfold resKV
  split_ifs <;> first | omega | (simp only [zero_add, add_zero])

include h0 h1 h2 hc hs hμ h4 in
/-- The first result. -/
theorem res_q (n : Fin 4096) (c : Fin 2048) :
    val_main_v142 (F := Ideal) x0 x1 x2 x3 x4 (ix2 n c) = ((resQ A n (c / 256) (c % 256) : ℝ) : EReal) := by
  pointwise [val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v31, val_main_v30, val_main_cst_20, val_main_cst_21, val_main_cst_22, val_main_cst_23, val_main_cst_24]
  have hc' := c.isLt
  simp only [dqs A x0 x1 x2 x3 x4 h0 h1 h2 h4 hc hs μ hμ, hc, hs, neg_coe, mul_coe, add_coe]
  simp only [dite_eq_ite]
  unfold resQ
  split_ifs <;> first | omega | (simp only [zero_add, add_zero]) | skip
  · rw [show 128 + (32 + (c.val % 256 - 128 - 32)) = c.val % 256 by omega, show 128 + (c.val % 256 - 128 - 32) = c.val % 256 - 32 by omega,
      show c.val % 256 - 128 - 32 = c.val % 256 - 160 by omega]
    congr 1; ring
  · rw [show 128 + (32 + (c.val % 256 - 128)) = c.val % 256 + 32 by omega, show 128 + (c.val % 256 - 128) = c.val % 256 by omega]
    congr 1; ring
  · exact EReal.coe_zero.symm

end Cert.RefSide

end
-- ==== Proof.KHost.lean ====
/- The values the kernel's host code computes before the region, one definition per operation, as functions of the arguments;
   and that the region finds the five arrays it reads from them. -/
module

public import proofs.«01_k».proof.Proof.Gen.KernelIdeal.Frame.Runs
public import Idealize.ShloMosaic.Lib.Pipeline.ValueKit

@[expose] public section

set_option maxRecDepth 16384

noncomputable section

namespace Cert.KernelIdeal.Host

open Cert.KernelIdeal Cert.KernelIdeal.Gen Idealize.ShloMosaic Idealize.ShloMosaic.TcCoe Idealize.SL.Sem

variable {F : FTy → Type} [FloatOps F]

def h0 : (⟨S32, .f32⟩ : BufTy).Contents (Elt F) :=
  (sitofp .f32 (iotaInDim S32 32 0))
def hc : (⟨S_, .f32⟩ : BufTy).Contents (Elt F) :=
  (constant S_ .f32 0x40000000#32)
def h1 : (⟨S32, .f32⟩ : BufTy).Contents (Elt F) :=
  (broadcastInDim S32 ![] bcast_S_S32) (hc (F := F))
def h2 : (⟨S32, .f32⟩ : BufTy).Contents (Elt F) :=
  (mulf) (h1 (F := F)) (h0 (F := F))
def hc_0 : (⟨S_, .f32⟩ : BufTy).Contents (Elt F) :=
  (constant S_ .f32 0x00000000#32)
def h3 : (⟨S32, .f32⟩ : BufTy).Contents (Elt F) :=
  (broadcastInDim S32 ![] bcast_S_S32) (hc_0 (F := F))
def h4 : (⟨S32, .f32⟩ : BufTy).Contents (Elt F) :=
  (addf) (h3 (F := F)) (h2 (F := F))
def hc_1 : (⟨S_, .f32⟩ : BufTy).Contents (Elt F) :=
  (constant S_ .f32 0x42800000#32)
def h5 : (⟨S32, .f32⟩ : BufTy).Contents (Elt F) :=
  (broadcastInDim S32 ![] bcast_S_S32) (hc_1 (F := F))
def h6 : (⟨S32, .f32⟩ : BufTy).Contents (Elt F) :=
  (Host.divf) (h4 (F := F)) (h5 (F := F))
def hc_2 : (⟨S_, .f32⟩ : BufTy).Contents (Elt F) :=
  (constant S_ .f32 0x461C4000#32)
def h7 : (⟨S32, .f32⟩ : BufTy).Contents (Elt F) :=
  (broadcastInDim S32 ![] bcast_S_S32) (hc_2 (F := F))
def h8 : (⟨S32, .f32⟩ : BufTy).Contents (Elt F) :=
  (Host.powf) (h7 (F := F)) (h6 (F := F))
def hc_3 : (⟨S_, .f32⟩ : BufTy).Contents (Elt F) :=
  (constant S_ .f32 0x3F800000#32)
def h9 : (⟨S32, .f32⟩ : BufTy).Contents (Elt F) :=
  (broadcastInDim S32 ![] bcast_S_S32) (hc_3 (F := F))
def h10 : (⟨S32, .f32⟩ : BufTy).Contents (Elt F) :=
  (Host.divf) (h9 (F := F)) (h8 (F := F))
def h11 (x3 : IVec S4096 32) : (⟨S4096, .f32⟩ : BufTy).Contents (Elt F) :=
  (sitofp .f32) x3
def h12 (x3 : IVec S4096 32) : (⟨S4096x1, .f32⟩ : BufTy).Contents (Elt F) :=
  (broadcastInDim S4096x1 ![0] bcast_S4096_S4096x1_0) (h11 (F := F) x3)
def h13 : (⟨S1x32, .f32⟩ : BufTy).Contents (Elt F) :=
  (broadcastInDim S1x32 ![1] bcast_S32_S1x32_1) (h10 (F := F))
def h14 (x3 : IVec S4096 32) : (⟨S4096x32, .f32⟩ : BufTy).Contents (Elt F) :=
  (broadcastInDim S4096x32 ![0, 1] bcast_S4096x1_S4096x32_0_1) (h12 (F := F) x3)
def h15 : (⟨S4096x32, .f32⟩ : BufTy).Contents (Elt F) :=
  (broadcastInDim S4096x32 ![0, 1] bcast_S1x32_S4096x32_0_1) (h13 (F := F))
def h16 (x3 : IVec S4096 32) : (⟨S4096x32, .f32⟩ : BufTy).Contents (Elt F) :=
  (mulf) (h14 (F := F) x3) (h15 (F := F))
def h17 (x3 : IVec S4096 32) : (⟨S4096x32, .f32⟩ : BufTy).Contents (Elt F) :=
  (Host.cos) (h16 (F := F) x3)
def h18 (x3 : IVec S4096 32) : (⟨S4096x32, .f32⟩ : BufTy).Contents (Elt F) :=
  (Host.sin) (h16 (F := F) x3)
def hc_4 : (⟨S_, .f32⟩ : BufTy).Contents (Elt F) :=
  (constant S_ .f32 0x00000000#32)
def h19 : (⟨S4096x32, .f32⟩ : BufTy).Contents (Elt F) :=
  (broadcastInDim S4096x32 ![] bcast_S_S4096x32) (hc_4 (F := F))
def hc_5 : (⟨S_, .f32⟩ : BufTy).Contents (Elt F) :=
  (constant S_ .f32 0x00000000#32)
def h20 : (⟨S4096x64, .f32⟩ : BufTy).Contents (Elt F) :=
  (broadcastInDim S4096x64 ![] bcast_S_S4096x64) (hc_5 (F := F))
def h21 (x3 : IVec S4096 32) : (⟨S4096x128, .f32⟩ : BufTy).Contents (Elt F) :=
  concatenate S4096x128 1 [⟨S4096x32, (h17 (F := F) x3)⟩, ⟨S4096x32, (h17 (F := F) x3)⟩, ⟨S4096x64, (h20 (F := F))⟩] concatenates_S4096x32_S4096x32_S4096x64_S4096x128_d1
def h22 (x3 : IVec S4096 32) : (⟨S4096x32, .f32⟩ : BufTy).Contents (Elt F) :=
  (Host.negf) (h18 (F := F) x3)
def h23 (x3 : IVec S4096 32) : (⟨S4096x128, .f32⟩ : BufTy).Contents (Elt F) :=
  concatenate S4096x128 1 [⟨S4096x32, (h22 (F := F) x3)⟩, ⟨S4096x32, (h19 (F := F))⟩, ⟨S4096x64, (h20 (F := F))⟩] concatenates_S4096x32_S4096x32_S4096x64_S4096x128_d1
def h24 (x3 : IVec S4096 32) : (⟨S4096x128, .f32⟩ : BufTy).Contents (Elt F) :=
  concatenate S4096x128 1 [⟨S4096x32, (h19 (F := F))⟩, ⟨S4096x32, (h18 (F := F) x3)⟩, ⟨S4096x64, (h20 (F := F))⟩] concatenates_S4096x32_S4096x32_S4096x64_S4096x128_d1
def hc_6 : (⟨S_, .f32⟩ : BufTy).Contents (Elt F) :=
  (constant S_ .f32 0x3F800000#32)
def h25 : (⟨S4096x128, .f32⟩ : BufTy).Contents (Elt F) :=
  (broadcastInDim S4096x128 ![] bcast_S_S4096x128) (hc_6 (F := F))
def h26 (x3 : IVec S4096 32) : (⟨S4096x256, .f32⟩ : BufTy).Contents (Elt F) :=
  ((fun a b => concatenate S4096x256 1 [⟨S4096x128, a⟩, ⟨S4096x128, b⟩] concatenates_S4096x128_S4096x128_S4096x256_d1)) (h25 (F := F)) (h21 (F := F) x3)
def hc_7 : (⟨S_, .f32⟩ : BufTy).Contents (Elt F) :=
  (constant S_ .f32 0x00000000#32)
def h27 : (⟨S4096x128, .f32⟩ : BufTy).Contents (Elt F) :=
  (broadcastInDim S4096x128 ![] bcast_S_S4096x128) (hc_7 (F := F))
def h28 (x3 : IVec S4096 32) : (⟨S4096x256, .f32⟩ : BufTy).Contents (Elt F) :=
  ((fun a b => concatenate S4096x256 1 [⟨S4096x128, a⟩, ⟨S4096x128, b⟩] concatenates_S4096x128_S4096x128_S4096x256_d1)) (h27 (F := F)) (h23 (F := F) x3)
def hc_8 : (⟨S_, .f32⟩ : BufTy).Contents (Elt F) :=
  (constant S_ .f32 0x00000000#32)
def h29 : (⟨S4096x128, .f32⟩ : BufTy).Contents (Elt F) :=
  (broadcastInDim S4096x128 ![] bcast_S_S4096x128) (hc_8 (F := F))
def h30 (x3 : IVec S4096 32) : (⟨S4096x256, .f32⟩ : BufTy).Contents (Elt F) :=
  ((fun a b => concatenate S4096x256 1 [⟨S4096x128, a⟩, ⟨S4096x128, b⟩] concatenates_S4096x128_S4096x128_S4096x256_d1)) (h29 (F := F)) (h24 (F := F) x3)
def h31 (x0 : FVec F S4096x2048 .bf16) : (⟨S4096x2048, .f32⟩ : BufTy).Contents (Elt F) :=
  ((extf .f32 · bitsLt_bf16_f32)) x0
def h32 (x0 : FVec F S4096x2048 .bf16) : (⟨S4096x8x256, .f32⟩ : BufTy).Contents (Elt F) :=
  shapeCast _ (h31 (F := F) x0) shapeCasts_S4096x2048_S4096x8x256
def h33 (x3 : IVec S4096 32) : (⟨S4096x32, .f32⟩ : BufTy).Contents (Elt F) :=
  ((extractStridedSlice S4096x32 ![0, 128] · slices_S4096x256_S4096x32_0_128)) (h26 (F := F) x3)
def h34 (x3 : IVec S4096 32) : (⟨S4096x1x32, .f32⟩ : BufTy).Contents (Elt F) :=
  (broadcastInDim S4096x1x32 ![0, 2] bcast_S4096x32_S4096x1x32_0_2) (h33 (F := F) x3)
def h35 (x3 : IVec S4096 32) : (⟨S4096x32, .f32⟩ : BufTy).Contents (Elt F) :=
  ((extractStridedSlice S4096x32 ![0, 160] · slices_S4096x256_S4096x32_0_160)) (h30 (F := F) x3)
def h36 (x3 : IVec S4096 32) : (⟨S4096x1x32, .f32⟩ : BufTy).Contents (Elt F) :=
  (broadcastInDim S4096x1x32 ![0, 2] bcast_S4096x32_S4096x1x32_0_2) (h35 (F := F) x3)
def h37 (x0 : FVec F S4096x2048 .bf16) : (⟨S4096x8x32, .f32⟩ : BufTy).Contents (Elt F) :=
  ((extractStridedSlice S4096x8x32 ![0, 0, 128] · slices_S4096x8x256_S4096x8x32_0_0_128)) (h32 (F := F) x0)
def h38 (x0 : FVec F S4096x2048 .bf16) : (⟨S4096x8x32, .f32⟩ : BufTy).Contents (Elt F) :=
  ((extractStridedSlice S4096x8x32 ![0, 0, 160] · slices_S4096x8x256_S4096x8x32_0_0_160)) (h32 (F := F) x0)
def h39 (x0 : FVec F S4096x2048 .bf16) : (⟨S4096x8x128, .f32⟩ : BufTy).Contents (Elt F) :=
  ((extractStridedSlice S4096x8x128 ![0, 0, 0] · slices_S4096x8x256_S4096x8x128_0_0_0)) (h32 (F := F) x0)
def h40 (x3 : IVec S4096 32) : (⟨S4096x8x32, .f32⟩ : BufTy).Contents (Elt F) :=
  (broadcastInDim S4096x8x32 ![0, 1, 2] bcast_S4096x1x32_S4096x8x32_0_1_2) (h34 (F := F) x3)
def h41 (x0 : FVec F S4096x2048 .bf16) (x3 : IVec S4096 32) : (⟨S4096x8x32, .f32⟩ : BufTy).Contents (Elt F) :=
  (mulf) (h37 (F := F) x0) (h40 (F := F) x3)
def h42 (x3 : IVec S4096 32) : (⟨S4096x8x32, .f32⟩ : BufTy).Contents (Elt F) :=
  (broadcastInDim S4096x8x32 ![0, 1, 2] bcast_S4096x1x32_S4096x8x32_0_1_2) (h36 (F := F) x3)
def h43 (x0 : FVec F S4096x2048 .bf16) (x3 : IVec S4096 32) : (⟨S4096x8x32, .f32⟩ : BufTy).Contents (Elt F) :=
  (mulf) (h38 (F := F) x0) (h42 (F := F) x3)
def h44 (x0 : FVec F S4096x2048 .bf16) (x3 : IVec S4096 32) : (⟨S4096x8x32, .f32⟩ : BufTy).Contents (Elt F) :=
  (subf) (h41 (F := F) x0 x3) (h43 (F := F) x0 x3)
def h45 (x3 : IVec S4096 32) : (⟨S4096x8x32, .f32⟩ : BufTy).Contents (Elt F) :=
  (broadcastInDim S4096x8x32 ![0, 1, 2] bcast_S4096x1x32_S4096x8x32_0_1_2) (h34 (F := F) x3)
def h46 (x0 : FVec F S4096x2048 .bf16) (x3 : IVec S4096 32) : (⟨S4096x8x32, .f32⟩ : BufTy).Contents (Elt F) :=
  (mulf) (h38 (F := F) x0) (h45 (F := F) x3)
def h47 (x3 : IVec S4096 32) : (⟨S4096x8x32, .f32⟩ : BufTy).Contents (Elt F) :=
  (broadcastInDim S4096x8x32 ![0, 1, 2] bcast_S4096x1x32_S4096x8x32_0_1_2) (h36 (F := F) x3)
def h48 (x0 : FVec F S4096x2048 .bf16) (x3 : IVec S4096 32) : (⟨S4096x8x32, .f32⟩ : BufTy).Contents (Elt F) :=
  (mulf) (h37 (F := F) x0) (h47 (F := F) x3)
def h49 (x0 : FVec F S4096x2048 .bf16) (x3 : IVec S4096 32) : (⟨S4096x8x32, .f32⟩ : BufTy).Contents (Elt F) :=
  (addf) (h46 (F := F) x0 x3) (h48 (F := F) x0 x3)
def h50 (x0 : FVec F S4096x2048 .bf16) (x3 : IVec S4096 32) : (⟨S4096x8x192, .f32⟩ : BufTy).Contents (Elt F) :=
  concatenate S4096x8x192 2 [⟨S4096x8x128, (h39 (F := F) x0)⟩, ⟨S4096x8x32, (h44 (F := F) x0 x3)⟩, ⟨S4096x8x32, (h49 (F := F) x0 x3)⟩] concatenates_S4096x8x128_S4096x8x32_S4096x8x32_S4096x8x192_d2
def h51 (x1 : FVec F S4096x2048 .bf16) : (⟨S4096x2048, .f32⟩ : BufTy).Contents (Elt F) :=
  ((extf .f32 · bitsLt_bf16_f32)) x1
def h52 (x1 : FVec F S4096x2048 .bf16) : (⟨S4096x8x256, .f32⟩ : BufTy).Contents (Elt F) :=
  shapeCast _ (h51 (F := F) x1) shapeCasts_S4096x2048_S4096x8x256
def h53 (x1 : FVec F S4096x2048 .bf16) : (⟨S4096x8x128, .f32⟩ : BufTy).Contents (Elt F) :=
  ((extractStridedSlice S4096x8x128 ![0, 0, 0] · slices_S4096x8x256_S4096x8x128_0_0_0)) (h52 (F := F) x1)
def h54 (x2 : FVec F S4096x128 .bf16) : (⟨S4096x128, .f32⟩ : BufTy).Contents (Elt F) :=
  ((extf .f32 · bitsLt_bf16_f32)) x2
def h55 (x2 : FVec F S4096x128 .bf16) : (⟨S4096x64, .f32⟩ : BufTy).Contents (Elt F) :=
  ((extractStridedSlice S4096x64 ![0, 0] · slices_S4096x128_S4096x64_0_0)) (h54 (F := F) x2)
def h56 (x2 : FVec F S4096x128 .bf16) : (⟨S4096x1x64, .f32⟩ : BufTy).Contents (Elt F) :=
  (broadcastInDim S4096x1x64 ![0, 2] bcast_S4096x64_S4096x1x64_0_2) (h55 (F := F) x2)
def h57 (x2 : FVec F S4096x128 .bf16) : (⟨S4096x8x64, .f32⟩ : BufTy).Contents (Elt F) :=
  (broadcastInDim S4096x8x64 ![0, 1, 2] bcast_S4096x1x64_S4096x8x64_0_1_2) (h56 (F := F) x2)
def h58 (x1 : FVec F S4096x2048 .bf16) (x2 : FVec F S4096x128 .bf16) : (⟨S4096x8x192, .f32⟩ : BufTy).Contents (Elt F) :=
  ((fun a b => concatenate S4096x8x192 2 [⟨S4096x8x128, a⟩, ⟨S4096x8x64, b⟩] concatenates_S4096x8x128_S4096x8x64_S4096x8x192_d2)) (h53 (F := F) x1) (h57 (F := F) x2)
def h59 (x0 : FVec F S4096x2048 .bf16) (x1 : FVec F S4096x2048 .bf16) (x2 : FVec F S4096x128 .bf16) (x3 : IVec S4096 32) : (⟨S8x4096x4096, .f32⟩ : BufTy).Contents (Elt F) :=
  ((fun l r => Host.dotGeneral dot_S4096x8x192_S4096x8x192_S8x4096x4096_2_2_0_0_1_1 none l r)) (h50 (F := F) x0 x3) (h58 (F := F) x1 x2)
def hc_9 : (⟨S_, .f32⟩ : BufTy).Contents (Elt F) :=
  (constant S_ .f32 0x43400000#32)
def h60 : (⟨S_, .f32⟩ : BufTy).Contents (Elt F) :=
  (Host.sqrt) (hc_9 (F := F))
def h61 : (⟨S8x4096x4096, .f32⟩ : BufTy).Contents (Elt F) :=
  (broadcastInDim S8x4096x4096 ![] bcast_S_S8x4096x4096) (h60 (F := F))
def h62 (x0 : FVec F S4096x2048 .bf16) (x1 : FVec F S4096x2048 .bf16) (x2 : FVec F S4096x128 .bf16) (x3 : IVec S4096 32) : (⟨S8x4096x4096, .f32⟩ : BufTy).Contents (Elt F) :=
  (Host.divf) (h59 (F := F) x0 x1 x2 x3) (h61 (F := F))
def hc_10 : (⟨S_, .f32⟩ : BufTy).Contents (Elt F) :=
  (constant S_ .f32 0xFF800000#32)
def h63 (x0 : FVec F S4096x2048 .bf16) (x1 : FVec F S4096x2048 .bf16) (x2 : FVec F S4096x128 .bf16) (x3 : IVec S4096 32) : (⟨S8x4096, .f32⟩ : BufTy).Contents (Elt F) :=
  ((fun x v => Host.reduce FloatOps.maximumf x v reducesTo_S8x4096x4096_S8x4096_d2 h_S_)) (h62 (F := F) x0 x1 x2 x3) (hc_10 (F := F))
def h64 (x0 : FVec F S4096x2048 .bf16) (x1 : FVec F S4096x2048 .bf16) (x2 : FVec F S4096x128 .bf16) (x3 : IVec S4096 32) : (⟨S8x4096x1, .f32⟩ : BufTy).Contents (Elt F) :=
  (broadcastInDim S8x4096x1 ![0, 1] bcast_S8x4096_S8x4096x1_0_1) (h63 (F := F) x0 x1 x2 x3)
def h65 (x0 : FVec F S4096x2048 .bf16) (x1 : FVec F S4096x2048 .bf16) (x2 : FVec F S4096x128 .bf16) (x3 : IVec S4096 32) : (⟨S8x4096x4096, .f32⟩ : BufTy).Contents (Elt F) :=
  (broadcastInDim S8x4096x4096 ![0, 1, 2] bcast_S8x4096x1_S8x4096x4096_0_1_2) (h64 (F := F) x0 x1 x2 x3)
def h66 (x0 : FVec F S4096x2048 .bf16) (x1 : FVec F S4096x2048 .bf16) (x2 : FVec F S4096x128 .bf16) (x3 : IVec S4096 32) : (⟨S8x4096x4096, .f32⟩ : BufTy).Contents (Elt F) :=
  (subf) (h62 (F := F) x0 x1 x2 x3) (h65 (F := F) x0 x1 x2 x3)
def h67 (x0 : FVec F S4096x2048 .bf16) (x1 : FVec F S4096x2048 .bf16) (x2 : FVec F S4096x128 .bf16) (x3 : IVec S4096 32) : (⟨S8x4096x4096, .f32⟩ : BufTy).Contents (Elt F) :=
  (Host.exp) (h66 (F := F) x0 x1 x2 x3)
def hc_11 : (⟨S_, .f32⟩ : BufTy).Contents (Elt F) :=
  (constant S_ .f32 0x00000000#32)
def h68 (x0 : FVec F S4096x2048 .bf16) (x1 : FVec F S4096x2048 .bf16) (x2 : FVec F S4096x128 .bf16) (x3 : IVec S4096 32) : (⟨S8x4096, .f32⟩ : BufTy).Contents (Elt F) :=
  ((fun x v => Host.reduceAdd x v reducesTo_S8x4096x4096_S8x4096_d2 h_S_)) (h67 (F := F) x0 x1 x2 x3) (hc_11 (F := F))
def h69 (x0 : FVec F S4096x2048 .bf16) (x1 : FVec F S4096x2048 .bf16) (x2 : FVec F S4096x128 .bf16) (x3 : IVec S4096 32) : (⟨S8x4096x1, .f32⟩ : BufTy).Contents (Elt F) :=
  (broadcastInDim S8x4096x1 ![0, 1] bcast_S8x4096_S8x4096x1_0_1) (h68 (F := F) x0 x1 x2 x3)
def h70 (x0 : FVec F S4096x2048 .bf16) (x1 : FVec F S4096x2048 .bf16) (x2 : FVec F S4096x128 .bf16) (x3 : IVec S4096 32) : (⟨S8x4096x4096, .f32⟩ : BufTy).Contents (Elt F) :=
  (broadcastInDim S8x4096x4096 ![0, 1, 2] bcast_S8x4096x1_S8x4096x4096_0_1_2) (h69 (F := F) x0 x1 x2 x3)
def h71 (x0 : FVec F S4096x2048 .bf16) (x1 : FVec F S4096x2048 .bf16) (x2 : FVec F S4096x128 .bf16) (x3 : IVec S4096 32) : (⟨S8x4096x4096, .f32⟩ : BufTy).Contents (Elt F) :=
  (Host.divf) (h67 (F := F) x0 x1 x2 x3) (h70 (F := F) x0 x1 x2 x3)
def h72 (x1 : FVec F S4096x2048 .bf16) : (⟨S4096x8x128, .f32⟩ : BufTy).Contents (Elt F) :=
  ((extractStridedSlice S4096x8x128 ![0, 0, 128] · slices_S4096x8x256_S4096x8x128_0_0_128)) (h52 (F := F) x1)
def h73 (x0 : FVec F S4096x2048 .bf16) (x1 : FVec F S4096x2048 .bf16) (x2 : FVec F S4096x128 .bf16) (x3 : IVec S4096 32) : (⟨S8x128x4096, .f32⟩ : BufTy).Contents (Elt F) :=
  ((fun l r => Host.dotGeneral dot_S4096x8x128_S8x4096x4096_S8x128x4096_0_2_2_1_1_0 none l r)) (h72 (F := F) x1) (h71 (F := F) x0 x1 x2 x3)
def h74 (x0 : FVec F S4096x2048 .bf16) (x1 : FVec F S4096x2048 .bf16) (x2 : FVec F S4096x128 .bf16) (x3 : IVec S4096 32) : (⟨S4096x8x128, .f32⟩ : BufTy).Contents (Elt F) :=
  ((transpose S4096x8x128 [2, 0, 1] · transposes_S8x128x4096_S4096x8x128_2_0_1)) (h73 (F := F) x0 x1 x2 x3)
def h75 (x0 : FVec F S4096x2048 .bf16) (x1 : FVec F S4096x2048 .bf16) (x2 : FVec F S4096x128 .bf16) (x3 : IVec S4096 32) : (⟨S8x4096x1, .f32⟩ : BufTy).Contents (Elt F) :=
  (Host.log) (h69 (F := F) x0 x1 x2 x3)
def h76 (x0 : FVec F S4096x2048 .bf16) (x1 : FVec F S4096x2048 .bf16) (x2 : FVec F S4096x128 .bf16) (x3 : IVec S4096 32) : (⟨S8x4096x1, .f32⟩ : BufTy).Contents (Elt F) :=
  (addf) (h64 (F := F) x0 x1 x2 x3) (h75 (F := F) x0 x1 x2 x3)
def hc_12 : (⟨S_, .f32⟩ : BufTy).Contents (Elt F) :=
  (constant S_ .f32 0x40000000#32)
def h77 : (⟨S_, .f32⟩ : BufTy).Contents (Elt F) :=
  (Host.log) (hc_12 (F := F))
def h78 : (⟨S8x4096x1, .f32⟩ : BufTy).Contents (Elt F) :=
  (broadcastInDim S8x4096x1 ![] bcast_S_S8x4096x1) (h77 (F := F))
def h79 (x0 : FVec F S4096x2048 .bf16) (x1 : FVec F S4096x2048 .bf16) (x2 : FVec F S4096x128 .bf16) (x3 : IVec S4096 32) : (⟨S8x4096x1, .f32⟩ : BufTy).Contents (Elt F) :=
  (Host.divf) (h76 (F := F) x0 x1 x2 x3) (h78 (F := F))
def h80 (x0 : FVec F S4096x2048 .bf16) (x1 : FVec F S4096x2048 .bf16) (x2 : FVec F S4096x128 .bf16) (x3 : IVec S4096 32) : (⟨S4096x8x1, .f32⟩ : BufTy).Contents (Elt F) :=
  ((transpose S4096x8x1 [1, 0, 2] · transposes_S8x4096x1_S4096x8x1_1_0_2)) (h79 (F := F) x0 x1 x2 x3)
def h81 (x0 : FVec F S4096x2048 .bf16) (x1 : FVec F S4096x2048 .bf16) (x2 : FVec F S4096x128 .bf16) (x3 : IVec S4096 32) : (⟨S4096x8x128, .f32⟩ : BufTy).Contents (Elt F) :=
  (broadcastInDim S4096x8x128 ![0, 1, 2] bcast_S4096x8x1_S4096x8x128_0_1_2) (h80 (F := F) x0 x1 x2 x3)
def h82 (x0 : FVec F S4096x2048 .bf16) (x1 : FVec F S4096x2048 .bf16) (x2 : FVec F S4096x128 .bf16) (x3 : IVec S4096 32) : (⟨S4096x1024, .f32⟩ : BufTy).Contents (Elt F) :=
  shapeCast _ (h81 (F := F) x0 x1 x2 x3) shapeCasts_S4096x8x128_S4096x1024
def h83 (x0 : FVec F S4096x2048 .bf16) (x1 : FVec F S4096x2048 .bf16) (x2 : FVec F S4096x128 .bf16) (x3 : IVec S4096 32) : (⟨S4096x1024, .f32⟩ : BufTy).Contents (Elt F) :=
  shapeCast _ (h74 (F := F) x0 x1 x2 x3) shapeCasts_S4096x8x128_S4096x1024
def hz : (⟨S_, .i32⟩ : BufTy).Contents (Elt F) :=
  (constantI S_ 32 0#32)
def h84 (x0 : FVec F S4096x2048 .bf16) (x1 : FVec F S4096x2048 .bf16) (x2 : FVec F S4096x128 .bf16) (x3 : IVec S4096 32) : FVec F S4096x2048 .f32 :=
  pad S4096x2048 ![0, 0] ![0, 1024] ![0, 0] (h83 (F := F) x0 x1 x2 x3) (sitofp .f32 (hz (F := F))) pads_S4096x1024_S4096x2048_000_010240 h_S_
def h85 (x0 : FVec F S4096x2048 .bf16) (x1 : FVec F S4096x2048 .bf16) (x2 : FVec F S4096x128 .bf16) (x3 : IVec S4096 32) : FVec F S4096x2048 .bf16 :=
  truncf .bf16 (h84 (F := F) x0 x1 x2 x3) bitsLt_bf16_f32

end Cert.KernelIdeal.Host

end
-- ==== Proof.Angle.lean ====
/- The rotary tables' cosines and sines: real numbers, the same in the kernel's host code and in the reference. -/
module

public import proofs.«01_k».proof.Proof.KHost
public import proofs.«01_k».proof.Proof.Coe
public import proofs.«01_k».proof.Proof.Gen.ReferenceIdeal.Read

@[expose] public section

set_option maxRecDepth 16384

noncomputable section

namespace Cert.Angle

open Idealize.ShloMosaic Cert.Coe Cert.KernelIdeal Cert.KernelIdeal.Host

variable (x3 : IVec S4096 32)

theorem cos_eq : Cert.ReferenceIdeal.Read.val_main_v17 (F := Ideal) x3 = h17 (F := Ideal) x3 := rfl

theorem sin_eq : Cert.ReferenceIdeal.Read.val_main_v18 (F := Ideal) x3 = h18 (F := Ideal) x3 := rfl

/-- An angle is a real. -/
theorem angle (r : Fin 4096) (c : Fin 32) : ∃ a : ℝ, h16 (F := Ideal) x3 (ix2 r c) = ((a : ℝ) : EReal) := by
  pointwise [h16, h15, h14, h13, h12, h11, h10, h9, h8, h7, h6, h5, h4, h3, h2, h1, h0, hc, hc_0, hc_1, hc_2, hc_3]
  rw [show ∀ b : BitVec 32, (FloatOps.sitofp .f32 b : Ideal .f32) = (((b.toInt : ℝ) : ℝ) : EReal) from fun _ => rfl,
    show ∀ b : BitVec 32, (FloatOps.sitofp .f32 b : Ideal .f32) = (((b.toInt : ℝ) : ℝ) : EReal) from fun _ => rfl,
    bits_two, bits_64, bits_10000, mul_coe, div_coe _ _ (by norm_num), ← EReal.coe_one,
    show ∀ x y : ℝ, Ideal.pow (x : EReal) (y : EReal) = ((Real.rpow x y : ℝ) : EReal) from fun _ _ => rfl,
    div_coe _ (Real.rpow _ _) (Real.rpow_pos_of_pos (by norm_num) _).ne', mul_coe]
  exact ⟨_, rfl⟩

/-- A cosine is the real it is taken to. -/
theorem cos_real (r : Fin 4096) (c : Fin 32) : h17 (F := Ideal) x3 (ix2 r c) = (((h17 (F := Ideal) x3 (ix2 r c) : EReal).toReal : ℝ) : EReal) := by
  obtain ⟨a, ha⟩ := angle x3 r c
  have e : h17 (F := Ideal) x3 (ix2 r c) = ((Real.cos a : ℝ) : EReal) := by
    change Ideal.cos (h16 (F := Ideal) x3 (ix2 r c)) = _
    rw [ha]; rfl
  rw [e, EReal.toReal_coe]

/-- A sine is the real it is taken to. -/
theorem sin_real (r : Fin 4096) (c : Fin 32) : h18 (F := Ideal) x3 (ix2 r c) = (((h18 (F := Ideal) x3 (ix2 r c) : EReal).toReal : ℝ) : EReal) := by
  obtain ⟨a, ha⟩ := angle x3 r c
  have e : h18 (F := Ideal) x3 (ix2 r c) = ((Real.sin a : ℝ) : EReal) := by
    change Ideal.sin (h16 (F := Ideal) x3 (ix2 r c)) = _
    rw [ha]; rfl
  rw [e, EReal.toReal_coe]

end Cert.Angle

end
-- ==== Proof.Finite.lean ====
/- The precondition's side conditions, and what it says at an index: every element of the four float arguments is a real. -/
module

public import proofs.«01_k».proof.Pre_finite
public import Idealize.ShloMosaic.Lib.Pointwise
public import Idealize.ShloMosaic.Lib.ReduceAll
public import proofs.«01_k».proof.Proof.Coe

@[expose] public section

noncomputable section

namespace Cert.Finite

open Idealize.ShloMosaic Cert.Pre_finite

/-- The shape conditions of the precondition's operations. -/
instance facts : Cert.Pre_finite.Facts where
  bitsLt_bf16_f32 := by decide
  bcast_S_S4096x2048 := by decide
  reducesTo_S4096x2048_S_d0_1 := by decide
  h_S_ := by decide
  bcast_S_S4096x128 := by decide
  reducesTo_S4096x128_S_d0_1 := by decide

/-- A magnitude below infinity is a real's. -/
theorem real_of_lt (x : EReal) (h : FloatOps.cmpf (F := Ideal) (φ := .f32) .olt (FloatOps.absf (F := Ideal) (φ := .f32) x) (⊤ : EReal) = 1#1) : x = ((x.toReal : ℝ) : EReal) := by
  have h' : BitVec.ofBool (decide (max x (-x) < ⊤)) = 1#1 := h
  induction x with
  | bot => simp at h'
  | top => simp at h'
  | coe r => rfl

theorem opened (x0 x1 : FVec Ideal S4096x2048 .bf16) (x2 : FVec Ideal S4096x128 .bf16) (x3 : IVec S4096 32) (x4 : FVec Ideal S4096x2048 .bf16)
    (h : Cert.Pre_finite.fn (F := Ideal) x0 x1 x2 x3 x4 = fun _ => 1#1) :
    (∀ i, x0 i = (((x0 i : EReal).toReal : ℝ) : EReal)) ∧ (∀ i, x1 i = (((x1 i : EReal).toReal : ℝ) : EReal))
    ∧ (∀ i, x2 i = (((x2 i : EReal).toReal : ℝ) : EReal)) ∧ (∀ i, x4 i = (((x4 i : EReal).toReal : ℝ) : EReal)) := by
  have e := congrFun h ix0
  simp only [Cert.Pre_finite.fn, Cert.Pre_finite.fn_part1, andi, IntOp.andi_eq_one] at e
  obtain ⟨⟨⟨e0, e1⟩, e2⟩, e4⟩ := e
  have b := Cert.Coe.bits_inf
  refine ⟨fun i => ?_, fun i => ?_, fun i => ?_, fun i => ?_⟩
  · have q := Host.reduce_andi_all _ _ _ _ _ e0 i
    refine real_of_lt _ ?_
    rw [← b]; exact q
  · have q := Host.reduce_andi_all _ _ _ _ _ e1 i
    refine real_of_lt _ ?_
    rw [← b]; exact q
  · have q := Host.reduce_andi_all _ _ _ _ _ e2 i
    refine real_of_lt _ ?_
    rw [← b]; exact q
  · have q := Host.reduce_andi_all _ _ _ _ _ e4 i
    refine real_of_lt _ ?_
    rw [← b]; exact q

end Cert.Finite

end
-- ==== Proof.KVal.lean ====
/- What the kernel's host code computes from real arguments: the rotary tables, the weights, the attention's output. -/
module

public import proofs.«01_k».proof.Proof.Model
public import proofs.«01_k».proof.Proof.Coe
public import proofs.«01_k».proof.Proof.KHost

@[expose] public section

set_option maxRecDepth 16384

noncomputable section

namespace Cert.KernelIdeal.Host

open Finset Idealize.ShloMosaic Cert.Model Cert.Coe Cert.KernelIdeal

variable (A : Args)
  (x0 x1 : FVec Ideal S4096x2048 .bf16) (x2 : FVec Ideal S4096x128 .bf16) (x3 : IVec S4096 32)
  (h0' : ∀ (r : Fin 4096) (c : Fin 2048), x0 (ix2 r c) = ((A.q r c : ℝ) : EReal))
  (h1' : ∀ (r : Fin 4096) (c : Fin 2048), x1 (ix2 r c) = ((A.kv r c : ℝ) : EReal))
  (h2' : ∀ (r : Fin 4096) (c : Fin 128), x2 (ix2 r c) = ((A.kp r c : ℝ) : EReal))
  (hcos : ∀ (r : Fin 4096) (c : Fin 32), h17 (F := Ideal) x3 (ix2 r c) = ((A.cs r c : ℝ) : EReal))
  (hsin : ∀ (r : Fin 4096) (c : Fin 32), h18 (F := Ideal) x3 (ix2 r c) = ((A.sn r c : ℝ) : EReal))

include hcos in
/-- The first table. -/
theorem table_c (n : Fin 4096) (d : Fin 256) : h26 (F := Ideal) x3 (ix2 n d) = ((tabC A n d : ℝ) : EReal) := by
  pointwise [h26, h25, hc_6, h21, h20, hc_5]
  have hd := d.isLt
  simp only [hcos, dite_eq_ite]
  unfold tabC
  split_ifs <;> first | omega | rfl | exact EReal.coe_zero.symm | (congr 2; omega)

include hsin in
/-- The second table. -/
theorem table_a (n : Fin 4096) (d : Fin 256) : h28 (F := Ideal) x3 (ix2 n d) = ((tabA A n d : ℝ) : EReal) := by
  pointwise [h28, h27, hc_7, h23, h22, h20, hc_5, h19, hc_4]
  have hd := d.isLt
  simp only [hsin, dite_eq_ite, neg_coe]
  unfold tabA
  split_ifs <;> first | omega | rfl | exact EReal.coe_zero.symm | (congr 3; omega)

include hsin in
/-- The third table. -/
theorem table_b (n : Fin 4096) (d : Fin 256) : h30 (F := Ideal) x3 (ix2 n d) = ((tabB A n d : ℝ) : EReal) := by
  pointwise [h30, h29, hc_8, h24, h20, hc_5, h19, hc_4]
  have hd := d.isLt
  simp only [hsin, dite_eq_ite]
  unfold tabB
  split_ifs <;> first | omega | rfl | exact EReal.coe_zero.symm | (congr 2; omega)

include hcos in
/-- The cosines, cut out of the first table. -/
theorem row_cos (n : Fin 4096) (c : Fin 32) : h33 (F := Ideal) x3 (ix2 n c) = ((A.cs n c : ℝ) : EReal) := by
  pointwise [h33]
  have hd := c.isLt
  rw [table_c A x3 hcos]
  unfold tabC
  simp only
  rw [if_neg (by omega), if_pos (by omega), Nat.add_sub_cancel_left]

include hsin in
/-- The sines, cut out of the third table. -/
theorem row_sin (n : Fin 4096) (c : Fin 32) : h35 (F := Ideal) x3 (ix2 n c) = ((A.sn n c : ℝ) : EReal) := by
  pointwise [h35]
  have hd := c.isLt
  rw [table_b A x3 hsin]
  unfold tabB
  simp only
  rw [if_neg (by omega), if_pos (by omega), Nat.add_sub_cancel_left]

include h0' hcos hsin in
/-- The rotated queries. -/
theorem query (n : Fin 4096) (h : Fin 8) (d : Fin 192) : h50 (F := Ideal) x0 x3 (ix3 n h d) = ((qh A n h d : ℝ) : EReal) := by
  pointwise [h50, h49, h48, h47, h46, h45, h44, h43, h42, h41, h40, h39, h38, h37, h36, h34, h32, h31]
  have hd := d.isLt
  unfold qh
  simp only [h0', row_cos A x3 hcos, row_sin A x3 hsin, mul_coe, sub_coe, add_coe]
  split_ifs <;> first | omega | rfl | skip
  all_goals (congr 1; try simp only [Nat.sub_sub])
  · rw [show (128 + (d.val - 128)) = d.val by omega, show (160 + (d.val - 128)) = d.val + 32 by omega]
  · rw [show (160 + (d.val - 160)) = d.val by omega, show (128 + (d.val - 160)) = d.val - 32 by omega]

include h1' h2' in
/-- The keys. -/
theorem keys (n : Fin 4096) (h : Fin 8) (d : Fin 192) : h58 (F := Ideal) x1 x2 (ix3 n h d) = ((key A n h d : ℝ) : EReal) := by
  pointwise [h58, h57, h56, h55, h54, h53, h52, h51]
  unfold key
  simp only [h1', h2']
  split_ifs <;> rfl

include h1' in
/-- The values. -/
theorem values (n : Fin 4096) (h : Fin 8) (d : Fin 128) : h72 (F := Ideal) x1 (ix3 n h d) = ((val A n h d : ℝ) : EReal) := by
  pointwise [h72, h52, h51]
  simp only [h1']; rfl

include h0' h1' h2' hcos hsin in
/-- Queries times keys. -/
theorem dots (n k : Fin 4096) (h : Fin 8) : h59 (F := Ideal) x0 x1 x2 x3 (ix3 h n k) = ((dotp A n h k : ℝ) : EReal) := by
  pointwise [h59]
  exact sum_fin 192 _ (fun d => qh A n h d * key A k h d) fun d => by
    rw [query A x0 x3 h0' hcos hsin, keys A x1 x2 h1' h2', mul_coe]

theorem root (i : S_.Idx) : h60 (F := Ideal) i = ((Real.sqrt 192 : ℝ) : EReal) := by
  pointwise [h60, hc_9]
  rw [bits_192, sqrt_coe _ (by norm_num)]

include h0' h1' h2' hcos hsin in
/-- The scores. -/
theorem scores (n k : Fin 4096) (h : Fin 8) : h62 (F := Ideal) x0 x1 x2 x3 (ix3 h n k) = ((sc A n h k : ℝ) : EReal) := by
  pointwise [h62, h61]
  rw [dots A x0 x1 x2 x3 h0' h1' h2' hcos hsin, root, div_coe _ _ sqrt192_ne]; rfl

include h0' h1' h2' hcos hsin in
/-- A row's maximum is a real. -/
theorem maximum (h : Fin 8) (n : Fin 4096) : ∃ μ : ℝ, h63 (F := Ideal) x0 x1 x2 x3 (ix2 h n) = ((μ : ℝ) : EReal) :=
  reduce_max Gen.reducesTo_S8x4096x4096_S8x4096_d2 (h62 (F := Ideal) x0 x1 x2 x3) (hc_10 (F := Ideal)) Gen.h_S_ (ix2 h n)
    (by norm_num) (fun _ => bits_ninf) (fun k => sc A n h k) (fun k => scores A x0 x1 x2 x3 h0' h1' h2' hcos hsin n k h)

include h0' h1' h2' hcos hsin in
/-- The rows' maxima are reals. -/
theorem maxima : ∃ μ : ℕ → ℕ → ℝ, ∀ (h : Fin 8) (n : Fin 4096), h63 (F := Ideal) x0 x1 x2 x3 (ix2 h n) = ((μ h n : ℝ) : EReal) :=
  choice (fun h n => maximum A x0 x1 x2 x3 h0' h1' h2' hcos hsin h n)

variable (μ : ℕ → ℕ → ℝ) (hμ : ∀ (h : Fin 8) (n : Fin 4096), h63 (F := Ideal) x0 x1 x2 x3 (ix2 h n) = ((μ h n : ℝ) : EReal))

include h0' h1' h2' hcos hsin hμ in
/-- The exponentials. -/
theorem exps (n k : Fin 4096) (h : Fin 8) : h67 (F := Ideal) x0 x1 x2 x3 (ix3 h n k) = ((Real.exp (sc A n h k - μ h n) : ℝ) : EReal) := by
  pointwise [h67, h66, h65, h64]
  rw [scores A x0 x1 x2 x3 h0' h1' h2' hcos hsin, hμ, sub_coe, exp_coe]

/-- The denominator. -/
def L (h n : ℕ) : ℝ := ∑ k ∈ range 4096, Real.exp (sc A n h k - μ h n)

theorem L_pos (h n : ℕ) : 0 < L A μ h n := Finset.sum_pos (fun _ _ => Real.exp_pos _) ⟨0, by simp⟩

/-- A row's log-sum-exp in base two. -/
def lse (h n : ℕ) : ℝ := (μ h n + Real.log (L A μ h n)) / Real.log 2

include h0' h1' h2' hcos hsin hμ in
/-- The denominators. -/
theorem denominators (n : Fin 4096) (h : Fin 8) : h68 (F := Ideal) x0 x1 x2 x3 (ix2 h n) = ((L A μ h n : ℝ) : EReal) := by
  pointwise [h68, hc_11]
  exact sum_fin 4096 _ (fun k => Real.exp (sc A n h k - μ h n)) fun k => exps A x0 x1 x2 x3 h0' h1' h2' hcos hsin μ hμ n k h

include h0' h1' h2' hcos hsin hμ in
/-- The weights. -/
theorem weights (n k : Fin 4096) (h : Fin 8) : h71 (F := Ideal) x0 x1 x2 x3 (ix3 h n k) = ((pr A n h k : ℝ) : EReal) := by
  pointwise [h71, h70, h69]
  rw [exps A x0 x1 x2 x3 h0' h1' h2' hcos hsin μ hμ, denominators A x0 x1 x2 x3 h0' h1' h2' hcos hsin μ hμ, div_coe _ _ (L_pos A μ h n).ne']
  exact congrArg _ (shifted A n h k (μ h n))

include h0' h1' h2' hcos hsin hμ in
/-- The attention's output, head by head. -/
theorem outs (n : Fin 4096) (h : Fin 8) (d : Fin 128) : h73 (F := Ideal) x0 x1 x2 x3 (ix3 h d n) = ((out A n h d : ℝ) : EReal) := by
  pointwise [h73]
  exact sum_fin 4096 _ (fun k => pr A n h k * val A k h d) fun k => by
    rw [values A x1 h1', weights A x0 x1 x2 x3 h0' h1' h2' hcos hsin μ hμ, mul_coe, mul_comm]

include h0' h1' h2' hcos hsin hμ in
/-- The array of the attention's outputs: the heads side by side, then the padding. -/
theorem output (n : Fin 4096) (c : Fin 2048) (hcl : c.val < 1024) :
    h85 (F := Ideal) x0 x1 x2 x3 (ix2 n c) = ((out A n (c / 128) (c % 128) : ℝ) : EReal) := by
  pointwise [h85, h84, h83, h74, hz]
  simp only [outs A x0 x1 x2 x3 h0' h1' h2' hcos hsin μ hμ, dite_eq_ite]
  split_ifs <;> first | omega | rfl

end Cert.KernelIdeal.Host

end
-- ==== Proof.KStat.lean ====
/- Every row's log-sum-exp in base two, as the kernel's host code computes it. -/
module

public import proofs.«01_k».proof.Proof.KVal

@[expose] public section

set_option maxRecDepth 16384

noncomputable section

namespace Cert.KernelIdeal.Host

open Finset Idealize.ShloMosaic Cert.Model Cert.Coe Cert.KernelIdeal

variable (A : Args)
  (x0 x1 : FVec Ideal S4096x2048 .bf16) (x2 : FVec Ideal S4096x128 .bf16) (x3 : IVec S4096 32)
  (h0' : ∀ (r : Fin 4096) (c : Fin 2048), x0 (ix2 r c) = ((A.q r c : ℝ) : EReal))
  (h1' : ∀ (r : Fin 4096) (c : Fin 2048), x1 (ix2 r c) = ((A.kv r c : ℝ) : EReal))
  (h2' : ∀ (r : Fin 4096) (c : Fin 128), x2 (ix2 r c) = ((A.kp r c : ℝ) : EReal))
  (hcos : ∀ (r : Fin 4096) (c : Fin 32), h17 (F := Ideal) x3 (ix2 r c) = ((A.cs r c : ℝ) : EReal))
  (hsin : ∀ (r : Fin 4096) (c : Fin 32), h18 (F := Ideal) x3 (ix2 r c) = ((A.sn r c : ℝ) : EReal))

variable (μ : ℕ → ℕ → ℝ) (hμ : ∀ (h : Fin 8) (n : Fin 4096), h63 (F := Ideal) x0 x1 x2 x3 (ix2 h n) = ((μ h n : ℝ) : EReal))

/-- The logarithm of two. -/
theorem log_two (i : S_.Idx) : h77 (F := Ideal) i = ((Real.log 2 : ℝ) : EReal) := by
  pointwise [h77, hc_12]
  rw [bits_two, log_coe _ (by norm_num)]

include hμ in
theorem shift_row (n : Fin 4096) (h : Fin 8) (z : Fin 1) : h64 (F := Ideal) x0 x1 x2 x3 (ix3 h n z) = ((μ h n : ℝ) : EReal) := by
  pointwise [h64]
  exact hμ h n

include h0' h1' h2' hcos hsin hμ in
theorem log_row (n : Fin 4096) (h : Fin 8) (z : Fin 1) : h75 (F := Ideal) x0 x1 x2 x3 (ix3 h n z) = ((Real.log (L A μ h n) : ℝ) : EReal) := by
  pointwise [h75, h69]
  rw [denominators A x0 x1 x2 x3 h0' h1' h2' hcos hsin μ hμ]
  exact log_coe _ (L_pos A μ h n)

/-- A quotient whose numerator is a sum, at an index where all three arrays are reals. -/
theorem quotient {S : Shape} (a b d : FVec Ideal S .f32) (i : S.Idx) (x y z : ℝ) (ha : a i = ((x : ℝ) : EReal)) (hb : b i = ((y : ℝ) : EReal))
    (hd : d i = ((z : ℝ) : EReal)) (hz : z ≠ 0) : Host.divf (addf a b) d i = (((x + y) / z : ℝ) : EReal) := by
  change Ideal.div (a i + b i) (d i) = _
  rw [ha, hb, hd, add_coe, div_coe _ _ hz]

theorem log_two_row (n : Fin 4096) (h : Fin 8) (z : Fin 1) : h78 (F := Ideal) (ix3 h n z) = ((Real.log 2 : ℝ) : EReal) := by
  pointwise [h78]
  exact log_two _

include h0' h1' h2' hcos hsin hμ in
/-- The rows' log-sum-exps. -/
theorem logs (n : Fin 4096) (h : Fin 8) (z : Fin 1) : h79 (F := Ideal) x0 x1 x2 x3 (ix3 h n z) = ((lse A μ h n : ℝ) : EReal) := by
  unfold h79 h76 lse
  exact quotient _ _ _ _ _ _ _ (shift_row x0 x1 x2 x3 μ hμ n h z) (log_row A x0 x1 x2 x3 h0' h1' h2' hcos hsin μ hμ n h z) (log_two_row n h z) log2_ne

include h0' h1' h2' hcos hsin hμ in
/-- The array of the rows' statistics: a head's is repeated over 128 lanes. -/
theorem statistics (n : Fin 4096) (c : Fin 1024) : h82 (F := Ideal) x0 x1 x2 x3 (ix2 n c) = ((lse A μ (c / 128) n : ℝ) : EReal) := by
  pointwise [h82, h81, h80]
  simp only [logs A x0 x1 x2 x3 h0' h1' h2' hcos hsin μ hμ]

end Cert.KernelIdeal.Host

end
-- ==== Proof.Blocks.lean ====
module

public import proofs.«01_k».proof.Proof.KStat
public import proofs.«01_k».proof.Proof.Gen.KernelIdeal.Value
public import Idealize.ShloMosaic.Lib.Pipeline.ValueKit

@[expose] public section

set_option maxRecDepth 16384

noncomputable section

namespace Cert.Step

open Finset Cert.Coe Cert.KernelIdeal Cert.KernelIdeal.Gen Idealize.ShloMosaic Idealize.ShloMosaic.TcCoe Idealize.SL.Sem

/-- The block each input window takes at a point: the point is a head (of eight) times a block of queries (of four). -/
theorem idx_in : ∀ t : Fin cfg0.N,
    win0_0.index t = ![t.val % 4, t.val / 4] ∧ win0_1.index t = ![0, 2 * (t.val / 4)] ∧ win0_2.index t = ![0, 0] ∧
      win0_3.index t = ![0, 2 * (t.val / 4) + 1] ∧ win0_4.index t = ![t.val % 4, t.val / 4] ∧ win0_5.index t = ![t.val % 4, t.val / 4] ∧
      win0_6.index t = ![t.val % 4, t.val / 4] ∧ win0_7.index t = ![t.val % 4, 0] ∧ win0_8.index t = ![t.val % 4, 0] ∧
      win0_9.index t = ![t.val % 4, 0] :=
  (by decide +kernel : ∀ t : Fin grid0.N, _)

/-- The block each output window takes at a point. -/
theorem idx_out : ∀ t : Fin cfg0.N,
    win0_10.index t = ![t.val % 4, t.val / 4] ∧ win0_11.index t = ![0, t.val / 4] ∧ win0_12.index t = ![0, t.val / 4] :=
  (by decide +kernel : ∀ t : Fin grid0.N, _)

variable (A : Model.Args) (m : (ℓ : Loc nD τ sig) → Buf (Elt Ideal) ℓ) (c : Dev nD) (t : Fin cfg0.N)

theorem lt_32 : t.val < 32 := lt_of_lt_of_eq t.isLt Gen.N_0

/-- The queries' block. -/
theorem block_q (ha : ∀ (r : Fin 4096) (d : Fin 2048), m ((c : Thread nD τ).loc main_arg0) (ix2 r d) = ((A.q r d : ℝ) : EReal))
    (a : Fin 1024) (d : Fin 256) : iblk (F := Ideal) m c 0 t (ix2 a d) = ((A.q (t.val % 4 * 1024 + a) (t.val / 4 * 256 + d) : ℝ) : EReal) := by
  have ht := lt_32 t
  have ha' := a.isLt
  have hd := d.isLt
  blk_simp [iblk, (idx_in t).1]
  refine Eq.trans (congrArg _ (?_ : _ = ix2 ⟨t.val % 4 * 1024 + a, by omega⟩ ⟨t.val / 4 * 256 + d, by omega⟩)) (((congrFun (V_main_arg0 m c) _).trans (ha ⟨t.val % 4 * 1024 + a, by omega⟩ ⟨t.val / 4 * 256 + d, by omega⟩)).trans (congrArg _ ?_))
  · blk_ext [(idx_in t).1]
  · rfl

/-- The keys' own lanes. -/
theorem block_k (ha : ∀ (r : Fin 4096) (d : Fin 2048), m ((c : Thread nD τ).loc main_arg1) (ix2 r d) = ((A.kv r d : ℝ) : EReal))
    (a : Fin 4096) (d : Fin 128) : iblk (F := Ideal) m c 1 t (ix2 a d) = ((A.kv a (t.val / 4 * 256 + d) : ℝ) : EReal) := by
  have ht := lt_32 t
  have ha' := a.isLt
  have hd := d.isLt
  blk_simp [iblk, (idx_in t).2.1]
  refine Eq.trans (congrArg _ (?_ : _ = ix2 ⟨a, by omega⟩ ⟨2 * (t.val / 4) * 128 + d, by omega⟩)) (((congrFun (V_main_arg1 m c) _).trans (ha ⟨a, by omega⟩ ⟨2 * (t.val / 4) * 128 + d, by omega⟩)).trans (congrArg _ ?_))
  · blk_ext [(idx_in t).2.1]
  · show A.kv a (2 * (t.val / 4) * 128 + d) = _
    rw [show 2 * (t.val / 4) * 128 + (d : ℕ) = t.val / 4 * 256 + d by omega]

/-- The shared key's lanes. -/
theorem block_p (ha : ∀ (r : Fin 4096) (d : Fin 128), m ((c : Thread nD τ).loc main_arg2) (ix2 r d) = ((A.kp r d : ℝ) : EReal))
    (a : Fin 4096) (d : Fin 128) : iblk (F := Ideal) m c 2 t (ix2 a d) = ((A.kp a d : ℝ) : EReal) := by
  have ht := lt_32 t
  have ha' := a.isLt
  have hd := d.isLt
  blk_simp [iblk, (idx_in t).2.2.1]
  refine Eq.trans (congrArg _ (?_ : _ = ix2 ⟨a, by omega⟩ ⟨d, by omega⟩)) (((congrFun (V_main_arg2 m c) _).trans (ha ⟨a, by omega⟩ ⟨d, by omega⟩)).trans (congrArg _ ?_))
  · blk_ext [(idx_in t).2.2.1]
  · rfl

/-- The values' lanes. -/
theorem block_v (ha : ∀ (r : Fin 4096) (d : Fin 2048), m ((c : Thread nD τ).loc main_arg1) (ix2 r d) = ((A.kv r d : ℝ) : EReal))
    (a : Fin 4096) (d : Fin 128) : iblk (F := Ideal) m c 3 t (ix2 a d) = ((Model.val A a (t.val / 4) d : ℝ) : EReal) := by
  have ht := lt_32 t
  have ha' := a.isLt
  have hd := d.isLt
  blk_simp [iblk, (idx_in t).2.2.2.1]
  refine Eq.trans (congrArg _ (?_ : _ = ix2 ⟨a, by omega⟩ ⟨(2 * (t.val / 4) + 1) * 128 + d, by omega⟩)) (((congrFun (V_main_arg1 m c) _).trans (ha ⟨a, by omega⟩ ⟨(2 * (t.val / 4) + 1) * 128 + d, by omega⟩)).trans (congrArg _ ?_))
  · blk_ext [(idx_in t).2.2.2.1]
  · show A.kv a ((2 * (t.val / 4) + 1) * 128 + d) = A.kv a _
    rw [show (2 * (t.val / 4) + 1) * 128 + (d : ℕ) = t.val / 4 * 256 + (128 + d) by omega]

/-- The cotangent's block. -/
theorem block_do (ha : ∀ (r : Fin 4096) (d : Fin 2048), m ((c : Thread nD τ).loc main_arg4) (ix2 r d) = ((A.ct r d : ℝ) : EReal))
    (a : Fin 1024) (d : Fin 128) : iblk (F := Ideal) m c 5 t (ix2 a d) = ((Model.co A (t.val % 4 * 1024 + a) (t.val / 4) d : ℝ) : EReal) := by
  have ht := lt_32 t
  have ha' := a.isLt
  have hd := d.isLt
  blk_simp [iblk, (idx_in t).2.2.2.2.2.1]
  refine Eq.trans (congrArg _ (?_ : _ = ix2 ⟨t.val % 4 * 1024 + a, by omega⟩ ⟨t.val / 4 * 128 + d, by omega⟩)) (((congrFun (V_main_arg4 m c) _).trans (ha ⟨t.val % 4 * 1024 + a, by omega⟩ ⟨t.val / 4 * 128 + d, by omega⟩)).trans (congrArg _ ?_))
  · blk_ext [(idx_in t).2.2.2.2.2.1]
  · rfl

/-- The block of the cosines. -/
theorem block_c (ha : ∀ (r : Fin 4096) (d : Fin 256), V (F := Ideal) m c main_v26 (ix2 r d) = ((Model.tabC A r d : ℝ) : EReal))
    (a : Fin 1024) (d : Fin 256) : iblk (F := Ideal) m c 7 t (ix2 a d) = ((Model.tabC A (t.val % 4 * 1024 + a) d : ℝ) : EReal) := by
  have ht := lt_32 t
  have ha' := a.isLt
  have hd := d.isLt
  blk_simp [iblk, (idx_in t).2.2.2.2.2.2.2.1]
  refine Eq.trans (congrArg _ (?_ : _ = ix2 ⟨t.val % 4 * 1024 + a, by omega⟩ ⟨d, by omega⟩)) ((ha ⟨t.val % 4 * 1024 + a, by omega⟩ ⟨d, by omega⟩).trans (congrArg _ ?_))
  · blk_ext [(idx_in t).2.2.2.2.2.2.2.1]
  · rfl

/-- The block of the sines from above. -/
theorem block_a (ha : ∀ (r : Fin 4096) (d : Fin 256), V (F := Ideal) m c main_v28 (ix2 r d) = ((Model.tabA A r d : ℝ) : EReal))
    (a : Fin 1024) (d : Fin 256) : iblk (F := Ideal) m c 8 t (ix2 a d) = ((Model.tabA A (t.val % 4 * 1024 + a) d : ℝ) : EReal) := by
  have ht := lt_32 t
  have ha' := a.isLt
  have hd := d.isLt
  blk_simp [iblk, (idx_in t).2.2.2.2.2.2.2.2.1]
  refine Eq.trans (congrArg _ (?_ : _ = ix2 ⟨t.val % 4 * 1024 + a, by omega⟩ ⟨d, by omega⟩)) ((ha ⟨t.val % 4 * 1024 + a, by omega⟩ ⟨d, by omega⟩).trans (congrArg _ ?_))
  · blk_ext [(idx_in t).2.2.2.2.2.2.2.2.1]
  · rfl

/-- The block of the sines from below. -/
theorem block_b (ha : ∀ (r : Fin 4096) (d : Fin 256), V (F := Ideal) m c main_v30 (ix2 r d) = ((Model.tabB A r d : ℝ) : EReal))
    (a : Fin 1024) (d : Fin 256) : iblk (F := Ideal) m c 9 t (ix2 a d) = ((Model.tabB A (t.val % 4 * 1024 + a) d : ℝ) : EReal) := by
  have ht := lt_32 t
  have ha' := a.isLt
  have hd := d.isLt
  blk_simp [iblk, (idx_in t).2.2.2.2.2.2.2.2.2]
  refine Eq.trans (congrArg _ (?_ : _ = ix2 ⟨t.val % 4 * 1024 + a, by omega⟩ ⟨d, by omega⟩)) ((ha ⟨t.val % 4 * 1024 + a, by omega⟩ ⟨d, by omega⟩).trans (congrArg _ ?_))
  · blk_ext [(idx_in t).2.2.2.2.2.2.2.2.2]
  · rfl

/-- The forward output's block. -/
theorem block_o (ha : ∀ (r : Fin 4096) (d : Fin 2048), d.val < 1024 → V (F := Ideal) m c main_v85 (ix2 r d) = ((Model.out A r (d / 128) (d % 128) : ℝ) : EReal))
    (a : Fin 1024) (d : Fin 128) : iblk (F := Ideal) m c 4 t (ix2 a d) = ((Model.out A (t.val % 4 * 1024 + a) (t.val / 4) d : ℝ) : EReal) := by
  have ht := lt_32 t
  have ha' := a.isLt
  have hd := d.isLt
  blk_simp [iblk, (idx_in t).2.2.2.2.1]
  refine Eq.trans (congrArg _ (?_ : _ = ix2 ⟨t.val % 4 * 1024 + a, by omega⟩ ⟨t.val / 4 * 128 + d, by omega⟩)) ((ha ⟨t.val % 4 * 1024 + a, by omega⟩ ⟨t.val / 4 * 128 + d, by omega⟩ (show t.val / 4 * 128 + d < 1024 by omega)).trans (congrArg _ ?_))
  · blk_ext [(idx_in t).2.2.2.2.1]
  · show Model.out A _ ((t.val / 4 * 128 + d) / 128) ((t.val / 4 * 128 + d) % 128) = _
    rw [show (t.val / 4 * 128 + (d : ℕ)) / 128 = t.val / 4 by omega, show (t.val / 4 * 128 + (d : ℕ)) % 128 = d by omega]

/-- The block of the rows' logarithms. -/
theorem block_l (μ : ℕ → ℕ → ℝ) (ha : ∀ (r : Fin 4096) (d : Fin 1024), V (F := Ideal) m c main_v82 (ix2 r d) = ((Host.lse A μ (d / 128) r : ℝ) : EReal))
    (a : Fin 1024) (d : Fin 128) : iblk (F := Ideal) m c 6 t (ix2 a d) = ((Host.lse A μ (t.val / 4) (t.val % 4 * 1024 + a) : ℝ) : EReal) := by
  have ht := lt_32 t
  have ha' := a.isLt
  have hd := d.isLt
  blk_simp [iblk, (idx_in t).2.2.2.2.2.2.1]
  refine Eq.trans (congrArg _ (?_ : _ = ix2 ⟨t.val % 4 * 1024 + a, by omega⟩ ⟨t.val / 4 * 128 + d, by omega⟩)) ((ha ⟨t.val % 4 * 1024 + a, by omega⟩ ⟨t.val / 4 * 128 + d, by omega⟩).trans (congrArg _ ?_))
  · blk_ext [(idx_in t).2.2.2.2.2.2.1]
  · show Host.lse A μ ((t.val / 4 * 128 + d) / 128) _ = _
    rw [show (t.val / 4 * 128 + (d : ℕ)) / 128 = t.val / 4 by omega]

end Cert.Step

end
-- ==== Proof.Tile.lean ====
/- One tile of the backward pass: the values of the kernel's operations on 1024 queries and 512 keys, when their operands are real. -/
module

public import proofs.«01_k».proof.Proof.Coe
public import proofs.«01_k».proof.Proof.Gen.KernelIdeal.Skeleton

@[expose] public section

set_option maxRecDepth 16384

noncomputable section

namespace Cert.Tile

open Finset Idealize.ShloMosaic Cert.Coe Cert.KernelIdeal Cert.KernelIdeal.Gen

/-- The scale of the scores times the binary logarithm of e. -/
def σ : ℝ := (Real.sqrt 192)⁻¹ * (Real.log 2)⁻¹

variable (Q D K V : ℕ → ℕ → ℝ) (δ l : ℕ → ℝ)

/-- The product of query `r` and key `k`. -/
def S (r k : ℕ) : ℝ := ∑ d ∈ range 256, Q r d * K k d

/-- The weight of query `r` and key `k`. -/
def P (r k : ℕ) : ℝ := Real.rpow 2 (S Q K r k * σ - l r)

/-- The product of cotangent `r` and value `k`. -/
def T (r k : ℕ) : ℝ := ∑ d ∈ range 128, D r d * V k d

/-- The gradient of the score of query `r` and key `k`. -/
def E (r k : ℕ) : ℝ := P Q K l r k * (T D V r k - δ r)

variable (o : ℕ)
  (qv : FVec Ideal S1024x256 .bf16) (dov : FVec Ideal S1024x128 .bf16) (kt : FVec Ideal S512x256 .bf16) (vt : FVec Ideal S512x128 .bf16)
  (dl lse : FVec Ideal S1024x1 .f32)
  (hQ : ∀ (r : Fin 1024) (d : Fin 256), qv (ix2 r d) = ((Q r d : ℝ) : EReal))
  (hD : ∀ (r : Fin 1024) (d : Fin 128), dov (ix2 r d) = ((D r d : ℝ) : EReal))
  (hK : ∀ (j : Fin 512) (d : Fin 256), kt (ix2 j d) = ((K (o + j) d : ℝ) : EReal))
  (hV : ∀ (j : Fin 512) (d : Fin 128), vt (ix2 j d) = ((V (o + j) d : ℝ) : EReal))
  (hδ : ∀ r : Fin 1024, dl (ix2 r 0) = ((δ r : ℝ) : EReal))
  (hl : ∀ r : Fin 1024, lse (ix2 r 0) = ((l r : ℝ) : EReal))

include hQ hK in
/-- The scores of the tile. -/
theorem scores (r : Fin 1024) (j : Fin 512) : k0_pay13 (F := Ideal) qv kt (ix2 r j) = ((S Q K r (o + j) : ℝ) : EReal) := by
  pointwise [k0_pay13]
  exact sum_fin 256 _ (fun d => Q r d * K (o + j) d) fun d => by rw [hQ, hK, mul_coe]

include hD hV in
/-- The weights' gradients of the tile. -/
theorem grads (r : Fin 1024) (j : Fin 512) : k0_pay14 (F := Ideal) dov vt (ix2 r j) = ((T D V r (o + j) : ℝ) : EReal) := by
  pointwise [k0_pay14]
  exact sum_fin 128 _ (fun d => D r d * V (o + j) d) fun d => by rw [hD, hV, mul_coe]

variable (s dp : FVec Ideal S1024x512 .f32)
  (hs : ∀ (r : Fin 1024) (j : Fin 512), s (ix2 r j) = ((S Q K r (o + j) : ℝ) : EReal))
  (hdp : ∀ (r : Fin 1024) (j : Fin 512), dp (ix2 r j) = ((T D V r (o + j) : ℝ) : EReal))

include hs hl in
/-- The weights of the tile. -/
theorem weights (r : Fin 1024) (j : Fin 512) : k0_pay15 (F := Ideal) lse s (ix2 r j) = ((P Q K l r (o + j) : ℝ) : EReal) := by
  pointwise [k0_pay15]
  rw [hs, hl, IdealRules.named_const.ideal_named_scalar _ _ _ _ rfl, mul_coe, sub_coe]
  exact exp2_coe _

include hs hl hδ hdp in
/-- The scores' gradients of the tile. -/
theorem steps (r : Fin 1024) (j : Fin 512) :
    k0_pay22 (F := Ideal) dl lse s dp (ix2 r j) = ((E Q D K V δ l r (o + j) : ℝ) : EReal) := by
  have h : k0_pay22 (F := Ideal) dl lse s dp (ix2 r j) = k0_pay15 (F := Ideal) lse s (ix2 r j) * (dp (ix2 r j) - dl (ix2 r 0)) := by
    pointwise [k0_pay22, k0_pay21, k0_pay15]
  rw [h, weights Q K l o lse hl s hs, hdp, hδ, sub_coe, mul_coe]
  rfl

variable (e : FVec Ideal S1024x512 .bf16) (e' : FVec Ideal S1024x512 .f32)

/-- The value of one step of the queries' gradient, by the scores' gradients. -/
theorem q_step (old : FVec Ideal S1024x256 .f32) (r : Fin 1024) (d : Fin 256) :
    k0_pay23 (F := Ideal) dl lse s dp old kt (ix2 r d) = old (ix2 r d) + ∑ j : Fin 512, k0_pay22 (F := Ideal) dl lse s dp (ix2 r j) * kt (ix2 j d) := by
  pointwise [k0_pay23]

/-- The value of one step of the keys' gradient, by the scores' gradients. -/
theorem k_step (old : FVec Ideal S512x256 .f32) (j : Fin 512) (d : Fin 256) :
    k0_pay24 (F := Ideal) qv dl lse s dp old (ix2 j d) = old (ix2 j d) + ∑ r : Fin 1024, k0_pay22 (F := Ideal) dl lse s dp (ix2 r j) * qv (ix2 r d) := by
  pointwise [k0_pay24]

/-- The value of one step of the values' gradient, by the weights. -/
theorem v_step (old : FVec Ideal S512x128 .f32) (j : Fin 512) (d : Fin 128) :
    k0_pay25 (F := Ideal) dov lse s old (ix2 j d) = old (ix2 j d) + ∑ r : Fin 1024, k0_pay15 (F := Ideal) lse s (ix2 r j) * dov (ix2 r d) := by
  pointwise [k0_pay25, k0_pay21, k0_pay15]

include hs hl hδ hdp hK in
/-- One step of the queries' gradient. -/
theorem q_real (old : FVec Ideal S1024x256 .f32) (r : Fin 1024) (d : Fin 256) (a : ℝ) (ha : old (ix2 r d) = (a : EReal)) :
    k0_pay23 (F := Ideal) dl lse s dp old kt (ix2 r d) = ((a + ∑ j ∈ range 512, E Q D K V δ l r (o + j) * K (o + j) d : ℝ) : EReal) := by
  rw [q_step, ha, sum_fin 512 _ (fun j => E Q D K V δ l r (o + j) * K (o + j) d), add_coe]
  intro j
  rw [steps Q D K V δ l o dl lse hδ hl s dp hs hdp, hK, mul_coe]

include hs hl hδ hdp hQ in
/-- One step of the keys' gradient. -/
theorem k_real (old : FVec Ideal S512x256 .f32) (j : Fin 512) (d : Fin 256) (a : ℝ) (ha : old (ix2 j d) = (a : EReal)) :
    k0_pay24 (F := Ideal) qv dl lse s dp old (ix2 j d) = ((a + ∑ r ∈ range 1024, E Q D K V δ l r (o + j) * Q r d : ℝ) : EReal) := by
  rw [k_step, ha, sum_fin 1024 _ (fun r => E Q D K V δ l r (o + j) * Q r d), add_coe]
  intro r
  rw [steps Q D K V δ l o dl lse hδ hl s dp hs hdp, hQ, mul_coe]

include hs hl hD in
/-- One step of the values' gradient. -/
theorem v_real (old : FVec Ideal S512x128 .f32) (j : Fin 512) (d : Fin 128) (a : ℝ) (ha : old (ix2 j d) = (a : EReal)) :
    k0_pay25 (F := Ideal) dov lse s old (ix2 j d) = ((a + ∑ r ∈ range 1024, P Q K l r (o + j) * D r d : ℝ) : EReal) := by
  rw [v_step, ha, sum_fin 1024 _ (fun r => P Q K l r (o + j) * D r d), add_coe]
  intro r
  rw [weights Q K l o lse hl s hs, hD, mul_coe]

/-! ## Each tile's operations are those of the second one -/

theorem first_s (x0 : FVec Ideal S1024x256 .bf16) (x7 x8 x9 : FVec Ideal S1024x256 .f32) :
    k0_pay12 (F := Ideal) x0 x7 x8 x9 kt = k0_pay13 (k0_pay9 x0 x7 x8 x9) kt := rfl
theorem first_k (old : FVec Ideal S512x256 .f32) :
    k0_pay18 (F := Ideal) qv dov dl lse s vt (constant S1024x512 FTy.f32 0#32) old = k0_pay24 qv dl lse s (k0_pay14 dov vt) old := rfl
theorem first_v (old : FVec Ideal S512x128 .f32) : k0_pay19 (F := Ideal) dov lse s old = k0_pay25 dov lse s old := rfl
theorem first_q (r : Fin 1024) (d : Fin 256) :
    k0_pay17 (F := Ideal) dov dl lse s vt (constant S1024x512 FTy.f32 0#32) kt (ix2 r d)
      = ∑ j : Fin 512, k0_pay22 (F := Ideal) dl lse s (k0_pay14 dov vt) (ix2 r j) * kt (ix2 j d) := by
  have h : k0_pay16 (F := Ideal) dov dl lse s vt (constant S1024x512 FTy.f32 0#32) = k0_pay22 dl lse s (k0_pay14 dov vt) := rfl
  pointwise [k0_pay17]
  rw [h]

include hl hδ hK hs hdp in
/-- The first tile's queries' gradient. -/
theorem first_q_real (hdp' : dp = k0_pay14 (F := Ideal) dov vt) (r : Fin 1024) (d : Fin 256) :
    k0_pay17 (F := Ideal) dov dl lse s vt (constant S1024x512 FTy.f32 0#32) kt (ix2 r d)
      = ((∑ j ∈ range 512, E Q D K V δ l r (o + j) * K (o + j) d : ℝ) : EReal) := by
  subst hdp'
  rw [first_q]
  refine sum_fin 512 _ (fun j => E Q D K V δ l r (o + j) * K (o + j) d) fun j => ?_
  rw [steps Q D K V δ l o dl lse hδ hl s _ hs hdp, hK, mul_coe]

theorem third_s : k0_pay20 (F := Ideal) qv kt = k0_pay13 qv kt := rfl
theorem third_k (old : FVec Ideal S512x256 .f32) :
    k0_pay31 (F := Ideal) qv (k0_pay28 lse s) (k0_pay29 dov dl vt (constant S1024x512 FTy.f32 0#32)) old = k0_pay24 qv dl lse s (k0_pay14 dov vt) old := rfl
theorem third_v (old : FVec Ideal S512x128 .f32) : k0_pay32 (F := Ideal) dov (k0_pay28 lse s) old = k0_pay25 dov lse s old := rfl

theorem fourth_s : k0_pay26 (F := Ideal) qv kt = k0_pay13 qv kt := rfl
theorem fourth_t : k0_pay27 (F := Ideal) dov vt = k0_pay14 dov vt := rfl
theorem fourth_k (old : FVec Ideal S512x256 .f32) : k0_pay38 (F := Ideal) qv (k0_pay36 dl lse s dp) old = k0_pay24 qv dl lse s dp old := rfl
theorem fourth_v (old : FVec Ideal S512x128 .f32) : k0_pay39 (F := Ideal) dov (k0_pay35 lse s) old = k0_pay25 dov lse s old := rfl
theorem fourth_q (s' dp' : FVec Ideal S1024x512 .f32) (kt' : FVec Ideal S512x256 .bf16) (old : FVec Ideal S1024x256 .f32) :
    k0_pay37 (F := Ideal) dl lse old s' dp' (k0_pay28 lse s) (k0_pay29 dov dl vt (constant S1024x512 FTy.f32 0#32)) kt kt'
      = k0_pay23 dl lse s' dp' (k0_pay23 dl lse s (k0_pay14 dov vt) old kt) kt' := rfl

theorem fifth_s : k0_pay33 (F := Ideal) qv kt = k0_pay13 qv kt := rfl
theorem fifth_t : k0_pay34 (F := Ideal) dov vt = k0_pay14 dov vt := rfl
theorem fifth_k (old : FVec Ideal S512x256 .f32) : k0_pay46 (F := Ideal) (k0_pay45 qv dl lse s dp old) = k0_pay24 qv dl lse s dp old := rfl
theorem fifth_v (old : FVec Ideal S512x128 .f32) : k0_pay47 (F := Ideal) dov (k0_pay42 lse s) old = k0_pay25 dov lse s old := rfl
theorem fifth_q (old : FVec Ideal S1024x256 .f32) : k0_pay44 (F := Ideal) dl lse s dp old kt = k0_pay23 dl lse s dp old kt := rfl

theorem sixth_s : k0_pay40 (F := Ideal) qv kt = k0_pay13 qv kt := rfl
theorem sixth_t : k0_pay41 (F := Ideal) dov vt = k0_pay14 dov vt := rfl
theorem sixth_k (old : FVec Ideal S512x256 .f32) : k0_pay53 (F := Ideal) qv dl lse s dp old = k0_pay24 qv dl lse s dp old := rfl
theorem sixth_v (old : FVec Ideal S512x128 .f32) : k0_pay55 (F := Ideal) (k0_pay54 dov lse s old) = k0_pay25 dov lse s old := rfl
theorem sixth_q (old : FVec Ideal S1024x256 .f32) : k0_pay52 (F := Ideal) dl lse s dp old kt = k0_pay23 dl lse s dp old kt := rfl

theorem seventh_s : k0_pay48 (F := Ideal) qv kt = k0_pay13 qv kt := rfl
theorem seventh_t : k0_pay49 (F := Ideal) dov vt = k0_pay14 dov vt := rfl
theorem seventh_k (old : FVec Ideal S512x256 .f32) : k0_pay60 (F := Ideal) qv dl lse s dp old = k0_pay24 qv dl lse s dp old := rfl
theorem seventh_v (old : FVec Ideal S512x128 .f32) : k0_pay61 (F := Ideal) dov lse s old = k0_pay25 dov lse s old := rfl
theorem seventh_q (old : FVec Ideal S1024x256 .f32) : k0_pay59 (F := Ideal) dl lse s dp old kt = k0_pay23 dl lse s dp old kt := rfl

theorem eighth_t : k0_pay56 (F := Ideal) dov vt = k0_pay14 dov vt := rfl
theorem eighth_k (old : FVec Ideal S512x256 .f32) :
    k0_pay65 (F := Ideal) qv dl lse dp (k0_pay62 qv kt) old = k0_pay24 qv dl lse (k0_pay13 qv kt) dp old := rfl
theorem eighth_v (old : FVec Ideal S512x128 .f32) : k0_pay66 (F := Ideal) dov lse (k0_pay62 qv kt) old = k0_pay25 dov lse (k0_pay13 qv kt) old := rfl
/-- The queries' gradient after the last tile, scaled. -/
theorem eighth_q (old : FVec Ideal S1024x256 .f32) (r : Fin 1024) (d : Fin 256) :
    k0_pay67 (F := Ideal) dl lse dp old (k0_pay62 qv kt) kt (ix2 r d)
      = k0_pay23 (F := Ideal) dl lse (k0_pay13 qv kt) dp old kt (ix2 r d) * (((Real.sqrt 192)⁻¹ : ℝ) : EReal) := by
  have h : k0_pay64 (F := Ideal) dl lse dp (k0_pay62 qv kt) = k0_pay22 dl lse (k0_pay13 qv kt) dp := rfl
  rw [q_step]
  pointwise [k0_pay67]
  rw [h, IdealRules.named_const.ideal_named_scalar _ _ _ _ rfl]

/-! ## The operations around the tiles -/

/-- The rotated queries. -/
theorem roped (X C A B : ℕ → ℕ → ℝ) (x0 : FVec Ideal S1024x256 .bf16) (x7 x8 x9 : FVec Ideal S1024x256 .f32)
    (h0 : ∀ (r : Fin 1024) (d : Fin 256), x0 (ix2 r d) = ((X r d : ℝ) : EReal))
    (h7 : ∀ (r : Fin 1024) (d : Fin 256), x7 (ix2 r d) = ((C r d : ℝ) : EReal))
    (h8 : ∀ (r : Fin 1024) (d : Fin 256), x8 (ix2 r d) = ((A r d : ℝ) : EReal))
    (h9 : ∀ (r : Fin 1024) (d : Fin 256), x9 (ix2 r d) = ((B r d : ℝ) : EReal)) (r : Fin 1024) (d : Fin 256) :
    k0_pay9 (F := Ideal) x0 x7 x8 x9 (ix2 r d)
      = ((X r d * C r d + (X r ((d + 32) % 256) * A r d + X r ((d + 224) % 256) * B r d) : ℝ) : EReal) := by
  pointwise [k0_pay9]
  simp only [h0, h7, h8, h9]
  rw [show (d : ℕ) + 256 - 224 = d + 32 by omega, show (d : ℕ) + 256 - 32 = d + 224 by omega]
  simp only [mul_coe, add_coe, sub_coe]

include hD in
/-- The rows' products of cotangent and output. -/
theorem deltas (O : ℕ → ℕ → ℝ) (x4 : FVec Ideal S1024x128 .bf16)
    (h4 : ∀ (r : Fin 1024) (d : Fin 128), x4 (ix2 r d) = ((O r d : ℝ) : EReal)) (r : Fin 1024) :
    k0_pay10 (F := Ideal) dov x4 (ix2 r 0) = ((∑ d ∈ range 128, D r d * O r d : ℝ) : EReal) := by
  pointwise [k0_pay10]
  exact sum_fin 128 _ (fun d => D r d * O r d) fun d => by rw [hD, h4, mul_coe]

/-- The rows' logarithms of the denominators. -/
theorem logs (x : FVec Ideal S1024x1 .f32) (r : Fin 1024) : k0_pay11 (F := Ideal) x (ix2 r 0) = x (ix2 r 0) := by
  pointwise [k0_pay11]

/-- The queries' gradient rotated back. -/
theorem rotated_back (G C A B : ℕ → ℕ → ℝ) (x7 x8 x9 : FVec Ideal S1024x256 .f32) (old : FVec Ideal S1024x256 .f32)
    (hg : ∀ (r : Fin 1024) (d : Fin 256), k0_pay67 (F := Ideal) dl lse dp old s kt (ix2 r d) = ((G r d : ℝ) : EReal))
    (h7 : ∀ (r : Fin 1024) (d : Fin 256), x7 (ix2 r d) = ((C r d : ℝ) : EReal))
    (h8 : ∀ (r : Fin 1024) (d : Fin 256), x8 (ix2 r d) = ((A r d : ℝ) : EReal))
    (h9 : ∀ (r : Fin 1024) (d : Fin 256), x9 (ix2 r d) = ((B r d : ℝ) : EReal)) (r : Fin 1024) (d : Fin 256) :
    k0_pay1 (F := Ideal) (k0_pay67 dl lse dp old s kt) (k0_pay68 x7) (k0_pay69 dl lse dp old s kt x8 x9) (ix2 r d)
      = ((G r d * C r d - (G r ((d + 32) % 256) * A r d + G r ((d + 224) % 256) * B r d) : ℝ) : EReal) := by
  pointwise [k0_pay1, k0_pay68, k0_pay69]
  simp only [hg, h7, h8, h9]
  rw [show (d : ℕ) + 256 - 224 = d + 32 by omega, show (d : ℕ) + 256 - 32 = d + 224 by omega]
  simp only [mul_coe, add_coe, sub_coe]

/-- The scaled gradient of the keys, unrotated lanes. -/
theorem scaled (x : FVec Ideal S4096x128 .f32) (k : Fin 4096) (d : Fin 128) (a : ℝ) (ha : x (ix2 k d) = (a : EReal)) :
    k0_pay2 (F := Ideal) x (ix2 k d) = ((a * (Real.sqrt 192)⁻¹ : ℝ) : EReal) := by
  pointwise [k0_pay2]
  rw [ha, IdealRules.named_const.ideal_named_scalar _ _ _ _ rfl, mul_coe]

theorem rounded (x : FVec Ideal S4096x128 .f32) (i : S4096x128.Idx) : k0_pay3 (F := Ideal) x i = x i := rfl

/-- The scaled gradient of the keys, rotary lanes. -/
theorem scaled_rope (x : FVec Ideal S4096x128 .f32) : k0_pay4 (F := Ideal) x = k0_pay2 (F := Ideal) x := rfl

/-- A sum over the keys, tile after tile. -/
theorem eight (f : ℕ → ℝ) :
    ∑ k ∈ range 4096, f k = ((((((∑ j ∈ range 512, f (0 + j) + ∑ j ∈ range 512, f (512 + j)) + ∑ j ∈ range 512, f (1024 + j))
      + ∑ j ∈ range 512, f (1536 + j)) + ∑ j ∈ range 512, f (2048 + j)) + ∑ j ∈ range 512, f (2560 + j))
      + ∑ j ∈ range 512, f (3072 + j)) + ∑ j ∈ range 512, f (3584 + j) := by
  rw [show (4096 : ℕ) = 3584 + 512 from rfl, Finset.sum_range_add, show (3584 : ℕ) = 3072 + 512 from rfl, Finset.sum_range_add,
    show (3072 : ℕ) = 2560 + 512 from rfl, Finset.sum_range_add, show (2560 : ℕ) = 2048 + 512 from rfl, Finset.sum_range_add,
    show (2048 : ℕ) = 1536 + 512 from rfl, Finset.sum_range_add, show (1536 : ℕ) = 1024 + 512 from rfl, Finset.sum_range_add,
    show (1024 : ℕ) = 512 + 512 from rfl, Finset.sum_range_add]
  simp only [Nat.zero_add]

end Cert.Tile

end
-- ==== Proof.StepBase.lean ====
module

public import proofs.«01_k».proof.Proof.Tile
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Step

open Finset Cert.Coe Cert.Tile Cert.KernelIdeal Cert.KernelIdeal.Gen Idealize.ShloMosaic Idealize.ShloMosaic.TcCoe Idealize.SL.Sem

/-- The rows of a load of 512 rows of a buffer with 256 lanes. -/
theorem rows_256 {Val : EltTy → Type} {e : EltTy} (X : S4096x256.Idx → Val e) (o : ℕ) (inb) (j : Fin 512) (d : Fin 256) (h : o + j < 4096) :
    View.ld X (Rect.unit ![o, 0] ![512, 256] inb) (ix2 j d) = X (ix2 ⟨o + j, h⟩ d) := by
  refine View.ld_unit_apply_of X _ _ inb _ _ fun a => ?_
  fin_cases a
  · rfl
  · exact (Nat.zero_add _).symm

/-- The rows of a load of 512 rows of a buffer with 128 lanes. -/
theorem rows_128 {Val : EltTy → Type} {e : EltTy} (X : S4096x128.Idx → Val e) (o : ℕ) (inb) (j : Fin 512) (d : Fin 128) (h : o + j < 4096) :
    View.ld X (Rect.unit ![o, 0] ![512, 128] inb) (ix2 j d) = X (ix2 ⟨o + j, h⟩ d) := by
  refine View.ld_unit_apply_of X _ _ inb _ _ fun a => ?_
  fin_cases a
  · rfl
  · exact (Nat.zero_add _).symm

/-- The first lane of each row. -/
theorem lane_0 {Val : EltTy → Type} {e : EltTy} (X : S1024x128.Idx → Val e) (inb) (r : Fin 1024) :
    View.ld X (Rect.unit ![0, 0] ![1024, 1] inb) (ix2 r 0) = X (ix2 r 0) := by
  refine View.ld_unit_apply_of X _ _ inb _ _ fun a => ?_
  fin_cases a
  · exact (Nat.zero_add _).symm
  · rfl

/-- An index of a two-dimensional array is the pair of its coordinates. -/
theorem pair {n m : ℕ} (x : (⟨2, ![n, m]⟩ : Shape).Idx) : ∃ (j : Fin n) (d : Fin m), x = ix2 j d :=
  ⟨x 0, x 1, funext fun a => by fin_cases a <;> rfl⟩

/-- A buffer filled and then overwritten piece by piece is what the pieces leave. -/
theorem canon_fill {Val : EltTy → Type} [∀ e, Nonempty (Val e)] {S : Shape} {e : EltTy} (a₁ a₂ a₃ a₄ a₅ a₆ a₇ a₈ z : View.Piece Val S e) (y : S.Idx)
    (hc : ∃ p ∈ [a₁, a₂, a₃, a₄, a₅, a₆, a₇, a₈], y ∈ p.1.set) :
    View.canon [a₁, a₂, a₃, a₄, a₅, a₆, a₇, a₈, z] y = View.canon [a₁, a₂, a₃, a₄, a₅, a₆, a₇, a₈] y := by
  have key : ∀ L : List (View.Piece Val S e), (∃ p ∈ L, y ∈ p.1.set) → View.canon (L ++ [z]) y = View.canon L y := by
    intro L
    induction L with
    | nil => rintro ⟨p, hp, _⟩; simp at hp
    | cons p L ih =>
      intro hy
      by_cases hm : y ∈ p.1.set
      · obtain ⟨x, rfl⟩ := p.1.exists_idx_of_mem hm
        rw [List.cons_append, show p.1.idx x = p.1.emb x from rfl, View.canon_cons_emb, View.canon_cons_emb]
      · rw [List.cons_append, View.canon_cons_of_not_mem _ _ hm, View.canon_cons_of_not_mem _ _ hm]
        refine ih ?_
        obtain ⟨q, hq, hyq⟩ := hy
        rcases List.mem_cons.mp hq with rfl | hq'
        · exact absurd hyq hm
        · exact ⟨q, hq', hyq⟩
  exact key _ hc

/-- The keys copied into their buffer, read back 512 rows at a time. -/
theorem keys_read (K : ℕ → ℕ → ℝ) (v : View sig Kind.tc Space.vmem S4096x256 .bf16) (x1 x2 : Vec Ideal S4096x128 .bf16)
    (h1' : ∀ (k : Fin 4096) (d : Fin 128), x1 (ix2 k d) = ((K k d : ℝ) : EReal))
    (h2' : ∀ (k : Fin 4096) (d : Fin 128), x2 (ix2 k d) = ((K k (128 + d) : ℝ) : EReal)) (o : ℕ)
    (inb : ∀ a : Fin 2, (![o, 0] : Fin 2 → ℕ) a + (![512, 256] : Fin 2 → ℕ) a ≤ S4096x256.size a) (ho : o + 512 ≤ 4096) (j : Fin 512) (d : Fin 256) :
    (v.readCov (Val := Elt Ideal) [⟨Rect.unit ![0, 128] ![4096, 128] inb_S4096x256_S4096x128_0_128, k0_pay8 x2⟩,
        ⟨Rect.unit ![0, 0] ![4096, 128] inb_S4096x256_S4096x128_0_0, k0_pay7 x1⟩] (Rect.unit (s := S4096x256) ![o, 0] ![512, 256] inb).toLoadRect : Vec Ideal S512x256 .bf16) (ix2 j d)
      = ((K (o + j) d : ℝ) : EReal) := by
  have hj := j.isLt
  have hi : (Rect.unit (s := S4096x256) ![o, 0] ![512, 256] inb).toLoadRect.idx (ix2 j d) = (ix2 ⟨o + j, by omega⟩ d : S4096x256.Idx) := by
    funext a
    refine Fin.ext ((Rect.idx_unit_val _ _ inb _ a).trans ?_)
    fin_cases a
    · rfl
    · exact Nat.zero_add _
  rw [View.readCov_eq_canon']
  dsimp only
  rw [hi]
  canon_tiles x h
  all_goals
    obtain ⟨j', e, rfl⟩ := pair x
    have hk : o + (j : ℕ) = _ := h0
    have hd : (d : ℕ) = _ := h1
    rw [hk, hd]
  · exact (show k0_pay8 (F := Ideal) x2 (ix2 j' e) = x2 (ix2 j' e) by pointwise [k0_pay8]).trans (h2' j' e)
  · exact (show k0_pay7 (F := Ideal) x1 (ix2 j' e) = x1 (ix2 j' e) by pointwise [k0_pay7]).trans (h1' j' e)

/-- The keys' gradient starts at zero. -/
theorem zero_256 (k : Fin 4096) (d : Fin 256) : k0_pay5 (F := Ideal) (ix2 k d) = ((0 : ℝ) : EReal) := by
  rw [EReal.coe_zero]
  pointwise [k0_pay5]

/-- The values' gradient starts at zero. -/
theorem zero_128 (k : Fin 4096) (d : Fin 128) : k0_pay6 (F := Ideal) (ix2 k d) = ((0 : ℝ) : EReal) := by
  rw [EReal.coe_zero]
  pointwise [k0_pay6]

/-- The place in a buffer of 256 lanes of a load of 128 of them. -/
theorem half (o : ℕ) (inb) (k : Fin 4096) (d : Fin 128) (h : o + d < 256) :
    (Rect.unit (s := S4096x256) ![0, o] ![4096, 128] inb).toLoadRect.idx (ix2 k d) = (ix2 k ⟨o + d, h⟩ : S4096x256.Idx) := by
  funext a
  refine Fin.ext ((Rect.idx_unit_val _ _ inb _ a).trans ?_)
  fin_cases a
  · exact Nat.zero_add _
  · rfl

/-- The place in a buffer of 128 lanes of a load of all of them. -/
theorem all_lanes (inb) (k : Fin 4096) (d : Fin 128) :
    (Rect.unit (s := S4096x128) ![0, 0] ![4096, 128] inb).toLoadRect.idx (ix2 k d) = (ix2 k d : S4096x128.Idx) := by
  funext a
  refine Fin.ext ((Rect.idx_unit_val _ _ inb _ a).trans ?_)
  fin_cases a <;> exact Nat.zero_add _

/-- The scaled gradient of query `r`, of its first 4096 keys. -/
def G (Q D K V : ℕ → ℕ → ℝ) (δ l : ℕ → ℝ) (r d : ℕ) : ℝ := (∑ k ∈ range 4096, E Q D K V δ l r k * K k d) * (Real.sqrt 192)⁻¹

end Cert.Step

end
-- ==== Proof.Given.lean ====
module

public import proofs.«01_k».proof.Proof.Blocks
public import proofs.«01_k».proof.Proof.StepBase
public import proofs.«01_k».proof.Proof.KStat

@[expose] public section

set_option maxRecDepth 16384

noncomputable section

namespace Cert.Step

open Finset Cert.Coe Cert.Tile Cert.KernelIdeal Cert.KernelIdeal.Gen Idealize.ShloMosaic Idealize.ShloMosaic.TcCoe Idealize.SL.Sem

variable (A : Model.Args) (m : (ℓ : Loc nD τ sig) → Buf (Elt Ideal) ℓ) (c : Dev nD) (μ : ℕ → ℕ → ℝ)

/-- What the region finds in the arrays it reads: the arguments, the rotary tables, the forward output and the rows' logarithms, all real. -/
structure Given : Prop where
  q : ∀ (r : Fin 4096) (d : Fin 2048), m ((c : Thread nD τ).loc main_arg0) (ix2 r d) = ((A.q r d : ℝ) : EReal)
  kv : ∀ (r : Fin 4096) (d : Fin 2048), m ((c : Thread nD τ).loc main_arg1) (ix2 r d) = ((A.kv r d : ℝ) : EReal)
  kp : ∀ (r : Fin 4096) (d : Fin 128), m ((c : Thread nD τ).loc main_arg2) (ix2 r d) = ((A.kp r d : ℝ) : EReal)
  ct : ∀ (r : Fin 4096) (d : Fin 2048), m ((c : Thread nD τ).loc main_arg4) (ix2 r d) = ((A.ct r d : ℝ) : EReal)
  tc : ∀ (r : Fin 4096) (d : Fin 256), V (F := Ideal) m c main_v26 (ix2 r d) = ((Model.tabC A r d : ℝ) : EReal)
  ta : ∀ (r : Fin 4096) (d : Fin 256), V (F := Ideal) m c main_v28 (ix2 r d) = ((Model.tabA A r d : ℝ) : EReal)
  tb : ∀ (r : Fin 4096) (d : Fin 256), V (F := Ideal) m c main_v30 (ix2 r d) = ((Model.tabB A r d : ℝ) : EReal)
  o : ∀ (r : Fin 4096) (d : Fin 2048), d.val < 1024 → V (F := Ideal) m c main_v85 (ix2 r d) = ((Model.out A r (d / 128) (d % 128) : ℝ) : EReal)
  l : ∀ (r : Fin 4096) (d : Fin 1024), V (F := Ideal) m c main_v82 (ix2 r d) = ((Host.lse A μ (d / 128) r : ℝ) : EReal)

variable (t : Fin cfg0.N)

/-- The rotated queries of a point's block. -/
def Qt (r d : ℕ) : ℝ := Model.qh A (t.val % 4 * 1024 + r) (t.val / 4) d

/-- The keys of a point's head. -/
def Kt (k d : ℕ) : ℝ := Model.key A k (t.val / 4) d

/-- The values of a point's head. -/
def Vt (k d : ℕ) : ℝ := Model.val A k (t.val / 4) d

/-- The cotangents of a point's block. -/
def Dt (r d : ℕ) : ℝ := Model.co A (t.val % 4 * 1024 + r) (t.val / 4) d

/-- The rows' means of a point's block. -/
def δt (r : ℕ) : ℝ := Model.dl A (t.val % 4 * 1024 + r) (t.val / 4)

/-- The rows' logarithms of a point's block. -/
def lt (r : ℕ) : ℝ := Host.lse A μ (t.val / 4) (t.val % 4 * 1024 + r)

/-- The tile's weight is the attention's. -/
theorem weight (r k : ℕ) : P (Qt A t) (Kt A t) (lt A μ t) r k = Model.pr A (t.val % 4 * 1024 + r) (t.val / 4) k := by
  unfold P S lt Host.lse Host.L σ Qt Kt
  rw [Model.dotp_eq]
  exact Model.weight_base_two A _ _ k _

/-- The tile's gradient of a score is the attention's. -/
theorem step (r k : ℕ) : E (Qt A t) (Dt A t) (Kt A t) (Vt A t) (δt A t) (lt A μ t) r k = Model.ds A (t.val % 4 * 1024 + r) (t.val / 4) k := by
  unfold E
  rw [weight]
  rfl

/-- The scaled gradient of a query is the attention's. -/
theorem query_grad (r d : ℕ) : G (Qt A t) (Dt A t) (Kt A t) (Vt A t) (δt A t) (lt A μ t) r d = Model.dq A (t.val % 4 * 1024 + r) (t.val / 4) d := by
  unfold G Model.dq
  rw [div_eq_mul_inv]
  congr 1
  exact Finset.sum_congr rfl fun k _ => by rw [step]; rfl

/-- What a point adds to a key's gradient. -/
theorem key_add (k d : ℕ) : ∑ r ∈ range 1024, E (Qt A t) (Dt A t) (Kt A t) (Vt A t) (δt A t) (lt A μ t) r k * Qt A t r d
    = ∑ r ∈ range 1024, Model.ds A (t.val % 4 * 1024 + r) (t.val / 4) k * Model.qh A (t.val % 4 * 1024 + r) (t.val / 4) d :=
  Finset.sum_congr rfl fun r _ => by rw [step]; rfl

/-- What a point adds to a value's gradient. -/
theorem val_add (k d : ℕ) : ∑ r ∈ range 1024, P (Qt A t) (Kt A t) (lt A μ t) r k * Dt A t r d
    = ∑ r ∈ range 1024, Model.pr A (t.val % 4 * 1024 + r) (t.val / 4) k * Model.co A (t.val % 4 * 1024 + r) (t.val / 4) d :=
  Finset.sum_congr rfl fun r _ => by rw [weight]; rfl

variable {A m c μ} (g : Given A m c μ)
include g

theorem cot (r : Fin 1024) (d : Fin 128) : iblk (F := Ideal) m c 5 t (ix2 r d) = ((Dt A t r d : ℝ) : EReal) := block_do A m c t g.ct r d

theorem vals (k : Fin 4096) (d : Fin 128) : iblk (F := Ideal) m c 3 t (ix2 k d) = ((Vt A t k d : ℝ) : EReal) := block_v A m c t g.kv k d

theorem lses (r : Fin 1024) : iblk (F := Ideal) m c 6 t (ix2 r (0 : Fin 128)) = ((lt A μ t r : ℝ) : EReal) := block_l A m c t μ g.l r 0

theorem queries (r : Fin 1024) (d : Fin 256) :
    k0_pay9 (F := Ideal) (iblk m c 0 t) (iblk m c 7 t) (iblk m c 8 t) (iblk m c 9 t) (ix2 r d) = ((Qt A t r d : ℝ) : EReal) := by
  refine (roped (fun r d => A.q (t.val % 4 * 1024 + r) (t.val / 4 * 256 + d)) (fun r d => Model.tabC A (t.val % 4 * 1024 + r) d)
    (fun r d => Model.tabA A (t.val % 4 * 1024 + r) d) (fun r d => Model.tabB A (t.val % 4 * 1024 + r) d) _ _ _ _
    (block_q A m c t g.q) (block_c A m c t g.tc) (block_a A m c t g.ta) (block_b A m c t g.tb) r d).trans (congrArg _ ?_)
  exact Model.rotate A _ _ d

theorem means (r : Fin 1024) : k0_pay10 (F := Ideal) (iblk m c 5 t) (iblk m c 4 t) (ix2 r 0) = ((δt A t r : ℝ) : EReal) := by
  refine (deltas (Dt A t) _ (cot t g) (fun r d => Model.out A (t.val % 4 * 1024 + r) (t.val / 4) d) _ (block_o A m c t g.o) r).trans (congrArg _ ?_)
  exact Model.delta_eq A _ _

theorem keys_low (k : Fin 4096) (d : Fin 128) : iblk (F := Ideal) m c 1 t (ix2 k d) = ((Kt A t k d : ℝ) : EReal) :=
  (block_k A m c t g.kv k d).trans (by unfold Kt Model.key; rw [if_pos d.isLt])

theorem keys_high (k : Fin 4096) (d : Fin 128) : iblk (F := Ideal) m c 2 t (ix2 k d) = ((Kt A t k (128 + d) : ℝ) : EReal) :=
  (block_p A m c t g.kp k d).trans (by unfold Kt Model.key; rw [if_neg (by omega), Nat.add_sub_cancel_left])

end Cert.Step

end
-- ==== Proof.StepA.lean ====
module

public import proofs.«01_k».proof.Proof.StepBase
public import proofs.«01_k».proof.Proof.Tile
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Step

open Finset Cert.Coe Cert.Tile Cert.KernelIdeal Cert.KernelIdeal.Gen Idealize.ShloMosaic Idealize.ShloMosaic.TcCoe Idealize.SL.Sem

variable (c : Dev nD) (i : grid0.Coords) (arg2 : Memref sig .tc .vmem S1024x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .bf16) (harg12 : arg12.IsWhole) (arg13 : Memref sig .tc .vmem S4096x256 .bf16) (harg13 : arg13.IsWhole) (arg14 : Memref sig .tc .vmem S4096x128 .f32) (harg14 : arg14.IsWhole) (arg15 : Memref sig .tc .vmem S4096x256 .bf16) (harg15 : arg15.IsWhole) (arg16 : Memref sig .tc .vmem S4096x256 .f32) (harg16 : arg16.IsWhole) (arg17 : Memref sig .tc .vmem S4096x128 .f32) (harg17 : arg17.IsWhole)
  (x0 : Vec Ideal S1024x256 .bf16) (x1 x2 x3 : Vec Ideal S4096x128 .bf16) (x4 x5 : Vec Ideal S1024x128 .bf16) (x6 : Vec Ideal S1024x128 .f32)
  (x7 x8 x9 : Vec Ideal S1024x256 .f32) (xs0 : Vec Ideal S4096x256 .bf16) (xs1 : Vec Ideal S4096x256 .f32) (xs2 : Vec Ideal S4096x128 .f32)

variable (Q D K V : ℕ → ℕ → ℝ) (δ l : ℕ → ℝ)
  (hQ : ∀ (r : Fin 1024) (d : Fin 256), k0_pay9 (F := Ideal) x0 x7 x8 x9 (ix2 r d) = ((Q r d : ℝ) : EReal))
  (hδ : ∀ r : Fin 1024, k0_pay10 (F := Ideal) x5 x4 (ix2 r 0) = ((δ r : ℝ) : EReal))
  (hD : ∀ (r : Fin 1024) (d : Fin 128), x5 (ix2 r d) = ((D r d : ℝ) : EReal))
  (hV : ∀ (k : Fin 4096) (d : Fin 128), x3 (ix2 k d) = ((V k d : ℝ) : EReal))
  (hl : ∀ r : Fin 1024, x6 (ix2 r 0) = ((l r : ℝ) : EReal))

set_option maxHeartbeats 4000000 in
/-- What the first point of a head leaves of the keys. -/
theorem A_key (hc0 : cond0_0 i) (hc1 : ¬cond0_1 i) (h1' : ∀ (k : Fin 4096) (d : Fin 128), x1 (ix2 k d) = ((K k d : ℝ) : EReal))
    (h2' : ∀ (k : Fin 4096) (d : Fin 128), x2 (ix2 k d) = ((K k (128 + d) : ℝ) : EReal)) (k : Fin 4096) (d : Fin 256) :
    Gen.sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 (ix2 k d) = ((K k d : ℝ) : EReal) := by
  frame_out
  canon_tiles x h
  all_goals
    obtain ⟨j, e, rfl⟩ := pair x
    have hk : (k : ℕ) = _ := h0
    have hd : (d : ℕ) = _ := h1
    rw [hk, hd]
  · exact (show k0_pay8 (F := Ideal) x2 (ix2 j e) = x2 (ix2 j e) by pointwise [k0_pay8]).trans (h2' j e)
  · exact (show k0_pay7 (F := Ideal) x1 (ix2 j e) = x1 (ix2 j e) by pointwise [k0_pay7]).trans (h1' j e)

include hQ hδ hD hV hl in
set_option maxHeartbeats 4000000 in
/-- What a point of this kind leaves of the keys' gradient. -/
theorem A_k (hc0 : cond0_0 i) (hc1 : ¬cond0_1 i)
    (h1' : ∀ (k : Fin 4096) (d : Fin 128), x1 (ix2 k d) = ((K k d : ℝ) : EReal))
    (h2' : ∀ (k : Fin 4096) (d : Fin 128), x2 (ix2 k d) = ((K k (128 + d) : ℝ) : EReal)) (k : Fin 4096) (d : Fin 256) :
    Gen.sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 (ix2 k d)
      = ((0 + ∑ r ∈ range 1024, E Q D K V δ l r k * Q r d : ℝ) : EReal) := by
  frame_open
  simp (disch := first | rfl | decide) only [↓View.readCov_skip, ↓View.readCov_fill]
  simp (disch := decide) only [View.read_writes_junk_eq_canon, View.canon_cons_unit_lit', View.ld_unit_lit', View.readAt_eq_ld, Memref.IsWhole.read_unread]
  have hk := keys_read K arg15.view x1 x2 h1' h2'
  have hv : ∀ (o : ℕ) (inb) (_ : o + 512 ≤ 4096) (j : Fin 512) (d : Fin 128),
      View.ld x3 (Rect.unit ![o, 0] ![512, 128] inb) (ix2 j d) = ((V (o + j) d : ℝ) : EReal) :=
    fun o inb ho j d => (rows_128 _ o inb j d (by have := j.isLt; omega)).trans (hV _ d)
  have hl' := fun r => (logs (View.ld x6 (Rect.unit ![0, 0] ![1024, 1] inb_S1024x128_S1024x1_0_0)) r).trans ((lane_0 x6 _ r).trans (hl r))
  rw [canon_fill _ _ _ _ _ _ _ _ _ _ (View.cover_of_tiled_head _ _ _ rfl _)]
  canon_tiles x h
  all_goals
    obtain ⟨j, e, rfl⟩ := pair x
    have hj := j.isLt
    try simp only [first_s, third_s, fourth_s, fifth_s, sixth_s, seventh_s, fourth_t, fifth_t, sixth_t, seventh_t, eighth_t,
      first_k, third_k, fourth_k, fifth_k, sixth_k, seventh_k, eighth_k, first_v, third_v, fourth_v, fifth_v, sixth_v, seventh_v, eighth_v,
      fourth_q, fifth_q, sixth_q, seventh_q]
    refine (k_real Q D K V δ l _ _ _ _ hQ hδ hl' _ _ (scores Q K _ _ _ hQ (hk _ _ (by omega)))
      (grads D V _ _ _ hD (hv _ _ (by omega))) _ j e _ ((rows_256 _ _ _ j e (by omega)).trans (zero_256 _ _))).trans ?_
    have hk' : (k : ℕ) = _ := h0
    have hd' : (d : ℕ) = _ := h1
    rw [hk', hd']
    first | rfl | (simp only [Nat.zero_add]; rfl)

include hQ hD hl in
set_option maxHeartbeats 4000000 in
/-- What a point of this kind leaves of the values' gradient. -/
theorem A_v (hc0 : cond0_0 i) (hc1 : ¬cond0_1 i)
    (h1' : ∀ (k : Fin 4096) (d : Fin 128), x1 (ix2 k d) = ((K k d : ℝ) : EReal))
    (h2' : ∀ (k : Fin 4096) (d : Fin 128), x2 (ix2 k d) = ((K k (128 + d) : ℝ) : EReal)) (k : Fin 4096) (d : Fin 128) :
    Gen.sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 (ix2 k d)
      = ((0 + ∑ r ∈ range 1024, P Q K l r k * D r d : ℝ) : EReal) := by
  frame_open
  simp (disch := first | rfl | decide) only [↓View.readCov_skip, ↓View.readCov_fill]
  simp (disch := decide) only [View.read_writes_junk_eq_canon, View.canon_cons_unit_lit', View.ld_unit_lit', View.readAt_eq_ld, Memref.IsWhole.read_unread]
  have hk := keys_read K arg15.view x1 x2 h1' h2'
  have hl' := fun r => (logs (View.ld x6 (Rect.unit ![0, 0] ![1024, 1] inb_S1024x128_S1024x1_0_0)) r).trans ((lane_0 x6 _ r).trans (hl r))
  rw [canon_fill _ _ _ _ _ _ _ _ _ _ (View.cover_of_tiled_head _ _ _ rfl _)]
  canon_tiles x h
  all_goals
    obtain ⟨j, e, rfl⟩ := pair x
    have hj := j.isLt
    try simp only [first_s, third_s, fourth_s, fifth_s, sixth_s, seventh_s, fourth_t, fifth_t, sixth_t, seventh_t, eighth_t,
      first_k, third_k, fourth_k, fifth_k, sixth_k, seventh_k, eighth_k, first_v, third_v, fourth_v, fifth_v, sixth_v, seventh_v, eighth_v,
      fourth_q, fifth_q, sixth_q, seventh_q]
    refine (v_real Q D K l _ _ _ hD hl' _ (scores Q K _ _ _ hQ (hk _ _ (by omega))) _ j e _
      ((rows_128 _ _ _ j e (by omega)).trans (zero_128 _ _))).trans ?_
    have hk' : (k : ℕ) = _ := h0
    have hd' : (d : ℕ) = _ := h1
    rw [hk', hd']
    first | rfl | (simp only [Nat.zero_add]; rfl)

include hQ hδ hD hV hl in
set_option maxHeartbeats 4000000 in
/-- What a point of this kind leaves of the queries' gradient, rotated back. -/
theorem A_q (hc0 : cond0_0 i) (hc1 : ¬cond0_1 i)
    (h1' : ∀ (k : Fin 4096) (d : Fin 128), x1 (ix2 k d) = ((K k d : ℝ) : EReal))
    (h2' : ∀ (k : Fin 4096) (d : Fin 128), x2 (ix2 k d) = ((K k (128 + d) : ℝ) : EReal))
    (C A B : ℕ → ℕ → ℝ)
    (h7 : ∀ (r : Fin 1024) (d : Fin 256), x7 (ix2 r d) = ((C r d : ℝ) : EReal))
    (h8 : ∀ (r : Fin 1024) (d : Fin 256), x8 (ix2 r d) = ((A r d : ℝ) : EReal))
    (h9 : ∀ (r : Fin 1024) (d : Fin 256), x9 (ix2 r d) = ((B r d : ℝ) : EReal)) (r : Fin 1024) (d : Fin 256) :
    Gen.out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 (ix2 r d)
      = ((G Q D K V δ l r d * C r d - (G Q D K V δ l r ((d + 32) % 256) * A r d + G Q D K V δ l r ((d + 224) % 256) * B r d) : ℝ) : EReal) := by
  frame_open
  simp (disch := first | rfl | decide) only [↓View.readCov_skip, ↓View.readCov_fill]
  simp (disch := decide) only [View.read_writes_junk_eq_canon, View.canon_cons_unit_lit', View.ld_unit_lit', View.readAt_eq_ld, Memref.IsWhole.read_unread]
  have hk := keys_read K arg15.view x1 x2 h1' h2'
  have hv : ∀ (o : ℕ) (inb) (_ : o + 512 ≤ 4096) (j : Fin 512) (d : Fin 128),
      View.ld x3 (Rect.unit ![o, 0] ![512, 128] inb) (ix2 j d) = ((V (o + j) d : ℝ) : EReal) :=
    fun o inb ho j d => (rows_128 _ o inb j d (by have := j.isLt; omega)).trans (hV _ d)
  have hl' := fun r => (logs (View.ld x6 (Rect.unit ![0, 0] ![1024, 1] inb_S1024x128_S1024x1_0_0)) r).trans ((lane_0 x6 _ r).trans (hl r))
  refine rotated_back _ _ _ _ _ (G Q D K V δ l) C A B _ _ _ _ (fun r d => ?_) h7 h8 h9 r d
  refine (eighth_q _ _ _ _ _ _ r d).trans ?_
  simp only [first_s, third_s, fourth_s, fifth_s, sixth_s, seventh_s, fourth_t, fifth_t, sixth_t, seventh_t, eighth_t,
      first_k, third_k, fourth_k, fifth_k, sixth_k, seventh_k, eighth_k, first_v, third_v, fourth_v, fifth_v, sixth_v, seventh_v, eighth_v,
      fourth_q, fifth_q, sixth_q, seventh_q]
  refine (congrArg (· * (((Real.sqrt 192)⁻¹ : ℝ) : EReal)) (q_real Q D K V δ l 3584 _ _ _ (hk 3584 _ (by omega)) hδ hl' _ _ (scores Q K 3584 _ _ hQ (hk 3584 _ (by omega))) (grads D V 3584 _ _ hD (hv 3584 _ (by omega))) _ r d _
      (q_real Q D K V δ l 3072 _ _ _ (hk 3072 _ (by omega)) hδ hl' _ _ (scores Q K 3072 _ _ hQ (hk 3072 _ (by omega))) (grads D V 3072 _ _ hD (hv 3072 _ (by omega))) _ r d _
      (q_real Q D K V δ l 2560 _ _ _ (hk 2560 _ (by omega)) hδ hl' _ _ (scores Q K 2560 _ _ hQ (hk 2560 _ (by omega))) (grads D V 2560 _ _ hD (hv 2560 _ (by omega))) _ r d _
      (q_real Q D K V δ l 2048 _ _ _ (hk 2048 _ (by omega)) hδ hl' _ _ (scores Q K 2048 _ _ hQ (hk 2048 _ (by omega))) (grads D V 2048 _ _ hD (hv 2048 _ (by omega))) _ r d _
      (q_real Q D K V δ l 1536 _ _ _ (hk 1536 _ (by omega)) hδ hl' _ _ (scores Q K 1536 _ _ hQ (hk 1536 _ (by omega))) (grads D V 1536 _ _ hD (hv 1536 _ (by omega))) _ r d _
      (q_real Q D K V δ l 1024 _ _ _ (hk 1024 _ (by omega)) hδ hl' _ _ (scores Q K 1024 _ _ hQ (hk 1024 _ (by omega))) (grads D V 1024 _ _ hD (hv 1024 _ (by omega))) _ r d _
      (q_real Q D K V δ l 512 _ _ _ (hk 512 _ (by omega)) hδ hl' _ _ (scores Q K 512 _ _ hQ (hk 512 _ (by omega))) (grads D V 512 _ _ hD (hv 512 _ (by omega))) _ r d _
      (first_q_real Q D K V δ l 0 _ _ _ _ _ (hk 0 _ (by omega)) hδ hl' _ _ (scores Q K 0 _ _ hQ (hk 0 _ (by omega))) (grads D V 0 _ _ hD (hv 0 _ (by omega))) rfl r d))))))))).trans ?_
  show ((_ : ℝ) : EReal) * _ = _
  rw [mul_coe]
  unfold G
  rw [eight fun k => E Q D K V δ l r k * K k d]

end Cert.Step

end
-- ==== Proof.StepB.lean ====
module

public import proofs.«01_k».proof.Proof.StepBase
public import proofs.«01_k».proof.Proof.Tile
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Step

open Finset Cert.Coe Cert.Tile Cert.KernelIdeal Cert.KernelIdeal.Gen Idealize.ShloMosaic Idealize.ShloMosaic.TcCoe Idealize.SL.Sem

variable (c : Dev nD) (i : grid0.Coords) (arg2 : Memref sig .tc .vmem S1024x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .bf16) (harg12 : arg12.IsWhole) (arg13 : Memref sig .tc .vmem S4096x256 .bf16) (harg13 : arg13.IsWhole) (arg14 : Memref sig .tc .vmem S4096x128 .f32) (harg14 : arg14.IsWhole) (arg15 : Memref sig .tc .vmem S4096x256 .bf16) (harg15 : arg15.IsWhole) (arg16 : Memref sig .tc .vmem S4096x256 .f32) (harg16 : arg16.IsWhole) (arg17 : Memref sig .tc .vmem S4096x128 .f32) (harg17 : arg17.IsWhole)
  (x0 : Vec Ideal S1024x256 .bf16) (x1 x2 x3 : Vec Ideal S4096x128 .bf16) (x4 x5 : Vec Ideal S1024x128 .bf16) (x6 : Vec Ideal S1024x128 .f32)
  (x7 x8 x9 : Vec Ideal S1024x256 .f32) (xs0 : Vec Ideal S4096x256 .bf16) (xs1 : Vec Ideal S4096x256 .f32) (xs2 : Vec Ideal S4096x128 .f32)

variable (Q D K V : ℕ → ℕ → ℝ) (δ l : ℕ → ℝ)
  (hQ : ∀ (r : Fin 1024) (d : Fin 256), k0_pay9 (F := Ideal) x0 x7 x8 x9 (ix2 r d) = ((Q r d : ℝ) : EReal))
  (hδ : ∀ r : Fin 1024, k0_pay10 (F := Ideal) x5 x4 (ix2 r 0) = ((δ r : ℝ) : EReal))
  (hD : ∀ (r : Fin 1024) (d : Fin 128), x5 (ix2 r d) = ((D r d : ℝ) : EReal))
  (hV : ∀ (k : Fin 4096) (d : Fin 128), x3 (ix2 k d) = ((V k d : ℝ) : EReal))
  (hl : ∀ r : Fin 1024, x6 (ix2 r 0) = ((l r : ℝ) : EReal))

include hQ hδ hD hV hl in
set_option maxHeartbeats 4000000 in
/-- What a point of this kind leaves of the keys' gradient. -/
theorem B_k (hc0 : ¬cond0_0 i) (hc1 : ¬cond0_1 i)
    (hK : ∀ (k : Fin 4096) (d : Fin 256), xs0 (ix2 k d) = ((K k d : ℝ) : EReal))
    (W : ℕ → ℕ → ℝ) (hW : ∀ (k : Fin 4096) (d : Fin 256), xs1 (ix2 k d) = ((W k d : ℝ) : EReal)) (k : Fin 4096) (d : Fin 256) :
    Gen.sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 (ix2 k d)
      = ((W k d + ∑ r ∈ range 1024, E Q D K V δ l r k * Q r d : ℝ) : EReal) := by
  frame_out
  have hk : ∀ (o : ℕ) (inb) (_ : o + 512 ≤ 4096) (j : Fin 512) (d : Fin 256),
      View.ld xs0 (Rect.unit ![o, 0] ![512, 256] inb) (ix2 j d) = ((K (o + j) d : ℝ) : EReal) :=
    fun o inb ho j d => (rows_256 _ o inb j d (by have := j.isLt; omega)).trans (hK _ d)
  have hv : ∀ (o : ℕ) (inb) (_ : o + 512 ≤ 4096) (j : Fin 512) (d : Fin 128),
      View.ld x3 (Rect.unit ![o, 0] ![512, 128] inb) (ix2 j d) = ((V (o + j) d : ℝ) : EReal) :=
    fun o inb ho j d => (rows_128 _ o inb j d (by have := j.isLt; omega)).trans (hV _ d)
  have hl' := fun r => (logs (View.ld x6 (Rect.unit ![0, 0] ![1024, 1] inb_S1024x128_S1024x1_0_0)) r).trans ((lane_0 x6 _ r).trans (hl r))
  canon_tiles x h
  all_goals
    obtain ⟨j, e, rfl⟩ := pair x
    have hj := j.isLt
    try simp only [first_s, third_s, fourth_s, fifth_s, sixth_s, seventh_s, fourth_t, fifth_t, sixth_t, seventh_t, eighth_t,
      first_k, third_k, fourth_k, fifth_k, sixth_k, seventh_k, eighth_k, first_v, third_v, fourth_v, fifth_v, sixth_v, seventh_v, eighth_v,
      fourth_q, fifth_q, sixth_q, seventh_q]
    refine (k_real Q D K V δ l _ _ _ _ hQ hδ hl' _ _ (scores Q K _ _ _ hQ (hk _ _ (by omega)))
      (grads D V _ _ _ hD (hv _ _ (by omega))) _ j e _ ((rows_256 _ _ _ j e (by omega)).trans (hW _ e))).trans ?_
    have hk' : (k : ℕ) = _ := h0
    have hd' : (d : ℕ) = _ := h1
    rw [hk', hd']
    first | rfl | (simp only [Nat.zero_add]; rfl)

include hQ hD hl in
set_option maxHeartbeats 4000000 in
/-- What a point of this kind leaves of the values' gradient. -/
theorem B_v (hc0 : ¬cond0_0 i) (hc1 : ¬cond0_1 i)
    (hK : ∀ (k : Fin 4096) (d : Fin 256), xs0 (ix2 k d) = ((K k d : ℝ) : EReal))
    (W : ℕ → ℕ → ℝ) (hW : ∀ (k : Fin 4096) (d : Fin 128), xs2 (ix2 k d) = ((W k d : ℝ) : EReal)) (k : Fin 4096) (d : Fin 128) :
    Gen.sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 (ix2 k d)
      = ((W k d + ∑ r ∈ range 1024, P Q K l r k * D r d : ℝ) : EReal) := by
  frame_out
  have hk : ∀ (o : ℕ) (inb) (_ : o + 512 ≤ 4096) (j : Fin 512) (d : Fin 256),
      View.ld xs0 (Rect.unit ![o, 0] ![512, 256] inb) (ix2 j d) = ((K (o + j) d : ℝ) : EReal) :=
    fun o inb ho j d => (rows_256 _ o inb j d (by have := j.isLt; omega)).trans (hK _ d)
  have hl' := fun r => (logs (View.ld x6 (Rect.unit ![0, 0] ![1024, 1] inb_S1024x128_S1024x1_0_0)) r).trans ((lane_0 x6 _ r).trans (hl r))
  canon_tiles x h
  all_goals
    obtain ⟨j, e, rfl⟩ := pair x
    have hj := j.isLt
    try simp only [first_s, third_s, fourth_s, fifth_s, sixth_s, seventh_s, fourth_t, fifth_t, sixth_t, seventh_t, eighth_t,
      first_k, third_k, fourth_k, fifth_k, sixth_k, seventh_k, eighth_k, first_v, third_v, fourth_v, fifth_v, sixth_v, seventh_v, eighth_v,
      fourth_q, fifth_q, sixth_q, seventh_q]
    refine (v_real Q D K l _ _ _ hD hl' _ (scores Q K _ _ _ hQ (hk _ _ (by omega))) _ j e _
      ((rows_128 _ _ _ j e (by omega)).trans (hW _ e))).trans ?_
    have hk' : (k : ℕ) = _ := h0
    have hd' : (d : ℕ) = _ := h1
    rw [hk', hd']
    first | rfl | (simp only [Nat.zero_add]; rfl)

include hQ hδ hD hV hl in
set_option maxHeartbeats 4000000 in
/-- What a point of this kind leaves of the queries' gradient, rotated back. -/
theorem B_q (hc0 : ¬cond0_0 i) (hc1 : ¬cond0_1 i)
    (hK : ∀ (k : Fin 4096) (d : Fin 256), xs0 (ix2 k d) = ((K k d : ℝ) : EReal))
    (C A B : ℕ → ℕ → ℝ)
    (h7 : ∀ (r : Fin 1024) (d : Fin 256), x7 (ix2 r d) = ((C r d : ℝ) : EReal))
    (h8 : ∀ (r : Fin 1024) (d : Fin 256), x8 (ix2 r d) = ((A r d : ℝ) : EReal))
    (h9 : ∀ (r : Fin 1024) (d : Fin 256), x9 (ix2 r d) = ((B r d : ℝ) : EReal)) (r : Fin 1024) (d : Fin 256) :
    Gen.out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 (ix2 r d)
      = ((G Q D K V δ l r d * C r d - (G Q D K V δ l r ((d + 32) % 256) * A r d + G Q D K V δ l r ((d + 224) % 256) * B r d) : ℝ) : EReal) := by
  frame_out
  have hk : ∀ (o : ℕ) (inb) (_ : o + 512 ≤ 4096) (j : Fin 512) (d : Fin 256),
      View.ld xs0 (Rect.unit ![o, 0] ![512, 256] inb) (ix2 j d) = ((K (o + j) d : ℝ) : EReal) :=
    fun o inb ho j d => (rows_256 _ o inb j d (by have := j.isLt; omega)).trans (hK _ d)
  have hv : ∀ (o : ℕ) (inb) (_ : o + 512 ≤ 4096) (j : Fin 512) (d : Fin 128),
      View.ld x3 (Rect.unit ![o, 0] ![512, 128] inb) (ix2 j d) = ((V (o + j) d : ℝ) : EReal) :=
    fun o inb ho j d => (rows_128 _ o inb j d (by have := j.isLt; omega)).trans (hV _ d)
  have hl' := fun r => (logs (View.ld x6 (Rect.unit ![0, 0] ![1024, 1] inb_S1024x128_S1024x1_0_0)) r).trans ((lane_0 x6 _ r).trans (hl r))
  refine rotated_back _ _ _ _ _ (G Q D K V δ l) C A B _ _ _ _ (fun r d => ?_) h7 h8 h9 r d
  refine (eighth_q _ _ _ _ _ _ r d).trans ?_
  simp only [first_s, third_s, fourth_s, fifth_s, sixth_s, seventh_s, fourth_t, fifth_t, sixth_t, seventh_t, eighth_t,
      first_k, third_k, fourth_k, fifth_k, sixth_k, seventh_k, eighth_k, first_v, third_v, fourth_v, fifth_v, sixth_v, seventh_v, eighth_v,
      fourth_q, fifth_q, sixth_q, seventh_q]
  refine (congrArg (· * (((Real.sqrt 192)⁻¹ : ℝ) : EReal)) (q_real Q D K V δ l 3584 _ _ _ (hk 3584 _ (by omega)) hδ hl' _ _ (scores Q K 3584 _ _ hQ (hk 3584 _ (by omega))) (grads D V 3584 _ _ hD (hv 3584 _ (by omega))) _ r d _
      (q_real Q D K V δ l 3072 _ _ _ (hk 3072 _ (by omega)) hδ hl' _ _ (scores Q K 3072 _ _ hQ (hk 3072 _ (by omega))) (grads D V 3072 _ _ hD (hv 3072 _ (by omega))) _ r d _
      (q_real Q D K V δ l 2560 _ _ _ (hk 2560 _ (by omega)) hδ hl' _ _ (scores Q K 2560 _ _ hQ (hk 2560 _ (by omega))) (grads D V 2560 _ _ hD (hv 2560 _ (by omega))) _ r d _
      (q_real Q D K V δ l 2048 _ _ _ (hk 2048 _ (by omega)) hδ hl' _ _ (scores Q K 2048 _ _ hQ (hk 2048 _ (by omega))) (grads D V 2048 _ _ hD (hv 2048 _ (by omega))) _ r d _
      (q_real Q D K V δ l 1536 _ _ _ (hk 1536 _ (by omega)) hδ hl' _ _ (scores Q K 1536 _ _ hQ (hk 1536 _ (by omega))) (grads D V 1536 _ _ hD (hv 1536 _ (by omega))) _ r d _
      (q_real Q D K V δ l 1024 _ _ _ (hk 1024 _ (by omega)) hδ hl' _ _ (scores Q K 1024 _ _ hQ (hk 1024 _ (by omega))) (grads D V 1024 _ _ hD (hv 1024 _ (by omega))) _ r d _
      (q_real Q D K V δ l 512 _ _ _ (hk 512 _ (by omega)) hδ hl' _ _ (scores Q K 512 _ _ hQ (hk 512 _ (by omega))) (grads D V 512 _ _ hD (hv 512 _ (by omega))) _ r d _
      (first_q_real Q D K V δ l 0 _ _ _ _ _ (hk 0 _ (by omega)) hδ hl' _ _ (scores Q K 0 _ _ hQ (hk 0 _ (by omega))) (grads D V 0 _ _ hD (hv 0 _ (by omega))) rfl r d))))))))).trans ?_
  show ((_ : ℝ) : EReal) * _ = _
  rw [mul_coe]
  unfold G
  rw [eight fun k => E Q D K V δ l r k * K k d]

end Cert.Step

end
-- ==== Proof.StepC.lean ====
module

public import proofs.«01_k».proof.Proof.StepBase
public import proofs.«01_k».proof.Proof.Tile
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Step

open Finset Cert.Coe Cert.Tile Cert.KernelIdeal Cert.KernelIdeal.Gen Idealize.ShloMosaic Idealize.ShloMosaic.TcCoe Idealize.SL.Sem

variable (c : Dev nD) (i : grid0.Coords) (arg2 : Memref sig .tc .vmem S1024x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x256 .f32) (harg9 : arg9.IsWhole) (arg10 : Memref sig .tc .vmem S1024x256 .f32) (harg10 : arg10.IsWhole) (arg11 : Memref sig .tc .vmem S1024x256 .f32) (harg11 : arg11.IsWhole) (arg12 : Memref sig .tc .vmem S1024x256 .bf16) (harg12 : arg12.IsWhole) (arg13 : Memref sig .tc .vmem S4096x256 .bf16) (harg13 : arg13.IsWhole) (arg14 : Memref sig .tc .vmem S4096x128 .f32) (harg14 : arg14.IsWhole) (arg15 : Memref sig .tc .vmem S4096x256 .bf16) (harg15 : arg15.IsWhole) (arg16 : Memref sig .tc .vmem S4096x256 .f32) (harg16 : arg16.IsWhole) (arg17 : Memref sig .tc .vmem S4096x128 .f32) (harg17 : arg17.IsWhole)
  (x0 : Vec Ideal S1024x256 .bf16) (x1 x2 x3 : Vec Ideal S4096x128 .bf16) (x4 x5 : Vec Ideal S1024x128 .bf16) (x6 : Vec Ideal S1024x128 .f32)
  (x7 x8 x9 : Vec Ideal S1024x256 .f32) (xs0 : Vec Ideal S4096x256 .bf16) (xs1 : Vec Ideal S4096x256 .f32) (xs2 : Vec Ideal S4096x128 .f32)

variable (Q D K V : ℕ → ℕ → ℝ) (δ l : ℕ → ℝ)
  (hQ : ∀ (r : Fin 1024) (d : Fin 256), k0_pay9 (F := Ideal) x0 x7 x8 x9 (ix2 r d) = ((Q r d : ℝ) : EReal))
  (hδ : ∀ r : Fin 1024, k0_pay10 (F := Ideal) x5 x4 (ix2 r 0) = ((δ r : ℝ) : EReal))
  (hD : ∀ (r : Fin 1024) (d : Fin 128), x5 (ix2 r d) = ((D r d : ℝ) : EReal))
  (hV : ∀ (k : Fin 4096) (d : Fin 128), x3 (ix2 k d) = ((V k d : ℝ) : EReal))
  (hl : ∀ r : Fin 1024, x6 (ix2 r 0) = ((l r : ℝ) : EReal))

include hQ hδ hD hV hl in
set_option maxHeartbeats 4000000 in
/-- What a point of this kind leaves of the keys' gradient. -/
theorem C_k (hc0 : ¬cond0_0 i) (hc1 : cond0_1 i)
    (hK : ∀ (k : Fin 4096) (d : Fin 256), xs0 (ix2 k d) = ((K k d : ℝ) : EReal))
    (W : ℕ → ℕ → ℝ) (hW : ∀ (k : Fin 4096) (d : Fin 256), xs1 (ix2 k d) = ((W k d : ℝ) : EReal)) (k : Fin 4096) (d : Fin 256) :
    Gen.sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 (ix2 k d)
      = ((W k d + ∑ r ∈ range 1024, E Q D K V δ l r k * Q r d : ℝ) : EReal) := by
  frame_out
  have hk : ∀ (o : ℕ) (inb) (_ : o + 512 ≤ 4096) (j : Fin 512) (d : Fin 256),
      View.ld xs0 (Rect.unit ![o, 0] ![512, 256] inb) (ix2 j d) = ((K (o + j) d : ℝ) : EReal) :=
    fun o inb ho j d => (rows_256 _ o inb j d (by have := j.isLt; omega)).trans (hK _ d)
  have hv : ∀ (o : ℕ) (inb) (_ : o + 512 ≤ 4096) (j : Fin 512) (d : Fin 128),
      View.ld x3 (Rect.unit ![o, 0] ![512, 128] inb) (ix2 j d) = ((V (o + j) d : ℝ) : EReal) :=
    fun o inb ho j d => (rows_128 _ o inb j d (by have := j.isLt; omega)).trans (hV _ d)
  have hl' := fun r => (logs (View.ld x6 (Rect.unit ![0, 0] ![1024, 1] inb_S1024x128_S1024x1_0_0)) r).trans ((lane_0 x6 _ r).trans (hl r))
  canon_tiles x h
  all_goals
    obtain ⟨j, e, rfl⟩ := pair x
    have hj := j.isLt
    try simp only [first_s, third_s, fourth_s, fifth_s, sixth_s, seventh_s, fourth_t, fifth_t, sixth_t, seventh_t, eighth_t,
      first_k, third_k, fourth_k, fifth_k, sixth_k, seventh_k, eighth_k, first_v, third_v, fourth_v, fifth_v, sixth_v, seventh_v, eighth_v,
      fourth_q, fifth_q, sixth_q, seventh_q]
    refine (k_real Q D K V δ l _ _ _ _ hQ hδ hl' _ _ (scores Q K _ _ _ hQ (hk _ _ (by omega)))
      (grads D V _ _ _ hD (hv _ _ (by omega))) _ j e _ ((rows_256 _ _ _ j e (by omega)).trans (hW _ e))).trans ?_
    have hk' : (k : ℕ) = _ := h0
    have hd' : (d : ℕ) = _ := h1
    rw [hk', hd']
    first | rfl | (simp only [Nat.zero_add]; rfl)

include hQ hD hl in
set_option maxHeartbeats 4000000 in
/-- What a point of this kind leaves of the values' gradient. -/
theorem C_v (hc0 : ¬cond0_0 i) (hc1 : cond0_1 i)
    (hK : ∀ (k : Fin 4096) (d : Fin 256), xs0 (ix2 k d) = ((K k d : ℝ) : EReal))
    (W : ℕ → ℕ → ℝ) (hW : ∀ (k : Fin 4096) (d : Fin 128), xs2 (ix2 k d) = ((W k d : ℝ) : EReal)) (k : Fin 4096) (d : Fin 128) :
    Gen.sout0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 (ix2 k d)
      = ((W k d + ∑ r ∈ range 1024, P Q K l r k * D r d : ℝ) : EReal) := by
  frame_out
  have hk : ∀ (o : ℕ) (inb) (_ : o + 512 ≤ 4096) (j : Fin 512) (d : Fin 256),
      View.ld xs0 (Rect.unit ![o, 0] ![512, 256] inb) (ix2 j d) = ((K (o + j) d : ℝ) : EReal) :=
    fun o inb ho j d => (rows_256 _ o inb j d (by have := j.isLt; omega)).trans (hK _ d)
  have hl' := fun r => (logs (View.ld x6 (Rect.unit ![0, 0] ![1024, 1] inb_S1024x128_S1024x1_0_0)) r).trans ((lane_0 x6 _ r).trans (hl r))
  canon_tiles x h
  all_goals
    obtain ⟨j, e, rfl⟩ := pair x
    have hj := j.isLt
    try simp only [first_s, third_s, fourth_s, fifth_s, sixth_s, seventh_s, fourth_t, fifth_t, sixth_t, seventh_t, eighth_t,
      first_k, third_k, fourth_k, fifth_k, sixth_k, seventh_k, eighth_k, first_v, third_v, fourth_v, fifth_v, sixth_v, seventh_v, eighth_v,
      fourth_q, fifth_q, sixth_q, seventh_q]
    refine (v_real Q D K l _ _ _ hD hl' _ (scores Q K _ _ _ hQ (hk _ _ (by omega))) _ j e _
      ((rows_128 _ _ _ j e (by omega)).trans (hW _ e))).trans ?_
    have hk' : (k : ℕ) = _ := h0
    have hd' : (d : ℕ) = _ := h1
    rw [hk', hd']
    first | rfl | (simp only [Nat.zero_add]; rfl)

include hQ hδ hD hV hl in
set_option maxHeartbeats 4000000 in
/-- What a point of this kind leaves of the queries' gradient, rotated back. -/
theorem C_q (hc0 : ¬cond0_0 i) (hc1 : cond0_1 i)
    (hK : ∀ (k : Fin 4096) (d : Fin 256), xs0 (ix2 k d) = ((K k d : ℝ) : EReal))
    (C A B : ℕ → ℕ → ℝ)
    (h7 : ∀ (r : Fin 1024) (d : Fin 256), x7 (ix2 r d) = ((C r d : ℝ) : EReal))
    (h8 : ∀ (r : Fin 1024) (d : Fin 256), x8 (ix2 r d) = ((A r d : ℝ) : EReal))
    (h9 : ∀ (r : Fin 1024) (d : Fin 256), x9 (ix2 r d) = ((B r d : ℝ) : EReal)) (r : Fin 1024) (d : Fin 256) :
    Gen.out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 (ix2 r d)
      = ((G Q D K V δ l r d * C r d - (G Q D K V δ l r ((d + 32) % 256) * A r d + G Q D K V δ l r ((d + 224) % 256) * B r d) : ℝ) : EReal) := by
  frame_out
  have hk : ∀ (o : ℕ) (inb) (_ : o + 512 ≤ 4096) (j : Fin 512) (d : Fin 256),
      View.ld xs0 (Rect.unit ![o, 0] ![512, 256] inb) (ix2 j d) = ((K (o + j) d : ℝ) : EReal) :=
    fun o inb ho j d => (rows_256 _ o inb j d (by have := j.isLt; omega)).trans (hK _ d)
  have hv : ∀ (o : ℕ) (inb) (_ : o + 512 ≤ 4096) (j : Fin 512) (d : Fin 128),
      View.ld x3 (Rect.unit ![o, 0] ![512, 128] inb) (ix2 j d) = ((V (o + j) d : ℝ) : EReal) :=
    fun o inb ho j d => (rows_128 _ o inb j d (by have := j.isLt; omega)).trans (hV _ d)
  have hl' := fun r => (logs (View.ld x6 (Rect.unit ![0, 0] ![1024, 1] inb_S1024x128_S1024x1_0_0)) r).trans ((lane_0 x6 _ r).trans (hl r))
  refine rotated_back _ _ _ _ _ (G Q D K V δ l) C A B _ _ _ _ (fun r d => ?_) h7 h8 h9 r d
  refine (eighth_q _ _ _ _ _ _ r d).trans ?_
  simp only [first_s, third_s, fourth_s, fifth_s, sixth_s, seventh_s, fourth_t, fifth_t, sixth_t, seventh_t, eighth_t,
      first_k, third_k, fourth_k, fifth_k, sixth_k, seventh_k, eighth_k, first_v, third_v, fourth_v, fifth_v, sixth_v, seventh_v, eighth_v,
      fourth_q, fifth_q, sixth_q, seventh_q]
  refine (congrArg (· * (((Real.sqrt 192)⁻¹ : ℝ) : EReal)) (q_real Q D K V δ l 3584 _ _ _ (hk 3584 _ (by omega)) hδ hl' _ _ (scores Q K 3584 _ _ hQ (hk 3584 _ (by omega))) (grads D V 3584 _ _ hD (hv 3584 _ (by omega))) _ r d _
      (q_real Q D K V δ l 3072 _ _ _ (hk 3072 _ (by omega)) hδ hl' _ _ (scores Q K 3072 _ _ hQ (hk 3072 _ (by omega))) (grads D V 3072 _ _ hD (hv 3072 _ (by omega))) _ r d _
      (q_real Q D K V δ l 2560 _ _ _ (hk 2560 _ (by omega)) hδ hl' _ _ (scores Q K 2560 _ _ hQ (hk 2560 _ (by omega))) (grads D V 2560 _ _ hD (hv 2560 _ (by omega))) _ r d _
      (q_real Q D K V δ l 2048 _ _ _ (hk 2048 _ (by omega)) hδ hl' _ _ (scores Q K 2048 _ _ hQ (hk 2048 _ (by omega))) (grads D V 2048 _ _ hD (hv 2048 _ (by omega))) _ r d _
      (q_real Q D K V δ l 1536 _ _ _ (hk 1536 _ (by omega)) hδ hl' _ _ (scores Q K 1536 _ _ hQ (hk 1536 _ (by omega))) (grads D V 1536 _ _ hD (hv 1536 _ (by omega))) _ r d _
      (q_real Q D K V δ l 1024 _ _ _ (hk 1024 _ (by omega)) hδ hl' _ _ (scores Q K 1024 _ _ hQ (hk 1024 _ (by omega))) (grads D V 1024 _ _ hD (hv 1024 _ (by omega))) _ r d _
      (q_real Q D K V δ l 512 _ _ _ (hk 512 _ (by omega)) hδ hl' _ _ (scores Q K 512 _ _ hQ (hk 512 _ (by omega))) (grads D V 512 _ _ hD (hv 512 _ (by omega))) _ r d _
      (first_q_real Q D K V δ l 0 _ _ _ _ _ (hk 0 _ (by omega)) hδ hl' _ _ (scores Q K 0 _ _ hQ (hk 0 _ (by omega))) (grads D V 0 _ _ hD (hv 0 _ (by omega))) rfl r d))))))))).trans ?_
  show ((_ : ℝ) : EReal) * _ = _
  rw [mul_coe]
  unfold G
  rw [eight fun k => E Q D K V δ l r k * K k d]

include hQ hδ hD hV hl in
set_option maxHeartbeats 4000000 in
/-- What the last point of a head leaves of the keys' and values' gradients. -/
theorem C_kv (hc0 : ¬cond0_0 i) (hc1 : cond0_1 i)
    (hK : ∀ (k : Fin 4096) (d : Fin 256), xs0 (ix2 k d) = ((K k d : ℝ) : EReal))
    (W : ℕ → ℕ → ℝ) (hW : ∀ (k : Fin 4096) (d : Fin 256), xs1 (ix2 k d) = ((W k d : ℝ) : EReal))
    (W' : ℕ → ℕ → ℝ) (hW' : ∀ (k : Fin 4096) (d : Fin 128), xs2 (ix2 k d) = ((W' k d : ℝ) : EReal)) (k : Fin 4096) (d : Fin 256) :
    Gen.out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 (ix2 k d)
      = (((if (d : ℕ) < 128 then (W k d + ∑ r ∈ range 1024, E Q D K V δ l r k * Q r d) * (Real.sqrt 192)⁻¹
          else W' k (d - 128) + ∑ r ∈ range 1024, P Q K l r k * D r (d - 128)) : ℝ) : EReal) := by
  have a1 := C_k c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xs0 xs1 xs2 Q D K V δ l hQ hδ hD hV hl hc0 hc1 hK W hW k
  have a2 := C_v c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xs0 xs1 xs2 Q D K l hQ hD hl hc0 hc1 hK W' hW' k
  frame_out at a1
  frame_out at a2
  frame_out
  canon_tiles x h
  all_goals
    obtain ⟨j, e, rfl⟩ := pair x
    have hk : k = j := Fin.ext h0
    have hd : (d : ℕ) = _ := h1
    have he : (e : ℕ) < 128 := e.isLt
    subst hk
  · rw [if_neg (by rw [hd]; exact Nat.not_lt.mpr (Nat.le_add_right 128 _))]
    refine (rounded _ _).trans ?_
    rw [View.readCov_eq_canon']
    dsimp only
    rw [all_lanes]
    refine (a2 e).trans ?_
    rw [show (d : ℕ) - 128 = e by rw [hd]; exact Nat.add_sub_cancel_left (n := 128) (m := (e : ℕ))]
  · have hd' : (d : ℕ) = e := hd
    rw [if_pos (by omega)]
    refine scaled _ k e _ ?_
    rw [View.readCov_eq_canon']
    dsimp only
    rw [half 0 _ k e (by omega)]
    refine (a1 ⟨0 + e, by omega⟩).trans ?_
    rw [show ((⟨0 + (e : ℕ), by omega⟩ : Fin 256) : ℕ) = d by show 0 + (e : ℕ) = _; omega]

include hQ hδ hD hV hl in
set_option maxHeartbeats 4000000 in
/-- What the last point of a head leaves of the shared key's gradient. -/
theorem C_p (hc0 : ¬cond0_0 i) (hc1 : cond0_1 i)
    (hK : ∀ (k : Fin 4096) (d : Fin 256), xs0 (ix2 k d) = ((K k d : ℝ) : EReal))
    (W : ℕ → ℕ → ℝ) (hW : ∀ (k : Fin 4096) (d : Fin 256), xs1 (ix2 k d) = ((W k d : ℝ) : EReal)) (k : Fin 4096) (d : Fin 128) :
    Gen.out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 (ix2 k d)
      = (((W k (128 + d) + ∑ r ∈ range 1024, E Q D K V δ l r k * Q r (128 + d)) * (Real.sqrt 192)⁻¹ : ℝ) : EReal) := by
  have a1 := C_k c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 xs0 xs1 xs2 Q D K V δ l hQ hδ hD hV hl hc0 hc1 hK W hW k
  frame_out at a1
  frame_out
  rw [scaled_rope]
  refine scaled _ k d _ ?_
  rw [View.readCov_eq_canon']
  dsimp only
  rw [half 128 _ k d (by omega)]
  exact a1 ⟨128 + d, by omega⟩

end Cert.Step

end
-- ==== Proof.States.lean ====
module

public import proofs.«01_k».proof.Proof.Given
public import proofs.«01_k».proof.Proof.StepA
public import proofs.«01_k».proof.Proof.StepB
public import proofs.«01_k».proof.Proof.StepC

@[expose] public section

set_option maxRecDepth 16384

noncomputable section

namespace Cert.Step

open Finset Cert.Coe Cert.Tile Cert.KernelIdeal Cert.KernelIdeal.Gen Idealize.ShloMosaic Idealize.ShloMosaic.TcCoe Idealize.SL.Sem

variable {A : Model.Args} {m : (ℓ : Loc nD τ sig) → Buf (Elt Ideal) ℓ} {c : Dev nD} {μ : ℕ → ℕ → ℝ}

/-- A sum of one more block of rows. -/
theorem sum_block (f : ℕ → ℝ) (b : ℕ) : ∑ j ∈ range ((b + 1) * 1024), f j = ∑ j ∈ range (b * 1024), f j + ∑ r ∈ range 1024, f (b * 1024 + r) := by
  rw [Nat.succ_mul, Finset.sum_range_add]

/-- A key's gradient over the first `b` blocks of queries, unscaled. -/
def accK (A : Model.Args) (b h k d : ℕ) : ℝ := ∑ j ∈ range (b * 1024), Model.ds A j h k * Model.qh A j h d

/-- A value's gradient over the first `b` blocks of queries. -/
def accV (A : Model.Args) (b h k d : ℕ) : ℝ := ∑ j ∈ range (b * 1024), Model.pr A j h k * Model.co A j h d

variable (A) in
theorem accK_add (t : Fin cfg0.N) (k d : ℕ) : accK A (t.val % 4) (t.val / 4) k d
    + ∑ r ∈ range 1024, E (Qt A t) (Dt A t) (Kt A t) (Vt A t) (δt A t) (lt A μ t) r k * Qt A t r d = accK A (t.val % 4 + 1) (t.val / 4) k d := by
  rw [key_add]
  exact (sum_block _ _).symm

variable (A) in
theorem accV_add (t : Fin cfg0.N) (k d : ℕ) : accV A (t.val % 4) (t.val / 4) k d
    + ∑ r ∈ range 1024, P (Qt A t) (Kt A t) (lt A μ t) r k * Dt A t r d = accV A (t.val % 4 + 1) (t.val / 4) k d := by
  rw [val_add]
  exact (sum_block _ _).symm

variable (A m c) in
/-- What point `n` leaves in the scratch: its head's keys, and the gradients so far. -/
def State (n : ℕ) (hn : n < cfg0.N) : Prop :=
  (∀ (k : Fin 4096) (d : Fin 256), (outsAt0 (F := Ideal) m c n hn).2.2.2.1 (ix2 k d) = ((Model.key A k (n / 4) d : ℝ) : EReal)) ∧
  (∀ (k : Fin 4096) (d : Fin 256), (outsAt0 (F := Ideal) m c n hn).2.2.2.2.1 (ix2 k d) = ((accK A (n % 4 + 1) (n / 4) k d : ℝ) : EReal)) ∧
  (∀ (k : Fin 4096) (d : Fin 128), (outsAt0 (F := Ideal) m c n hn).2.2.2.2.2 (ix2 k d) = ((accV A (n % 4 + 1) (n / 4) k d : ℝ) : EReal))

variable (A m c) in
/-- What a point that is not its head's first finds in the scratch. -/
def Found (t : Fin cfg0.N) (hn : t.val - 1 < cfg0.N) : Prop :=
  (∀ (k : Fin 4096) (d : Fin 256), (outsAt0 (F := Ideal) m c (t.val - 1) hn).2.2.2.1 (ix2 k d) = ((Kt A t k d : ℝ) : EReal)) ∧
  (∀ (k : Fin 4096) (d : Fin 256), (outsAt0 (F := Ideal) m c (t.val - 1) hn).2.2.2.2.1 (ix2 k d) = ((accK A (t.val % 4) (t.val / 4) k d : ℝ) : EReal)) ∧
  (∀ (k : Fin 4096) (d : Fin 128), (outsAt0 (F := Ideal) m c (t.val - 1) hn).2.2.2.2.2 (ix2 k d) = ((accV A (t.val % 4) (t.val / 4) k d : ℝ) : EReal))

variable (g : Given A m c μ)
include g

variable (t : Fin cfg0.N)

omit g in
theorem found (h0 : ¬t.val % 4 = 0) (hn : t.val - 1 < cfg0.N) (s : State A m c (t.val - 1) hn) : Found A m c t hn := by
  have a : (t.val - 1) / 4 = t.val / 4 := by omega
  have b : (t.val - 1) % 4 + 1 = t.val % 4 := by omega
  unfold State at s
  rw [a, b] at s
  exact s

/-- The first point of a head. -/
theorem state_A (h0 : t.val % 4 = 0) (h1 : ¬t.val % 4 = 3) : State A m c t.val t.isLt := by
  refine ⟨fun k d => ?_, fun k d => ?_, fun k d => ?_⟩
  all_goals rw [outsAt0_A m c t h0 h1]; dsimp only
  · exact A_key (h1' := keys_low t g) (h2' := keys_high t g) (k := k) (d := d) ..
  · refine (A_k (hQ := queries t g) (hδ := means t g) (hD := cot t g) (hV := vals t g) (hl := lses t g) (h1' := keys_low t g) (h2' := keys_high t g) (k := k) (d := d) ..).trans (congrArg _ ?_)
    rw [← accK_add A (μ := μ) t k d, h0]
    rfl
  · refine (A_v (hQ := queries t g) (hD := cot t g) (hl := lses t g) (h1' := keys_low t g) (h2' := keys_high t g) (k := k) (d := d) ..).trans (congrArg _ ?_)
    rw [← accV_add A (μ := μ) t k d, h0]
    rfl

/-- A point in the middle of a head. -/
theorem state_B (h0 : ¬t.val % 4 = 0) (h1 : ¬t.val % 4 = 3) (f : Found A m c t (Nat.lt_of_le_of_lt (Nat.sub_le _ _) t.isLt)) : State A m c t.val t.isLt := by
  refine ⟨fun k d => ?_, fun k d => ?_, fun k d => ?_⟩
  all_goals rw [outsAt0_B m c t h0 h1]; dsimp only
  · exact f.1 k d
  · exact (B_k (hQ := queries t g) (hδ := means t g) (hD := cot t g) (hV := vals t g) (hl := lses t g) (hK := f.1) (hW := f.2.1) (k := k) (d := d) ..).trans (congrArg _ (accK_add A t k d))
  · exact (B_v (hQ := queries t g) (hD := cot t g) (hl := lses t g) (hK := f.1) (hW := f.2.2) (k := k) (d := d) ..).trans (congrArg _ (accV_add A t k d))

/-- The last point of a head. -/
theorem state_C (h0 : ¬t.val % 4 = 0) (h1 : t.val % 4 = 3) (f : Found A m c t (Nat.lt_of_le_of_lt (Nat.sub_le _ _) t.isLt)) : State A m c t.val t.isLt := by
  refine ⟨fun k d => ?_, fun k d => ?_, fun k d => ?_⟩
  all_goals rw [outsAt0_C m c t h0 h1]; dsimp only
  · exact f.1 k d
  · exact (C_k (hQ := queries t g) (hδ := means t g) (hD := cot t g) (hV := vals t g) (hl := lses t g) (hK := f.1) (hW := f.2.1) (k := k) (d := d) ..).trans (congrArg _ (accK_add A t k d))
  · exact (C_v (hQ := queries t g) (hD := cot t g) (hl := lses t g) (hK := f.1) (hW := f.2.2) (k := k) (d := d) ..).trans (congrArg _ (accV_add A t k d))

/-- What every point leaves in the scratch. -/
theorem state : ∀ (n : ℕ) (hn : n < cfg0.N), State A m c n hn := by
  intro n
  induction n using Nat.strong_induction_on with
  | _ n ih =>
    intro hn
    by_cases h0 : n % 4 = 0
    · exact state_A g ⟨n, hn⟩ h0 (by show ¬n % 4 = 3; omega)
    · have f := found ⟨n, hn⟩ h0 _ (ih (n - 1) (by omega) (Nat.lt_of_le_of_lt (Nat.sub_le _ _) hn))
      by_cases h1 : n % 4 = 3
      · exact state_C g ⟨n, hn⟩ h0 h1 f
      · exact state_B g ⟨n, hn⟩ h0 h1 f

/-- What every point that is not its head's first finds. -/
theorem finds (h0 : ¬t.val % 4 = 0) : Found A m c t (Nat.lt_of_le_of_lt (Nat.sub_le _ _) t.isLt) := found t h0 _ (state g _ _)

end Cert.Step

end
-- ==== Proof.Outs.lean ====
module

public import proofs.«01_k».proof.Proof.States

@[expose] public section

set_option maxRecDepth 16384

noncomputable section

namespace Cert.Step

open Finset Cert.Coe Cert.Tile Cert.KernelIdeal Cert.KernelIdeal.Gen Idealize.ShloMosaic Idealize.ShloMosaic.TcCoe Idealize.SL.Sem

variable {A : Model.Args} {m : (ℓ : Loc nD τ sig) → Buf (Elt Ideal) ℓ} {c : Dev nD} {μ : ℕ → ℕ → ℝ}

variable (g : Given A m c μ)
include g

variable (t : Fin cfg0.N)

/-- What every point writes of the queries' gradient. -/
theorem out_q (r : Fin 1024) (d : Fin 256) :
    (outsAt0 (F := Ideal) m c t.val t.isLt).1 (ix2 r d) = ((Model.resQ A (t.val % 4 * 1024 + r) (t.val / 4) d : ℝ) : EReal) := by
  have hG : ∀ r d, G (Qt A t) (Dt A t) (Kt A t) (Vt A t) (δt A t) (lt A μ t) r d = Model.dq A (t.val % 4 * 1024 + r) (t.val / 4) d := query_grad A μ t
  by_cases h0 : t.val % 4 = 0
  · have h1 : ¬t.val % 4 = 3 := by omega
    rw [outsAt0_A m c t h0 h1]
    dsimp only
    refine (A_q (hQ := queries t g) (hδ := means t g) (hD := cot t g) (hV := vals t g) (hl := lses t g) (h1' := keys_low t g) (h2' := keys_high t g) (C := fun r d => Model.tabC A (t.val % 4 * 1024 + r) d) (A := fun r d => Model.tabA A (t.val % 4 * 1024 + r) d) (B := fun r d => Model.tabB A (t.val % 4 * 1024 + r) d)
        (h7 := block_c A m c t g.tc) (h8 := block_a A m c t g.ta) (h9 := block_b A m c t g.tb) (r := r) (d := d) ..).trans (congrArg _ ?_)
    rw [hG, hG, hG]
    exact Model.rotate_back A _ _ d
  · have f := finds g t h0
    by_cases h1 : t.val % 4 = 3
    · rw [outsAt0_C m c t h0 h1]
      dsimp only
      refine (C_q (hQ := queries t g) (hδ := means t g) (hD := cot t g) (hV := vals t g) (hl := lses t g) (hK := f.1) (C := fun r d => Model.tabC A (t.val % 4 * 1024 + r) d) (A := fun r d => Model.tabA A (t.val % 4 * 1024 + r) d) (B := fun r d => Model.tabB A (t.val % 4 * 1024 + r) d)
        (h7 := block_c A m c t g.tc) (h8 := block_a A m c t g.ta) (h9 := block_b A m c t g.tb) (r := r) (d := d) ..).trans (congrArg _ ?_)
      rw [hG, hG, hG]
      exact Model.rotate_back A _ _ d
    · rw [outsAt0_B m c t h0 h1]
      dsimp only
      refine (B_q (hQ := queries t g) (hδ := means t g) (hD := cot t g) (hV := vals t g) (hl := lses t g) (hK := f.1) (C := fun r d => Model.tabC A (t.val % 4 * 1024 + r) d) (A := fun r d => Model.tabA A (t.val % 4 * 1024 + r) d) (B := fun r d => Model.tabB A (t.val % 4 * 1024 + r) d)
        (h7 := block_c A m c t g.tc) (h8 := block_a A m c t g.ta) (h9 := block_b A m c t g.tb) (r := r) (d := d) ..).trans (congrArg _ ?_)
      rw [hG, hG, hG]
      exact Model.rotate_back A _ _ d

omit g in
/-- The gradient of a key over all four blocks. -/
theorem accK_all (h k d : ℕ) : accK A 4 h k d * (Real.sqrt 192)⁻¹ = Model.dk A k h d := (div_eq_mul_inv _ _).symm

omit g in
/-- The padding lanes of a key have no gradient. -/
theorem dk_pad (k h d : ℕ) (hd : 192 ≤ d) : Model.dk A k h d = 0 := by
  unfold Model.dk
  rw [Finset.sum_eq_zero, zero_div]
  intro n _
  have : Model.qh A n h d = 0 := by
    unfold Model.qh; rw [if_neg (by omega), if_neg (by omega), if_neg (by omega)]
  rw [this, mul_zero]

/-- What the last point of a head writes of the keys' and values' gradients. -/
theorem out_kv (h1 : t.val % 4 = 3) (k : Fin 4096) (d : Fin 256) :
    (outsAt0 (F := Ideal) m c t.val t.isLt).2.1 (ix2 k d) = ((Model.resKV A k (t.val / 4) d : ℝ) : EReal) := by
  have h0 : ¬t.val % 4 = 0 := by omega
  have f := finds g t h0
  have ek := fun d => accK_add A (μ := μ) t k d
  have ev := fun d => accV_add A (μ := μ) t k d
  rw [outsAt0_C m c t h0 h1]
  dsimp only
  refine (C_kv (hQ := queries t g) (hδ := means t g) (hD := cot t g) (hV := vals t g) (hl := lses t g) (hK := f.1) (hW := f.2.1) (hW' := f.2.2) (k := k) (d := d) ..).trans (congrArg _ ?_)
  rw [ek, ev, h1, accK_all]
  rfl

/-- What the last point of a head writes of the shared key's gradient. -/
theorem out_p (h1 : t.val % 4 = 3) (k : Fin 4096) (d : Fin 128) :
    (outsAt0 (F := Ideal) m c t.val t.isLt).2.2.1 (ix2 k d) = ((Model.resP A k (t.val / 4) d : ℝ) : EReal) := by
  have h0 : ¬t.val % 4 = 0 := by omega
  have f := finds g t h0
  have ek := fun d => accK_add A (μ := μ) t k d
  rw [outsAt0_C m c t h0 h1]
  dsimp only
  refine (C_p (hQ := queries t g) (hδ := means t g) (hD := cot t g) (hV := vals t g) (hl := lses t g) (hK := f.1) (hW := f.2.1) (k := k) (d := d) ..).trans (congrArg _ ?_)
  rw [ek, h1, accK_all]
  unfold Model.resP
  split_ifs with hd
  · rfl
  · exact dk_pad _ _ _ (by omega)

end Cert.Step

end
-- ==== Proof.Arrays.lean ====
module

public import proofs.«01_k».proof.Proof.Outs

@[expose] public section

set_option maxRecDepth 16384

noncomputable section

namespace Cert.Step

open Finset Cert.Coe Cert.Tile Cert.KernelIdeal Cert.KernelIdeal.Gen Idealize.ShloMosaic Idealize.ShloMosaic.TcCoe Idealize.SL.Sem

variable {A : Model.Args} {m : (ℓ : Loc nD τ sig) → Buf (Elt Ideal) ℓ} {c : Dev nD} {μ : ℕ → ℕ → ℝ}

variable (g : Given A m c μ)
include g

/-- The first result after the run: the queries' gradient. -/
theorem array_q : (dats (F := Ideal) m 0 c).arrAt 10 cfg0.N
    = fun i : S4096x2048.Idx => ((Model.resQ A (i 0).val ((i 1).val / 256) ((i 1).val % 256) : ℝ) : EReal) := by
  refine (dats (F := Ideal) m 0 c).arrAt_eq_of_cover 10 _ (fun t hf => ?_) (fun i => (Value.covered_iff10 i).2 (by
    have h0 : (i 0).val < 4096 := (i 0).isLt; have h1 : (i 1).val < 2048 := (i 1).isLt; omega))
  rw [Value.flushed10]
  funext y
  obtain ⟨r, d, rfl⟩ := pair (n := 1024) (m := 256) y
  refine (out_q g t r d).trans ?_
  have e0 : (((cfg0.win 10).blk t).view.emb (ix2 r d : S1024x256.Idx) 0).val = t.val % 4 * 1024 + r := by
    blk_simp [(idx_out t).1]
    try omega
  have e1 : (((cfg0.win 10).blk t).view.emb (ix2 r d : S1024x256.Idx) 1).val = t.val / 4 * 256 + d := by
    blk_simp [(idx_out t).1]
  show _ = ((Model.resQ A (((cfg0.win 10).blk t).view.emb (ix2 r d : S1024x256.Idx) 0).val
    ((((cfg0.win 10).blk t).view.emb (ix2 r d : S1024x256.Idx) 1).val / 256) ((((cfg0.win 10).blk t).view.emb (ix2 r d : S1024x256.Idx) 1).val % 256) : ℝ) : EReal)
  have hd := d.isLt
  rw [e0, e1, show (t.val / 4 * 256 + (d : ℕ)) / 256 = t.val / 4 by omega, show (t.val / 4 * 256 + (d : ℕ)) % 256 = d by omega]

/-- The second result after the run: the keys' gradient beside the values'. -/
theorem array_kv : (dats (F := Ideal) m 0 c).arrAt 11 cfg0.N
    = fun i : S4096x2048.Idx => ((Model.resKV A (i 0).val ((i 1).val / 256) ((i 1).val % 256) : ℝ) : EReal) := by
  refine (dats (F := Ideal) m 0 c).arrAt_eq_of_cover 11 _ (fun t hf => ?_) (fun i => (Value.covered_iff11 i).2 (by
    have h0 : (i 0).val < 4096 := (i 0).isLt; have h1 : (i 1).val < 2048 := (i 1).isLt; omega))
  rw [Value.flushed11]
  funext y
  obtain ⟨r, d, rfl⟩ := pair (n := 4096) (m := 256) y
  refine (out_kv g t ((flush0_11 t).mp hf) r d).trans ?_
  have e0 : (((cfg0.win 11).blk t).view.emb (ix2 r d : S4096x256.Idx) 0).val = r := by
    blk_simp [(idx_out t).2.1]
    try omega
  have e1 : (((cfg0.win 11).blk t).view.emb (ix2 r d : S4096x256.Idx) 1).val = t.val / 4 * 256 + d := by
    blk_simp [(idx_out t).2.1]
  show _ = ((Model.resKV A (((cfg0.win 11).blk t).view.emb (ix2 r d : S4096x256.Idx) 0).val
    ((((cfg0.win 11).blk t).view.emb (ix2 r d : S4096x256.Idx) 1).val / 256) ((((cfg0.win 11).blk t).view.emb (ix2 r d : S4096x256.Idx) 1).val % 256) : ℝ) : EReal)
  have hd := d.isLt
  rw [e0, e1, show (t.val / 4 * 256 + (d : ℕ)) / 256 = t.val / 4 by omega, show (t.val / 4 * 256 + (d : ℕ)) % 256 = d by omega]

/-- The third result after the run: the shared key's gradient, head by head. -/
theorem array_p : (dats (F := Ideal) m 0 c).arrAt 12 cfg0.N
    = fun i : S4096x1024.Idx => ((Model.resP A (i 0).val ((i 1).val / 128) ((i 1).val % 128) : ℝ) : EReal) := by
  refine (dats (F := Ideal) m 0 c).arrAt_eq_of_cover 12 _ (fun t hf => ?_) (fun i => (Value.covered_iff12 i).2 (by
    have h0 : (i 0).val < 4096 := (i 0).isLt; have h1 : (i 1).val < 1024 := (i 1).isLt; omega))
  rw [Value.flushed12]
  funext y
  obtain ⟨r, d, rfl⟩ := pair (n := 4096) (m := 128) y
  refine (out_p g t ((flush0_12 t).mp hf) r d).trans ?_
  have e0 : (((cfg0.win 12).blk t).view.emb (ix2 r d : S4096x128.Idx) 0).val = r := by
    blk_simp [(idx_out t).2.2]
    try omega
  have e1 : (((cfg0.win 12).blk t).view.emb (ix2 r d : S4096x128.Idx) 1).val = t.val / 4 * 128 + d := by
    blk_simp [(idx_out t).2.2]
  show _ = ((Model.resP A (((cfg0.win 12).blk t).view.emb (ix2 r d : S4096x128.Idx) 0).val
    ((((cfg0.win 12).blk t).view.emb (ix2 r d : S4096x128.Idx) 1).val / 128) ((((cfg0.win 12).blk t).view.emb (ix2 r d : S4096x128.Idx) 1).val % 128) : ℝ) : EReal)
  have hd := d.isLt
  rw [e0, e1, show (t.val / 4 * 128 + (d : ℕ)) / 128 = t.val / 4 by omega, show (t.val / 4 * 128 + (d : ℕ)) % 128 = d by omega]

end Cert.Step

end
-- ==== Proof.Args.lean ====
module

public import proofs.«01_k».proof.Proof.RefRes
public import proofs.«01_k».proof.Proof.Angle
public import proofs.«01_k».proof.Proof.Finite
public import proofs.«01_k».proof.Proof.Arrays

@[expose] public section

set_option maxRecDepth 16384

noncomputable section

namespace Cert.Sides

open Idealize.ShloMosaic Idealize.ShloMosaic.TcCoe Idealize.SL.Sem Cert.Model Cert.KernelIdeal

variable (x0 x1 : FVec Ideal S4096x2048 .bf16) (x2 : FVec Ideal S4096x128 .bf16) (x3 : IVec S4096 32) (x4 : FVec Ideal S4096x2048 .bf16)

/-- The real numbers in the arguments, with the rotary cosines and sines. -/
def args : Args where
  q r c := (x0 (ix2 ⟨r % 4096, Nat.mod_lt _ (by decide)⟩ ⟨c % 2048, Nat.mod_lt _ (by decide)⟩) : EReal).toReal
  kv r c := (x1 (ix2 ⟨r % 4096, Nat.mod_lt _ (by decide)⟩ ⟨c % 2048, Nat.mod_lt _ (by decide)⟩) : EReal).toReal
  kp r c := (x2 (ix2 ⟨r % 4096, Nat.mod_lt _ (by decide)⟩ ⟨c % 128, Nat.mod_lt _ (by decide)⟩) : EReal).toReal
  ct r c := (x4 (ix2 ⟨r % 4096, Nat.mod_lt _ (by decide)⟩ ⟨c % 2048, Nat.mod_lt _ (by decide)⟩) : EReal).toReal
  cs r c := (KernelIdeal.Host.h17 (F := Ideal) x3 (ix2 ⟨r % 4096, Nat.mod_lt _ (by decide)⟩ ⟨c % 32, Nat.mod_lt _ (by decide)⟩) : EReal).toReal
  sn r c := (KernelIdeal.Host.h18 (F := Ideal) x3 (ix2 ⟨r % 4096, Nat.mod_lt _ (by decide)⟩ ⟨c % 32, Nat.mod_lt _ (by decide)⟩) : EReal).toReal

/-- Reading an array at reduced coordinates reads it where it is. -/
theorem reduced {n k : ℕ} {α : Type} (X : (⟨2, ![n, k]⟩ : Shape).Idx → α) (hn : 0 < n) (hk : 0 < k) (r : Fin n) (c : Fin k) :
    X (ix2 ⟨r % n, Nat.mod_lt _ hn⟩ ⟨c % k, Nat.mod_lt _ hk⟩) = X (ix2 r c) := by
  congr 2 <;> exact Fin.ext (Nat.mod_eq_of_lt (Fin.isLt _))

theorem cosines (r : Fin 4096) (c : Fin 32) : KernelIdeal.Host.h17 (F := Ideal) x3 (ix2 r c) = (((args x0 x1 x2 x3 x4).cs r c : ℝ) : EReal) :=
  (Angle.cos_real x3 r c).trans (congrArg (fun e : EReal => ((e.toReal : ℝ) : EReal)) (reduced (n := 4096) (k := 32) (KernelIdeal.Host.h17 (F := Ideal) x3) (by decide) (by decide) r c).symm)

theorem sines (r : Fin 4096) (c : Fin 32) : KernelIdeal.Host.h18 (F := Ideal) x3 (ix2 r c) = (((args x0 x1 x2 x3 x4).sn r c : ℝ) : EReal) :=
  (Angle.sin_real x3 r c).trans (congrArg (fun e : EReal => ((e.toReal : ℝ) : EReal)) (reduced (n := 4096) (k := 32) (KernelIdeal.Host.h18 (F := Ideal) x3) (by decide) (by decide) r c).symm)

variable (h : Cert.Pre_finite.fn (F := Ideal) x0 x1 x2 x3 x4 = fun _ => 1#1)
include h

theorem qs (r : Fin 4096) (c : Fin 2048) : x0 (ix2 r c) = (((args x0 x1 x2 x3 x4).q r c : ℝ) : EReal) :=
  ((Finite.opened x0 x1 x2 x3 x4 h).1 _).trans (congrArg (fun e : EReal => ((e.toReal : ℝ) : EReal)) (reduced (n := 4096) (k := 2048) x0 (by decide) (by decide) r c).symm)

theorem kvs (r : Fin 4096) (c : Fin 2048) : x1 (ix2 r c) = (((args x0 x1 x2 x3 x4).kv r c : ℝ) : EReal) :=
  ((Finite.opened x0 x1 x2 x3 x4 h).2.1 _).trans (congrArg (fun e : EReal => ((e.toReal : ℝ) : EReal)) (reduced (n := 4096) (k := 2048) x1 (by decide) (by decide) r c).symm)

theorem kps (r : Fin 4096) (c : Fin 128) : x2 (ix2 r c) = (((args x0 x1 x2 x3 x4).kp r c : ℝ) : EReal) :=
  ((Finite.opened x0 x1 x2 x3 x4 h).2.2.1 _).trans (congrArg (fun e : EReal => ((e.toReal : ℝ) : EReal)) (reduced (n := 4096) (k := 128) x2 (by decide) (by decide) r c).symm)

theorem cts (r : Fin 4096) (c : Fin 2048) : x4 (ix2 r c) = (((args x0 x1 x2 x3 x4).ct r c : ℝ) : EReal) :=
  ((Finite.opened x0 x1 x2 x3 x4 h).2.2.2 _).trans (congrArg (fun e : EReal => ((e.toReal : ℝ) : EReal)) (reduced (n := 4096) (k := 2048) x4 (by decide) (by decide) r c).symm)

/-- The reference's three results. -/
theorem reference :
    ReferenceIdeal.Read.val_main_v142 (F := Ideal) x0 x1 x2 x3 x4
        = (fun i : S4096x2048.Idx => ((resQ (args x0 x1 x2 x3 x4) (i 0).val ((i 1).val / 256) ((i 1).val % 256) : ℝ) : EReal))
      ∧ ReferenceIdeal.Read.val_main_v143 (F := Ideal) x0 x1 x2 x3 x4
        = (fun i : S4096x2048.Idx => ((resKV (args x0 x1 x2 x3 x4) (i 0).val ((i 1).val / 256) ((i 1).val % 256) : ℝ) : EReal))
      ∧ ReferenceIdeal.Read.val_main_v114 (F := Ideal) x0 x1 x2 x3 x4
        = (fun i : S4096x1024.Idx => ((resP (args x0 x1 x2 x3 x4) (i 0).val ((i 1).val / 128) ((i 1).val % 128) : ℝ) : EReal)) := by
  have q := qs x0 x1 x2 x3 x4 h
  have kv := kvs x0 x1 x2 x3 x4 h
  have kp := kps x0 x1 x2 x3 x4 h
  have ct := cts x0 x1 x2 x3 x4 h
  have hc : ∀ (r : Fin 4096) (c : Fin 32), ReferenceIdeal.Read.val_main_v17 (F := Ideal) x3 (ix2 r c) = (((args x0 x1 x2 x3 x4).cs r c : ℝ) : EReal) := by
    rw [Angle.cos_eq]; exact cosines x0 x1 x2 x3 x4
  have hs : ∀ (r : Fin 4096) (c : Fin 32), ReferenceIdeal.Read.val_main_v18 (F := Ideal) x3 (ix2 r c) = (((args x0 x1 x2 x3 x4).sn r c : ℝ) : EReal) := by
    rw [Angle.sin_eq]; exact sines x0 x1 x2 x3 x4
  obtain ⟨μ, hμ⟩ := RefSide.maxima (args x0 x1 x2 x3 x4) x0 x1 x2 x3 q kv kp hc hs
  refine ⟨?_, ?_, ?_⟩ <;> funext i
  · obtain ⟨n, k, rfl⟩ := Step.pair (n := 4096) (m := 2048) i
    exact RefSide.res_q _ x0 x1 x2 x3 x4 q kv kp ct hc hs μ hμ n k
  · obtain ⟨n, k, rfl⟩ := Step.pair (n := 4096) (m := 2048) i
    exact RefSide.res_kv _ x0 x1 x2 x3 x4 q kv kp ct hc hs μ hμ n k
  · obtain ⟨n, k, rfl⟩ := Step.pair (n := 4096) (m := 1024) i
    exact RefSide.res_p _ x0 x1 x2 x3 x4 q kv kp ct hc hs μ hμ n k

end Cert.Sides

end
-- ==== Proof.KRead.lean ====
/- That the region finds the rotary tables, the attention's output and the row statistics, as the host's operations compute them. -/
module

public import proofs.«01_k».proof.Proof.KHost
public import Idealize.ShloMosaic.Lib.StableHlo.RunRead

@[expose] public section

set_option maxRecDepth 16384

noncomputable section

namespace Cert.KernelIdeal.Host

open Cert.KernelIdeal Cert.KernelIdeal.Gen Idealize.ShloMosaic Idealize.ShloMosaic.TcCoe Idealize.SL.Sem

variable {F : FTy → Type} [FloatOps F]

/-- Three blocks of a table's lanes, side by side. -/
def tables (a : FVec F S4096x32 .f32) (b : FVec F S4096x32 .f32) (c : FVec F S4096x64 .f32) : FVec F S4096x128 .f32 :=
  concatenate S4096x128 1 [⟨S4096x32, a⟩, ⟨S4096x32, b⟩, ⟨S4096x64, c⟩] concatenates_S4096x32_S4096x32_S4096x64_S4096x128_d1

theorem fold_tables (a : FVec F S4096x32 .f32) (b : FVec F S4096x32 .f32) (c : FVec F S4096x64 .f32) :
    concatenate S4096x128 1 [⟨S4096x32, a⟩, ⟨S4096x32, b⟩, ⟨S4096x64, c⟩] concatenates_S4096x32_S4096x32_S4096x64_S4096x128_d1 = tables a b c := rfl

theorem res21 (hxs hy) (W : Valuation τ sig (Elt F)) :
    (StableHlo.nary (τ := τ) ![main_v17, main_v17, main_v20] main_v21 (fun u => (concatenate S4096x128 1 [⟨S4096x32, (u 0 : (⟨S4096x32, .f32⟩ : BufTy).Contents (Elt F))⟩, ⟨S4096x32, (u 1 : (⟨S4096x32, .f32⟩ : BufTy).Contents (Elt F))⟩, ⟨S4096x64, (u 2 : (⟨S4096x64, .f32⟩ : BufTy).Contents (Elt F))⟩] concatenates_S4096x32_S4096x32_S4096x64_S4096x128_d1 : (⟨S4096x128, .f32⟩ : BufTy).Contents (Elt F))) hxs hy).result W (no_index (Proc.devRef .tc main_v21)) =
      tables (W (Proc.devRef .tc main_v17)) (W (Proc.devRef .tc main_v17)) (W (Proc.devRef .tc main_v20)) := StableHlo.nary_result' ..

theorem res23 (hxs hy) (W : Valuation τ sig (Elt F)) :
    (StableHlo.nary (τ := τ) ![main_v22, main_v19, main_v20] main_v23 (fun u => (concatenate S4096x128 1 [⟨S4096x32, (u 0 : (⟨S4096x32, .f32⟩ : BufTy).Contents (Elt F))⟩, ⟨S4096x32, (u 1 : (⟨S4096x32, .f32⟩ : BufTy).Contents (Elt F))⟩, ⟨S4096x64, (u 2 : (⟨S4096x64, .f32⟩ : BufTy).Contents (Elt F))⟩] concatenates_S4096x32_S4096x32_S4096x64_S4096x128_d1 : (⟨S4096x128, .f32⟩ : BufTy).Contents (Elt F))) hxs hy).result W (no_index (Proc.devRef .tc main_v23)) =
      tables (W (Proc.devRef .tc main_v22)) (W (Proc.devRef .tc main_v19)) (W (Proc.devRef .tc main_v20)) := StableHlo.nary_result' ..

theorem res24 (hxs hy) (W : Valuation τ sig (Elt F)) :
    (StableHlo.nary (τ := τ) ![main_v19, main_v18, main_v20] main_v24 (fun u => (concatenate S4096x128 1 [⟨S4096x32, (u 0 : (⟨S4096x32, .f32⟩ : BufTy).Contents (Elt F))⟩, ⟨S4096x32, (u 1 : (⟨S4096x32, .f32⟩ : BufTy).Contents (Elt F))⟩, ⟨S4096x64, (u 2 : (⟨S4096x64, .f32⟩ : BufTy).Contents (Elt F))⟩] concatenates_S4096x32_S4096x32_S4096x64_S4096x128_d1 : (⟨S4096x128, .f32⟩ : BufTy).Contents (Elt F))) hxs hy).result W (no_index (Proc.devRef .tc main_v24)) =
      tables (W (Proc.devRef .tc main_v19)) (W (Proc.devRef .tc main_v18)) (W (Proc.devRef .tc main_v20)) := StableHlo.nary_result' ..

/-- Two halves of a table's lanes, side by side. -/
def wide (a : FVec F S4096x128 .f32) (b : FVec F S4096x128 .f32) : FVec F S4096x256 .f32 :=
  concatenate S4096x256 1 [⟨S4096x128, a⟩, ⟨S4096x128, b⟩] concatenates_S4096x128_S4096x128_S4096x256_d1

theorem fold_wide (a : FVec F S4096x128 .f32) (b : FVec F S4096x128 .f32) :
    concatenate S4096x256 1 [⟨S4096x128, a⟩, ⟨S4096x128, b⟩] concatenates_S4096x128_S4096x128_S4096x256_d1 = wide a b := rfl

/-- A query's three blocks of lanes, side by side. -/
def queries (a : FVec F S4096x8x128 .f32) (b : FVec F S4096x8x32 .f32) (c : FVec F S4096x8x32 .f32) : FVec F S4096x8x192 .f32 :=
  concatenate S4096x8x192 2 [⟨S4096x8x128, a⟩, ⟨S4096x8x32, b⟩, ⟨S4096x8x32, c⟩] concatenates_S4096x8x128_S4096x8x32_S4096x8x32_S4096x8x192_d2

theorem fold_queries (a : FVec F S4096x8x128 .f32) (b : FVec F S4096x8x32 .f32) (c : FVec F S4096x8x32 .f32) :
    concatenate S4096x8x192 2 [⟨S4096x8x128, a⟩, ⟨S4096x8x32, b⟩, ⟨S4096x8x32, c⟩] concatenates_S4096x8x128_S4096x8x32_S4096x8x32_S4096x8x192_d2 = queries a b c := rfl

theorem res50 (hxs hy) (W : Valuation τ sig (Elt F)) :
    (StableHlo.nary (τ := τ) ![main_v39, main_v44, main_v49] main_v50 (fun u => (concatenate S4096x8x192 2 [⟨S4096x8x128, (u 0 : (⟨S4096x8x128, .f32⟩ : BufTy).Contents (Elt F))⟩, ⟨S4096x8x32, (u 1 : (⟨S4096x8x32, .f32⟩ : BufTy).Contents (Elt F))⟩, ⟨S4096x8x32, (u 2 : (⟨S4096x8x32, .f32⟩ : BufTy).Contents (Elt F))⟩] concatenates_S4096x8x128_S4096x8x32_S4096x8x32_S4096x8x192_d2 : (⟨S4096x8x192, .f32⟩ : BufTy).Contents (Elt F))) hxs hy).result W (no_index (Proc.devRef .tc main_v50)) =
      queries (W (Proc.devRef .tc main_v39)) (W (Proc.devRef .tc main_v44)) (W (Proc.devRef .tc main_v49)) := StableHlo.nary_result' ..

/-- A key's two blocks of lanes, side by side. -/
def keysOf (a : FVec F S4096x8x128 .f32) (b : FVec F S4096x8x64 .f32) : FVec F S4096x8x192 .f32 :=
  concatenate S4096x8x192 2 [⟨S4096x8x128, a⟩, ⟨S4096x8x64, b⟩] concatenates_S4096x8x128_S4096x8x64_S4096x8x192_d2

theorem fold_keysOf (a : FVec F S4096x8x128 .f32) (b : FVec F S4096x8x64 .f32) :
    concatenate S4096x8x192 2 [⟨S4096x8x128, a⟩, ⟨S4096x8x64, b⟩] concatenates_S4096x8x128_S4096x8x64_S4096x8x192_d2 = keysOf a b := rfl

theorem res82 (hx hy) (W : Valuation τ sig (Elt F)) :
    (StableHlo.reshape (τ := τ) (Val := Elt F) main_v81 main_v82 (rfl : (.f32 : EltTy) = .f32) shapeCasts_S4096x8x128_S4096x1024 hx hy).result W (no_index (Proc.devRef .tc main_v82)) =
      shapeCast S4096x1024 (W (Proc.devRef .tc main_v81)) shapeCasts_S4096x8x128_S4096x1024 := StableHlo.reshape_result' ..

theorem res83 (hx hy) (W : Valuation τ sig (Elt F)) :
    (StableHlo.reshape (τ := τ) (Val := Elt F) main_v74 main_v83 (rfl : (.f32 : EltTy) = .f32) shapeCasts_S4096x8x128_S4096x1024 hx hy).result W (no_index (Proc.devRef .tc main_v83)) =
      shapeCast S4096x1024 (W (Proc.devRef .tc main_v74)) shapeCasts_S4096x8x128_S4096x1024 := StableHlo.reshape_result' ..

theorem res32 (hx hy) (W : Valuation τ sig (Elt F)) :
    (StableHlo.reshape (τ := τ) (Val := Elt F) main_v31 main_v32 (rfl : (.f32 : EltTy) = .f32) shapeCasts_S4096x2048_S4096x8x256 hx hy).result W (no_index (Proc.devRef .tc main_v32)) =
      shapeCast S4096x8x256 (W (Proc.devRef .tc main_v31)) shapeCasts_S4096x2048_S4096x8x256 := StableHlo.reshape_result' ..

theorem res52 (hx hy) (W : Valuation τ sig (Elt F)) :
    (StableHlo.reshape (τ := τ) (Val := Elt F) main_v51 main_v52 (rfl : (.f32 : EltTy) = .f32) shapeCasts_S4096x2048_S4096x8x256 hx hy).result W (no_index (Proc.devRef .tc main_v52)) =
      shapeCast S4096x8x256 (W (Proc.devRef .tc main_v51)) shapeCasts_S4096x2048_S4096x8x256 := StableHlo.reshape_result' ..

variable [Named F] (m : (ℓ : Loc nD τ sig) → Buf (Elt F) ℓ)

set_option maxHeartbeats 8000000 in
/-- The region's first rotary table. -/
theorem V26 (c : Dev nD) : V m c main_v26 = h26 (F := F) (m ((c : Thread nD τ).loc main_arg3)) := by
  simp (disch := decide) only [StableHlo.readAfter, StableHlo.readUpto, StableHlo.nullary_result', StableHlo.unary_result', StableHlo.binary_result', res21, res23, res24, res50, res82, res83, res32, res52, fold_tables, fold_wide, fold_queries, fold_keysOf]
  simp only [h26, h21, h20, hc_5, h17, h16, h15, h13, h10, h8, h6, h5, hc_1, h4, h2, h0, h1, hc, h3, hc_0, h7, hc_2, h9, hc_3, h14, h12, h11, h25, hc_6, fold_tables, fold_wide, fold_queries, fold_keysOf]

set_option maxHeartbeats 8000000 in
/-- Its second rotary table. -/
theorem V28 (c : Dev nD) : V m c main_v28 = h28 (F := F) (m ((c : Thread nD τ).loc main_arg3)) := by
  simp (disch := decide) only [StableHlo.readAfter, StableHlo.readUpto, StableHlo.nullary_result', StableHlo.unary_result', StableHlo.binary_result', res21, res23, res24, res50, res82, res83, res32, res52, fold_tables, fold_wide, fold_queries, fold_keysOf]
  simp only [h28, h23, h20, hc_5, h19, hc_4, h22, h18, h16, h15, h13, h10, h8, h6, h5, hc_1, h4, h2, h0, h1, hc, h3, hc_0, h7, hc_2, h9, hc_3, h14, h12, h11, h27, hc_7, fold_tables, fold_wide, fold_queries, fold_keysOf]

set_option maxHeartbeats 8000000 in
/-- Its third rotary table. -/
theorem V30 (c : Dev nD) : V m c main_v30 = h30 (F := F) (m ((c : Thread nD τ).loc main_arg3)) := by
  simp (disch := decide) only [StableHlo.readAfter, StableHlo.readUpto, StableHlo.nullary_result', StableHlo.unary_result', StableHlo.binary_result', res21, res23, res24, res50, res82, res83, res32, res52, fold_tables, fold_wide, fold_queries, fold_keysOf]
  simp only [h30, h24, h20, hc_5, h18, h16, h15, h13, h10, h8, h6, h5, hc_1, h4, h2, h0, h1, hc, h3, hc_0, h7, hc_2, h9, hc_3, h14, h12, h11, h19, hc_4, h29, hc_8, fold_tables, fold_wide, fold_queries, fold_keysOf]

set_option maxHeartbeats 8000000 in
/-- Its row statistics. -/
theorem V82 (c : Dev nD) : V m c main_v82 = h82 (F := F) (m ((c : Thread nD τ).loc main_arg0)) (m ((c : Thread nD τ).loc main_arg1)) (m ((c : Thread nD τ).loc main_arg2)) (m ((c : Thread nD τ).loc main_arg3)) := by
  simp (disch := decide) only [StableHlo.readAfter, StableHlo.readUpto, StableHlo.nullary_result', StableHlo.unary_result', StableHlo.binary_result', res21, res23, res24, res50, res82, res83, res32, res52, fold_tables, fold_wide, fold_queries, fold_keysOf]
  simp only [h82, h81, h80, h79, h78, h77, hc_12, h76, h75, h69, h68, hc_11, h67, h66, h65, h64, h63, hc_10, h62, h61, h60, hc_9, h59, h58, h57, h56, h55, h54, h53, h52, h51, h50, h49, h48, h47, h36, h35, h30, h24, h20, hc_5, h18, h16, h15, h13, h10, h8, h6, h5, hc_1, h4, h2, h0, h1, hc, h3, hc_0, h7, hc_2, h9, hc_3, h14, h12, h11, h19, hc_4, h29, hc_8, h37, h32, h31, h46, h45, h34, h33, h26, h21, h17, h25, hc_6, h38, h44, h43, h42, h41, h40, h39, fold_tables, fold_wide, fold_queries, fold_keysOf]

set_option maxHeartbeats 8000000 in
/-- Its padded attention output. -/
theorem V85 (c : Dev nD) : V m c main_v85 = h85 (F := F) (m ((c : Thread nD τ).loc main_arg0)) (m ((c : Thread nD τ).loc main_arg1)) (m ((c : Thread nD τ).loc main_arg2)) (m ((c : Thread nD τ).loc main_arg3)) := by
  simp (disch := decide) only [StableHlo.readAfter, StableHlo.readUpto, StableHlo.nullary_result', StableHlo.unary_result', StableHlo.binary_result', res21, res23, res24, res50, res82, res83, res32, res52, fold_tables, fold_wide, fold_queries, fold_keysOf]
  simp -implicitDefEqProofs only [StableHlo.TRef.toBuf, StableHlo.TRef.ofBuf, cast_cast, cast_eq]
  simp only [h85, h84, hz, h83, h74, h73, h71, h70, h69, h68, hc_11, h67, h66, h65, h64, h63, hc_10, h62, h61, h60, hc_9, h59, h58, h57, h56, h55, h54, h53, h52, h51, h50, h49, h48, h47, h36, h35, h30, h24, h20, hc_5, h18, h16, h15, h13, h10, h8, h6, h5, hc_1, h4, h2, h0, h1, hc, h3, hc_0, h7, hc_2, h9, hc_3, h14, h12, h11, h19, hc_4, h29, hc_8, h37, h32, h31, h46, h45, h34, h33, h26, h21, h17, h25, hc_6, h38, h44, h43, h42, h41, h40, h39, h72, fold_tables, fold_wide, fold_queries, fold_keysOf]

end Cert.KernelIdeal.Host

end
-- ==== Proof.KernelSide.lean ====
module

public import proofs.«01_k».proof.Proof.Args
public import proofs.«01_k».proof.Proof.KRead

@[expose] public section

set_option maxRecDepth 16384

noncomputable section

namespace Cert.Sides

open Idealize.ShloMosaic Idealize.ShloMosaic.TcCoe Idealize.SL.Sem Cert.Model Cert.KernelIdeal

variable (m : (ℓ : Loc nD τ sig) → Buf (Elt Ideal) ℓ) (c : Dev nD)

/-- The real numbers in the arguments a device is launched with. -/
def launched : Args := args (m ((c : Thread nD τ).loc main_arg0)) (m ((c : Thread nD τ).loc main_arg1)) (m ((c : Thread nD τ).loc main_arg2))
  (m ((c : Thread nD τ).loc main_arg3)) (m ((c : Thread nD τ).loc main_arg4))

variable (h : Cert.Pre_finite.fn (F := Ideal) (m ((c : Thread nD τ).loc main_arg0)) (m ((c : Thread nD τ).loc main_arg1))
  (m ((c : Thread nD τ).loc main_arg2)) (m ((c : Thread nD τ).loc main_arg3)) (m ((c : Thread nD τ).loc main_arg4)) = fun _ => 1#1)
include h

/-- What the region finds. -/
theorem given : ∃ μ, Step.Given (launched m c) m c μ := by
  have q := qs _ _ _ _ _ h
  have kv := kvs _ _ _ _ _ h
  have kp := kps _ _ _ _ _ h
  have ct := cts _ _ _ _ _ h
  have hc := cosines (m ((c : Thread nD τ).loc main_arg0)) (m ((c : Thread nD τ).loc main_arg1)) (m ((c : Thread nD τ).loc main_arg2))
    (m ((c : Thread nD τ).loc main_arg3)) (m ((c : Thread nD τ).loc main_arg4))
  have hs := sines (m ((c : Thread nD τ).loc main_arg0)) (m ((c : Thread nD τ).loc main_arg1)) (m ((c : Thread nD τ).loc main_arg2))
    (m ((c : Thread nD τ).loc main_arg3)) (m ((c : Thread nD τ).loc main_arg4))
  obtain ⟨μ, hμ⟩ := Host.maxima _ _ _ _ _ q kv kp hc hs
  refine ⟨μ, q, kv, kp, ct, fun r d => ?_, fun r d => ?_, fun r d => ?_, fun r d hd => ?_, fun r d => ?_⟩
  · rw [Host.V26]; exact Host.table_c _ _ hc r d
  · rw [Host.V28]; exact Host.table_a _ _ hs r d
  · rw [Host.V30]; exact Host.table_b _ _ hs r d
  · rw [Host.V85]; exact Host.output _ _ _ _ _ q kv kp hc hs μ hμ r d hd
  · rw [Host.V82]; exact Host.statistics _ _ _ _ _ q kv kp hc hs μ hμ r d

end Cert.Sides

end
-- ==== Proof.FwdRef.lean ====
/- The reference of the forward attention: its result over the real numbers. -/
module

public import proofs.«01_k».proof.Proof.Model
public import proofs.«01_k».proof.Proof.Coe
public import proofs.«01_k».proof.Proof.Gen.MlaFwdRefIdeal.Read

@[expose] public section

set_option maxRecDepth 16384

noncomputable section

namespace Cert.FwdRef

open Finset Idealize.ShloMosaic Cert.Model Cert.Coe Cert.MlaFwdRefIdeal Cert.MlaFwdRefIdeal.Read

variable (A : Args)
  (x0 x1 : FVec Ideal S4096x2048 .bf16) (x2 : FVec Ideal S4096x128 .bf16) (x3 : (⟨S4096, .i32⟩ : BufTy).Contents (Elt Ideal))
  (h0 : ∀ (r : Fin 4096) (c : Fin 2048), x0 (ix2 r c) = ((A.q r c : ℝ) : EReal))
  (h1 : ∀ (r : Fin 4096) (c : Fin 2048), x1 (ix2 r c) = ((A.kv r c : ℝ) : EReal))
  (h2 : ∀ (r : Fin 4096) (c : Fin 128), x2 (ix2 r c) = ((A.kp r c : ℝ) : EReal))
  (hc : ∀ (r : Fin 4096) (c : Fin 32), val_main_v17 (F := Ideal) x3 (ix2 r c) = ((A.cs r c : ℝ) : EReal))
  (hs : ∀ (r : Fin 4096) (c : Fin 32), val_main_v18 (F := Ideal) x3 (ix2 r c) = ((A.sn r c : ℝ) : EReal))

include h0 hc hs in
/-- The rotated queries. -/
theorem query (n : Fin 4096) (h : Fin 8) (d : Fin 192) :
    val_main_v41 (F := Ideal) x0 x3 (ix3 n h d) = ((qh A n h d : ℝ) : EReal) := by
  pointwise [val_main_v41, val_main_v40, val_main_v39, val_main_v38, val_main_v37, val_main_v36, val_main_v35, val_main_v34, val_main_v33,
    val_main_v32, val_main_v31, val_main_v30, val_main_v29, val_main_v28, val_main_v27, val_main_v26, val_main_v25, val_main_v24, val_main_v23, val_main_v22, val_main_v19]
  have hd := d.isLt
  unfold qh
  simp only [h0, hc, hs, mul_coe, sub_coe, add_coe]
  split_ifs <;> first | omega | rfl | skip
  all_goals (congr 1; try simp only [Nat.sub_sub])
  · rw [show (128 + (d.val - 128)) = d.val by omega, show (128 + (32 + (d.val - 128))) = d.val + 32 by omega]
  · rw [show (128 + (32 + (d.val - 160))) = d.val by omega, show (128 + (d.val - 160)) = d.val - 32 by omega]

include h1 h2 in
/-- The keys. -/
theorem keys (n : Fin 4096) (h : Fin 8) (d : Fin 192) :
    val_main_v48 (F := Ideal) x1 x2 (ix3 n h d) = ((key A n h d : ℝ) : EReal) := by
  pointwise [val_main_v48, val_main_v47, val_main_v46, val_main_v45, val_main_v43, val_main_v42, val_main_v21, val_main_v20]
  unfold key
  simp only [h1, h2]
  split_ifs <;> rfl

include h1 in
/-- The values. -/
theorem values (n : Fin 4096) (h : Fin 8) (d : Fin 128) :
    val_main_v44 (F := Ideal) x1 (ix3 n h d) = ((val A n h d : ℝ) : EReal) := by
  pointwise [val_main_v44, val_main_v42, val_main_v20]
  simp only [h1]; rfl

include h0 h1 h2 hc hs in
/-- Queries times keys. -/
theorem dots (n k : Fin 4096) (h : Fin 8) :
    val_main_v49 (F := Ideal) x0 x1 x2 x3 (ix3 h n k) = ((dotp A n h k : ℝ) : EReal) := by
  pointwise [val_main_v49]
  exact sum_fin 192 _ (fun d => qh A n h d * key A k h d) fun d => by
    rw [query A x0 x3 h0 hc hs, keys A x1 x2 h1 h2, mul_coe]

theorem root (i : S_.Idx) : val_main_v50 (F := Ideal) i = ((Real.sqrt 192 : ℝ) : EReal) := by
  pointwise [val_main_v50, val_main_cst_4]
  rw [bits_192, sqrt_coe _ (by norm_num)]

include h0 h1 h2 hc hs in
/-- The scores. -/
theorem scores (n k : Fin 4096) (h : Fin 8) :
    val_main_v52 (F := Ideal) x0 x1 x2 x3 (ix3 h n k) = ((sc A n h k : ℝ) : EReal) := by
  pointwise [val_main_v52, val_main_v51]
  rw [dots A x0 x1 x2 x3 h0 h1 h2 hc hs, root, div_coe _ _ sqrt192_ne]; rfl

include h0 h1 h2 hc hs in
/-- A row's maximum is a real. -/
theorem maximum (h : Fin 8) (n : Fin 4096) : ∃ μ : ℝ, val_main_v55 (F := Ideal) x0 x1 x2 x3 (ix2 h n) = ((μ : ℝ) : EReal) := by
  obtain ⟨μ, e⟩ := reduce_max Gen.reducesTo_S8x4096x4096_S8x4096_d2 (val_main_v52 (F := Ideal) x0 x1 x2 x3) (val_main_cst_5 (F := Ideal)) Gen.h_S_ (ix2 h n)
    (by norm_num) (fun _ => bits_ninf) (fun k => sc A n h k) (fun k => scores A x0 x1 x2 x3 h0 h1 h2 hc hs n k h)
  refine ⟨μ, ?_⟩
  rw [val_main_v55_apply, val_main_v53, e]
  pointwise [val_main_v54, val_main_cst_6]
  rw [bits_ninf, max_bot_left]

include h0 h1 h2 hc hs in
/-- The rows' maxima are reals. -/
theorem maxima : ∃ μ : ℕ → ℕ → ℝ, ∀ (h : Fin 8) (n : Fin 4096), val_main_v55 (F := Ideal) x0 x1 x2 x3 (ix2 h n) = ((μ h n : ℝ) : EReal) :=
  choice (fun h n => maximum A x0 x1 x2 x3 h0 h1 h2 hc hs h n)

variable (μ : ℕ → ℕ → ℝ) (hμ : ∀ (h : Fin 8) (n : Fin 4096), val_main_v55 (F := Ideal) x0 x1 x2 x3 (ix2 h n) = ((μ h n : ℝ) : EReal))

include h0 h1 h2 hc hs hμ in
/-- The exponentials. -/
theorem exps (n k : Fin 4096) (h : Fin 8) :
    val_main_v59 (F := Ideal) x0 x1 x2 x3 (ix3 h n k) = ((Real.exp (sc A n h k - μ h n) : ℝ) : EReal) := by
  pointwise [val_main_v59, val_main_v58, val_main_v57, val_main_v56]
  rw [scores A x0 x1 x2 x3 h0 h1 h2 hc hs, hμ, sub_coe, exp_coe]

/-- The denominator. -/
def L (h n : ℕ) : ℝ := ∑ k ∈ range 4096, Real.exp (sc A n h k - μ h n)

theorem L_pos (h n : ℕ) : 0 < L A μ h n := Finset.sum_pos (fun _ _ => Real.exp_pos _) ⟨0, by simp⟩

include h0 h1 h2 hc hs hμ in
theorem denominators (n : Fin 4096) (h : Fin 8) :
    val_main_v60 (F := Ideal) x0 x1 x2 x3 (ix2 h n) = ((L A μ h n : ℝ) : EReal) := by
  pointwise [val_main_v60, val_main_cst_7]
  exact sum_fin 4096 _ (fun k => Real.exp (sc A n h k - μ h n)) fun k => exps A x0 x1 x2 x3 h0 h1 h2 hc hs μ hμ n k h

include h0 h1 h2 hc hs hμ in
/-- The weights. -/
theorem weights (n k : Fin 4096) (h : Fin 8) :
    val_main_v63 (F := Ideal) x0 x1 x2 x3 (ix3 h n k) = ((pr A n h k : ℝ) : EReal) := by
  pointwise [val_main_v63, val_main_v62, val_main_v61]
  rw [exps A x0 x1 x2 x3 h0 h1 h2 hc hs μ hμ, denominators A x0 x1 x2 x3 h0 h1 h2 hc hs μ hμ, div_coe _ _ (L_pos A μ h n).ne']
  exact congrArg _ (shifted A n h k (μ h n))

include h0 h1 h2 hc hs hμ in
/-- The attention's output, head by head. -/
theorem outs (n : Fin 4096) (h : Fin 8) (d : Fin 128) : val_main_v64 (F := Ideal) x0 x1 x2 x3 (ix3 h d n) = ((out A n h d : ℝ) : EReal) := by
  pointwise [val_main_v64]
  exact sum_fin 4096 _ (fun k => pr A n h k * Model.val A k h d) fun k => by
    rw [values A x1 h1, weights A x0 x1 x2 x3 h0 h1 h2 hc hs μ hμ, mul_coe, mul_comm]

include h0 h1 h2 hc hs hμ in
/-- The reference's result: the heads side by side. -/
theorem output (n : Fin 4096) (c : Fin 1024) :
    val_main_v67 (F := Ideal) x0 x1 x2 x3 (ix2 n c) = ((out A n (c / 128) (c % 128) : ℝ) : EReal) := by
  pointwise [val_main_v67, val_main_v66, val_main_v65]
  simp only [outs A x0 x1 x2 x3 h0 h1 h2 hc hs μ hμ]

end Cert.FwdRef

end
-- ==== Proof.FwdTables.lean ====
/- That the forward attention's region finds the rotary tables, as the host's operations compute them. -/
module

public import proofs.«01_k».proof.Proof.Model
public import proofs.«01_k».proof.Proof.Coe
public import proofs.«01_k».proof.Proof.Gen.MlaFwdIdeal.Frame.Runs
public import Idealize.ShloMosaic.Lib.StableHlo.RunRead

@[expose] public section

set_option maxRecDepth 16384

noncomputable section

namespace Cert.MlaFwdIdeal.Host

open Cert.MlaFwdIdeal Cert.MlaFwdIdeal.Gen Idealize.ShloMosaic Idealize.ShloMosaic.TcCoe Idealize.SL.Sem

variable {F : FTy → Type} [FloatOps F]

def h0 : (⟨S32, .f32⟩ : BufTy).Contents (Elt F) :=
  (sitofp .f32 (iotaInDim S32 32 0))
def hc : (⟨S_, .f32⟩ : BufTy).Contents (Elt F) :=
  (constant S_ .f32 0x40000000#32)
def h1 : (⟨S32, .f32⟩ : BufTy).Contents (Elt F) :=
  (broadcastInDim S32 ![] bcast_S_S32) (hc (F := F))
def h2 : (⟨S32, .f32⟩ : BufTy).Contents (Elt F) :=
  (mulf) (h1 (F := F)) (h0 (F := F))
def hc_0 : (⟨S_, .f32⟩ : BufTy).Contents (Elt F) :=
  (constant S_ .f32 0x00000000#32)
def h3 : (⟨S32, .f32⟩ : BufTy).Contents (Elt F) :=
  (broadcastInDim S32 ![] bcast_S_S32) (hc_0 (F := F))
def h4 : (⟨S32, .f32⟩ : BufTy).Contents (Elt F) :=
  (addf) (h3 (F := F)) (h2 (F := F))
def hc_1 : (⟨S_, .f32⟩ : BufTy).Contents (Elt F) :=
  (constant S_ .f32 0x42800000#32)
def h5 : (⟨S32, .f32⟩ : BufTy).Contents (Elt F) :=
  (broadcastInDim S32 ![] bcast_S_S32) (hc_1 (F := F))
def h6 : (⟨S32, .f32⟩ : BufTy).Contents (Elt F) :=
  (Host.divf) (h4 (F := F)) (h5 (F := F))
def hc_2 : (⟨S_, .f32⟩ : BufTy).Contents (Elt F) :=
  (constant S_ .f32 0x461C4000#32)
def h7 : (⟨S32, .f32⟩ : BufTy).Contents (Elt F) :=
  (broadcastInDim S32 ![] bcast_S_S32) (hc_2 (F := F))
def h8 : (⟨S32, .f32⟩ : BufTy).Contents (Elt F) :=
  (Host.powf) (h7 (F := F)) (h6 (F := F))
def hc_3 : (⟨S_, .f32⟩ : BufTy).Contents (Elt F) :=
  (constant S_ .f32 0x3F800000#32)
def h9 : (⟨S32, .f32⟩ : BufTy).Contents (Elt F) :=
  (broadcastInDim S32 ![] bcast_S_S32) (hc_3 (F := F))
def h10 : (⟨S32, .f32⟩ : BufTy).Contents (Elt F) :=
  (Host.divf) (h9 (F := F)) (h8 (F := F))
def h11 (x3 : IVec S4096 32) : (⟨S4096, .f32⟩ : BufTy).Contents (Elt F) :=
  (sitofp .f32) x3
def h12 (x3 : IVec S4096 32) : (⟨S4096x1, .f32⟩ : BufTy).Contents (Elt F) :=
  (broadcastInDim S4096x1 ![0] bcast_S4096_S4096x1_0) (h11 (F := F) x3)
def h13 : (⟨S1x32, .f32⟩ : BufTy).Contents (Elt F) :=
  (broadcastInDim S1x32 ![1] bcast_S32_S1x32_1) (h10 (F := F))
def h14 (x3 : IVec S4096 32) : (⟨S4096x32, .f32⟩ : BufTy).Contents (Elt F) :=
  (broadcastInDim S4096x32 ![0, 1] bcast_S4096x1_S4096x32_0_1) (h12 (F := F) x3)
def h15 : (⟨S4096x32, .f32⟩ : BufTy).Contents (Elt F) :=
  (broadcastInDim S4096x32 ![0, 1] bcast_S1x32_S4096x32_0_1) (h13 (F := F))
def h16 (x3 : IVec S4096 32) : (⟨S4096x32, .f32⟩ : BufTy).Contents (Elt F) :=
  (mulf) (h14 (F := F) x3) (h15 (F := F))
def h17 (x3 : IVec S4096 32) : (⟨S4096x32, .f32⟩ : BufTy).Contents (Elt F) :=
  (Host.cos) (h16 (F := F) x3)
def h18 (x3 : IVec S4096 32) : (⟨S4096x32, .f32⟩ : BufTy).Contents (Elt F) :=
  (Host.sin) (h16 (F := F) x3)
def hc_4 : (⟨S_, .f32⟩ : BufTy).Contents (Elt F) :=
  (constant S_ .f32 0x00000000#32)
def h19 : (⟨S4096x32, .f32⟩ : BufTy).Contents (Elt F) :=
  (broadcastInDim S4096x32 ![] bcast_S_S4096x32) (hc_4 (F := F))
def hc_5 : (⟨S_, .f32⟩ : BufTy).Contents (Elt F) :=
  (constant S_ .f32 0x00000000#32)
def h20 : (⟨S4096x64, .f32⟩ : BufTy).Contents (Elt F) :=
  (broadcastInDim S4096x64 ![] bcast_S_S4096x64) (hc_5 (F := F))
def h21 (x3 : IVec S4096 32) : (⟨S4096x128, .f32⟩ : BufTy).Contents (Elt F) :=
  concatenate S4096x128 1 [⟨S4096x32, (h17 (F := F) x3)⟩, ⟨S4096x32, (h17 (F := F) x3)⟩, ⟨S4096x64, (h20 (F := F))⟩] concatenates_S4096x32_S4096x32_S4096x64_S4096x128_d1
def h22 (x3 : IVec S4096 32) : (⟨S4096x32, .f32⟩ : BufTy).Contents (Elt F) :=
  (Host.negf) (h18 (F := F) x3)
def h23 (x3 : IVec S4096 32) : (⟨S4096x128, .f32⟩ : BufTy).Contents (Elt F) :=
  concatenate S4096x128 1 [⟨S4096x32, (h22 (F := F) x3)⟩, ⟨S4096x32, (h19 (F := F))⟩, ⟨S4096x64, (h20 (F := F))⟩] concatenates_S4096x32_S4096x32_S4096x64_S4096x128_d1
def h24 (x3 : IVec S4096 32) : (⟨S4096x128, .f32⟩ : BufTy).Contents (Elt F) :=
  concatenate S4096x128 1 [⟨S4096x32, (h19 (F := F))⟩, ⟨S4096x32, (h18 (F := F) x3)⟩, ⟨S4096x64, (h20 (F := F))⟩] concatenates_S4096x32_S4096x32_S4096x64_S4096x128_d1
def hc_6 : (⟨S_, .f32⟩ : BufTy).Contents (Elt F) :=
  (constant S_ .f32 0x3F800000#32)
def h25 : (⟨S4096x128, .f32⟩ : BufTy).Contents (Elt F) :=
  (broadcastInDim S4096x128 ![] bcast_S_S4096x128) (hc_6 (F := F))
def h26 (x3 : IVec S4096 32) : (⟨S4096x256, .f32⟩ : BufTy).Contents (Elt F) :=
  ((fun a b => concatenate S4096x256 1 [⟨S4096x128, a⟩, ⟨S4096x128, b⟩] concatenates_S4096x128_S4096x128_S4096x256_d1)) (h25 (F := F)) (h21 (F := F) x3)
def hc_7 : (⟨S_, .f32⟩ : BufTy).Contents (Elt F) :=
  (constant S_ .f32 0x00000000#32)
def h27 : (⟨S4096x128, .f32⟩ : BufTy).Contents (Elt F) :=
  (broadcastInDim S4096x128 ![] bcast_S_S4096x128) (hc_7 (F := F))
def h28 (x3 : IVec S4096 32) : (⟨S4096x256, .f32⟩ : BufTy).Contents (Elt F) :=
  ((fun a b => concatenate S4096x256 1 [⟨S4096x128, a⟩, ⟨S4096x128, b⟩] concatenates_S4096x128_S4096x128_S4096x256_d1)) (h27 (F := F)) (h23 (F := F) x3)
def hc_8 : (⟨S_, .f32⟩ : BufTy).Contents (Elt F) :=
  (constant S_ .f32 0x00000000#32)
def h29 : (⟨S4096x128, .f32⟩ : BufTy).Contents (Elt F) :=
  (broadcastInDim S4096x128 ![] bcast_S_S4096x128) (hc_8 (F := F))
def h30 (x3 : IVec S4096 32) : (⟨S4096x256, .f32⟩ : BufTy).Contents (Elt F) :=
  ((fun a b => concatenate S4096x256 1 [⟨S4096x128, a⟩, ⟨S4096x128, b⟩] concatenates_S4096x128_S4096x128_S4096x256_d1)) (h29 (F := F)) (h24 (F := F) x3)

/-- Three blocks of a table's lanes, side by side. -/
def tables (a : FVec F S4096x32 .f32) (b : FVec F S4096x32 .f32) (c : FVec F S4096x64 .f32) : FVec F S4096x128 .f32 :=
  concatenate S4096x128 1 [⟨S4096x32, a⟩, ⟨S4096x32, b⟩, ⟨S4096x64, c⟩] concatenates_S4096x32_S4096x32_S4096x64_S4096x128_d1

theorem fold_tables (a : FVec F S4096x32 .f32) (b : FVec F S4096x32 .f32) (c : FVec F S4096x64 .f32) :
    concatenate S4096x128 1 [⟨S4096x32, a⟩, ⟨S4096x32, b⟩, ⟨S4096x64, c⟩] concatenates_S4096x32_S4096x32_S4096x64_S4096x128_d1 = tables a b c := rfl

theorem res21 (hxs hy) (W : Valuation τ sig (Elt F)) :
    (StableHlo.nary (τ := τ) ![main_v17, main_v17, main_v20] main_v21 (fun u => (concatenate S4096x128 1 [⟨S4096x32, (u 0 : (⟨S4096x32, .f32⟩ : BufTy).Contents (Elt F))⟩, ⟨S4096x32, (u 1 : (⟨S4096x32, .f32⟩ : BufTy).Contents (Elt F))⟩, ⟨S4096x64, (u 2 : (⟨S4096x64, .f32⟩ : BufTy).Contents (Elt F))⟩] concatenates_S4096x32_S4096x32_S4096x64_S4096x128_d1 : (⟨S4096x128, .f32⟩ : BufTy).Contents (Elt F))) hxs hy).result W (no_index (Proc.devRef .tc main_v21)) =
      tables (W (Proc.devRef .tc main_v17)) (W (Proc.devRef .tc main_v17)) (W (Proc.devRef .tc main_v20)) := StableHlo.nary_result' ..

theorem res23 (hxs hy) (W : Valuation τ sig (Elt F)) :
    (StableHlo.nary (τ := τ) ![main_v22, main_v19, main_v20] main_v23 (fun u => (concatenate S4096x128 1 [⟨S4096x32, (u 0 : (⟨S4096x32, .f32⟩ : BufTy).Contents (Elt F))⟩, ⟨S4096x32, (u 1 : (⟨S4096x32, .f32⟩ : BufTy).Contents (Elt F))⟩, ⟨S4096x64, (u 2 : (⟨S4096x64, .f32⟩ : BufTy).Contents (Elt F))⟩] concatenates_S4096x32_S4096x32_S4096x64_S4096x128_d1 : (⟨S4096x128, .f32⟩ : BufTy).Contents (Elt F))) hxs hy).result W (no_index (Proc.devRef .tc main_v23)) =
      tables (W (Proc.devRef .tc main_v22)) (W (Proc.devRef .tc main_v19)) (W (Proc.devRef .tc main_v20)) := StableHlo.nary_result' ..

theorem res24 (hxs hy) (W : Valuation τ sig (Elt F)) :
    (StableHlo.nary (τ := τ) ![main_v19, main_v18, main_v20] main_v24 (fun u => (concatenate S4096x128 1 [⟨S4096x32, (u 0 : (⟨S4096x32, .f32⟩ : BufTy).Contents (Elt F))⟩, ⟨S4096x32, (u 1 : (⟨S4096x32, .f32⟩ : BufTy).Contents (Elt F))⟩, ⟨S4096x64, (u 2 : (⟨S4096x64, .f32⟩ : BufTy).Contents (Elt F))⟩] concatenates_S4096x32_S4096x32_S4096x64_S4096x128_d1 : (⟨S4096x128, .f32⟩ : BufTy).Contents (Elt F))) hxs hy).result W (no_index (Proc.devRef .tc main_v24)) =
      tables (W (Proc.devRef .tc main_v19)) (W (Proc.devRef .tc main_v18)) (W (Proc.devRef .tc main_v20)) := StableHlo.nary_result' ..

/-- Two halves of a table's lanes, side by side. -/
def wide (a : FVec F S4096x128 .f32) (b : FVec F S4096x128 .f32) : FVec F S4096x256 .f32 :=
  concatenate S4096x256 1 [⟨S4096x128, a⟩, ⟨S4096x128, b⟩] concatenates_S4096x128_S4096x128_S4096x256_d1

theorem fold_wide (a : FVec F S4096x128 .f32) (b : FVec F S4096x128 .f32) :
    concatenate S4096x256 1 [⟨S4096x128, a⟩, ⟨S4096x128, b⟩] concatenates_S4096x128_S4096x128_S4096x256_d1 = wide a b := rfl

variable [Named F] (m : (ℓ : Loc nD τ sig) → Buf (Elt F) ℓ)

set_option maxHeartbeats 8000000 in
/-- The region's first rotary table. -/
theorem V26 (c : Dev nD) : V m c main_v26 = h26 (F := F) (m ((c : Thread nD τ).loc main_arg3)) := by
  simp (disch := decide) only [StableHlo.readAfter, StableHlo.readUpto, StableHlo.nullary_result', StableHlo.unary_result', StableHlo.binary_result', res21, res23, res24, fold_tables, fold_wide]
  simp only [h26, h21, h20, hc_5, h17, h16, h15, h13, h10, h8, h6, h5, hc_1, h4, h2, h0, h1, hc, h3, hc_0, h7, hc_2, h9, hc_3, h14, h12, h11, h25, hc_6, fold_tables, fold_wide]

set_option maxHeartbeats 8000000 in
/-- Its second rotary table. -/
theorem V28 (c : Dev nD) : V m c main_v28 = h28 (F := F) (m ((c : Thread nD τ).loc main_arg3)) := by
  simp (disch := decide) only [StableHlo.readAfter, StableHlo.readUpto, StableHlo.nullary_result', StableHlo.unary_result', StableHlo.binary_result', res21, res23, res24, fold_tables, fold_wide]
  simp only [h28, h23, h20, hc_5, h19, hc_4, h22, h18, h16, h15, h13, h10, h8, h6, h5, hc_1, h4, h2, h0, h1, hc, h3, hc_0, h7, hc_2, h9, hc_3, h14, h12, h11, h27, hc_7, fold_tables, fold_wide]

set_option maxHeartbeats 8000000 in
/-- Its third rotary table. -/
theorem V30 (c : Dev nD) : V m c main_v30 = h30 (F := F) (m ((c : Thread nD τ).loc main_arg3)) := by
  simp (disch := decide) only [StableHlo.readAfter, StableHlo.readUpto, StableHlo.nullary_result', StableHlo.unary_result', StableHlo.binary_result', res21, res23, res24, fold_tables, fold_wide]
  simp only [h30, h24, h20, hc_5, h18, h16, h15, h13, h10, h8, h6, h5, hc_1, h4, h2, h0, h1, hc, h3, hc_0, h7, hc_2, h9, hc_3, h14, h12, h11, h19, hc_4, h29, hc_8, fold_tables, fold_wide]

/-! ## The tables' values -/

section

open Cert.Model Cert.Coe

variable (A : Args) (x3 : IVec S4096 32)
  (hcos : ∀ (r : Fin 4096) (c : Fin 32), h17 (F := Ideal) x3 (ix2 r c) = ((A.cs r c : ℝ) : EReal))
  (hsin : ∀ (r : Fin 4096) (c : Fin 32), h18 (F := Ideal) x3 (ix2 r c) = ((A.sn r c : ℝ) : EReal))

include hcos in
/-- The first table. -/
theorem table_c (n : Fin 4096) (d : Fin 256) : h26 (F := Ideal) x3 (ix2 n d) = ((tabC A n d : ℝ) : EReal) := by
  pointwise [h26, h25, hc_6, h21, h20, hc_5]
  have hd := d.isLt
  simp only [hcos, dite_eq_ite]
  unfold tabC
  split_ifs <;> first | omega | rfl | exact EReal.coe_zero.symm | (congr 2; omega)

include hsin in
/-- The second table. -/
theorem table_a (n : Fin 4096) (d : Fin 256) : h28 (F := Ideal) x3 (ix2 n d) = ((tabA A n d : ℝ) : EReal) := by
  pointwise [h28, h27, hc_7, h23, h22, h20, hc_5, h19, hc_4]
  have hd := d.isLt
  simp only [hsin, dite_eq_ite, neg_coe]
  unfold tabA
  split_ifs <;> first | omega | rfl | exact EReal.coe_zero.symm | (congr 3; omega)

include hsin in
/-- The third table. -/
theorem table_b (n : Fin 4096) (d : Fin 256) : h30 (F := Ideal) x3 (ix2 n d) = ((tabB A n d : ℝ) : EReal) := by
  pointwise [h30, h29, hc_8, h24, h20, hc_5, h19, hc_4]
  have hd := d.isLt
  simp only [hsin, dite_eq_ite]
  unfold tabB
  split_ifs <;> first | omega | rfl | exact EReal.coe_zero.symm | (congr 2; omega)

end

end Cert.MlaFwdIdeal.Host

end
-- ==== Proof.FwdBlocks.lean ====
/- The blocks of the arrays that a point of the forward attention's grid takes, when the arrays are real. -/
module

public import proofs.«01_k».proof.Proof.Model
public import proofs.«01_k».proof.Proof.Coe
public import proofs.«01_k».proof.Proof.Gen.MlaFwdIdeal.Value
public import Idealize.ShloMosaic.Lib.Pipeline.ValueKit

@[expose] public section

set_option maxRecDepth 16384

noncomputable section

namespace Cert.FwdStep

open Finset Cert.Coe Cert.MlaFwdIdeal Cert.MlaFwdIdeal.Gen Idealize.ShloMosaic Idealize.ShloMosaic.TcCoe Idealize.SL.Sem

/-- The block each input window takes at a point: the point is a head (of eight) times a block of queries (of eight). -/
theorem idx_in : ∀ t : Fin cfg0.N,
    win0_0.index t = ![t.val % 8, t.val / 8] ∧ win0_1.index t = ![0, 2 * (t.val / 8)] ∧ win0_2.index t = ![0, 0] ∧
      win0_3.index t = ![0, 2 * (t.val / 8) + 1] ∧ win0_4.index t = ![t.val % 8, 0] ∧ win0_5.index t = ![t.val % 8, 0] ∧
      win0_6.index t = ![t.val % 8, 0] :=
  (by decide +kernel : ∀ t : Fin grid0.N, _)

/-- The block the output window takes at a point. -/
theorem idx_out : ∀ t : Fin cfg0.N, win0_7.index t = ![t.val % 8, t.val / 8] :=
  (by decide +kernel : ∀ t : Fin grid0.N, _)

variable (A : Model.Args) (m : (ℓ : Loc nD τ sig) → Buf (Elt Ideal) ℓ) (c : Dev nD) (t : Fin cfg0.N)

theorem lt_64 : t.val < 64 := lt_of_lt_of_eq t.isLt Gen.N_0

/-- The queries' block. -/
theorem block_q (ha : ∀ (r : Fin 4096) (d : Fin 2048), m ((c : Thread nD τ).loc main_arg0) (ix2 r d) = ((A.q r d : ℝ) : EReal))
    (a : Fin 512) (d : Fin 256) : iblk (F := Ideal) m c 0 t (ix2 a d) = ((A.q (t.val % 8 * 512 + a) (t.val / 8 * 256 + d) : ℝ) : EReal) := by
  have ht := lt_64 t
  have ha' := a.isLt
  have hd := d.isLt
  blk_simp [iblk, (idx_in t).1]
  refine Eq.trans (congrArg _ (?_ : _ = ix2 ⟨t.val % 8 * 512 + a, by omega⟩ ⟨t.val / 8 * 256 + d, by omega⟩)) (((congrFun (V_main_arg0 m c) _).trans (ha ⟨t.val % 8 * 512 + a, by omega⟩ ⟨t.val / 8 * 256 + d, by omega⟩)).trans (congrArg _ ?_))
  · blk_ext [(idx_in t).1]
  · rfl

/-- The keys' own lanes. -/
theorem block_k (ha : ∀ (r : Fin 4096) (d : Fin 2048), m ((c : Thread nD τ).loc main_arg1) (ix2 r d) = ((A.kv r d : ℝ) : EReal))
    (a : Fin 4096) (d : Fin 128) : iblk (F := Ideal) m c 1 t (ix2 a d) = ((A.kv a (t.val / 8 * 256 + d) : ℝ) : EReal) := by
  have ht := lt_64 t
  have ha' := a.isLt
  have hd := d.isLt
  blk_simp [iblk, (idx_in t).2.1]
  refine Eq.trans (congrArg _ (?_ : _ = ix2 ⟨a, by omega⟩ ⟨2 * (t.val / 8) * 128 + d, by omega⟩)) (((congrFun (V_main_arg1 m c) _).trans (ha ⟨a, by omega⟩ ⟨2 * (t.val / 8) * 128 + d, by omega⟩)).trans (congrArg _ ?_))
  · blk_ext [(idx_in t).2.1]
  · show A.kv a (2 * (t.val / 8) * 128 + d) = _
    rw [show 2 * (t.val / 8) * 128 + (d : ℕ) = t.val / 8 * 256 + d by omega]

/-- The shared key's lanes. -/
theorem block_p (ha : ∀ (r : Fin 4096) (d : Fin 128), m ((c : Thread nD τ).loc main_arg2) (ix2 r d) = ((A.kp r d : ℝ) : EReal))
    (a : Fin 4096) (d : Fin 128) : iblk (F := Ideal) m c 2 t (ix2 a d) = ((A.kp a d : ℝ) : EReal) := by
  have ht := lt_64 t
  have ha' := a.isLt
  have hd := d.isLt
  blk_simp [iblk, (idx_in t).2.2.1]
  refine Eq.trans (congrArg _ (?_ : _ = ix2 ⟨a, by omega⟩ ⟨d, by omega⟩)) (((congrFun (V_main_arg2 m c) _).trans (ha ⟨a, by omega⟩ ⟨d, by omega⟩)).trans (congrArg _ ?_))
  · blk_ext [(idx_in t).2.2.1]
  · rfl

/-- The values' lanes. -/
theorem block_v (ha : ∀ (r : Fin 4096) (d : Fin 2048), m ((c : Thread nD τ).loc main_arg1) (ix2 r d) = ((A.kv r d : ℝ) : EReal))
    (a : Fin 4096) (d : Fin 128) : iblk (F := Ideal) m c 3 t (ix2 a d) = ((Model.val A a (t.val / 8) d : ℝ) : EReal) := by
  have ht := lt_64 t
  have ha' := a.isLt
  have hd := d.isLt
  blk_simp [iblk, (idx_in t).2.2.2.1]
  refine Eq.trans (congrArg _ (?_ : _ = ix2 ⟨a, by omega⟩ ⟨(2 * (t.val / 8) + 1) * 128 + d, by omega⟩)) (((congrFun (V_main_arg1 m c) _).trans (ha ⟨a, by omega⟩ ⟨(2 * (t.val / 8) + 1) * 128 + d, by omega⟩)).trans (congrArg _ ?_))
  · blk_ext [(idx_in t).2.2.2.1]
  · show A.kv a ((2 * (t.val / 8) + 1) * 128 + d) = A.kv a _
    rw [show (2 * (t.val / 8) + 1) * 128 + (d : ℕ) = t.val / 8 * 256 + (128 + d) by omega]

/-- The block of the cosines. -/
theorem block_c (ha : ∀ (r : Fin 4096) (d : Fin 256), V (F := Ideal) m c main_v26 (ix2 r d) = ((Model.tabC A r d : ℝ) : EReal))
    (a : Fin 512) (d : Fin 256) : iblk (F := Ideal) m c 4 t (ix2 a d) = ((Model.tabC A (t.val % 8 * 512 + a) d : ℝ) : EReal) := by
  have ht := lt_64 t
  have ha' := a.isLt
  have hd := d.isLt
  blk_simp [iblk, (idx_in t).2.2.2.2.1]
  refine Eq.trans (congrArg _ (?_ : _ = ix2 ⟨t.val % 8 * 512 + a, by omega⟩ ⟨d, by omega⟩)) ((ha ⟨t.val % 8 * 512 + a, by omega⟩ ⟨d, by omega⟩).trans (congrArg _ ?_))
  · blk_ext [(idx_in t).2.2.2.2.1]
  · rfl

/-- The block of the sines from above. -/
theorem block_a (ha : ∀ (r : Fin 4096) (d : Fin 256), V (F := Ideal) m c main_v28 (ix2 r d) = ((Model.tabA A r d : ℝ) : EReal))
    (a : Fin 512) (d : Fin 256) : iblk (F := Ideal) m c 5 t (ix2 a d) = ((Model.tabA A (t.val % 8 * 512 + a) d : ℝ) : EReal) := by
  have ht := lt_64 t
  have ha' := a.isLt
  have hd := d.isLt
  blk_simp [iblk, (idx_in t).2.2.2.2.2.1]
  refine Eq.trans (congrArg _ (?_ : _ = ix2 ⟨t.val % 8 * 512 + a, by omega⟩ ⟨d, by omega⟩)) ((ha ⟨t.val % 8 * 512 + a, by omega⟩ ⟨d, by omega⟩).trans (congrArg _ ?_))
  · blk_ext [(idx_in t).2.2.2.2.2.1]
  · rfl

/-- The block of the sines from below. -/
theorem block_b (ha : ∀ (r : Fin 4096) (d : Fin 256), V (F := Ideal) m c main_v30 (ix2 r d) = ((Model.tabB A r d : ℝ) : EReal))
    (a : Fin 512) (d : Fin 256) : iblk (F := Ideal) m c 6 t (ix2 a d) = ((Model.tabB A (t.val % 8 * 512 + a) d : ℝ) : EReal) := by
  have ht := lt_64 t
  have ha' := a.isLt
  have hd := d.isLt
  blk_simp [iblk, (idx_in t).2.2.2.2.2.2]
  refine Eq.trans (congrArg _ (?_ : _ = ix2 ⟨t.val % 8 * 512 + a, by omega⟩ ⟨d, by omega⟩)) ((ha ⟨t.val % 8 * 512 + a, by omega⟩ ⟨d, by omega⟩).trans (congrArg _ ?_))
  · blk_ext [(idx_in t).2.2.2.2.2.2]
  · rfl

end Cert.FwdStep

end
-- ==== Proof.FwdTile.lean ====
/- The forward attention's operations on 512 queries and four tiles of 1024 keys, when their operands are real: after each tile the
   sums of the weights and of the weighted values are those of all the keys seen, the weights taken relative to the rows' maxima so far. -/
module

public import proofs.«01_k».proof.Proof.Tile
public import proofs.«01_k».proof.Proof.Gen.MlaFwdIdeal.Skeleton

@[expose] public section

set_option maxRecDepth 16384

noncomputable section

namespace Cert.FwdTile

open Finset Idealize.ShloMosaic Cert.Coe Cert.MlaFwdIdeal Cert.MlaFwdIdeal.Gen
open Cert.Tile (S σ)

variable (Q K V : ℕ → ℕ → ℝ)

/-- The weight of query `r` and key `k` relative to `μ`. -/
def W (μ : ℕ → ℝ) (r k : ℕ) : ℝ := Real.rpow 2 ((S Q K r k - μ r) * σ)

/-- The factor that takes weights relative to `μ` to weights relative to `μ'`. -/
def α (μ μ' : ℕ → ℝ) (r : ℕ) : ℝ := Real.rpow 2 ((μ r - μ' r) * σ)

theorem W_pos (μ : ℕ → ℝ) (r k : ℕ) : 0 < W Q K μ r k := Real.rpow_pos_of_pos (by norm_num) _

theorem W_scale (μ μ' : ℕ → ℝ) (r k : ℕ) : W Q K μ r k * α μ μ' r = W Q K μ' r k := by
  unfold W α
  refine (Real.rpow_add (by norm_num : (0 : ℝ) < 2) _ _).symm.trans ?_
  show Real.rpow 2 _ = Real.rpow 2 _
  congr 1
  ring

/-- The sum of the first `n` keys' weights. -/
def L (n : ℕ) (μ : ℕ → ℝ) (r : ℕ) : ℝ := ∑ k ∈ range n, W Q K μ r k

/-- The sum of the first `n` keys' weighted values. -/
def O (n : ℕ) (μ : ℕ → ℝ) (r d : ℕ) : ℝ := ∑ k ∈ range n, W Q K μ r k * V k d

theorem L_scale (n : ℕ) (μ μ' : ℕ → ℝ) (r : ℕ) : L Q K n μ r * α μ μ' r = L Q K n μ' r := by
  unfold L
  rw [Finset.sum_mul]
  exact Finset.sum_congr rfl fun k _ => W_scale Q K μ μ' r k

theorem O_scale (n : ℕ) (μ μ' : ℕ → ℝ) (r d : ℕ) : O Q K V n μ r d * α μ μ' r = O Q K V n μ' r d := by
  unfold O
  rw [Finset.sum_mul]
  exact Finset.sum_congr rfl fun k _ => by rw [← W_scale Q K μ μ' r k]; ring

theorem L_add (n : ℕ) (μ : ℕ → ℝ) (r : ℕ) : L Q K n μ r + ∑ j ∈ range 1024, W Q K μ r (n + j) = L Q K (n + 1024) μ r :=
  (Finset.sum_range_add _ _ _).symm

theorem O_add (n : ℕ) (μ : ℕ → ℝ) (r d : ℕ) : O Q K V n μ r d + ∑ j ∈ range 1024, W Q K μ r (n + j) * V (n + j) d = O Q K V (n + 1024) μ r d :=
  (Finset.sum_range_add (fun k => W Q K μ r k * V k d) _ _).symm

theorem L_pos (n : ℕ) (hn : 0 < n) (μ : ℕ → ℝ) (r : ℕ) : 0 < L Q K n μ r :=
  Finset.sum_pos (fun _ _ => W_pos Q K μ r _) ⟨0, by simpa using hn⟩

/-! ## One tile -/

/-- The rotated queries. -/
theorem roped (X C A B : ℕ → ℕ → ℝ) (x0 : FVec Ideal S512x256 .bf16) (x4 x5 x6 : FVec Ideal S512x256 .f32)
    (h0 : ∀ (r : Fin 512) (d : Fin 256), x0 (ix2 r d) = ((X r d : ℝ) : EReal))
    (h7 : ∀ (r : Fin 512) (d : Fin 256), x4 (ix2 r d) = ((C r d : ℝ) : EReal))
    (h8 : ∀ (r : Fin 512) (d : Fin 256), x5 (ix2 r d) = ((A r d : ℝ) : EReal))
    (h9 : ∀ (r : Fin 512) (d : Fin 256), x6 (ix2 r d) = ((B r d : ℝ) : EReal)) (r : Fin 512) (d : Fin 256) :
    k0_pay3 (F := Ideal) x0 x4 x5 x6 (ix2 r d)
      = ((X r d * C r d + (X r ((d + 32) % 256) * A r d + X r ((d + 224) % 256) * B r d) : ℝ) : EReal) := by
  pointwise [k0_pay3]
  simp only [h0, h7, h8, h9]
  rw [show (d : ℕ) + 256 - 224 = d + 32 by omega, show (d : ℕ) + 256 - 32 = d + 224 by omega]
  simp only [mul_coe, add_coe, sub_coe]

section

variable (n : ℕ) (q : FVec Ideal S512x256 .bf16) (kt : FVec Ideal S1024x256 .bf16) (vt : FVec Ideal S1024x128 .bf16)
  (hQ : ∀ (r : Fin 512) (d : Fin 256), q (ix2 r d) = ((Q r d : ℝ) : EReal))
  (hK : ∀ (j : Fin 1024) (d : Fin 256), kt (ix2 j d) = ((K (n + j) d : ℝ) : EReal))
  (hV : ∀ (j : Fin 1024) (d : Fin 128), vt (ix2 j d) = ((V (n + j) d : ℝ) : EReal))

include hQ hK in
/-- The scores of a tile. -/
theorem scores (r : Fin 512) (j : Fin 1024) : k0_pay10 (F := Ideal) q kt (ix2 r j) = ((S Q K r (n + j) : ℝ) : EReal) := by
  pointwise [k0_pay10]
  exact sum_fin 256 _ (fun d => Q r d * K (n + j) d) fun d => by rw [hQ, hK, mul_coe]

variable (s : FVec Ideal S512x1024 .f32) (hs : ∀ (r : Fin 512) (j : Fin 1024), s (ix2 r j) = ((S Q K r (n + j) : ℝ) : EReal))
  (m : FVec Ideal S512x1 .f32) (μ μ' : ℕ → ℝ) (hm : ∀ r : Fin 512, m (ix2 r 0) = ((μ r : ℝ) : EReal))

/-- A real for each row. -/
theorem rows {f : Fin 512 → EReal} (h : ∀ r, ∃ x : ℝ, f r = (x : EReal)) : ∃ μ : ℕ → ℝ, ∀ r : Fin 512, f r = ((μ r : ℝ) : EReal) := by
  obtain ⟨μ, hμ⟩ := choice (F := fun r (_ : Fin 1) => f r) fun r _ => h r
  exact ⟨fun r => μ r 0, fun r => hμ r 0⟩

include hs hm in
/-- The rows' maxima after a further tile are reals. -/
theorem maxima : ∃ μ' : ℕ → ℝ, ∀ r : Fin 512, k0_pay11 (F := Ideal) s m (ix2 r 0) = ((μ' r : ℝ) : EReal) := by
  refine rows fun r => ?_
  obtain ⟨x, hx⟩ := fold_max (n := 1024) (by norm_num) (fun j => s (ix2 r j)) (fun j => S Q K r (n + j)) (hs r)
  refine ⟨max (μ r) x, ?_⟩
  pointwise [k0_pay11]
  rw [hm, bits_ninf, hx]
  exact (EReal.coe_strictMono.monotone.map_max).symm

variable (hm' : ∀ r : Fin 512, k0_pay11 (F := Ideal) s m (ix2 r 0) = ((μ' r : ℝ) : EReal))

include hs hm' in
/-- The tile's weights. -/
theorem weights (r : Fin 512) (j : Fin 1024) : k0_pay12 (F := Ideal) s m (ix2 r j) = ((W Q K μ' r (n + j) : ℝ) : EReal) := by
  pointwise [k0_pay12]
  rw [hs, hm', IdealRules.named_const.ideal_named_scalar _ _ _ _ rfl, sub_coe, mul_coe]
  exact exp2_coe _

include hm hm' in
/-- The factor between the maxima. -/
theorem factor (r : Fin 512) : k0_pay13 (F := Ideal) s m (ix2 r 0) = ((α μ μ' r : ℝ) : EReal) := by
  pointwise [k0_pay13]
  rw [hm, hm', IdealRules.named_const.ideal_named_scalar _ _ _ _ rfl, sub_coe, mul_coe]
  exact exp2_coe _

include hs hm' in
theorem row_sum (r : Fin 512) : ∑ j : Fin 1024, k0_pay12 (F := Ideal) s m (ix2 r j) = ((∑ j ∈ range 1024, W Q K μ' r (n + j) : ℝ) : EReal) :=
  sum_fin 1024 _ (fun j => W Q K μ' r (n + j)) (weights Q K n s hs m μ' hm' r)

include hs hm' hV in
theorem val_sum (r : Fin 512) (d : Fin 128) : ∑ j : Fin 1024, k0_pay12 (F := Ideal) s m (ix2 r j) * vt (ix2 j d)
    = ((∑ j ∈ range 1024, W Q K μ' r (n + j) * V (n + j) d : ℝ) : EReal) :=
  sum_fin 1024 _ (fun j => W Q K μ' r (n + j) * V (n + j) d) fun j => by rw [weights Q K n s hs m μ' hm', hV, mul_coe]

end

/-! ## The four tiles -/

variable (q0 : FVec Ideal S512x256 .bf16) (x4 x5 x6 : FVec Ideal S512x256 .f32) (k0 k1 k2 k3 : FVec Ideal S1024x256 .bf16) (v0 v1 v2 v3 : FVec Ideal S1024x128 .bf16)
  (hQ : ∀ (r : Fin 512) (d : Fin 256), k0_pay3 (F := Ideal) q0 x4 x5 x6 (ix2 r d) = ((Q r d : ℝ) : EReal))
  (hK0 : ∀ (j : Fin 1024) (d : Fin 256), k0 (ix2 j d) = ((K (0 + j) d : ℝ) : EReal))
  (hK1 : ∀ (j : Fin 1024) (d : Fin 256), k1 (ix2 j d) = ((K (1024 + j) d : ℝ) : EReal))
  (hK2 : ∀ (j : Fin 1024) (d : Fin 256), k2 (ix2 j d) = ((K (2048 + j) d : ℝ) : EReal))
  (hK3 : ∀ (j : Fin 1024) (d : Fin 256), k3 (ix2 j d) = ((K (3072 + j) d : ℝ) : EReal))
  (hV0 : ∀ (j : Fin 1024) (d : Fin 128), v0 (ix2 j d) = ((V (0 + j) d : ℝ) : EReal))
  (hV1 : ∀ (j : Fin 1024) (d : Fin 128), v1 (ix2 j d) = ((V (1024 + j) d : ℝ) : EReal))
  (hV2 : ∀ (j : Fin 1024) (d : Fin 128), v2 (ix2 j d) = ((V (2048 + j) d : ℝ) : EReal))
  (hV3 : ∀ (j : Fin 1024) (d : Fin 128), v3 (ix2 j d) = ((V (3072 + j) d : ℝ) : EReal))

include hQ hK0 in
/-- The first tile's maxima are reals. -/
theorem first_max : ∃ μ : ℕ → ℝ, ∀ r : Fin 512, k0_pay6 (F := Ideal) q0 x4 x5 x6 k0 (ix2 r 0) = ((μ r : ℝ) : EReal) := by
  refine rows fun r => ?_
  obtain ⟨x, hx⟩ := fold_max (n := 1024) (by norm_num) (fun j => k0_pay4 (F := Ideal) q0 x4 x5 x6 k0 (ix2 r j)) (fun j => S Q K r (0 + j))
    (fun j => scores Q K 0 (k0_pay3 q0 x4 x5 x6) k0 hQ hK0 r j)
  refine ⟨x, ?_⟩
  pointwise [k0_pay6]
  rw [bits_ninf, hx]

variable (μ : ℕ → ℝ) (hμ : ∀ r : Fin 512, k0_pay6 (F := Ideal) q0 x4 x5 x6 k0 (ix2 r 0) = ((μ r : ℝ) : EReal))

include hQ hK0 hμ in
/-- The first tile's weights. -/
theorem first_weights (r : Fin 512) (j : Fin 1024) : k0_pay7 (F := Ideal) q0 x4 x5 x6 k0 (ix2 r j) = ((W Q K μ r j : ℝ) : EReal) := by
  have h : k0_pay4 (F := Ideal) q0 x4 x5 x6 k0 (ix2 r j) = _ := scores Q K 0 (k0_pay3 q0 x4 x5 x6) k0 hQ hK0 r j
  pointwise [k0_pay7]
  rw [h, hμ, IdealRules.named_const.ideal_named_scalar _ _ _ _ rfl, sub_coe, mul_coe, Nat.zero_add]
  exact exp2_coe _

include hQ hK0 hμ in
theorem first_sum (r : Fin 512) : k0_pay8 (F := Ideal) q0 x4 x5 x6 k0 (ix2 r 0) = ((L Q K 1024 μ r : ℝ) : EReal) := by
  pointwise [k0_pay8]
  exact sum_fin 1024 _ (fun j => W Q K μ r j) (first_weights Q K q0 x4 x5 x6 k0 hQ hK0 μ hμ r)

include hQ hK0 hV0 hμ in
theorem first_vals (r : Fin 512) (d : Fin 128) : ∑ j : Fin 1024, k0_pay9 (F := Ideal) q0 x4 x5 x6 k0 (ix2 r j) * v0 (ix2 j d) = ((O Q K V 1024 μ r d : ℝ) : EReal) :=
  sum_fin 1024 _ (fun j => W Q K μ r j * V j d) fun j => by
    rw [show k0_pay9 (F := Ideal) q0 x4 x5 x6 k0 (ix2 r j) = k0_pay7 (F := Ideal) q0 x4 x5 x6 k0 (ix2 r j) from rfl,
      first_weights Q K q0 x4 x5 x6 k0 hQ hK0 μ hμ r, hV0, mul_coe, Nat.zero_add]

/-! ### The operations by those of one tile -/

section

variable (q : FVec Ideal S512x256 .bf16) (s s' : FVec Ideal S512x1024 .f32) (m m' l l' : FVec Ideal S512x1 .f32) (o p : FVec Ideal S512x128 .f32)
  (w : FVec Ideal S512x1024 .bf16) (kt : FVec Ideal S1024x256 .bf16) (v v' : FVec Ideal S1024x128 .bf16) (r : Fin 512) (d : Fin 128)

theorem second_scores : k0_pay5 (F := Ideal) q0 x4 x5 x6 k1 = k0_pay10 (k0_pay3 q0 x4 x5 x6) k1 := rfl
theorem third_max : k0_pay17 (F := Ideal) q s m kt = k0_pay11 (k0_pay10 q kt) (k0_pay11 s m) := rfl
theorem fourth_scores : k0_pay16 (F := Ideal) q kt = k0_pay10 q kt := rfl

theorem second_sum : k0_pay14 (F := Ideal) s m l (ix2 r 0) = l (ix2 r 0) * k0_pay13 s m (ix2 r 0) + ∑ j : Fin 1024, k0_pay12 s m (ix2 r j) := by
  pointwise [k0_pay14]

theorem second_vals : k0_pay15 (F := Ideal) s m w v v' (ix2 r d)
    = (∑ j : Fin 1024, w (ix2 r j) * v (ix2 j d)) * k0_pay13 s m (ix2 r 0) + ∑ j : Fin 1024, k0_pay12 s m (ix2 r j) * v' (ix2 j d) := by
  pointwise [k0_pay15]

theorem third_sum : k0_pay19 (F := Ideal) q s m kt (ix2 r 0) = ∑ j : Fin 1024, k0_pay12 (k0_pay10 q kt) (k0_pay11 s m) (ix2 r j) := by
  have h : k0_pay18 (F := Ideal) q s m kt = k0_pay12 (k0_pay10 q kt) (k0_pay11 s m) := rfl
  pointwise [k0_pay19]
  rw [h]

theorem third_vals : k0_pay20 (F := Ideal) q s m kt v (ix2 r d) = ∑ j : Fin 1024, k0_pay12 (k0_pay10 q kt) (k0_pay11 s m) (ix2 r j) * v (ix2 j d) := by
  have h : k0_pay18 (F := Ideal) q s m kt = k0_pay12 (k0_pay10 q kt) (k0_pay11 s m) := rfl
  pointwise [k0_pay20]
  rw [h]

theorem third_factor : k0_pay21 (F := Ideal) m (k0_pay11 s m) = k0_pay13 s m := rfl

theorem fourth_sum : k0_pay25 (F := Ideal) m l s' m' l' (ix2 r 0)
    = (l (ix2 r 0) * k0_pay21 m m' (ix2 r 0) + l' (ix2 r 0)) * k0_pay13 s' m' (ix2 r 0) + ∑ j : Fin 1024, k0_pay12 s' m' (ix2 r j) := by
  have h : k0_pay23 (F := Ideal) s' m' = k0_pay12 s' m' := rfl
  have h' : k0_pay24 (F := Ideal) s' m' = k0_pay13 s' m' := rfl
  pointwise [k0_pay25]
  rw [h, h']

theorem fourth_vals : k0_pay26 (F := Ideal) m l o s' m' l' p v (ix2 r d)
    = ((o (ix2 r d) * k0_pay21 m m' (ix2 r 0) + p (ix2 r d)) * k0_pay13 s' m' (ix2 r 0) + ∑ j : Fin 1024, k0_pay12 s' m' (ix2 r j) * v (ix2 j d))
      * Ideal.div (Ideal.ofBits .f32 0x3F800000#32) (k0_pay25 m l s' m' l' (ix2 r 0)) := by
  have h : k0_pay23 (F := Ideal) s' m' = k0_pay12 s' m' := rfl
  have h' : k0_pay24 (F := Ideal) s' m' = k0_pay13 s' m' := rfl
  pointwise [k0_pay26]
  rw [h, h']

end

theorem bits_one : Ideal.ofBits .f32 0x3F800000#32 = ((1 : ℝ) : EReal) := by
  simp [Ideal.ofBits, Ideal.ieee, -EReal.coe_mul]; norm_num

/-- The block of the output the region computes, as its operations say. -/
def block : FVec Ideal S512x128 .bf16 :=
  k0_pay26 (F := Ideal) (k0_pay11 (k0_pay5 q0 x4 x5 x6 k1) (k0_pay6 q0 x4 x5 x6 k0))
    (k0_pay14 (k0_pay5 q0 x4 x5 x6 k1) (k0_pay6 q0 x4 x5 x6 k0) (k0_pay8 q0 x4 x5 x6 k0))
    (k0_pay15 (k0_pay5 q0 x4 x5 x6 k1) (k0_pay6 q0 x4 x5 x6 k0) (k0_pay9 q0 x4 x5 x6 k0) v0 v1)
    (k0_pay16 (k0_pay3 q0 x4 x5 x6) k3)
    (k0_pay17 (k0_pay3 q0 x4 x5 x6) (k0_pay5 q0 x4 x5 x6 k1) (k0_pay6 q0 x4 x5 x6 k0) k2)
    (k0_pay19 (k0_pay3 q0 x4 x5 x6) (k0_pay5 q0 x4 x5 x6 k1) (k0_pay6 q0 x4 x5 x6 k0) k2)
    (k0_pay20 (k0_pay3 q0 x4 x5 x6) (k0_pay5 q0 x4 x5 x6 k1) (k0_pay6 q0 x4 x5 x6 k0) k2 v2) v3

include hQ hK0 hK1 hK2 hK3 hV0 hV1 hV2 hV3 in
/-- The block holds the weighted sums of all the values over the sums of all the weights. -/
theorem block_real : ∃ μ : ℕ → ℝ, ∀ (r : Fin 512) (d : Fin 128),
    block q0 x4 x5 x6 k0 k1 k2 k3 v0 v1 v2 v3 (ix2 r d) = ((O Q K V 4096 μ r d * (1 / L Q K 4096 μ r) : ℝ) : EReal) := by
  obtain ⟨μ0, h0⟩ := first_max Q K q0 x4 x5 x6 k0 hQ hK0
  have hs1 : ∀ (r : Fin 512) (j : Fin 1024), k0_pay5 (F := Ideal) q0 x4 x5 x6 k1 (ix2 r j) = ((S Q K r (1024 + j) : ℝ) : EReal) :=
    scores Q K 1024 (k0_pay3 q0 x4 x5 x6) k1 hQ hK1
  obtain ⟨μ1, h1⟩ := maxima Q K 1024 _ hs1 _ μ0 h0
  have hs2 := scores Q K 2048 (k0_pay3 q0 x4 x5 x6) k2 hQ hK2
  obtain ⟨μ2, h2⟩ := maxima Q K 2048 _ hs2 _ μ1 h1
  have hs3 := scores Q K 3072 (k0_pay3 q0 x4 x5 x6) k3 hQ hK3
  obtain ⟨μ3, h3⟩ := maxima Q K 3072 _ hs3 _ μ2 h2
  refine ⟨μ3, fun r d => ?_⟩
  have hl1 : k0_pay14 (F := Ideal) (k0_pay5 q0 x4 x5 x6 k1) (k0_pay6 q0 x4 x5 x6 k0) (k0_pay8 q0 x4 x5 x6 k0) (ix2 r 0) = ((L Q K 2048 μ1 r : ℝ) : EReal) := by
    rw [second_sum, first_sum Q K q0 x4 x5 x6 k0 hQ hK0 μ0 h0, factor _ _ μ0 μ1 h0 h1, row_sum Q K 1024 _ hs1 _ μ1 h1, mul_coe, add_coe, L_scale, L_add]
  have ho1 : k0_pay15 (F := Ideal) (k0_pay5 q0 x4 x5 x6 k1) (k0_pay6 q0 x4 x5 x6 k0) (k0_pay9 q0 x4 x5 x6 k0) v0 v1 (ix2 r d) = ((O Q K V 2048 μ1 r d : ℝ) : EReal) := by
    rw [second_vals, first_vals Q K V q0 x4 x5 x6 k0 v0 hQ hK0 hV0 μ0 h0, factor _ _ μ0 μ1 h0 h1, val_sum Q K V 1024 v1 hV1 _ hs1 _ μ1 h1, mul_coe, add_coe, O_scale, O_add]
  have hl : k0_pay25 (F := Ideal) (k0_pay11 (k0_pay5 q0 x4 x5 x6 k1) (k0_pay6 q0 x4 x5 x6 k0))
      (k0_pay14 (k0_pay5 q0 x4 x5 x6 k1) (k0_pay6 q0 x4 x5 x6 k0) (k0_pay8 q0 x4 x5 x6 k0)) (k0_pay16 (k0_pay3 q0 x4 x5 x6) k3)
      (k0_pay17 (k0_pay3 q0 x4 x5 x6) (k0_pay5 q0 x4 x5 x6 k1) (k0_pay6 q0 x4 x5 x6 k0) k2)
      (k0_pay19 (k0_pay3 q0 x4 x5 x6) (k0_pay5 q0 x4 x5 x6 k1) (k0_pay6 q0 x4 x5 x6 k0) k2) (ix2 r 0) = ((L Q K 4096 μ3 r : ℝ) : EReal) := by
    rw [fourth_sum, hl1, third_sum, third_max, third_factor, fourth_scores, factor _ _ μ1 μ2 h1 h2, row_sum Q K 2048 _ hs2 _ μ2 h2, factor _ _ μ2 μ3 h2 h3,
      row_sum Q K 3072 _ hs3 _ μ3 h3, mul_coe, add_coe, L_scale, L_add, mul_coe, add_coe, L_scale, L_add]
  rw [block, fourth_vals, hl, ho1, third_vals, third_max, third_factor, fourth_scores, factor _ _ μ1 μ2 h1 h2, val_sum Q K V 2048 v2 hV2 _ hs2 _ μ2 h2, factor _ _ μ2 μ3 h2 h3,
    val_sum Q K V 3072 v3 hV3 _ hs3 _ μ3 h3, mul_coe, add_coe, O_scale, O_add, mul_coe, add_coe, O_scale, O_add, bits_one,
    div_coe _ _ (L_pos Q K 4096 (by norm_num) μ3 r).ne', mul_coe]

end Cert.FwdTile

end
-- ==== Proof.FwdStep.lean ====
/- What one point of the forward attention's grid computes: the keys it keeps, and its block of the output. -/
module

public import proofs.«01_k».proof.Proof.FwdTile
public import proofs.«01_k».proof.Proof.Gen.MlaFwdIdeal.Value
public import Idealize.ShloMosaic.Lib.Pipeline.ValueKit
public import Idealize.ShloMosaic.Lib.Pipeline.ReadBack

@[expose] public section

set_option maxRecDepth 16384

noncomputable section

namespace Cert.FwdStep

open Finset Cert.Coe Cert.FwdTile Cert.MlaFwdIdeal Cert.MlaFwdIdeal.Gen Idealize.ShloMosaic Idealize.ShloMosaic.TcCoe Idealize.SL.Sem

/-- The rows of a load of 1024 rows of a buffer with 256 lanes. -/
theorem rows_256 {Val : EltTy → Type} {e : EltTy} (X : S4096x256.Idx → Val e) (o : ℕ) (inb) (j : Fin 1024) (d : Fin 256) (h : o + j < 4096) :
    View.ld X (Rect.unit ![o, 0] ![1024, 256] inb) (ix2 j d) = X (ix2 ⟨o + j, h⟩ d) := by
  refine View.ld_unit_apply_of X _ _ inb _ _ fun a => ?_
  fin_cases a
  · rfl
  · exact (Nat.zero_add _).symm

/-- The rows of a load of 1024 rows of a buffer with 128 lanes. -/
theorem rows_128 {Val : EltTy → Type} {e : EltTy} (X : S4096x128.Idx → Val e) (o : ℕ) (inb) (j : Fin 1024) (d : Fin 128) (h : o + j < 4096) :
    View.ld X (Rect.unit ![o, 0] ![1024, 128] inb) (ix2 j d) = X (ix2 ⟨o + j, h⟩ d) := by
  refine View.ld_unit_apply_of X _ _ inb _ _ fun a => ?_
  fin_cases a
  · rfl
  · exact (Nat.zero_add _).symm

/-- An index of a two-dimensional array is the pair of its coordinates. -/
theorem pair {n m : ℕ} (x : (⟨2, ![n, m]⟩ : Shape).Idx) : ∃ (j : Fin n) (d : Fin m), x = ix2 j d :=
  ⟨x 0, x 1, funext fun a => by fin_cases a <;> rfl⟩

/-- The keys copied into their buffer, read back 1024 rows at a time. -/
theorem keys_read (K : ℕ → ℕ → ℝ) (v : View sig Kind.tc Space.vmem S4096x256 .bf16) (x1 x2 : Vec Ideal S4096x128 .bf16)
    (h1' : ∀ (k : Fin 4096) (d : Fin 128), x1 (ix2 k d) = ((K k d : ℝ) : EReal))
    (h2' : ∀ (k : Fin 4096) (d : Fin 128), x2 (ix2 k d) = ((K k (128 + d) : ℝ) : EReal)) (o : ℕ)
    (inb : ∀ a : Fin 2, (![o, 0] : Fin 2 → ℕ) a + (![1024, 256] : Fin 2 → ℕ) a ≤ S4096x256.size a) (ho : o + 1024 ≤ 4096) (j : Fin 1024) (d : Fin 256) :
    (v.readCov (Val := Elt Ideal) [⟨Rect.unit ![0, 128] ![4096, 128] inb_S4096x256_S4096x128_0_128, k0_pay2 x2⟩,
        ⟨Rect.unit ![0, 0] ![4096, 128] inb_S4096x256_S4096x128_0_0, k0_pay1 x1⟩] (Rect.unit (s := S4096x256) ![o, 0] ![1024, 256] inb).toLoadRect : Vec Ideal S1024x256 .bf16) (ix2 j d)
      = ((K (o + j) d : ℝ) : EReal) := by
  have hj := j.isLt
  have hi : (Rect.unit (s := S4096x256) ![o, 0] ![1024, 256] inb).toLoadRect.idx (ix2 j d) = (ix2 ⟨o + j, by omega⟩ d : S4096x256.Idx) := by
    funext a
    refine Fin.ext ((Rect.idx_unit_val _ _ inb _ a).trans ?_)
    fin_cases a
    · rfl
    · exact Nat.zero_add _
  rw [View.readCov_eq_canon']
  dsimp only
  rw [hi]
  canon_tiles x h
  all_goals
    obtain ⟨j', e, rfl⟩ := pair x
    have hk : o + (j : ℕ) = _ := h0
    have hd : (d : ℕ) = _ := h1
    rw [hk, hd]
  · exact (show k0_pay2 (F := Ideal) x2 (ix2 j' e) = x2 (ix2 j' e) by pointwise [k0_pay2]).trans (h2' j' e)
  · exact (show k0_pay1 (F := Ideal) x1 (ix2 j' e) = x1 (ix2 j' e) by pointwise [k0_pay1]).trans (h1' j' e)

variable (c : Dev nD) (i : grid0.Coords) (arg2 : Memref sig .tc .vmem S512x256 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x128 .bf16) (harg9 : arg9.IsWhole) (arg10 : Memref sig .tc .vmem S512x128 .f32) (harg10 : arg10.IsWhole) (arg11 : Memref sig .tc .vmem S4096x256 .bf16) (harg11 : arg11.IsWhole)
  (x0 : Vec Ideal S512x256 .bf16) (x1 x2 x3 : Vec Ideal S4096x128 .bf16) (x4 x5 x6 : Vec Ideal S512x256 .f32) (xs0 : Vec Ideal S4096x256 .bf16)

variable (Q K V : ℕ → ℕ → ℝ)
  (hQ : ∀ (r : Fin 512) (d : Fin 256), k0_pay3 (F := Ideal) x0 x4 x5 x6 (ix2 r d) = ((Q r d : ℝ) : EReal))
  (hV : ∀ (k : Fin 4096) (d : Fin 128), x3 (ix2 k d) = ((V k d : ℝ) : EReal))

set_option maxHeartbeats 4000000 in
/-- What the first point of a head leaves of the keys. -/
theorem A_key (hc0 : cond0_0 i) (h1' : ∀ (k : Fin 4096) (d : Fin 128), x1 (ix2 k d) = ((K k d : ℝ) : EReal))
    (h2' : ∀ (k : Fin 4096) (d : Fin 128), x2 (ix2 k d) = ((K k (128 + d) : ℝ) : EReal)) (k : Fin 4096) (d : Fin 256) :
    Gen.sout0_A_0 (F := Ideal) c i arg2 harg2 arg3 harg3 arg4 harg4 arg5 harg5 arg6 harg6 arg7 harg7 arg8 harg8 arg9 harg9 arg10 harg10 arg11 harg11 hc0 x0 x1 x2 x3 x4 x5 x6 (ix2 k d) = ((K k d : ℝ) : EReal) := by
  frame_out
  canon_tiles x h
  all_goals
    obtain ⟨j, e, rfl⟩ := pair x
    have hk : (k : ℕ) = _ := h0
    have hd : (d : ℕ) = _ := h1
    rw [hk, hd]
  · exact (show k0_pay2 (F := Ideal) x2 (ix2 j e) = x2 (ix2 j e) by pointwise [k0_pay2]).trans (h2' j e)
  · exact (show k0_pay1 (F := Ideal) x1 (ix2 j e) = x1 (ix2 j e) by pointwise [k0_pay1]).trans (h1' j e)

include hQ hV in
set_option maxHeartbeats 4000000 in
/-- What the first point of a head leaves of the output. -/
theorem A_out (hc0 : cond0_0 i)
    (h1' : ∀ (k : Fin 4096) (d : Fin 128), x1 (ix2 k d) = ((K k d : ℝ) : EReal))
    (h2' : ∀ (k : Fin 4096) (d : Fin 128), x2 (ix2 k d) = ((K k (128 + d) : ℝ) : EReal)) :
    ∃ μ : ℕ → ℝ, ∀ (r : Fin 512) (d : Fin 128),
    Gen.out0_A_7 (F := Ideal) c i arg2 harg2 arg3 harg3 arg4 harg4 arg5 harg5 arg6 harg6 arg7 harg7 arg8 harg8 arg9 harg9 arg10 harg10 arg11 harg11 hc0 x0 x1 x2 x3 x4 x5 x6 (ix2 r d)
      = ((O Q K V 4096 μ r d * (1 / L Q K 4096 μ r) : ℝ) : EReal) := by
  have hk := keys_read K arg11.view x1 x2 h1' h2'
  have hv : ∀ (o : ℕ) (inb) (_ : o + 1024 ≤ 4096) (j : Fin 1024) (d : Fin 128),
      View.ld x3 (Rect.unit ![o, 0] ![1024, 128] inb) (ix2 j d) = ((V (o + j) d : ℝ) : EReal) :=
    fun o inb ho j d => (rows_128 _ o inb j d (by have := j.isLt; omega)).trans (hV _ d)
  obtain ⟨μ, hμ⟩ := block_real Q K V x0 x4 x5 x6 _ _ _ _ _ _ _ _ hQ (hk 0 inb_S4096x256_S1024x256_0_0 (by omega)) (hk 1024 inb_S4096x256_S1024x256_1024_0 (by omega))
    (hk 2048 inb_S4096x256_S1024x256_2048_0 (by omega)) (hk 3072 inb_S4096x256_S1024x256_3072_0 (by omega))
    (hv 0 inb_S4096x128_S1024x128_0_0 (by omega)) (hv 1024 inb_S4096x128_S1024x128_1024_0 (by omega))
    (hv 2048 inb_S4096x128_S1024x128_2048_0 (by omega)) (hv 3072 inb_S4096x128_S1024x128_3072_0 (by omega))
  refine ⟨μ, fun r d => ?_⟩
  rw [← hμ r d]
  frame_open
  simp (disch := first | rfl | decide) only [↓View.readCov_skip, ↓View.readCov_fill]
  simp (disch := decide) only [View.read_writes_junk_eq_canon, View.canon_cons_unit_lit', View.ld_unit_lit', View.readAt_eq_ld, Memref.IsWhole.read_unread]
  rfl

include hQ hV in
set_option maxHeartbeats 4000000 in
/-- What any further point of a head leaves of the output. -/
theorem B_out (hc0 : ¬cond0_0 i) (hK : ∀ (k : Fin 4096) (d : Fin 256), xs0 (ix2 k d) = ((K k d : ℝ) : EReal)) :
    ∃ μ : ℕ → ℝ, ∀ (r : Fin 512) (d : Fin 128),
    Gen.out0_B_7 (F := Ideal) c i arg2 harg2 arg3 harg3 arg4 harg4 arg5 harg5 arg6 harg6 arg7 harg7 arg8 harg8 arg9 harg9 arg10 harg10 arg11 harg11 hc0 x0 x1 x2 x3 x4 x5 x6 xs0 (ix2 r d)
      = ((O Q K V 4096 μ r d * (1 / L Q K 4096 μ r) : ℝ) : EReal) := by
  have hk : ∀ (o : ℕ) (inb) (_ : o + 1024 ≤ 4096) (j : Fin 1024) (d : Fin 256),
      View.ld xs0 (Rect.unit ![o, 0] ![1024, 256] inb) (ix2 j d) = ((K (o + j) d : ℝ) : EReal) :=
    fun o inb ho j d => (rows_256 _ o inb j d (by have := j.isLt; omega)).trans (hK _ d)
  have hv : ∀ (o : ℕ) (inb) (_ : o + 1024 ≤ 4096) (j : Fin 1024) (d : Fin 128),
      View.ld x3 (Rect.unit ![o, 0] ![1024, 128] inb) (ix2 j d) = ((V (o + j) d : ℝ) : EReal) :=
    fun o inb ho j d => (rows_128 _ o inb j d (by have := j.isLt; omega)).trans (hV _ d)
  obtain ⟨μ, hμ⟩ := block_real Q K V x0 x4 x5 x6 _ _ _ _ _ _ _ _ hQ (hk 0 inb_S4096x256_S1024x256_0_0 (by omega)) (hk 1024 inb_S4096x256_S1024x256_1024_0 (by omega))
    (hk 2048 inb_S4096x256_S1024x256_2048_0 (by omega)) (hk 3072 inb_S4096x256_S1024x256_3072_0 (by omega))
    (hv 0 inb_S4096x128_S1024x128_0_0 (by omega)) (hv 1024 inb_S4096x128_S1024x128_1024_0 (by omega))
    (hv 2048 inb_S4096x128_S1024x128_2048_0 (by omega)) (hv 3072 inb_S4096x128_S1024x128_3072_0 (by omega))
  refine ⟨μ, fun r d => ?_⟩
  rw [← hμ r d]
  frame_out
  rfl

end Cert.FwdStep

end
-- ==== Proof.FwdGiven.lean ====
/- The forward attention's output, from real arguments: what every point of the grid writes, and the array after the run. -/
module

public import proofs.«01_k».proof.Proof.FwdBlocks
public import proofs.«01_k».proof.Proof.FwdStep

@[expose] public section

set_option maxRecDepth 16384

noncomputable section

namespace Cert.FwdStep

open Finset Cert.Coe Cert.FwdTile Cert.MlaFwdIdeal Cert.MlaFwdIdeal.Gen Idealize.ShloMosaic Idealize.ShloMosaic.TcCoe Idealize.SL.Sem
open Cert.Tile (S σ)

variable (A : Model.Args) (m : (ℓ : Loc nD τ sig) → Buf (Elt Ideal) ℓ) (c : Dev nD)

/-- What the region finds in the arrays it reads: the arguments and the rotary tables, all real. -/
structure Given : Prop where
  q : ∀ (r : Fin 4096) (d : Fin 2048), m ((c : Thread nD τ).loc main_arg0) (ix2 r d) = ((A.q r d : ℝ) : EReal)
  kv : ∀ (r : Fin 4096) (d : Fin 2048), m ((c : Thread nD τ).loc main_arg1) (ix2 r d) = ((A.kv r d : ℝ) : EReal)
  kp : ∀ (r : Fin 4096) (d : Fin 128), m ((c : Thread nD τ).loc main_arg2) (ix2 r d) = ((A.kp r d : ℝ) : EReal)
  tc : ∀ (r : Fin 4096) (d : Fin 256), V (F := Ideal) m c main_v26 (ix2 r d) = ((Model.tabC A r d : ℝ) : EReal)
  ta : ∀ (r : Fin 4096) (d : Fin 256), V (F := Ideal) m c main_v28 (ix2 r d) = ((Model.tabA A r d : ℝ) : EReal)
  tb : ∀ (r : Fin 4096) (d : Fin 256), V (F := Ideal) m c main_v30 (ix2 r d) = ((Model.tabB A r d : ℝ) : EReal)

variable (t : Fin cfg0.N)

/-- The rotated queries of a point's block. -/
def Qt (r d : ℕ) : ℝ := Model.qh A (t.val % 8 * 512 + r) (t.val / 8) d

/-- The keys of a point's head. -/
def Kt (k d : ℕ) : ℝ := Model.key A k (t.val / 8) d

/-- The values of a point's head. -/
def Vt (k d : ℕ) : ℝ := Model.val A k (t.val / 8) d

/-- A power of two to the scaled difference of a score is the exponential of the difference of the scores. -/
theorem weight (μ : ℕ → ℝ) (r k : ℕ) : W (Qt A t) (Kt A t) μ r k
    = Real.exp (Model.sc A (t.val % 8 * 512 + r) (t.val / 8) k - μ r / Real.sqrt 192) := by
  unfold W S Qt Kt
  rw [Model.dotp_eq]
  show Real.rpow 2 _ = _
  refine (Real.rpow_def_of_pos (by norm_num : (0 : ℝ) < 2) _).trans (congrArg _ ?_)
  unfold σ Model.sc
  have := log2_ne
  have := sqrt192_ne
  field_simp

/-- The weighted values over the sum of the weights are the attention's output. -/
theorem quotient (μ : ℕ → ℝ) (r d : ℕ) : O (Qt A t) (Kt A t) (Vt A t) 4096 μ r d * (1 / L (Qt A t) (Kt A t) 4096 μ r)
    = Model.out A (t.val % 8 * 512 + r) (t.val / 8) d := by
  unfold O L Model.out
  rw [Finset.sum_mul]
  refine Finset.sum_congr rfl fun k _ => ?_
  rw [Finset.sum_congr rfl fun k _ => weight A t μ r k, weight, ← Model.shifted A _ _ k (μ r / Real.sqrt 192)]
  show _ * Model.val A k (t.val / 8) d * _ = _
  ring

variable {A m c} (g : Given A m c)
include g

theorem vals (k : Fin 4096) (d : Fin 128) : iblk (F := Ideal) m c 3 t (ix2 k d) = ((Vt A t k d : ℝ) : EReal) := block_v A m c t g.kv k d

theorem queries (r : Fin 512) (d : Fin 256) :
    k0_pay3 (F := Ideal) (iblk m c 0 t) (iblk m c 4 t) (iblk m c 5 t) (iblk m c 6 t) (ix2 r d) = ((Qt A t r d : ℝ) : EReal) := by
  refine (roped (fun r d => A.q (t.val % 8 * 512 + r) (t.val / 8 * 256 + d)) (fun r d => Model.tabC A (t.val % 8 * 512 + r) d)
    (fun r d => Model.tabA A (t.val % 8 * 512 + r) d) (fun r d => Model.tabB A (t.val % 8 * 512 + r) d) _ _ _ _
    (block_q A m c t g.q) (block_c A m c t g.tc) (block_a A m c t g.ta) (block_b A m c t g.tb) r d).trans (congrArg _ ?_)
  exact Model.rotate A _ _ d

theorem keys_low (k : Fin 4096) (d : Fin 128) : iblk (F := Ideal) m c 1 t (ix2 k d) = ((Kt A t k d : ℝ) : EReal) :=
  (block_k A m c t g.kv k d).trans (by unfold Kt Model.key; rw [if_pos d.isLt])

theorem keys_high (k : Fin 4096) (d : Fin 128) : iblk (F := Ideal) m c 2 t (ix2 k d) = ((Kt A t k (128 + d) : ℝ) : EReal) :=
  (block_p A m c t g.kp k d).trans (by unfold Kt Model.key; rw [if_neg (by omega), Nat.add_sub_cancel_left])

/-- Every point leaves its head's keys in the scratch. -/
theorem state : ∀ (n : ℕ) (hn : n < cfg0.N) (k : Fin 4096) (d : Fin 256), (outsAt0 (F := Ideal) m c n hn).2.2 (ix2 k d) = ((Model.key A k (n / 8) d : ℝ) : EReal) := by
  intro n
  induction n using Nat.strong_induction_on with
  | _ n ih =>
    intro hn k d
    by_cases h0 : n % 8 = 0
    · refine (congrFun (congrArg (fun p => p.2.2) (outsAt0_A m c ⟨n, hn⟩ h0)) (ix2 k d)).trans ?_
      dsimp only
      exact A_key (h1' := keys_low ⟨n, hn⟩ g) (h2' := keys_high ⟨n, hn⟩ g) (k := k) (d := d) ..
    · refine (congrFun (congrArg (fun p => p.2.2) (outsAt0_B m c ⟨n, hn⟩ h0)) (ix2 k d)).trans ?_
      dsimp only
      refine (ih (n - 1) (by omega) (Nat.lt_of_le_of_lt (Nat.sub_le _ _) hn) k d).trans ?_
      rw [show (n - 1) / 8 = n / 8 by omega]

/-- What every point writes of the output. -/
theorem out (r : Fin 512) (d : Fin 128) :
    (outsAt0 (F := Ideal) m c t.val t.isLt).1 (ix2 r d) = ((Model.out A (t.val % 8 * 512 + r) (t.val / 8) d : ℝ) : EReal) := by
  by_cases h0 : t.val % 8 = 0
  · rw [outsAt0_A m c t h0]
    dsimp only
    obtain ⟨μ, hμ⟩ := A_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      _ _ _ _ _ _ _ (Qt A t) (Kt A t) (Vt A t) (queries t g) (vals t g) ((hcond0_0 t).mpr h0) (keys_low t g) (keys_high t g)
    exact (hμ r d).trans (congrArg _ (quotient A t μ r d))
  · have f : ∀ (k : Fin 4096) (d : Fin 256), (outsAt0 (F := Ideal) m c (t.val - 1) (Nat.lt_of_le_of_lt (Nat.sub_le _ _) t.isLt)).2.2 (ix2 k d) = ((Kt A t k d : ℝ) : EReal) :=
      fun k d => (state g (t.val - 1) _ k d).trans (by unfold Kt; rw [show (t.val - 1) / 8 = t.val / 8 by omega])
    rw [outsAt0_B m c t h0]
    dsimp only
    obtain ⟨μ, hμ⟩ := B_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      _ (iblk m c 1 t) (iblk m c 2 t) _ _ _ _ _ (Qt A t) (Kt A t) (Vt A t) (queries t g) (vals t g) (fun h => h0 ((hcond0_0 t).mp h)) f
    exact (hμ r d).trans (congrArg _ (quotient A t μ r d))

/-- The result after the run: the attention's output, head beside head. -/
theorem array_o : (dats (F := Ideal) m 0 c).arrAt 7 cfg0.N
    = fun i : S4096x1024.Idx => ((Model.out A (i 0).val ((i 1).val / 128) ((i 1).val % 128) : ℝ) : EReal) := by
  refine (dats (F := Ideal) m 0 c).arrAt_eq_of_cover 7 _ (fun t hf => ?_) (fun i => (Value.covered_iff7 i).2 (by
    have h0 : (i 0).val < 4096 := (i 0).isLt; have h1 : (i 1).val < 1024 := (i 1).isLt; omega))
  rw [Value.flushed7]
  funext y
  obtain ⟨r, d, rfl⟩ := pair (n := 512) (m := 128) y
  refine (out t g r d).trans ?_
  have e0 : (((cfg0.win 7).blk t).view.emb (ix2 r d : S512x128.Idx) 0).val = t.val % 8 * 512 + r := by
    blk_simp [idx_out t]
    try omega
  have e1 : (((cfg0.win 7).blk t).view.emb (ix2 r d : S512x128.Idx) 1).val = t.val / 8 * 128 + d := by
    blk_simp [idx_out t]
  show _ = ((Model.out A (((cfg0.win 7).blk t).view.emb (ix2 r d : S512x128.Idx) 0).val
    ((((cfg0.win 7).blk t).view.emb (ix2 r d : S512x128.Idx) 1).val / 128) ((((cfg0.win 7).blk t).view.emb (ix2 r d : S512x128.Idx) 1).val % 128) : ℝ) : EReal)
  have hd := d.isLt
  rw [e0, e1, show (t.val / 8 * 128 + (d : ℕ)) / 128 = t.val / 8 by omega, show (t.val / 8 * 128 + (d : ℕ)) % 128 = d by omega]

end Cert.FwdStep

end
-- ==== Proof.FwdFinite.lean ====
/- The forward attention's precondition: its shape conditions, and what it says at an index: every element of the three float
   arguments is a real. -/
module

public import proofs.«01_k».proof.Pre_finite_fwd
public import proofs.«01_k».proof.Proof.Finite

@[expose] public section

noncomputable section

namespace Cert.FwdFinite

open Idealize.ShloMosaic Cert.Pre_finite_fwd

/-- The shape conditions of the precondition's operations. -/
instance facts : Cert.Pre_finite_fwd.Facts where
  bitsLt_bf16_f32 := by decide
  bcast_S_S4096x2048 := by decide
  reducesTo_S4096x2048_S_d0_1 := by decide
  h_S_ := by decide
  bcast_S_S4096x128 := by decide
  reducesTo_S4096x128_S_d0_1 := by decide

theorem opened (x0 x1 : FVec Ideal S4096x2048 .bf16) (x2 : FVec Ideal S4096x128 .bf16) (x3 : IVec S4096 32)
    (h : Cert.Pre_finite_fwd.fn (F := Ideal) x0 x1 x2 x3 = fun _ => 1#1) :
    (∀ i, x0 i = (((x0 i : EReal).toReal : ℝ) : EReal)) ∧ (∀ i, x1 i = (((x1 i : EReal).toReal : ℝ) : EReal))
    ∧ (∀ i, x2 i = (((x2 i : EReal).toReal : ℝ) : EReal)) := by
  have e := congrFun h ix0
  simp only [Cert.Pre_finite_fwd.fn, andi, IntOp.andi_eq_one] at e
  obtain ⟨⟨e0, e1⟩, e2⟩ := e
  have b := Cert.Coe.bits_inf
  refine ⟨fun i => ?_, fun i => ?_, fun i => ?_⟩
  · have q := Host.reduce_andi_all _ _ _ _ _ e0 i
    refine Finite.real_of_lt _ ?_
    rw [← b]; exact q
  · have q := Host.reduce_andi_all _ _ _ _ _ e1 i
    refine Finite.real_of_lt _ ?_
    rw [← b]; exact q
  · have q := Host.reduce_andi_all _ _ _ _ _ e2 i
    refine Finite.real_of_lt _ ?_
    rw [← b]; exact q

end Cert.FwdFinite

end
-- ==== Proof.FwdSide.lean ====
/- The forward attention's two sides, from arguments that are reals. -/
module

public import proofs.«01_k».proof.Proof.FwdRef
public import proofs.«01_k».proof.Proof.FwdTables
public import proofs.«01_k».proof.Proof.FwdGiven
public import proofs.«01_k».proof.Proof.FwdFinite
public import proofs.«01_k».proof.Proof.Args

@[expose] public section

set_option maxRecDepth 16384

noncomputable section

namespace Cert.FwdSide

open Idealize.ShloMosaic Idealize.ShloMosaic.TcCoe Idealize.SL.Sem Cert.Model Cert.MlaFwdIdeal

variable (x0 x1 : FVec Ideal S4096x2048 .bf16) (x2 : FVec Ideal S4096x128 .bf16) (x3 : IVec S4096 32)

/-- The real numbers in the arguments; the forward attention has no cotangent. -/
def args : Args := Sides.args x0 x1 x2 x3 (fun _ => (0 : EReal))

theorem cosines (r : Fin 4096) (c : Fin 32) : MlaFwdIdeal.Host.h17 (F := Ideal) x3 (ix2 r c) = (((args x0 x1 x2 x3).cs r c : ℝ) : EReal) :=
  Sides.cosines x0 x1 x2 x3 (fun _ => (0 : EReal)) r c

theorem sines (r : Fin 4096) (c : Fin 32) : MlaFwdIdeal.Host.h18 (F := Ideal) x3 (ix2 r c) = (((args x0 x1 x2 x3).sn r c : ℝ) : EReal) :=
  Sides.sines x0 x1 x2 x3 (fun _ => (0 : EReal)) r c

theorem cos_eq : MlaFwdRefIdeal.Read.val_main_v17 (F := Ideal) x3 = MlaFwdIdeal.Host.h17 (F := Ideal) x3 := rfl

theorem sin_eq : MlaFwdRefIdeal.Read.val_main_v18 (F := Ideal) x3 = MlaFwdIdeal.Host.h18 (F := Ideal) x3 := rfl

section

variable (h : Cert.Pre_finite_fwd.fn (F := Ideal) x0 x1 x2 x3 = fun _ => 1#1)
include h

theorem qs (r : Fin 4096) (c : Fin 2048) : x0 (ix2 r c) = (((args x0 x1 x2 x3).q r c : ℝ) : EReal) :=
  ((FwdFinite.opened x0 x1 x2 x3 h).1 _).trans (congrArg (fun e : EReal => ((e.toReal : ℝ) : EReal)) (Sides.reduced (n := 4096) (k := 2048) x0 (by decide) (by decide) r c).symm)

theorem kvs (r : Fin 4096) (c : Fin 2048) : x1 (ix2 r c) = (((args x0 x1 x2 x3).kv r c : ℝ) : EReal) :=
  ((FwdFinite.opened x0 x1 x2 x3 h).2.1 _).trans (congrArg (fun e : EReal => ((e.toReal : ℝ) : EReal)) (Sides.reduced (n := 4096) (k := 2048) x1 (by decide) (by decide) r c).symm)

theorem kps (r : Fin 4096) (c : Fin 128) : x2 (ix2 r c) = (((args x0 x1 x2 x3).kp r c : ℝ) : EReal) :=
  ((FwdFinite.opened x0 x1 x2 x3 h).2.2 _).trans (congrArg (fun e : EReal => ((e.toReal : ℝ) : EReal)) (Sides.reduced (n := 4096) (k := 128) x2 (by decide) (by decide) r c).symm)

/-- The reference's result. -/
theorem reference : MlaFwdRefIdeal.Read.val_main_v67 (F := Ideal) x0 x1 x2 x3
    = (fun i : S4096x1024.Idx => ((Model.out (args x0 x1 x2 x3) (i 0).val ((i 1).val / 128) ((i 1).val % 128) : ℝ) : EReal)) := by
  have q := qs x0 x1 x2 x3 h
  have kv := kvs x0 x1 x2 x3 h
  have kp := kps x0 x1 x2 x3 h
  have hc : ∀ (r : Fin 4096) (c : Fin 32), MlaFwdRefIdeal.Read.val_main_v17 (F := Ideal) x3 (ix2 r c) = (((args x0 x1 x2 x3).cs r c : ℝ) : EReal) := by
    rw [cos_eq]; exact cosines x0 x1 x2 x3
  have hs : ∀ (r : Fin 4096) (c : Fin 32), MlaFwdRefIdeal.Read.val_main_v18 (F := Ideal) x3 (ix2 r c) = (((args x0 x1 x2 x3).sn r c : ℝ) : EReal) := by
    rw [sin_eq]; exact sines x0 x1 x2 x3
  obtain ⟨μ, hμ⟩ := FwdRef.maxima (args x0 x1 x2 x3) x0 x1 x2 x3 q kv kp hc hs
  funext i
  obtain ⟨n, k, rfl⟩ := FwdStep.pair (n := 4096) (m := 1024) i
  exact FwdRef.output _ x0 x1 x2 x3 q kv kp hc hs μ hμ n k

end

variable (m : (ℓ : Loc nD τ sig) → Buf (Elt Ideal) ℓ) (c : Dev nD)

/-- The real numbers in the arguments a device is launched with. -/
def launched : Args := args (m ((c : Thread nD τ).loc main_arg0)) (m ((c : Thread nD τ).loc main_arg1)) (m ((c : Thread nD τ).loc main_arg2))
  (m ((c : Thread nD τ).loc main_arg3))

variable (h : Cert.Pre_finite_fwd.fn (F := Ideal) (m ((c : Thread nD τ).loc main_arg0)) (m ((c : Thread nD τ).loc main_arg1))
  (m ((c : Thread nD τ).loc main_arg2)) (m ((c : Thread nD τ).loc main_arg3)) = fun _ => 1#1)
include h

/-- What the region finds. -/
theorem given : FwdStep.Given (launched m c) m c := by
  have hc := cosines (m ((c : Thread nD τ).loc main_arg0)) (m ((c : Thread nD τ).loc main_arg1)) (m ((c : Thread nD τ).loc main_arg2))
    (m ((c : Thread nD τ).loc main_arg3))
  have hs := sines (m ((c : Thread nD τ).loc main_arg0)) (m ((c : Thread nD τ).loc main_arg1)) (m ((c : Thread nD τ).loc main_arg2))
    (m ((c : Thread nD τ).loc main_arg3))
  refine ⟨qs _ _ _ _ h, kvs _ _ _ _ h, kps _ _ _ _ h, fun r d => ?_, fun r d => ?_, fun r d => ?_⟩
  · rw [Host.V26]; exact Host.table_c _ _ hc r d
  · rw [Host.V28]; exact Host.table_a _ _ hs r d
  · rw [Host.V30]; exact Host.table_b _ _ hs r d

end Cert.FwdSide

end
-- ==== Proof.Prod.lean ====
module

public import proofs.«01_k».proof.Proof.Coe

@[expose] public section

noncomputable section

namespace Cert.Prod

open Finset Idealize.ShloMosaic Idealize.ShloMosaic.TcCoe

/-- A matrix's entry at two natural numbers, zero outside the matrix. -/
def ext {n m : ℕ} (X : (⟨2, ![n, m]⟩ : Shape).Idx → EReal) (r d : ℕ) : EReal := if h : r < n ∧ d < m then X (ix2 ⟨r, h.1⟩ ⟨d, h.2⟩) else 0

/-- Inside the matrix it is the entry itself. -/
theorem ext_ix2 {n m : ℕ} (X : (⟨2, ![n, m]⟩ : Shape).Idx → EReal) (r : Fin n) (d : Fin m) : ext X r d = X (ix2 r d) :=
  dif_pos ⟨r.isLt, d.isLt⟩

/-- An index of a matrix is its two coordinates. -/
theorem pair {n m : ℕ} (y : (⟨2, ![n, m]⟩ : Shape).Idx) : ∃ (r : Fin n) (d : Fin m), y = ix2 r d :=
  ⟨y 0, y 1, by funext k; fin_cases k <;> rfl⟩

/-- A sum over an initial part, and over the part of length `b` behind it, is the sum over both. -/
theorem sum_step {b : ℕ} (f : ℕ → EReal) (F : Fin b → EReal) (k : ℕ) (h : ∀ x : Fin b, F x = f (k * b + x)) :
    ∑ x ∈ range (k * b), f x + ∑ x : Fin b, F x = ∑ x ∈ range ((k + 1) * b), f x := by
  rw [add_mul, one_mul, sum_range_add, sum_range (fun x => f (k * b + x)), Finset.sum_congr rfl fun x _ => h x]

/-- The first part alone. -/
theorem sum_first {b : ℕ} (f : ℕ → EReal) (F : Fin b → EReal) (k : ℕ) (hk : k = 0) (h : ∀ x : Fin b, F x = f (k * b + x)) :
    ∑ x : Fin b, F x = ∑ x ∈ range ((k + 1) * b), f x := by
  rw [← sum_step f F k h, hk, zero_mul, range_zero, sum_empty, zero_add]

/-- The product of a row of one matrix and a row of another. -/
def rows (K : ℕ) (X Y : ℕ → ℕ → EReal) (r d : ℕ) : EReal := ∑ k : Fin K, X r k * Y d k

/-- The product of a row of one matrix and a column of another. -/
def cols (K : ℕ) (X Y : ℕ → ℕ → EReal) (r d : ℕ) : EReal := ∑ k : Fin K, X r k * Y k d

/-- Inside both matrices the product of two rows is the sum over their entries. -/
theorem rows_ext {n m K : ℕ} (x : (⟨2, ![n, K]⟩ : Shape).Idx → EReal) (y : (⟨2, ![m, K]⟩ : Shape).Idx → EReal) (r : Fin n) (d : Fin m) :
    ∑ k : Fin K, x (ix2 r k) * y (ix2 d k) = rows K (ext x) (ext y) r d :=
  Finset.sum_congr rfl fun k _ => (congrArg₂ (· * ·) (ext_ix2 x r k) (ext_ix2 y d k)).symm

/-- Inside both matrices the product of a row and a column is the sum over their entries. -/
theorem cols_ext {n m K : ℕ} (x : (⟨2, ![n, K]⟩ : Shape).Idx → EReal) (y : (⟨2, ![K, m]⟩ : Shape).Idx → EReal) (r : Fin n) (d : Fin m) :
    ∑ k : Fin K, x (ix2 r k) * y (ix2 k d) = cols K (ext x) (ext y) r d :=
  Finset.sum_congr rfl fun k _ => (congrArg₂ (· * ·) (ext_ix2 x r k) (ext_ix2 y k d)).symm

/-- The product of a column of one matrix and a column of another. -/
def heads (K : ℕ) (X Y : ℕ → ℕ → EReal) (r d : ℕ) : EReal := ∑ k : Fin K, X k r * Y k d

/-- Inside both matrices the product of two columns is the sum over their entries. -/
theorem heads_ext {n m K : ℕ} (x : (⟨2, ![K, n]⟩ : Shape).Idx → EReal) (y : (⟨2, ![K, m]⟩ : Shape).Idx → EReal) (r : Fin n) (d : Fin m) :
    ∑ k : Fin K, x (ix2 k r) * y (ix2 k d) = heads K (ext x) (ext y) r d :=
  Finset.sum_congr rfl fun k _ => (congrArg₂ (· * ·) (ext_ix2 x k r) (ext_ix2 y k d)).symm

end Cert.Prod

end
-- ==== Proof.Gate.lean ====
module

public import proofs.«01_k».proof.Defs
public import proofs.«01_k».proof.Proof.Prod
public import proofs.«01_k».proof.Proof.Finite
public import proofs.«01_k».proof.Proof.Gen.GateIdeal.Value
public import proofs.«01_k».proof.Proof.Gen.GateRefIdeal.Run
public import proofs.«01_k».proof.Proof.Gen.GateRefIdeal.Read
public import Idealize.ShloMosaic.Lib.Pipeline.ValueKit
public import Idealize.ShloMosaic.Lib.Pipeline.ReadBack

@[expose] public section

set_option maxRecDepth 16384

noncomputable section

namespace Cert.GateFinite

open Idealize.ShloMosaic Cert.Pre_finite_gate

/-- The shape conditions of the precondition's operations. -/
instance facts : Cert.Pre_finite_gate.Facts where
  bitsLt_bf16_f32 := by decide
  bcast_S_S4096x2048 := by decide
  reducesTo_S4096x2048_S_d0_1 := by decide
  h_S_ := by decide
  bcast_S_S2048x2048 := by decide
  reducesTo_S2048x2048_S_d0_1 := by decide

/-- What the precondition says: every element of the first three arguments is a real. -/
theorem opened (x0 : FVec Ideal S4096x2048 .bf16) (x1 : FVec Ideal S2048x2048 .bf16) (x2 : FVec Ideal S4096x2048 .bf16) (x3 : FVec Ideal S4096x4992 .bf16)
    (h : Cert.Pre_finite_gate.fn (F := Ideal) x0 x1 x2 x3 = fun _ => 1#1) :
    (∀ i, x0 i = (((x0 i : EReal).toReal : ℝ) : EReal)) ∧ (∀ i, x1 i = (((x1 i : EReal).toReal : ℝ) : EReal))
    ∧ (∀ i, x2 i = (((x2 i : EReal).toReal : ℝ) : EReal)) := by
  have e := congrFun h ix0
  simp only [Cert.Pre_finite_gate.fn, andi, IntOp.andi_eq_one] at e
  obtain ⟨⟨e0, e1⟩, e2⟩ := e
  have b := Cert.Coe.bits_inf
  refine ⟨fun i => ?_, fun i => ?_, fun i => ?_⟩ <;> refine Cert.Finite.real_of_lt _ ?_ <;> rw [← b]
  · exact Host.reduce_andi_all _ _ _ _ _ e0 i
  · exact Host.reduce_andi_all _ _ _ _ _ e1 i
  · exact Host.reduce_andi_all _ _ _ _ _ e2 i

end Cert.GateFinite

namespace Cert.GateModel

open Idealize.ShloMosaic

/-- The gradient of the gated product's first factor. -/
def first (dy g : EReal) : EReal := dy * (g * Ideal.logistic g)

/-- The gradient of the gate, as the kernel forms it. -/
def second (dy ct g : EReal) : EReal := (dy * ct) * (Ideal.logistic g * (1 + g * (1 - Ideal.logistic g)))

/-- The gradient of the gate by the product rule is the kernel's form where the product and the other factor are reals. -/
theorem second_eq (D C : ℝ) (g : EReal) :
    (C : EReal) * D * Ideal.logistic g + g * ((C : EReal) * D) * (Ideal.logistic g * (1 - Ideal.logistic g)) = second D C g := by
  unfold second
  induction g with
  | bot => simp
  | top =>
    have h : (1 : EReal) - 1 = 0 := by rw [← EReal.coe_one, ← EReal.coe_sub, sub_self, EReal.coe_zero]
    simp [h, mul_comm]
  | coe g =>
    rw [Ideal.logistic_coe]
    generalize (1 + Real.exp (-g))⁻¹ = s
    norm_cast
    ring

end Cert.GateModel

namespace Cert.GateSide

open Finset Cert.GateIdeal Cert.GateIdeal.Gen Idealize.ShloMosaic Idealize.ShloMosaic.TcCoe Idealize.SL.Sem

theorem hz : (![0, 0] : Fin 2 → Nat) = fun _ => 0 := by decide

/-- The product of one tile of rows and another. -/
theorem tile (x0 x1 : Vec Ideal S1024x2048 .bf16) (r d : Fin 1024) : k0_pay1 (F := Ideal) x0 x1 (ix2 r d) = ∑ k : Fin 2048, x0 (ix2 r k) * x1 (ix2 d k) := by
  pointwise [k0_pay1]

/-- A point's first result at an index. -/
theorem value4 (x0 x1 : Vec Ideal S1024x2048 .bf16) (x3 : Vec Ideal S1024x1024 .bf16) (r d : Fin 1024) :
    k0_pay4 (F := Ideal) x0 x1 x3 (ix2 r d) = GateModel.first (∑ k : Fin 2048, x0 (ix2 r k) * x1 (ix2 d k)) (x3 (ix2 r d)) := by
  rw [← tile]
  rfl

/-- The constant one. -/
theorem one : Ideal.ofBits .f32 0x3F800000#32 = 1 := by
  simp [Ideal.ofBits, Ideal.ieee, -EReal.coe_mul]
  norm_cast
  norm_num

/-- A point's second result at an index. -/
theorem value5 (x0 x1 : Vec Ideal S1024x2048 .bf16) (x2 x3 : Vec Ideal S1024x1024 .bf16) (r d : Fin 1024) :
    k0_pay5 (F := Ideal) x0 x1 x3 x2 (ix2 r d) = GateModel.second (∑ k : Fin 2048, x0 (ix2 r k) * x1 (ix2 d k)) (x2 (ix2 r d)) (x3 (ix2 r d)) := by
  rw [← tile]
  unfold GateModel.second
  rw [← one]
  rfl

variable (c : Dev nD) (i : grid0.Coords) (arg2 : Memref sig .tc .vmem S1024x2048 .bf16) (harg2 : arg2.IsWhole) (arg3 : Memref sig .tc .vmem S1024x2048 .bf16) (harg3 : arg3.IsWhole)
  (arg4 : Memref sig .tc .vmem S1024x1024 .bf16) (harg4 : arg4.IsWhole) (arg5 : Memref sig .tc .vmem S1024x1024 .bf16) (harg5 : arg5.IsWhole)
  (arg6 : Memref sig .tc .vmem S1024x1024 .bf16) (harg6 : arg6.IsWhole) (arg7 : Memref sig .tc .vmem S1024x1024 .bf16) (harg7 : arg7.IsWhole)
  (x0 x1 : Vec Ideal S1024x2048 .bf16) (x2 x3 : Vec Ideal S1024x1024 .bf16)

/-- What a point leaves for the first result. -/
theorem out4 : out0_A_4 (F := Ideal) c i arg2 harg2 arg3 harg3 arg4 harg4 arg5 harg5 arg6 harg6 arg7 harg7 x0 x1 x2 x3 = k0_pay4 x0 x1 x3 := by
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  rw [View.canon_unit_zero hz]
  simp only [View.readAt_eq_ld, harg2.read_unread, harg3.read_unread, harg5.read_unread, View.ld_unit_zero (S := S1024x2048) hz,
    View.ld_unit_zero (S := S1024x1024) hz]

/-- What a point leaves for the second result. -/
theorem out5 : out0_A_5 (F := Ideal) c i arg2 harg2 arg3 harg3 arg4 harg4 arg5 harg5 arg6 harg6 arg7 harg7 x0 x1 x2 x3 = k0_pay5 x0 x1 x3 x2 := by
  unfold out0_A_5
  rw [View.read_writes_eq_canon _ _ _ (cover0_A_5 c i arg2 harg2 arg3 harg3 arg4 harg4 arg5 harg5 arg6 harg6 arg7 harg7 x0 x1 x2 x3)]
  unfold kernelRun0_A
  dsimp only
  rw [View.canon_unit_zero hz]
  simp only [View.readAt_eq_ld, harg2.read_unread, harg3.read_unread, harg4.read_unread, harg5.read_unread, View.ld_unit_zero (S := S1024x2048) hz,
    View.ld_unit_zero (S := S1024x1024) hz]

/-- The block each window takes at a point: a block of rows and a block of columns. -/
theorem idx : ∀ t : Fin cfg0.N,
    win0_0.index t = ![t.val / 2, 0] ∧ win0_1.index t = ![t.val % 2, 0] ∧ win0_2.index t = ![t.val / 2, t.val % 2] ∧
      win0_3.index t = ![t.val / 2, t.val % 2] ∧ win0_4.index t = ![t.val / 2, t.val % 2] ∧ win0_5.index t = ![t.val / 2, t.val % 2] :=
  (by decide +kernel : ∀ t : Fin grid0.N, _)

variable (m : (ℓ : Loc nD τ sig) → Buf (Elt Ideal) ℓ) (e : Dev nD) (t : Fin cfg0.N)

theorem lt_8 : t.val < 8 := lt_of_lt_of_eq t.isLt Gen.N_0

/-- The product's left entries. -/
abbrev X : ℕ → ℕ → EReal := Prod.ext (n := 4096) (m := 2048) (m ((e : Thread nD τ).loc main_arg0))
/-- The weight's entries. -/
abbrev Y : ℕ → ℕ → EReal := Prod.ext (n := 2048) (m := 2048) (m ((e : Thread nD τ).loc main_arg1))
/-- The gated product's first factor. -/
abbrev C : ℕ → ℕ → EReal := Prod.ext (n := 4096) (m := 2048) (m ((e : Thread nD τ).loc main_arg2))
/-- The gate's entries. -/
abbrev G : ℕ → ℕ → EReal := Prod.ext (n := 4096) (m := 4992) (m ((e : Thread nD τ).loc main_arg3))

/-- The left operand's block. -/
theorem block_x (a : Fin 1024) (d : Fin 2048) : iblk (F := Ideal) m e 0 t (ix2 a d) = X m e (t.val / 2 * 1024 + a) d := by
  have ht := lt_8 t
  have ha' := a.isLt
  have hd := d.isLt
  blk_simp [iblk, (idx t).1]
  refine Eq.trans (congrArg _ (?_ : _ = ix2 ⟨t.val / 2 * 1024 + a, by omega⟩ ⟨d, by omega⟩)) ((congrFun (V_main_arg0 m e) _).trans (Prod.ext_ix2 (n := 4096) (m := 2048) (m ((e : Thread nD τ).loc main_arg0)) _ _).symm)
  blk_ext [(idx t).1]

/-- The weight's block. -/
theorem block_y (a : Fin 1024) (d : Fin 2048) : iblk (F := Ideal) m e 1 t (ix2 a d) = Y m e (t.val % 2 * 1024 + a) d := by
  have ht := lt_8 t
  have ha' := a.isLt
  have hd := d.isLt
  blk_simp [iblk, (idx t).2.1]
  refine Eq.trans (congrArg _ (?_ : _ = ix2 ⟨t.val % 2 * 1024 + a, by omega⟩ ⟨d, by omega⟩)) ((congrFun (V_main_arg1 m e) _).trans (Prod.ext_ix2 (n := 2048) (m := 2048) (m ((e : Thread nD τ).loc main_arg1)) _ _).symm)
  blk_ext [(idx t).2.1]

/-- The first factor's block. -/
theorem block_c (a d : Fin 1024) : iblk (F := Ideal) m e 2 t (ix2 a d) = C m e (t.val / 2 * 1024 + a) (t.val % 2 * 1024 + d) := by
  have ht := lt_8 t
  have ha' := a.isLt
  have hd := d.isLt
  blk_simp [iblk, (idx t).2.2.1]
  refine Eq.trans (congrArg _ (?_ : _ = ix2 ⟨t.val / 2 * 1024 + a, by omega⟩ ⟨t.val % 2 * 1024 + d, by omega⟩)) ((congrFun (V_main_arg2 m e) _).trans (Prod.ext_ix2 (n := 4096) (m := 2048) (m ((e : Thread nD τ).loc main_arg2)) _ _).symm)
  blk_ext [(idx t).2.2.1]

/-- The gate's block. -/
theorem block_g (a d : Fin 1024) : X0_3 (F := Ideal) m e t (ix2 a d) = G m e (t.val / 2 * 1024 + a) (t.val % 2 * 1024 + d) := by
  have ht := lt_8 t
  have ha' := a.isLt
  have hd := d.isLt
  unfold X0_3 Pipeline.Window.fill
  rw [dif_pos (moved0_3 t _)]
  blk_simp [iblk, (idx t).2.2.2.1]
  refine Eq.trans (congrArg _ (?_ : _ = ix2 ⟨t.val / 2 * 1024 + a, by omega⟩ ⟨t.val % 2 * 1024 + d, by omega⟩)) ((congrFun (V_main_arg3 m e) _).trans (Prod.ext_ix2 (n := 4096) (m := 4992) (m ((e : Thread nD τ).loc main_arg3)) _ _).symm)
  blk_ext [(idx t).2.2.2.1]

/-- The first operand's block, at the tile's shape. -/
abbrev BX : Vec Ideal S1024x2048 .bf16 := iblk (F := Ideal) m e 0 t
/-- The weight's block, at the tile's shape. -/
abbrev BY : Vec Ideal S1024x2048 .bf16 := iblk (F := Ideal) m e 1 t
/-- The first factor's block, at the tile's shape. -/
abbrev BC : Vec Ideal S1024x1024 .bf16 := iblk (F := Ideal) m e 2 t
/-- The gate's block, at the tile's shape. -/
abbrev BG : Vec Ideal S1024x1024 .bf16 := X0_3 (F := Ideal) m e t

/-- The product's entry. -/
def dy (r d : ℕ) : EReal := ∑ k : Fin 2048, X m e r k * Y m e d k
/-- The first result's entry. -/
def res4 (r d : ℕ) : EReal := GateModel.first (dy m e r d) (G m e r d)
/-- The product's entry, by the arguments' own entries. -/
theorem dy_eq (x : Vec Ideal S4096x2048 .bf16) (y : Vec Ideal S2048x2048 .bf16) (hx : m ((e : Thread nD τ).loc main_arg0) = x) (hy : m ((e : Thread nD τ).loc main_arg1) = y)
    (r : Fin 4096) (d : Fin 2048) : ∑ k : Fin 2048, x (ix2 r k) * y (ix2 d k) = dy m e r d := by
  subst hx hy
  exact Finset.sum_congr rfl fun k _ => (congrArg₂ (· * ·) (Prod.ext_ix2 (n := 4096) (m := 2048) (m ((e : Thread nD τ).loc main_arg0)) r k)
    (Prod.ext_ix2 (n := 2048) (m := 2048) (m ((e : Thread nD τ).loc main_arg1)) d k)).symm
/-- The second result's entry. -/
def res5 (r d : ℕ) : EReal := GateModel.second (dy m e r d) (C m e r d) (G m e r d)

/-- A point's own product is its block of the whole product. -/
theorem part (r d : Fin 1024) : ∑ k : Fin 2048, BX m e t (ix2 r k) * BY m e t (ix2 d k) = dy m e (t.val / 2 * 1024 + r) (t.val % 2 * 1024 + d) :=
  Finset.sum_congr rfl fun k _ => congrArg₂ (· * ·) (block_x m e t r k) (block_y m e t d k)

/-- The point whose block holds an index. -/
def point (i : S4096x2048.Idx) : Fin cfg0.N :=
  ⟨2 * ((i 0).val / 1024) + (i 1).val / 1024, by
    have h0 : (i 0).val < 4096 := (i 0).isLt
    have h1 : (i 1).val < 2048 := (i 1).isLt
    exact lt_of_lt_of_eq (by omega) Gen.N_0.symm⟩

/-- That point's block does hold it. -/
theorem holds (i : S4096x2048.Idx) (f : Fin 2 → ℕ) (hf : f = ![(point i).val / 2, (point i).val % 2]) (a : Fin 2) :
    f a * S1024x1024.size a ≤ (i a).val ∧ (i a).val < f a * S1024x1024.size a + S1024x1024.size a := by
  have h0 : (i 0).val < 4096 := (i 0).isLt
  have h1 : (i 1).val < 2048 := (i 1).isLt
  have hp : (point i).val = 2 * ((i 0).val / 1024) + (i 1).val / 1024 := rfl
  subst hf
  match a with
  | ⟨0, _⟩ => show (point i).val / 2 * 1024 ≤ (i 0).val ∧ (i 0).val < (point i).val / 2 * 1024 + 1024; omega
  | ⟨1, _⟩ => show (point i).val % 2 * 1024 ≤ (i 1).val ∧ (i 1).val < (point i).val % 2 * 1024 + 1024; omega

/-- Every index of the first result is in a block written back. -/
theorem cover4 (i : S4096x2048.Idx) : ∃ t : Fin cfg0.N, (cfg0.win 4).flush t = true ∧ i ∈ ((cfg0.win 4).blk t).view.set := by
  refine ⟨point i, (by decide +kernel : ∀ t : Fin grid0.N, (cfg0.win 4).flush t = true) (point i), ?_⟩
  show i ∈ ((View.whole main_v0_0).slice (win0_4.rect (point i))).set
  rw [View.set_slice_whole, Rect.mem_set_unit]
  exact holds i _ (idx (point i)).2.2.2.2.1

/-- Every index of the second result is in a block written back. -/
theorem cover5 (i : S4096x2048.Idx) : ∃ t : Fin cfg0.N, (cfg0.win 5).flush t = true ∧ i ∈ ((cfg0.win 5).blk t).view.set := by
  refine ⟨point i, (by decide +kernel : ∀ t : Fin grid0.N, (cfg0.win 5).flush t = true) (point i), ?_⟩
  show i ∈ ((View.whole main_v0_1).slice (win0_5.rect (point i))).set
  rw [View.set_slice_whole, Rect.mem_set_unit]
  exact holds i _ (idx (point i)).2.2.2.2.2

/-- The first result after the run. -/
theorem array4 : (dats (F := Ideal) m 0 e).arrAt 4 cfg0.N = fun i : S4096x2048.Idx => res4 m e (i 0).val (i 1).val := by
  refine (dats (F := Ideal) m 0 e).arrAt_eq_of_cover 4 _ (fun t hf => ?_) (fun i => cover4 i)
  rw [Value.flushed4_A, out4]
  funext y
  obtain ⟨r, d, rfl⟩ := Prod.pair (n := 1024) (m := 1024) y
  refine (value4 (BX m e t) (BY m e t) (BG m e t) r d).trans ?_
  have e0 : (((cfg0.win 4).blk t).view.emb (ix2 r d : S1024x1024.Idx) 0).val = t.val / 2 * 1024 + r := by
    blk_simp [(idx t).2.2.2.2.1]
    try omega
  have e1 : (((cfg0.win 4).blk t).view.emb (ix2 r d : S1024x1024.Idx) 1).val = t.val % 2 * 1024 + d := by
    blk_simp [(idx t).2.2.2.2.1]
    try omega
  show _ = res4 m e (((cfg0.win 4).blk t).view.emb (ix2 r d : S1024x1024.Idx) 0).val (((cfg0.win 4).blk t).view.emb (ix2 r d : S1024x1024.Idx) 1).val
  rw [e0, e1, part]
  exact congrArg (GateModel.first _) (block_g m e t r d)

/-- The second result after the run. -/
theorem array5 : (dats (F := Ideal) m 0 e).arrAt 5 cfg0.N = fun i : S4096x2048.Idx => res5 m e (i 0).val (i 1).val := by
  refine (dats (F := Ideal) m 0 e).arrAt_eq_of_cover 5 _ (fun t hf => ?_) (fun i => cover5 i)
  rw [Value.flushed5_A, out5]
  funext y
  obtain ⟨r, d, rfl⟩ := Prod.pair (n := 1024) (m := 1024) y
  refine (value5 (BX m e t) (BY m e t) (BC m e t) (BG m e t) r d).trans ?_
  have e0 : (((cfg0.win 5).blk t).view.emb (ix2 r d : S1024x1024.Idx) 0).val = t.val / 2 * 1024 + r := by
    blk_simp [(idx t).2.2.2.2.2]
    try omega
  have e1 : (((cfg0.win 5).blk t).view.emb (ix2 r d : S1024x1024.Idx) 1).val = t.val % 2 * 1024 + d := by
    blk_simp [(idx t).2.2.2.2.2]
    try omega
  show _ = res5 m e (((cfg0.win 5).blk t).view.emb (ix2 r d : S1024x1024.Idx) 0).val (((cfg0.win 5).blk t).view.emb (ix2 r d : S1024x1024.Idx) 1).val
  rw [e0, e1, part]
  exact congrArg₂ (GateModel.second _) (block_c m e t r d) (block_g m e t r d)

end Cert.GateSide

namespace Cert.GatePlain

open Finset Cert.GateRefIdeal Cert.GateRefIdeal.Gen Cert.GateRefIdeal.Read Idealize.ShloMosaic Idealize.ShloMosaic.TcCoe Idealize.SL.Sem

variable (x0 : Vec Ideal S4096x2048 .bf16) (x1 : Vec Ideal S2048x2048 .bf16) (x2 : Vec Ideal S4096x2048 .bf16) (x3 : Vec Ideal S4096x4992 .bf16)

/-- The reference's product at an index. -/
theorem dy (r : Fin 4096) (d : Fin 2048) : val_main_v8 (F := Ideal) x0 x1 (ix2 r d) = ∑ k : Fin 2048, x0 (ix2 r k) * x1 (ix2 d k) := by
  pointwise [val_main_v8, val_main_v4, val_main_v3]

/-- The reference's gate at an index. -/
theorem gate (r : Fin 4096) (d : Fin 2048) : val_main_v2 (F := Ideal) x3 (ix2 r d) = x3 (ix2 r ⟨d, by omega⟩) := by
  pointwise [val_main_v2, val_main_v0]

/-- The reference's sigmoid at an index. -/
theorem sigmoid (r : Fin 4096) (d : Fin 2048) : val_main_v5_2 (F := Ideal) x3 (ix2 r d) = Ideal.logistic (x3 (ix2 r ⟨d, by omega⟩)) := by
  rw [← gate x3 r d]
  unfold Ideal.logistic
  rw [← GateSide.one]
  pointwise [val_main_v5_2, val_main_call0_v4, val_main_call0_cst_0, val_main_call0_v3, val_main_call0_v2, val_main_call0_cst, val_main_call0_v1, val_main_call0_v0]

/-- The reference's first result at an index. -/
theorem res12 (r : Fin 4096) (d : Fin 2048) : val_main_v12 (F := Ideal) x0 x1 x3 (ix2 r d)
    = GateModel.first (∑ k : Fin 2048, x0 (ix2 r k) * x1 (ix2 d k)) (x3 (ix2 r ⟨d, by omega⟩)) := by
  unfold GateModel.first
  rw [← dy, ← sigmoid x3 r d, ← gate x3 r d]
  rfl

/-- The reference's second result at an index. -/
theorem res13 (r : Fin 4096) (d : Fin 2048) : val_main_v13 (F := Ideal) x0 x1 x2 x3 (ix2 r d)
    = x2 (ix2 r d) * (∑ k : Fin 2048, x0 (ix2 r k) * x1 (ix2 d k)) * Ideal.logistic (x3 (ix2 r ⟨d, by omega⟩))
      + x3 (ix2 r ⟨d, by omega⟩) * (x2 (ix2 r d) * ∑ k : Fin 2048, x0 (ix2 r k) * x1 (ix2 d k))
        * (Ideal.logistic (x3 (ix2 r ⟨d, by omega⟩)) * (1 - Ideal.logistic (x3 (ix2 r ⟨d, by omega⟩)))) := by
  rw [← dy, ← sigmoid x3 r d, ← gate x3 r d, ← GateSide.one]
  rfl

/-- An argument the precondition covers, at an index. -/
abbrev re {n m : ℕ} (X : (⟨2, ![n, m]⟩ : Shape).Idx → EReal) (i : (⟨2, ![n, m]⟩ : Shape).Idx) : ℝ := (X i).toReal

/-- A product of finite matrices is finite. -/
theorem dy_real (h0 : ∀ i, x0 i = ((re x0 i : ℝ) : EReal)) (h1 : ∀ i, x1 i = ((re x1 i : ℝ) : EReal)) (r : Fin 4096) (d : Fin 2048) :
    ∃ D : ℝ, ∑ k : Fin 2048, x0 (ix2 r k) * x1 (ix2 d k) = (D : EReal) :=
  ⟨∑ k : Fin 2048, re x0 (ix2 r k) * re x1 (ix2 d k), by
    rw [← Coe.sum_coe]
    exact Finset.sum_congr rfl fun k _ => (congrArg₂ (· * ·) (h0 _) (h1 _)).trans (Coe.mul_coe _ _)⟩

/-- The kernel's two gradients are the reference's. -/
theorem algebraic : algebraic_GateIdeal_GateRefIdeal_pre_finite_gate := by
  intro m ρ m' ρ' hpre hagree
  refine ⟨_, _, Cert.GateIdeal.Value.run_blocks (F := Ideal) m ρ, ?_⟩
  refine (θ_run _ _ _).mono (fun _ h c => ?_) (Cert.GateRefIdeal.Value.run (F := Ideal) m' ρ')
  obtain ⟨f0, f1, f2⟩ := Cert.GateFinite.opened _ _ _ _ (hpre c)
  obtain ⟨e0, e1, e2, e3⟩ := hagree c
  obtain ⟨h0, h1, hargs⟩ := h c
  rw [e0, e1, e3] at h0
  rw [e0, e1, e2, e3] at h1
  refine ⟨h0.trans ((val_main_v12_eq _ _ _).trans (Eq.trans ?_ (GateSide.array4 m c).symm)),
    h1.trans ((val_main_v13_eq _ _ _ _).trans (Eq.trans ?_ (GateSide.array5 m c).symm)), hargs⟩
  · funext i
    obtain ⟨r, d, rfl⟩ := Prod.pair (n := 4096) (m := 2048) i
    refine (res12 _ _ _ r d).trans ?_
    exact congrArg₂ GateModel.first (GateSide.dy_eq m c _ _ rfl rfl r d) (Prod.ext_ix2 (n := 4096) (m := 4992) (m ((c : Thread GateIdeal.nD GateIdeal.τ).loc GateIdeal.main_arg3)) r ⟨d, by omega⟩).symm
  · funext i
    obtain ⟨r, d, rfl⟩ := Prod.pair (n := 4096) (m := 2048) i
    refine (res13 _ _ _ _ r d).trans ?_
    obtain ⟨D, hD⟩ := dy_real _ _ f0 f1 r d
    rw [hD, f2]
    refine (GateModel.second_eq D _ _).trans ?_
    rw [← hD, ← f2]
    refine (congrArg₂ (fun a b => GateModel.second a b _) (GateSide.dy_eq m c _ _ rfl rfl r d) (Prod.ext_ix2 (n := 4096) (m := 2048) (m ((c : Thread GateIdeal.nD GateIdeal.τ).loc GateIdeal.main_arg2)) r d).symm).trans ?_
    exact congrArg (GateModel.second _ _) (Prod.ext_ix2 (n := 4096) (m := 4992) (m ((c : Thread GateIdeal.nD GateIdeal.τ).loc GateIdeal.main_arg3)) r ⟨d, by omega⟩).symm

end Cert.GatePlain

end
-- ==== Proof.Conv.lean ====
module

public import proofs.«01_k».proof.Defs
public import proofs.«01_k».proof.Proof.Prod
public import proofs.«01_k».proof.Proof.Gen.ConvIdeal.Value
public import proofs.«01_k».proof.Proof.Gen.ConvRefIdeal.Run
public import proofs.«01_k».proof.Proof.Gen.ConvRefIdeal.Read
public import Idealize.ShloMosaic.Lib.Pipeline.ValueKit
public import Idealize.ShloMosaic.Lib.Pipeline.ReadBack

@[expose] public section

set_option maxRecDepth 16384

noncomputable section

namespace Cert.ConvModel

open Finset

/-- The row above, zero at the first row. -/
def above (f : ℕ → EReal) (r : ℕ) : EReal := if r = 0 then 0 else f (r - 1)
/-- The row below, zero at the last row. -/
def below (f : ℕ → EReal) (r : ℕ) : EReal := if r = 4095 then 0 else f (r + 1)

variable (Z W D : ℕ → ℕ → EReal)

/-- The gated input of the convolution. -/
def u (c r : ℕ) : EReal := Z r (3456 + c) * Z r (3968 + c)
/-- The gradient of the convolution's result. -/
def g (c r : ℕ) : EReal := D r (1024 + c) * Z r (2944 + c)
/-- The convolution's result. -/
def conv (r c : ℕ) : EReal := above (u Z c) r * W 0 c + u Z c r * W 1 c + below (u Z c) r * W 2 c
/-- The gradient of the gated input. -/
def du (r c : ℕ) : EReal := below (g Z D c) r * W 0 c + g Z D c r * W 1 c + above (g Z D c) r * W 2 c
/-- The gradient of the output gate. -/
def dgb (r c : ℕ) : EReal := D r (1024 + c) * conv Z W r c
/-- The gradient of the input gate. -/
def dgc (r c : ℕ) : EReal := du Z W D r c * Z r (3968 + c)
/-- The gradient of the input. -/
def dxin (r c : ℕ) : EReal := du Z W D r c * Z r (3456 + c)
/-- The row of the input a tap reads. -/
def tap (j c r : ℕ) : EReal := if j = 0 then above (u Z c) r else if j = 1 then u Z c r else below (u Z c) r
/-- The gradient of the taps. -/
def dw (j c : ℕ) : EReal := ∑ r : Fin 4096, g Z D c r * tap Z j c r

end Cert.ConvModel

namespace Cert.ConvSide

open Finset Cert.ConvIdeal Cert.ConvIdeal.Gen Cert.ConvModel Idealize.ShloMosaic Idealize.ShloMosaic.TcCoe Idealize.SL.Sem

theorem hz : (![0, 0] : Fin 2 → Nat) = fun _ => 0 := by decide

/-- The constant zero. -/
theorem zero : Ideal.ofBits .f32 0x00000000#32 = 0 := by simp [Ideal.ofBits, Ideal.ieee]

/-- A block's rows shifted along, one row zero. -/
abbrev shift (n k : BitVec 32) (x : FVec Ideal S4096x128 .f32) : FVec Ideal S4096x128 .f32 :=
  select (cmpi .eq (iota .tc S4096x128 32 [0] iota_S4096x128_d0_w32) (broadcast S4096x128 k)) (broadcast S4096x128 (Scalar.ofBits .f32 0x00000000#32 : Ideal .f32))
    (dynamicRotate 0 n none x rotates_S4096x128_d0)

theorem shift_eq (n k : BitVec 32) (x : FVec Ideal S4096x128 .f32) (r : Fin 4096) (d : Fin 128) (p : Fin 4096)
    (hp : (r.val + 4096 - n.toNat % 4096) % 4096 = p.val) : shift n k x (ix2 r d) = if r.val = k.toNat then 0 else x (ix2 p d) := by
  pointwise [shift]
  unfold Scalar.select
  by_cases h : r.val = k.toNat
  · rw [if_pos h, if_pos]
    refine IntOp.cmpi_eq.2 ?_
    apply BitVec.eq_of_toNat_eq
    rw [BitVec.toNat_ofNat, h]
    exact Nat.mod_eq_of_lt k.isLt
  · rw [if_neg h, if_neg]
    · exact congrArg (fun z => x (ix2 z d)) (Fin.ext hp)
    · intro h'
      replace h' := IntOp.cmpi_eq.1 h'
      apply h
      rw [← h', BitVec.toNat_ofNat]
      exact (Nat.mod_eq_of_lt (by omega)).symm

/-- A block shifted down by one row, the first row zero. -/
abbrev down (x : FVec Ideal S4096x128 .f32) : FVec Ideal S4096x128 .f32 := shift 1#32 0#32 x

/-- A block shifted up by one row, the last row zero. -/
abbrev up (x : FVec Ideal S4096x128 .f32) : FVec Ideal S4096x128 .f32 := shift 4095#32 4095#32 x

theorem down_eq (x : FVec Ideal S4096x128 .f32) (d : Fin 128) (f : ℕ → EReal) (h : ∀ r : Fin 4096, x (ix2 r d) = f r) (r : Fin 4096) :
    down x (ix2 r d) = above f r := by
  have n1 : (1#32 : BitVec 32).toNat = 1 := rfl
  have n0 : (0#32 : BitVec 32).toNat = 0 := rfl
  unfold above
  by_cases hr : r.val = 0
  · rw [if_pos hr]
    refine (shift_eq _ _ x r d ⟨4095, by decide⟩ ?_).trans (if_pos hr)
    rw [n1, hr]
  · rw [if_neg hr]
    have hr' : r.val - 1 < 4096 := by omega
    refine (shift_eq _ _ x r d ⟨r.val - 1, hr'⟩ ?_).trans ((if_neg hr).trans (h _))
    rw [n1]
    show (r.val + 4096 - 1) % 4096 = r.val - 1
    omega

theorem up_eq (x : FVec Ideal S4096x128 .f32) (d : Fin 128) (f : ℕ → EReal) (h : ∀ r : Fin 4096, x (ix2 r d) = f r) (r : Fin 4096) :
    up x (ix2 r d) = below f r := by
  have n1 : (4095#32 : BitVec 32).toNat = 4095 := by decide
  unfold below
  by_cases hr : r.val = 4095
  · rw [if_pos hr]
    refine (shift_eq _ _ x r d ⟨0, by decide⟩ ?_).trans (if_pos (hr.trans n1.symm))
    rw [n1, hr]
  · rw [if_neg hr]
    have hr' : r.val + 1 < 4096 := by omega
    refine (shift_eq _ _ x r d ⟨r.val + 1, hr'⟩ ?_).trans ((if_neg (n1 ▸ hr)).trans (h _))
    rw [n1]
    show (r.val + 4096 - 4095) % 4096 = r.val + 1
    omega

variable (x0 x1 x2 : Vec Ideal S4096x128 .bf16) (x3 : Vec Ideal S3x128 .f32) (x4 : Vec Ideal S4096x128 .bf16)

/-- A row of taps spread over a block. -/
theorem spread (w : Vec Ideal S1x128 .f32) (r : Fin 4096) (d : Fin 128) : broadcastTo S4096x128 w broadcasts_S1x128_S4096x128 (ix2 r d) = w (ix2 0 d) := by
  pointwise

theorem value7 (w0 w1 w2 : Vec Ideal S1x128 .f32) (r : Fin 4096) (d : Fin 128) :
    k0_pay7 (F := Ideal) x1 x2 x4 w0 w1 w2 (ix2 r d)
      = x4 (ix2 r d) * (down (k0_pay4 x1 x2) (ix2 r d) * w0 (ix2 0 d) + k0_pay4 (F := Ideal) x1 x2 (ix2 r d) * w1 (ix2 0 d) + up (k0_pay4 x1 x2) (ix2 r d) * w2 (ix2 0 d)) := by
  rw [← spread w0 r d, ← spread w1 r d, ← spread w2 r d]
  rfl

theorem value13 (w0 w1 w2 : Vec Ideal S1x128 .f32) (y : FVec Ideal S4096x128 .f32) (r : Fin 4096) (d : Fin 128) :
    k0_pay13 (F := Ideal) w0 w1 w2 y (ix2 r d)
      = up y (ix2 r d) * w0 (ix2 0 d) + y (ix2 r d) * w1 (ix2 0 d) + down y (ix2 r d) * w2 (ix2 0 d) := by
  rw [← spread w0 r d, ← spread w1 r d, ← spread w2 r d]
  rfl

theorem sum (y : FVec Ideal S4096x128 .f32) (d : Fin 128) :
    multiReduction (F := Ideal) .add [0] S128 y 0x00000000#32 reduces_S4096x128_S128 (.inl rfl) rfl (ix1 d) = ∑ r : Fin 4096, y (ix2 r d) := by
  pointwise

theorem ld0 (d : Fin 128) : View.ld x3 r0_1 (ix2 (0 : Fin 1) d) = x3 (ix2 0 d) := View.ld_unit_apply_of x3 _ _ _ _ _ (fun a => by match a with | 0 => rfl | 1 => exact (Nat.zero_add _).symm)
theorem ld1 (d : Fin 128) : View.ld x3 r0_2 (ix2 (0 : Fin 1) d) = x3 (ix2 1 d) := View.ld_unit_apply_of x3 _ _ _ _ _ (fun a => by match a with | 0 => rfl | 1 => exact (Nat.zero_add _).symm)
theorem ld2 (d : Fin 128) : View.ld x3 r0_3 (ix2 (0 : Fin 1) d) = x3 (ix2 2 d) := View.ld_unit_apply_of x3 _ _ _ _ _ (fun a => by match a with | 0 => rfl | 1 => exact (Nat.zero_add _).symm)

/-- What a block's entries are: those of the arguments at a column. -/
structure Col (Z W D : ℕ → ℕ → EReal) (d : Fin 128) (c : ℕ) : Prop where
  gb : ∀ r : Fin 4096, x0 (ix2 r d) = Z r (2944 + c)
  gc : ∀ r : Fin 4096, x1 (ix2 r d) = Z r (3456 + c)
  xin : ∀ r : Fin 4096, x2 (ix2 r d) = Z r (3968 + c)
  w : ∀ (j : Fin 3), x3 (ix2 j d) = W j c
  cat : ∀ r : Fin 4096, x4 (ix2 r d) = D r (1024 + c)

variable {x0 x1 x2 x3 x4} {Z W D : ℕ → ℕ → EReal} {d : Fin 128} {c : ℕ} (h : Col x0 x1 x2 x3 x4 Z W D d c)
include h

theorem in_eq (r : Fin 4096) : k0_pay4 (F := Ideal) x1 x2 (ix2 r d) = u Z c r := congrArg₂ (· * ·) (h.gc r) (h.xin r)

theorem g_eq (r : Fin 4096) : k0_pay8 (F := Ideal) x4 x0 (ix2 r d) = g Z D c r := congrArg₂ (· * ·) (h.cat r) (h.gb r)

theorem out5 (r : Fin 4096) : out0_5 (F := Ideal) x0 x1 x2 x3 x4 (ix2 r d) = dgb Z W D r c := by
  unfold out0_5
  rw [View.canon_unit_zero hz]
  simp only [View.ld_unit_zero (S := S4096x128) hz]
  refine (value7 x1 x2 x4 _ _ _ r d).trans ?_
  rw [down_eq _ d _ (in_eq h), up_eq _ d _ (in_eq h), in_eq h, h.cat, ld0, ld1, ld2, h.w, h.w, h.w]
  rfl

theorem du_eq (r : Fin 4096) : k0_pay13 (F := Ideal) (View.ld x3 r0_1) (View.ld x3 r0_2) (View.ld x3 r0_3) (k0_pay8 x4 x0) (ix2 r d) = du Z W D r c := by
  refine (value13 _ _ _ _ r d).trans ?_
  rw [down_eq _ d _ (g_eq h), up_eq _ d _ (g_eq h), g_eq h, ld0, ld1, ld2, h.w, h.w, h.w]
  rfl

theorem out6 (r : Fin 4096) : out0_6 (F := Ideal) x0 x1 x2 x3 x4 (ix2 r d) = dgc Z W D r c := by
  unfold out0_6 k0_pay16
  rw [View.canon_unit_zero hz]
  simp only [View.ld_unit_zero (S := S4096x128) hz]
  exact congrArg₂ (· * ·) (du_eq h r) (h.xin r)

theorem out7 (r : Fin 4096) : out0_7 (F := Ideal) x0 x1 x2 x3 x4 (ix2 r d) = dxin Z W D r c := by
  unfold out0_7 k0_pay16
  rw [View.canon_unit_zero hz]
  simp only [View.ld_unit_zero (S := S4096x128) hz]
  exact congrArg₂ (· * ·) (du_eq h r) (h.gc r)

theorem out8 (j : Fin 3) : out0_8 (F := Ideal) x0 x1 x2 x3 x4 (ix2 j d) = dw Z D j c := by
  unfold out0_8 k0_pay16
  simp only [View.ld_unit_zero (S := S4096x128) hz]
  refine (Value.canon8_eq x4 x0 x1 x2 _).trans ?_
  unfold dw
  have hi : ∀ j : Fin 3, Value.ix8_0 (ix2 j d) = ix1 d := fun j => by funext a; match a with | 0 => rfl
  match j with
  | 0 =>
    refine ((congrArg (multiReduction (F := Ideal) .add [0] S128 (mulf (k0_pay8 x4 x0) (down (k0_pay4 x1 x2))) 0x00000000#32 reduces_S4096x128_S128 (.inl rfl) rfl) (hi 0)).trans (sum _ d)).trans (Finset.sum_congr rfl fun r _ => ?_)
    exact congrArg₂ (· * ·) (g_eq h r) (down_eq _ d _ (in_eq h) r)
  | 1 =>
    refine ((congrArg (multiReduction (F := Ideal) .add [0] S128 (mulf (k0_pay8 x4 x0) (k0_pay4 x1 x2)) 0x00000000#32 reduces_S4096x128_S128 (.inl rfl) rfl) (hi 1)).trans (sum _ d)).trans (Finset.sum_congr rfl fun r _ => ?_)
    exact congrArg₂ (· * ·) (g_eq h r) (in_eq h r)
  | 2 =>
    refine ((congrArg (multiReduction (F := Ideal) .add [0] S128 (mulf (k0_pay8 x4 x0) (up (k0_pay4 x1 x2))) 0x00000000#32 reduces_S4096x128_S128 (.inl rfl) rfl) (hi 2)).trans (sum _ d)).trans (Finset.sum_congr rfl fun r _ => ?_)
    exact congrArg₂ (· * ·) (g_eq h r) (up_eq _ d _ (in_eq h) r)

omit h

/-- The block each window takes at a point: a block of columns. -/
theorem idx : ∀ t : Fin cfg0.N,
    win0_0.index t = ![0, 23 + t.val] ∧ win0_1.index t = ![0, 27 + t.val] ∧ win0_2.index t = ![0, 31 + t.val] ∧
      win0_3.index t = ![0, t.val] ∧ win0_4.index t = ![0, 8 + t.val] ∧ win0_5.index t = ![0, t.val] ∧ win0_6.index t = ![0, t.val]
      ∧ win0_7.index t = ![0, t.val] ∧ win0_8.index t = ![0, t.val] :=
  (by decide +kernel : ∀ t : Fin grid0.N, _)

variable (m : (ℓ : Loc nD τ sig) → Buf (Elt Ideal) ℓ) (e : Dev nD) (t : Fin cfg0.N)

theorem lt_4 : t.val < 4 := lt_of_lt_of_eq t.isLt Gen.N_0

/-- The first argument's entries. -/
abbrev ZZ : ℕ → ℕ → EReal := Prod.ext (n := 4096) (m := 4992) (m ((e : Thread nD τ).loc main_arg0))
/-- The taps' entries. -/
abbrev WW : ℕ → ℕ → EReal := Prod.ext (n := 3) (m := 512) (m ((e : Thread nD τ).loc main_arg1))
/-- The incoming gradient's entries. -/
abbrev DD : ℕ → ℕ → EReal := Prod.ext (n := 4096) (m := 2048) (m ((e : Thread nD τ).loc main_arg2))

/-- The blocks of a point. -/
theorem col (d : Fin 128) : Col (iblk (F := Ideal) m e 0 t) (iblk (F := Ideal) m e 1 t) (iblk (F := Ideal) m e 2 t) (iblk (F := Ideal) m e 3 t) (iblk (F := Ideal) m e 4 t)
    (ZZ m e) (WW m e) (DD m e) d (t.val * 128 + d) := by
  have ht := lt_4 t
  have hd := d.isLt
  constructor
  · intro r
    blk_simp [iblk, (idx t).1]
    refine Eq.trans (congrArg _ (?_ : _ = ix2 ⟨r, by omega⟩ ⟨2944 + (t.val * 128 + d), by omega⟩)) ((congrFun (V_main_arg0 m e) _).trans (Prod.ext_ix2 (n := 4096) (m := 4992) (m ((e : Thread nD τ).loc main_arg0)) _ _).symm)
    blk_ext [(idx t).1]
  · intro r
    blk_simp [iblk, (idx t).2.1]
    refine Eq.trans (congrArg _ (?_ : _ = ix2 ⟨r, by omega⟩ ⟨3456 + (t.val * 128 + d), by omega⟩)) ((congrFun (V_main_arg0 m e) _).trans (Prod.ext_ix2 (n := 4096) (m := 4992) (m ((e : Thread nD τ).loc main_arg0)) _ _).symm)
    blk_ext [(idx t).2.1]
  · intro r
    blk_simp [iblk, (idx t).2.2.1]
    refine Eq.trans (congrArg _ (?_ : _ = ix2 ⟨r, by omega⟩ ⟨3968 + (t.val * 128 + d), by omega⟩)) ((congrFun (V_main_arg0 m e) _).trans (Prod.ext_ix2 (n := 4096) (m := 4992) (m ((e : Thread nD τ).loc main_arg0)) _ _).symm)
    blk_ext [(idx t).2.2.1]
  · intro j
    blk_simp [iblk, (idx t).2.2.2.1]
    refine Eq.trans (congrArg _ (?_ : _ = ix2 ⟨j, by omega⟩ ⟨t.val * 128 + d, by omega⟩)) ((congrFun (V_main_arg1 m e) _).trans (Prod.ext_ix2 (n := 3) (m := 512) (m ((e : Thread nD τ).loc main_arg1)) _ _).symm)
    blk_ext [(idx t).2.2.2.1]
  · intro r
    blk_simp [iblk, (idx t).2.2.2.2.1]
    refine Eq.trans (congrArg _ (?_ : _ = ix2 ⟨r, by omega⟩ ⟨1024 + (t.val * 128 + d), by omega⟩)) ((congrFun (V_main_arg2 m e) _).trans (Prod.ext_ix2 (n := 4096) (m := 2048) (m ((e : Thread nD τ).loc main_arg2)) _ _).symm)
    blk_ext [(idx t).2.2.2.2.1]

theorem cover5 (i : S4096x512.Idx) : ∃ t : Fin cfg0.N, (cfg0.win 5).flush t = true ∧ i ∈ ((cfg0.win 5).blk t).view.set := by
  have h0 : (i 0).val < 4096 := (i 0).isLt
  have h1 : (i 1).val < 512 := (i 1).isLt
  have hN : (i 1).val / 128 < cfg0.N := lt_of_lt_of_eq (by omega : (i 1).val / 128 < 4) Gen.N_0.symm
  refine ⟨⟨(i 1).val / 128, hN⟩, (by decide +kernel : ∀ p : Fin cfg0.N, (cfg0.win 5).flush p = true) _, ?_⟩
  show i ∈ ((View.whole main_v0_0).slice (win0_5.rect ⟨(i 1).val / 128, hN⟩)).set
  rw [View.set_slice_whole, Rect.mem_set_unit]
  intro a
  show win0_5.index ⟨(i 1).val / 128, hN⟩ a * S4096x128.size a ≤ (i a : Nat) ∧ (i a : Nat) < win0_5.index ⟨(i 1).val / 128, hN⟩ a * S4096x128.size a + S4096x128.size a
  rw [(idx _).2.2.2.2.2.1]
  match a with
  | 0 => show 0 * 4096 ≤ (i 0 : Nat) ∧ (i 0 : Nat) < 0 * 4096 + 4096; omega
  | 1 => show (i 1).val / 128 * 128 ≤ (i 1 : Nat) ∧ (i 1 : Nat) < (i 1).val / 128 * 128 + 128; omega

/-- A result after the run. -/
theorem array5 : (dats (F := Ideal) m 0 e).arrAt 5 cfg0.N = fun i : S4096x512.Idx => dgb (ZZ m e) (WW m e) (DD m e) (i 0).val (i 1).val := by
  refine (dats (F := Ideal) m 0 e).arrAt_eq_of_cover 5 _ (fun t hf => ?_) (fun i => cover5 i)
  rw [Value.flushed5]
  funext y
  obtain ⟨r, d, rfl⟩ := Prod.pair (n := 4096) (m := 128) y
  refine (out5 (col m e t d) r).trans ?_
  have e0 : (((cfg0.win 5).blk t).view.emb (ix2 r d : S4096x128.Idx) 0).val = r := by
    blk_simp [(idx t).2.2.2.2.2.1]
    try omega
  have e1 : (((cfg0.win 5).blk t).view.emb (ix2 r d : S4096x128.Idx) 1).val = t.val * 128 + d := by
    blk_simp [(idx t).2.2.2.2.2.1]
    try omega
  show _ = dgb (ZZ m e) (WW m e) (DD m e) (((cfg0.win 5).blk t).view.emb (ix2 r d : S4096x128.Idx) 0).val (((cfg0.win 5).blk t).view.emb (ix2 r d : S4096x128.Idx) 1).val
  rw [e0, e1]

theorem cover6 (i : S4096x512.Idx) : ∃ t : Fin cfg0.N, (cfg0.win 6).flush t = true ∧ i ∈ ((cfg0.win 6).blk t).view.set := by
  have h0 : (i 0).val < 4096 := (i 0).isLt
  have h1 : (i 1).val < 512 := (i 1).isLt
  have hN : (i 1).val / 128 < cfg0.N := lt_of_lt_of_eq (by omega : (i 1).val / 128 < 4) Gen.N_0.symm
  refine ⟨⟨(i 1).val / 128, hN⟩, (by decide +kernel : ∀ p : Fin cfg0.N, (cfg0.win 6).flush p = true) _, ?_⟩
  show i ∈ ((View.whole main_v0_1).slice (win0_6.rect ⟨(i 1).val / 128, hN⟩)).set
  rw [View.set_slice_whole, Rect.mem_set_unit]
  intro a
  show win0_6.index ⟨(i 1).val / 128, hN⟩ a * S4096x128.size a ≤ (i a : Nat) ∧ (i a : Nat) < win0_6.index ⟨(i 1).val / 128, hN⟩ a * S4096x128.size a + S4096x128.size a
  rw [(idx _).2.2.2.2.2.2.1]
  match a with
  | 0 => show 0 * 4096 ≤ (i 0 : Nat) ∧ (i 0 : Nat) < 0 * 4096 + 4096; omega
  | 1 => show (i 1).val / 128 * 128 ≤ (i 1 : Nat) ∧ (i 1 : Nat) < (i 1).val / 128 * 128 + 128; omega

/-- A result after the run. -/
theorem array6 : (dats (F := Ideal) m 0 e).arrAt 6 cfg0.N = fun i : S4096x512.Idx => dgc (ZZ m e) (WW m e) (DD m e) (i 0).val (i 1).val := by
  refine (dats (F := Ideal) m 0 e).arrAt_eq_of_cover 6 _ (fun t hf => ?_) (fun i => cover6 i)
  rw [Value.flushed6]
  funext y
  obtain ⟨r, d, rfl⟩ := Prod.pair (n := 4096) (m := 128) y
  refine (out6 (col m e t d) r).trans ?_
  have e0 : (((cfg0.win 6).blk t).view.emb (ix2 r d : S4096x128.Idx) 0).val = r := by
    blk_simp [(idx t).2.2.2.2.2.2.1]
    try omega
  have e1 : (((cfg0.win 6).blk t).view.emb (ix2 r d : S4096x128.Idx) 1).val = t.val * 128 + d := by
    blk_simp [(idx t).2.2.2.2.2.2.1]
    try omega
  show _ = dgc (ZZ m e) (WW m e) (DD m e) (((cfg0.win 6).blk t).view.emb (ix2 r d : S4096x128.Idx) 0).val (((cfg0.win 6).blk t).view.emb (ix2 r d : S4096x128.Idx) 1).val
  rw [e0, e1]

theorem cover7 (i : S4096x512.Idx) : ∃ t : Fin cfg0.N, (cfg0.win 7).flush t = true ∧ i ∈ ((cfg0.win 7).blk t).view.set := by
  have h0 : (i 0).val < 4096 := (i 0).isLt
  have h1 : (i 1).val < 512 := (i 1).isLt
  have hN : (i 1).val / 128 < cfg0.N := lt_of_lt_of_eq (by omega : (i 1).val / 128 < 4) Gen.N_0.symm
  refine ⟨⟨(i 1).val / 128, hN⟩, (by decide +kernel : ∀ p : Fin cfg0.N, (cfg0.win 7).flush p = true) _, ?_⟩
  show i ∈ ((View.whole main_v0_2).slice (win0_7.rect ⟨(i 1).val / 128, hN⟩)).set
  rw [View.set_slice_whole, Rect.mem_set_unit]
  intro a
  show win0_7.index ⟨(i 1).val / 128, hN⟩ a * S4096x128.size a ≤ (i a : Nat) ∧ (i a : Nat) < win0_7.index ⟨(i 1).val / 128, hN⟩ a * S4096x128.size a + S4096x128.size a
  rw [(idx _).2.2.2.2.2.2.2.1]
  match a with
  | 0 => show 0 * 4096 ≤ (i 0 : Nat) ∧ (i 0 : Nat) < 0 * 4096 + 4096; omega
  | 1 => show (i 1).val / 128 * 128 ≤ (i 1 : Nat) ∧ (i 1 : Nat) < (i 1).val / 128 * 128 + 128; omega

/-- A result after the run. -/
theorem array7 : (dats (F := Ideal) m 0 e).arrAt 7 cfg0.N = fun i : S4096x512.Idx => dxin (ZZ m e) (WW m e) (DD m e) (i 0).val (i 1).val := by
  refine (dats (F := Ideal) m 0 e).arrAt_eq_of_cover 7 _ (fun t hf => ?_) (fun i => cover7 i)
  rw [Value.flushed7]
  funext y
  obtain ⟨r, d, rfl⟩ := Prod.pair (n := 4096) (m := 128) y
  refine (out7 (col m e t d) r).trans ?_
  have e0 : (((cfg0.win 7).blk t).view.emb (ix2 r d : S4096x128.Idx) 0).val = r := by
    blk_simp [(idx t).2.2.2.2.2.2.2.1]
    try omega
  have e1 : (((cfg0.win 7).blk t).view.emb (ix2 r d : S4096x128.Idx) 1).val = t.val * 128 + d := by
    blk_simp [(idx t).2.2.2.2.2.2.2.1]
    try omega
  show _ = dxin (ZZ m e) (WW m e) (DD m e) (((cfg0.win 7).blk t).view.emb (ix2 r d : S4096x128.Idx) 0).val (((cfg0.win 7).blk t).view.emb (ix2 r d : S4096x128.Idx) 1).val
  rw [e0, e1]

theorem cover8 (i : S3x512.Idx) : ∃ t : Fin cfg0.N, (cfg0.win 8).flush t = true ∧ i ∈ ((cfg0.win 8).blk t).view.set := by
  have h0 : (i 0).val < 3 := (i 0).isLt
  have h1 : (i 1).val < 512 := (i 1).isLt
  have hN : (i 1).val / 128 < cfg0.N := lt_of_lt_of_eq (by omega : (i 1).val / 128 < 4) Gen.N_0.symm
  refine ⟨⟨(i 1).val / 128, hN⟩, (by decide +kernel : ∀ p : Fin cfg0.N, (cfg0.win 8).flush p = true) _, ?_⟩
  show i ∈ ((View.whole main_v0_3).slice (win0_8.rect ⟨(i 1).val / 128, hN⟩)).set
  rw [View.set_slice_whole, Rect.mem_set_unit]
  intro a
  show win0_8.index ⟨(i 1).val / 128, hN⟩ a * S3x128.size a ≤ (i a : Nat) ∧ (i a : Nat) < win0_8.index ⟨(i 1).val / 128, hN⟩ a * S3x128.size a + S3x128.size a
  rw [(idx _).2.2.2.2.2.2.2.2]
  match a with
  | 0 => show 0 * 3 ≤ (i 0 : Nat) ∧ (i 0 : Nat) < 0 * 3 + 3; omega
  | 1 => show (i 1).val / 128 * 128 ≤ (i 1 : Nat) ∧ (i 1 : Nat) < (i 1).val / 128 * 128 + 128; omega

/-- A result after the run. -/
theorem array8 : (dats (F := Ideal) m 0 e).arrAt 8 cfg0.N = fun i : S3x512.Idx => dw (ZZ m e) (DD m e) (i 0).val (i 1).val := by
  refine (dats (F := Ideal) m 0 e).arrAt_eq_of_cover 8 _ (fun t hf => ?_) (fun i => cover8 i)
  rw [Value.flushed8]
  funext y
  obtain ⟨r, d, rfl⟩ := Prod.pair (n := 3) (m := 128) y
  refine (out8 (col m e t d) r).trans ?_
  have e0 : (((cfg0.win 8).blk t).view.emb (ix2 r d : S3x128.Idx) 0).val = r := by
    blk_simp [(idx t).2.2.2.2.2.2.2.2]
    try omega
  have e1 : (((cfg0.win 8).blk t).view.emb (ix2 r d : S3x128.Idx) 1).val = t.val * 128 + d := by
    blk_simp [(idx t).2.2.2.2.2.2.2.2]
    try omega
  show _ = dw (ZZ m e) (DD m e) (((cfg0.win 8).blk t).view.emb (ix2 r d : S3x128.Idx) 0).val (((cfg0.win 8).blk t).view.emb (ix2 r d : S3x128.Idx) 1).val
  rw [e0, e1]

end Cert.ConvSide

namespace Cert.ConvPlain
open Finset Cert.ConvRefIdeal Cert.ConvRefIdeal.Gen Cert.ConvRefIdeal.Read Cert.ConvModel Idealize.ShloMosaic Idealize.ShloMosaic.TcCoe Idealize.SL.Sem

variable (x0 : Vec Ideal S4096x4992 .bf16) (x1 : Vec Ideal S3x512 .f32) (x2 : Vec Ideal S4096x2048 .bf16)

/-- The first argument's entries. -/
abbrev Z : ℕ → ℕ → EReal := Prod.ext (n := 4096) (m := 4992) x0
/-- The taps' entries. -/
abbrev W : ℕ → ℕ → EReal := Prod.ext (n := 3) (m := 512) x1
/-- The incoming gradient's entries. -/
abbrev D : ℕ → ℕ → EReal := Prod.ext (n := 4096) (m := 2048) x2

theorem zero : FloatOps.ofBits (F := Ideal) .f32 0x00000000#32 = (0 : EReal) := ConvSide.zero

theorem z_eq (r : Fin 4096) (c : Fin 4992) (k : ℕ) (h : c.val = k) : x0 (ix2 r c) = Z x0 r k := by
  subst h
  exact (Prod.ext_ix2 (n := 4096) (m := 4992) x0 r c).symm

theorem w_eq (j : Fin 3) (k : ℕ) (h : j.val = k) (c : Fin 512) : x1 (ix2 j c) = W x1 k c := by
  subst h
  exact (Prod.ext_ix2 (n := 3) (m := 512) x1 j c).symm

theorem v6 (r : Fin 4096) (d : Fin 512) : val_main_v6 (F := Ideal) x0 (ix2 r d) = u (Z x0) d r := by
  pointwise [val_main_v6, val_main_v3, val_main_v2, val_main_v5, val_main_v4]
  rw [z_eq x0 r _ (3456 + d) rfl, z_eq x0 r _ (3968 + d) rfl]
  rfl

theorem v1 (r : Fin 4096) (d : Fin 512) : val_main_v1 (F := Ideal) x0 (ix2 r d) = Z x0 r (2944 + d) := by
  pointwise [val_main_v1, val_main_v0]
  exact z_eq x0 r _ _ rfl

theorem v27 (r : Fin 4096) (d : Fin 512) : val_main_v27 (F := Ideal) x2 (ix2 r d) = D x2 r (1024 + d) := by
  pointwise [val_main_v27, val_main_v26]
  exact (Prod.ext_ix2 (n := 4096) (m := 2048) x2 r ⟨1024 + d, _⟩).symm

theorem v28 (r : Fin 4096) (d : Fin 512) : val_main_v28 (F := Ideal) x0 x2 (ix2 r d) = g (Z x0) (D x2) d r := by
  rw [g, ← v1, ← v27, mul_comm]
  rfl

theorem v11 (r : Fin 4096) (d : Fin 512) : val_main_v11 (F := Ideal) x0 (ix2 r d) = above (u (Z x0) d) r := by
  pointwise [val_main_v11, val_main_v8]
  unfold above
  by_cases h : r.val = 0
  · rw [dif_pos (by omega), if_pos h]
    exact zero
  · rw [dif_neg (by omega), dif_pos (by omega), if_neg h, v6]

theorem v15 (r : Fin 4096) (d : Fin 512) : val_main_v15 (F := Ideal) x0 (ix2 r d) = u (Z x0) d r := by
  pointwise [val_main_v15, val_main_v8]
  exact v6 x0 r d

theorem v20 (r : Fin 4096) (d : Fin 512) : val_main_v20 (F := Ideal) x0 (ix2 r d) = below (u (Z x0) d) r := by
  pointwise [val_main_v20, val_main_v8]
  unfold below
  by_cases h : r.val = 4095
  · rw [dif_neg (by omega), dif_neg (by omega), if_pos h]
    exact zero
  · rw [dif_neg (by omega), dif_pos (by omega), if_neg h, v6]
    congr 1
    show 2 + r.val - 1 = r.val + 1
    omega

theorem v13 (r : Fin 4096) (d : Fin 512) : val_main_v13 (F := Ideal) x1 (ix2 r d) = W x1 0 d := by
  pointwise [val_main_v13, val_main_v12]
  exact w_eq x1 _ _ rfl _

theorem v17 (r : Fin 4096) (d : Fin 512) : val_main_v17 (F := Ideal) x1 (ix2 r d) = W x1 1 d := by
  pointwise [val_main_v17, val_main_v16]
  exact w_eq x1 _ _ rfl _

theorem v22 (r : Fin 4096) (d : Fin 512) : val_main_v22 (F := Ideal) x1 (ix2 r d) = W x1 2 d := by
  pointwise [val_main_v22, val_main_v21]
  exact w_eq x1 _ _ rfl _

/-- The gradient of the output gate. -/
theorem v60 (r : Fin 4096) (d : Fin 512) : val_main_v60 (F := Ideal) x0 x1 x2 (ix2 r d) = dgb (Z x0) (W x1) (D x2) r d := by
  unfold dgb conv
  rw [← v27, ← v11, ← v15, ← v20, ← v13 x1 r d, ← v17 x1 r d, ← v22 x1 r d]
  rfl

theorem v36 (r : Fin 4096) (d : Fin 512) (q : Fin 4098) (hq : q.val = 1 + r) :
    val_main_v36 (F := Ideal) x0 x1 x2 (ix2 q d) = above (g (Z x0) (D x2) d) r * W x1 2 d := by
  pointwise [val_main_v36]
  unfold above
  by_cases h : r.val = 0
  · rw [dif_neg (by omega), if_pos h, zero_mul]
    exact zero
  · rw [dif_pos (by omega), if_neg h]
    have hr : r.val - 1 < 4096 := by omega
    refine (congrArg (fun z => val_main_v34 (F := Ideal) x0 x1 x2 (ix2 z d)) (Fin.ext (by show q.val - 2 = r.val - 1; omega) : _ = (⟨r.val - 1, hr⟩ : Fin 4096))).trans ?_
    show val_main_v28 (F := Ideal) x0 x2 (ix2 _ d) * val_main_v22 (F := Ideal) x1 (ix2 _ d) = _
    rw [v28, v22]

theorem v44 (r : Fin 4096) (d : Fin 512) (q : Fin 4098) (hq : q.val = 1 + r) :
    val_main_v44 (F := Ideal) x0 x1 x2 (ix2 q d) = g (Z x0) (D x2) d r * W x1 1 d := by
  pointwise [val_main_v44]
  rw [dif_pos (by omega)]
  refine (congrArg (fun z => val_main_v41 (F := Ideal) x0 x1 x2 (ix2 z d)) (Fin.ext (by show q.val - 1 = r.val; omega) : _ = r)).trans ?_
  show val_main_v28 (F := Ideal) x0 x2 (ix2 _ d) * val_main_v17 (F := Ideal) x1 (ix2 _ d) = _
  rw [v28, v17]

theorem v53 (r : Fin 4096) (d : Fin 512) (q : Fin 4098) (hq : q.val = 1 + r) :
    val_main_v53 (F := Ideal) x0 x1 x2 (ix2 q d) = below (g (Z x0) (D x2) d) r * W x1 0 d := by
  pointwise [val_main_v53]
  unfold below
  by_cases h : r.val = 4095
  · rw [dif_neg (by omega), if_pos h, zero_mul]
    exact zero
  · rw [dif_pos (by omega), if_neg h]
    have hr : r.val + 1 < 4096 := by omega
    refine (congrArg (fun z => val_main_v50 (F := Ideal) x0 x1 x2 (ix2 z d)) (Fin.ext (by show q.val = r.val + 1; omega) : _ = (⟨r.val + 1, hr⟩ : Fin 4096))).trans ?_
    show val_main_v28 (F := Ideal) x0 x2 (ix2 _ d) * val_main_v13 (F := Ideal) x1 (ix2 _ d) = _
    rw [v28, v13]

theorem v56 (r : Fin 4096) (d : Fin 512) : val_main_v56 (F := Ideal) x0 x1 x2 (ix2 r d) = du (Z x0) (W x1) (D x2) r d := by
  pointwise [val_main_v56, val_main_v54, val_main_v45]
  rw [v36 x0 x1 x2 r d _ rfl, v44 x0 x1 x2 r d _ rfl, v53 x0 x1 x2 r d _ rfl]
  unfold du
  rw [add_comm, add_comm (above _ _ * _), add_assoc]

theorem v5 (r : Fin 4096) (d : Fin 512) : val_main_v5 (F := Ideal) x0 (ix2 r d) = Z x0 r (3968 + d) := by
  pointwise [val_main_v5, val_main_v4]
  exact z_eq x0 r _ _ rfl

theorem v3 (r : Fin 4096) (d : Fin 512) : val_main_v3 (F := Ideal) x0 (ix2 r d) = Z x0 r (3456 + d) := by
  pointwise [val_main_v3, val_main_v2]
  exact z_eq x0 r _ _ rfl

/-- The gradient of the input gate. -/
theorem v61 (r : Fin 4096) (d : Fin 512) : val_main_v61 (F := Ideal) x0 x1 x2 (ix2 r d) = dgc (Z x0) (W x1) (D x2) r d := by
  rw [dgc, ← v56, ← v5]
  rfl

/-- The gradient of the input. -/
theorem v62 (r : Fin 4096) (d : Fin 512) : val_main_v62 (F := Ideal) x0 x1 x2 (ix2 r d) = dxin (Z x0) (W x1) (D x2) r d := by
  rw [dxin, ← v56, ← v3, mul_comm]
  rfl

theorem tap0 (r : Fin 4096) (d : Fin 512) : val_main_v46 (F := Ideal) x0 x2 (ix2 r d) = g (Z x0) (D x2) d r * tap (Z x0) 0 d r := by
  rw [mul_comm, tap, if_pos rfl, ← v28, ← v11]
  rfl

theorem tap1 (r : Fin 4096) (d : Fin 512) : val_main_v37 (F := Ideal) x0 x2 (ix2 r d) = g (Z x0) (D x2) d r * tap (Z x0) 1 d r := by
  rw [mul_comm, tap, if_neg one_ne_zero, if_pos rfl, ← v28, ← v15]
  rfl

theorem tap2 (r : Fin 4096) (d : Fin 512) : val_main_v30 (F := Ideal) x0 x2 (ix2 r d) = g (Z x0) (D x2) d r * tap (Z x0) 2 d r := by
  rw [mul_comm, tap, if_neg two_ne_zero, if_neg (by decide), ← v28, ← v20]
  rfl

theorem sums (v : Vec Ideal S4096x512 .f32) (j : ℕ) (d : Fin 512) (h : ∀ r : Fin 4096, v (ix2 r d) = g (Z x0) (D x2) d r * tap (Z x0) j d r) :
    FloatOps.ofBits (F := Ideal) .f32 0x00000000#32 + ∑ r : Fin 4096, v (ix2 r d) = dw (Z x0) (D x2) j d := by
  unfold dw
  rw [zero, zero_add, Finset.sum_congr rfl fun r _ => h r]

theorem v35 (j : Fin 3) (d : Fin 512) : val_main_v35 (F := Ideal) x0 x2 (ix2 j d) = if j.val = 2 then dw (Z x0) (D x2) 2 d else 0 := by
  pointwise [val_main_v35, val_main_v32, val_main_v31]
  by_cases h : j.val = 2
  · rw [dif_pos (by omega), if_pos h]
    exact sums x0 x2 _ 2 d fun r => tap2 x0 x2 r d
  · rw [dif_neg (by omega), if_neg h]
    exact zero

theorem v42 (j : Fin 3) (d : Fin 512) : val_main_v42 (F := Ideal) x0 x2 (ix2 j d) = if j.val = 1 then dw (Z x0) (D x2) 1 d else 0 := by
  pointwise [val_main_v42, val_main_v39, val_main_v38]
  by_cases h : j.val = 1
  · rw [dif_pos (by omega), if_pos h]
    exact sums x0 x2 _ 1 d fun r => tap1 x0 x2 r d
  · rw [dif_neg (by omega), if_neg h]
    exact zero

theorem v51 (j : Fin 3) (d : Fin 512) : val_main_v51 (F := Ideal) x0 x2 (ix2 j d) = if j.val = 0 then dw (Z x0) (D x2) 0 d else 0 := by
  pointwise [val_main_v51, val_main_v48, val_main_v47]
  by_cases h : j.val = 0
  · rw [dif_pos (by omega), if_pos h]
    exact sums x0 x2 _ 0 d fun r => tap0 x0 x2 r d
  · rw [dif_neg (by omega), if_neg h]
    exact zero

/-- The gradient of the taps. -/
theorem v52 (j : Fin 3) (d : Fin 512) : val_main_v52 (F := Ideal) x0 x2 (ix2 j d) = dw (Z x0) (D x2) j d := by
  show val_main_v35 (F := Ideal) x0 x2 (ix2 j d) + val_main_v42 (F := Ideal) x0 x2 (ix2 j d) + val_main_v51 (F := Ideal) x0 x2 (ix2 j d) = _
  rw [v35, v42, v51]
  match j with
  | 0 => simp
  | 1 => simp
  | 2 => simp

/-- The convolution's backward pass: the kernel's four results are the reference's. -/
theorem algebraic : algebraic_ConvIdeal_ConvRefIdeal := by
  intro m ρ m' ρ' _ hagree
  refine ⟨_, _, _, _, Cert.ConvIdeal.Value.run_blocks (F := Ideal) m ρ, ?_⟩
  refine (θ_run _ _ _).mono (fun _ h c => ?_) (Cert.ConvRefIdeal.Value.run (F := Ideal) m' ρ')
  obtain ⟨e0, e1, e2⟩ := hagree c
  obtain ⟨h0, h1, h2, h3, hargs⟩ := h c
  rw [e0, e1, e2] at h0 h1 h2
  have h3' := h3.trans (val_main_v52_eq m' c)
  rw [e0, e2] at h3'
  refine ⟨h0.trans ((val_main_v60_eq _ _ _).trans (Eq.trans ?_ (ConvSide.array5 m c).symm)),
    h1.trans ((val_main_v61_eq _ _ _).trans (Eq.trans ?_ (ConvSide.array6 m c).symm)),
    h2.trans ((val_main_v62_eq _ _ _).trans (Eq.trans ?_ (ConvSide.array7 m c).symm)),
    h3'.trans (Eq.trans ?_ (ConvSide.array8 m c).symm), hargs⟩
  · funext i
    obtain ⟨r, d, rfl⟩ := Prod.pair (n := 4096) (m := 512) i
    exact v60 _ _ _ r d
  · funext i
    obtain ⟨r, d, rfl⟩ := Prod.pair (n := 4096) (m := 512) i
    exact v61 _ _ _ r d
  · funext i
    obtain ⟨r, d, rfl⟩ := Prod.pair (n := 4096) (m := 512) i
    exact v62 _ _ _ r d
  · funext i
    obtain ⟨j, d, rfl⟩ := Prod.pair (n := 3) (m := 512) i
    exact v52 _ _ j d

end Cert.ConvPlain

end
-- ==== Proof.InDx.lean ====
module

public import proofs.«01_k».proof.Defs
public import proofs.«01_k».proof.Proof.Prod
public import proofs.«01_k».proof.Proof.Gen.InDxIdeal.Value
public import proofs.«01_k».proof.Proof.Gen.InDxRefIdeal.Run
public import Idealize.ShloMosaic.Lib.Pipeline.ValueKit
public import Idealize.ShloMosaic.Lib.Pipeline.ReadBack

@[expose] public section

set_option maxRecDepth 16384

noncomputable section

namespace Cert.InDxSide

open Finset Cert.InDxIdeal Cert.InDxIdeal.Gen Idealize.ShloMosaic Idealize.ShloMosaic.TcCoe Idealize.SL.Sem

theorem hz : (![0, 0] : Fin 2 → Nat) = fun _ => 0 := by decide

variable (c : Dev nD) (i : grid0.Coords) (arg3 : Memref sig .tc .vmem S1024x1664 .bf16) (harg3 : arg3.IsWhole) (arg4 : Memref sig .tc .vmem S1664x1024 .bf16) (harg4 : arg4.IsWhole)
  (arg5 : Memref sig .tc .vmem S1024x1024 .bf16) (harg5 : arg5.IsWhole) (arg6 : Memref sig .tc .vmem S1024x1024 .f32) (harg6 : arg6.IsWhole)
  (x0 : Vec Ideal S1024x1664 .bf16) (x1 : Vec Ideal S1664x1024 .bf16) (xs0 : Vec Ideal S1024x1024 .f32)

/-- The product of one tile of rows and one tile of columns. -/
theorem tile (r d : Fin 1024) : k0_pay1 (F := Ideal) x0 x1 (ix2 r d) = ∑ k : Fin 1664, x0 (ix2 r k) * x1 (ix2 k d) := by
  pointwise [k0_pay1]

/-- The first tile of a sum sets the accumulator. -/
theorem A_acc (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  unfold k0_pay2
  simp only [View.readAt_eq_ld, harg3.read_unread, harg4.read_unread, View.ld_unit_zero (S := S1024x1664) hz,
    View.ld_unit_zero (S := S1664x1024) hz, View.ld_unit_zero (S := S1024x1024) hz, shapeCast_self]

/-- A middle tile adds to the accumulator. -/
theorem B_acc (hc0 : ¬cond0_0 i) (hc1 : cond0_1 i) (hc2 : ¬cond0_2 i) :
    sout0_B_0 (F := Ideal) c i arg3 harg3 arg4 harg4 arg5 harg5 arg6 harg6 hc0 hc1 hc2 x0 x1 xs0 = addf xs0 (k0_pay1 x0 x1) := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  rw [View.canon_unit_zero hz]
  unfold k0_pay3
  simp only [View.readAt_eq_ld, harg3.read_unread, harg4.read_unread, harg6.read_unread, View.ld_unit_zero (S := S1024x1664) hz,
    View.ld_unit_zero (S := S1664x1024) hz, View.ld_unit_zero (S := S1024x1024) hz, shapeCast_self]

/-- The last tile's result is the accumulator and the tile's product. -/
theorem C_out (hc0 : ¬cond0_0 i) (hc1 : cond0_1 i) (hc2 : cond0_2 i) :
    out0_C_2 (F := Ideal) c i arg3 harg3 arg4 harg4 arg5 harg5 arg6 harg6 hc0 hc1 hc2 x0 x1 xs0 = truncf .bf16 (addf xs0 (k0_pay1 x0 x1)) bitsLt_bf16_f32 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero hz]
  rw [View.readCov_unit_zero _ hz]
  unfold k0_pay4 k0_pay3
  simp only [View.readAt_eq_ld, harg3.read_unread, harg4.read_unread, harg6.read_unread, View.ld_unit_zero (S := S1024x1664) hz,
    View.ld_unit_zero (S := S1664x1024) hz, View.ld_unit_zero (S := S1024x1024) hz, shapeCast_self]

/-- The block each window takes at a point: a block of rows, a block of columns and a part of the sum. -/
theorem idx : ∀ t : Fin cfg0.N,
    win0_0.index t = ![t.val / 6, t.val % 3] ∧ win0_1.index t = ![t.val % 3, t.val / 3 % 2] ∧ win0_2.index t = ![t.val / 6, t.val / 3 % 2] :=
  (by decide +kernel : ∀ t : Fin grid0.N, _)

variable (m : (ℓ : Loc nD τ sig) → Buf (Elt Ideal) ℓ) (e : Dev nD) (t : Fin cfg0.N)

theorem lt_24 : t.val < 24 := lt_of_lt_of_eq t.isLt Gen.N_0

/-- The first operand's entries. -/
abbrev X : ℕ → ℕ → EReal := Prod.ext (n := 4096) (m := 4992) (m ((e : Thread nD τ).loc main_arg0))
/-- The second operand's entries. -/
abbrev Y : ℕ → ℕ → EReal := Prod.ext (n := 4992) (m := 2048) (m ((e : Thread nD τ).loc main_arg1))

/-- The first operand's block. -/
theorem block_x (a : Fin 1024) (d : Fin 1664) : iblk (F := Ideal) m e 0 t (ix2 a d) = X m e (t.val / 6 * 1024 + a) (t.val % 3 * 1664 + d) := by
  have ht := lt_24 t
  have ha' := a.isLt
  have hd := d.isLt
  blk_simp [iblk, (idx t).1]
  refine Eq.trans (congrArg _ (?_ : _ = ix2 ⟨t.val / 6 * 1024 + a, by omega⟩ ⟨t.val % 3 * 1664 + d, by omega⟩)) ((congrFun (V_main_arg0 m e) _).trans (Prod.ext_ix2 (n := 4096) (m := 4992) (m ((e : Thread nD τ).loc main_arg0)) _ _).symm)
  blk_ext [(idx t).1]

/-- The second operand's block. -/
theorem block_y (a : Fin 1664) (d : Fin 1024) : iblk (F := Ideal) m e 1 t (ix2 a d) = Y m e (t.val % 3 * 1664 + a) (t.val / 3 % 2 * 1024 + d) := by
  have ht := lt_24 t
  have ha' := a.isLt
  have hd := d.isLt
  blk_simp [iblk, (idx t).2.1]
  refine Eq.trans (congrArg _ (?_ : _ = ix2 ⟨t.val % 3 * 1664 + a, by omega⟩ ⟨t.val / 3 % 2 * 1024 + d, by omega⟩)) ((congrFun (V_main_arg1 m e) _).trans (Prod.ext_ix2 (n := 4992) (m := 2048) (m ((e : Thread nD τ).loc main_arg1)) _ _).symm)
  blk_ext [(idx t).2.1]

/-- The first operand's block, at the tile's shape. -/
abbrev BX : Vec Ideal S1024x1664 .bf16 := iblk (F := Ideal) m e 0 t
/-- The second operand's block, at the tile's shape. -/
abbrev BY : Vec Ideal S1664x1024 .bf16 := iblk (F := Ideal) m e 1 t

/-- The summand at one point of the sum. -/
abbrev term (r d k : ℕ) : EReal := X m e r k * Y m e k d

/-- A point's own product is its part of the sum. -/
theorem part (r d : Fin 1024) (k : Fin 1664) :
    BX m e t (ix2 r k) * BY m e t (ix2 k d)
    = term m e (t.val / 6 * 1024 + r) (t.val / 3 % 2 * 1024 + d) (t.val % 3 * 1664 + k) := by
  exact congrArg₂ (· * ·) (block_x m e t r k) (block_y m e t k d)

/-- After a point that is not the last of its sum, the accumulator is the sum so far. -/
theorem acc : ∀ (n : ℕ) (hn : n < cfg0.N), ¬n % 3 = 2 → ∀ r d : Fin 1024, (outsAt0 (F := Ideal) m e n hn).2 (ix2 r d)
    = ∑ k ∈ range ((n % 3 + 1) * 1664), term m e (n / 6 * 1024 + r) (n / 3 % 2 * 1024 + d) k := by
  intro n
  induction n using Nat.strong_induction_on with
  | _ n ih =>
    intro hn h2 r d
    by_cases h0 : n % 3 = 0
    · rw [outsAt0_A m e ⟨n, hn⟩ h0 (by show ¬1 ≤ n % 3; omega) h2]
      dsimp only
      rw [A_acc, tile]
      exact Prod.sum_first _ _ (n % 3) h0 (part m e ⟨n, hn⟩ r d)
    · rw [outsAt0_B m e ⟨n, hn⟩ h0 (by show 1 ≤ n % 3; omega) h2]
      dsimp only
      rw [B_acc]
      refine (congrArg₂ (· + ·) (ih (n - 1) (by omega) (by omega) (by omega) r d) (tile _ _ r d)).trans ?_
      rw [show (n - 1) % 3 + 1 = n % 3 by omega, show (n - 1) / 6 = n / 6 by omega, show (n - 1) / 3 = n / 3 by omega]
      exact Prod.sum_step _ _ (n % 3) (part m e ⟨n, hn⟩ r d)

/-- What the last point of a sum leaves is the whole sum. -/
theorem out (h : t.val % 3 = 2) (r d : Fin 1024) : (outsAt0 (F := Ideal) m e t.val t.isLt).1 (ix2 r d)
    = ∑ k ∈ range 4992, term m e (t.val / 6 * 1024 + r) (t.val / 3 % 2 * 1024 + d) k := by
  have ht := t.isLt
  rw [outsAt0_C m e t (by omega) (by omega) h]
  dsimp only
  rw [C_out]
  refine (congrArg₂ (· + ·) (acc m e (t.val - 1) (by omega) (by omega) r d) (tile _ _ r d)).trans ?_
  rw [show (t.val - 1) % 3 + 1 = t.val % 3 by omega, show (t.val - 1) / 6 = t.val / 6 by omega, show (t.val - 1) / 3 = t.val / 3 by omega]
  exact (Prod.sum_step _ _ (t.val % 3) (part m e t r d)).trans (by rw [h])

/-- The result after the run: the product of the two operands. -/
theorem array : (dats (F := Ideal) m 0 e).arrAt 2 cfg0.N
    = fun i : S4096x2048.Idx => ∑ k ∈ range 4992, term m e (i 0).val (i 1).val k := by
  refine (dats (F := Ideal) m 0 e).arrAt_eq_of_cover 2 _ (fun t hf => ?_) (fun i => (Value.covered_iff2 i).2 (by
    have h0 : (i 0).val < 4096 := (i 0).isLt; have h1 : (i 1).val < 2048 := (i 1).isLt; omega))
  rw [Value.flushed2]
  funext y
  obtain ⟨r, d, rfl⟩ := Prod.pair (n := 1024) (m := 1024) y
  refine (out m e t ((flush0_2 t).mp hf) r d).trans ?_
  have e0 : (((cfg0.win 2).blk t).view.emb (ix2 r d : S1024x1024.Idx) 0).val = t.val / 6 * 1024 + r := by
    blk_simp [(idx t).2.2]
    try omega
  have e1 : (((cfg0.win 2).blk t).view.emb (ix2 r d : S1024x1024.Idx) 1).val = t.val / 3 % 2 * 1024 + d := by
    blk_simp [(idx t).2.2]
    try omega
  show _ = ∑ k ∈ range 4992, term m e (((cfg0.win 2).blk t).view.emb (ix2 r d : S1024x1024.Idx) 0).val (((cfg0.win 2).blk t).view.emb (ix2 r d : S1024x1024.Idx) 1).val k
  rw [e0, e1]

end Cert.InDxSide

namespace Cert.InDxPlain

open Finset Cert.InDxRefIdeal Cert.InDxRefIdeal.Gen Idealize.ShloMosaic Idealize.ShloMosaic.TcCoe Idealize.SL.Sem

/-- The plain product's entry. -/
theorem plain (x : Vec Ideal S4096x4992 .bf16) (y : Vec Ideal S4992x2048 .bf16) :
    truncf (F := Ideal) .bf16 (Host.dotGeneral dot_S4096x4992_S2048x4992_S4096x2048_1_1_0_0_n_n none (extf .f32 x bitsLt_bf16_f32)
      (transpose S2048x4992 [1, 0] (extf .f32 y bitsLt_bf16_f32) transposes_S4992x2048_S2048x4992_1_0)) bitsLt_bf16_f32
    = fun i : S4096x2048.Idx => ∑ k ∈ range 4992, Prod.ext (n := 4096) (m := 4992) x (i 0).val k * Prod.ext (n := 4992) (m := 2048) y k (i 1).val := by
  funext i
  obtain ⟨r, d, rfl⟩ := Prod.pair (n := 4096) (m := 2048) i
  refine Eq.trans (b := ∑ k : Fin 4992, x (ix2 r k) * y (ix2 k d)) ?_ ?_
  · pointwise
  · rw [sum_range]
    exact Finset.sum_congr rfl fun k _ => (congrArg₂ (· * ·) (Prod.ext_ix2 (n := 4096) (m := 4992) x r k) (Prod.ext_ix2 (n := 4992) (m := 2048) y k d)).symm

/-- The kernel's product is the reference's. -/
theorem algebraic : algebraic_InDxIdeal_InDxRefIdeal := by
  intro m ρ m' ρ' _ hagree
  refine ⟨_, Cert.InDxIdeal.Value.run_blocks (F := Ideal) m ρ, ?_⟩
  refine (θ_run _ _ _).mono (fun _ h c => ?_) (Cert.InDxRefIdeal.Value.run (F := Ideal) m' ρ')
  obtain ⟨e0, e1⟩ := hagree c
  obtain ⟨h0, hargs⟩ := h c
  refine ⟨h0.trans ((plain _ _).trans (Eq.trans ?_ (InDxSide.array m c).symm)), hargs⟩
  rw [e0, e1]

end Cert.InDxPlain

end
-- ==== Proof.InDw.lean ====
module

public import proofs.«01_k».proof.Defs
public import proofs.«01_k».proof.Proof.Prod
public import proofs.«01_k».proof.Proof.Gen.InDwIdeal.Value
public import proofs.«01_k».proof.Proof.Gen.InDwRefIdeal.Run
public import Idealize.ShloMosaic.Lib.Pipeline.ValueKit
public import Idealize.ShloMosaic.Lib.Pipeline.ReadBack

@[expose] public section

set_option maxRecDepth 16384

noncomputable section

namespace Cert.InDwSide

open Finset Cert.InDwIdeal Cert.InDwIdeal.Gen Idealize.ShloMosaic Idealize.ShloMosaic.TcCoe Idealize.SL.Sem

theorem hz : (![0, 0] : Fin 2 → Nat) = fun _ => 0 := by decide

variable (c : Dev nD) (i : grid0.Coords) (arg3 : Memref sig .tc .vmem S2048x1664 .bf16) (harg3 : arg3.IsWhole) (arg4 : Memref sig .tc .vmem S2048x1024 .bf16) (harg4 : arg4.IsWhole)
  (arg5 : Memref sig .tc .vmem S1664x1024 .bf16) (harg5 : arg5.IsWhole) (arg6 : Memref sig .tc .vmem S1664x1024 .f32) (harg6 : arg6.IsWhole)
  (x0 : Vec Ideal S2048x1664 .bf16) (x1 : Vec Ideal S2048x1024 .bf16) (xs0 : Vec Ideal S1664x1024 .f32)

/-- The product of the transpose of one tile and another tile. -/
theorem tile (r : Fin 1664) (d : Fin 1024) : k0_pay1 (F := Ideal) x0 x1 (ix2 r d) = ∑ k : Fin 2048, x0 (ix2 k r) * x1 (ix2 k d) := by
  pointwise [k0_pay1]

/-- The first half of the sum sets the accumulator. -/
theorem A_acc (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  unfold k0_pay2
  simp only [View.readAt_eq_ld, harg3.read_unread, harg4.read_unread, View.ld_unit_zero (S := S2048x1664) hz,
    View.ld_unit_zero (S := S2048x1024) hz, shapeCast_self]

/-- The second half's result is the accumulator and the half's product. -/
theorem B_out (hc0 : ¬cond0_0 i) (hc1 : cond0_1 i) (hc2 : cond0_2 i) :
    out0_B_2 (F := Ideal) c i arg3 harg3 arg4 harg4 arg5 harg5 arg6 harg6 hc0 hc1 hc2 x0 x1 xs0 = truncf .bf16 (addf xs0 (k0_pay1 x0 x1)) bitsLt_bf16_f32 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero hz]
  rw [View.readCov_unit_zero _ hz]
  unfold k0_pay4 k0_pay3
  simp only [View.readAt_eq_ld, harg3.read_unread, harg4.read_unread, harg6.read_unread, View.ld_unit_zero (S := S2048x1664) hz,
    View.ld_unit_zero (S := S2048x1024) hz, View.ld_unit_zero (S := S1664x1024) hz, shapeCast_self]

/-- The block each window takes at a point: a block of each operand's columns and a half of the sum. -/
theorem idx : ∀ t : Fin cfg0.N,
    win0_0.index t = ![t.val % 2, t.val / 4] ∧ win0_1.index t = ![t.val % 2, t.val / 2 % 2] ∧ win0_2.index t = ![t.val / 4, t.val / 2 % 2] :=
  (by decide +kernel : ∀ t : Fin grid0.N, _)

variable (m : (ℓ : Loc nD τ sig) → Buf (Elt Ideal) ℓ) (e : Dev nD) (t : Fin cfg0.N)

theorem lt_12 : t.val < 12 := lt_of_lt_of_eq t.isLt Gen.N_0

/-- The first operand's entries. -/
abbrev X : ℕ → ℕ → EReal := Prod.ext (n := 4096) (m := 4992) (m ((e : Thread nD τ).loc main_arg0))
/-- The second operand's entries. -/
abbrev Y : ℕ → ℕ → EReal := Prod.ext (n := 4096) (m := 2048) (m ((e : Thread nD τ).loc main_arg1))

/-- The first operand's block. -/
theorem block_x (a : Fin 2048) (d : Fin 1664) : iblk (F := Ideal) m e 0 t (ix2 a d) = X m e (t.val % 2 * 2048 + a) (t.val / 4 * 1664 + d) := by
  have ht := lt_12 t
  have ha' := a.isLt
  have hd := d.isLt
  blk_simp [iblk, (idx t).1]
  refine Eq.trans (congrArg _ (?_ : _ = ix2 ⟨t.val % 2 * 2048 + a, by omega⟩ ⟨t.val / 4 * 1664 + d, by omega⟩)) ((congrFun (V_main_arg0 m e) _).trans (Prod.ext_ix2 (n := 4096) (m := 4992) (m ((e : Thread nD τ).loc main_arg0)) _ _).symm)
  blk_ext [(idx t).1]

/-- The second operand's block. -/
theorem block_y (a : Fin 2048) (d : Fin 1024) : iblk (F := Ideal) m e 1 t (ix2 a d) = Y m e (t.val % 2 * 2048 + a) (t.val / 2 % 2 * 1024 + d) := by
  have ht := lt_12 t
  have ha' := a.isLt
  have hd := d.isLt
  blk_simp [iblk, (idx t).2.1]
  refine Eq.trans (congrArg _ (?_ : _ = ix2 ⟨t.val % 2 * 2048 + a, by omega⟩ ⟨t.val / 2 % 2 * 1024 + d, by omega⟩)) ((congrFun (V_main_arg1 m e) _).trans (Prod.ext_ix2 (n := 4096) (m := 2048) (m ((e : Thread nD τ).loc main_arg1)) _ _).symm)
  blk_ext [(idx t).2.1]

/-- The first operand's block, at the tile's shape. -/
abbrev BX : Vec Ideal S2048x1664 .bf16 := iblk (F := Ideal) m e 0 t
/-- The second operand's block, at the tile's shape. -/
abbrev BY : Vec Ideal S2048x1024 .bf16 := iblk (F := Ideal) m e 1 t

/-- The summand at one point of the sum. -/
abbrev term (r d k : ℕ) : EReal := X m e k r * Y m e k d

/-- A point's own product is its half of the sum. -/
theorem part (r : Fin 1664) (d : Fin 1024) (k : Fin 2048) : BX m e t (ix2 k r) * BY m e t (ix2 k d)
    = term m e (t.val / 4 * 1664 + r) (t.val / 2 % 2 * 1024 + d) (t.val % 2 * 2048 + k) := by
  exact congrArg₂ (· * ·) (block_x m e t k r) (block_y m e t k d)

/-- After the first half the accumulator is that half of the sum. -/
theorem acc (h0 : t.val % 2 = 0) (r : Fin 1664) (d : Fin 1024) : (outsAt0 (F := Ideal) m e t.val t.isLt).2 (ix2 r d)
    = ∑ k ∈ range ((t.val % 2 + 1) * 2048), term m e (t.val / 4 * 1664 + r) (t.val / 2 % 2 * 1024 + d) k := by
  rw [outsAt0_A m e t h0 (by omega) (by omega)]
  dsimp only
  rw [A_acc, tile]
  exact Prod.sum_first _ _ (t.val % 2) h0 (part m e t r d)

/-- What the second half leaves is the whole sum. -/
theorem out (h : t.val % 2 = 1) (r : Fin 1664) (d : Fin 1024) : (outsAt0 (F := Ideal) m e t.val t.isLt).1 (ix2 r d)
    = ∑ k ∈ range 4096, term m e (t.val / 4 * 1664 + r) (t.val / 2 % 2 * 1024 + d) k := by
  have ht := t.isLt
  rw [outsAt0_B m e t (by omega) h h]
  dsimp only
  rw [B_out]
  refine (congrArg₂ (· + ·) (acc m e ⟨t.val - 1, by omega⟩ (by show (t.val - 1) % 2 = 0; omega) r d) (tile _ _ r d)).trans ?_
  dsimp only
  rw [show (t.val - 1) % 2 + 1 = t.val % 2 by omega, show (t.val - 1) / 4 = t.val / 4 by omega, show (t.val - 1) / 2 = t.val / 2 by omega]
  exact (Prod.sum_step _ _ (t.val % 2) (part m e t r d)).trans (by rw [h])

/-- The result after the run: the product of the first operand's transpose and the second operand. -/
theorem array : (dats (F := Ideal) m 0 e).arrAt 2 cfg0.N
    = fun i : S4992x2048.Idx => ∑ k ∈ range 4096, term m e (i 0).val (i 1).val k := by
  refine (dats (F := Ideal) m 0 e).arrAt_eq_of_cover 2 _ (fun t hf => ?_) (fun i => (Value.covered_iff2 i).2 (by
    have h0 : (i 0).val < 4992 := (i 0).isLt; have h1 : (i 1).val < 2048 := (i 1).isLt; omega))
  rw [Value.flushed2]
  funext y
  obtain ⟨r, d, rfl⟩ := Prod.pair (n := 1664) (m := 1024) y
  refine (out m e t ((flush0_2 t).mp hf) r d).trans ?_
  have e0 : (((cfg0.win 2).blk t).view.emb (ix2 r d : S1664x1024.Idx) 0).val = t.val / 4 * 1664 + r := by
    blk_simp [(idx t).2.2]
    try omega
  have e1 : (((cfg0.win 2).blk t).view.emb (ix2 r d : S1664x1024.Idx) 1).val = t.val / 2 % 2 * 1024 + d := by
    blk_simp [(idx t).2.2]
    try omega
  show _ = ∑ k ∈ range 4096, term m e (((cfg0.win 2).blk t).view.emb (ix2 r d : S1664x1024.Idx) 0).val (((cfg0.win 2).blk t).view.emb (ix2 r d : S1664x1024.Idx) 1).val k
  rw [e0, e1]

end Cert.InDwSide

namespace Cert.InDwPlain

open Finset Cert.InDwRefIdeal Cert.InDwRefIdeal.Gen Idealize.ShloMosaic Idealize.ShloMosaic.TcCoe Idealize.SL.Sem

/-- The plain product's entry. -/
theorem plain (x : Vec Ideal S4096x4992 .bf16) (y : Vec Ideal S4096x2048 .bf16) :
    truncf (F := Ideal) .bf16 (transpose S4992x2048 [1, 0] (transpose S2048x4992 [1, 0] (Host.dotGeneral dot_S4096x4992_S4096x2048_S4992x2048_0_0_1_1_n_n none
      (extf .f32 x bitsLt_bf16_f32) (extf .f32 y bitsLt_bf16_f32)) transposes_S4992x2048_S2048x4992_1_0) transposes_S2048x4992_S4992x2048_1_0) bitsLt_bf16_f32
    = fun i : S4992x2048.Idx => ∑ k ∈ range 4096, Prod.ext (n := 4096) (m := 4992) x k (i 0).val * Prod.ext (n := 4096) (m := 2048) y k (i 1).val := by
  funext i
  obtain ⟨r, d, rfl⟩ := Prod.pair (n := 4992) (m := 2048) i
  refine Eq.trans (b := ∑ k : Fin 4096, x (ix2 k r) * y (ix2 k d)) ?_ ?_
  · pointwise
  · rw [sum_range]
    exact Finset.sum_congr rfl fun k _ => (congrArg₂ (· * ·) (Prod.ext_ix2 (n := 4096) (m := 4992) x k r) (Prod.ext_ix2 (n := 4096) (m := 2048) y k d)).symm

/-- The kernel's product is the reference's. -/
theorem algebraic : algebraic_InDwIdeal_InDwRefIdeal := by
  intro m ρ m' ρ' _ hagree
  refine ⟨_, Cert.InDwIdeal.Value.run_blocks (F := Ideal) m ρ, ?_⟩
  refine (θ_run _ _ _).mono (fun _ h c => ?_) (Cert.InDwRefIdeal.Value.run (F := Ideal) m' ρ')
  obtain ⟨e0, e1⟩ := hagree c
  obtain ⟨h0, hargs⟩ := h c
  refine ⟨h0.trans ((plain _ _).trans (Eq.trans ?_ (InDwSide.array m c).symm)), hargs⟩
  rw [e0, e1]

end Cert.InDwPlain

end
-- ==== Proof.OutDw.lean ====
module

public import proofs.«01_k».proof.Defs
public import proofs.«01_k».proof.Proof.Prod
public import proofs.«01_k».proof.Proof.Gen.OutDwIdeal.Value
public import proofs.«01_k».proof.Proof.Gen.OutDwRefIdeal.Run
public import Idealize.ShloMosaic.Lib.Pipeline.ValueKit
public import Idealize.ShloMosaic.Lib.Pipeline.ReadBack

@[expose] public section

set_option maxRecDepth 16384

noncomputable section

namespace Cert.OutDwSide

open Finset Cert.OutDwIdeal Cert.OutDwIdeal.Gen Idealize.ShloMosaic Idealize.ShloMosaic.TcCoe Idealize.SL.Sem

theorem hz : (![0, 0] : Fin 2 → Nat) = fun _ => 0 := by decide

variable (c : Dev nD) (i : grid0.Coords) (arg3 : Memref sig .tc .vmem S2048x1024 .bf16) (harg3 : arg3.IsWhole) (arg4 : Memref sig .tc .vmem S2048x1024 .bf16) (harg4 : arg4.IsWhole)
  (arg5 : Memref sig .tc .vmem S1024x1024 .bf16) (harg5 : arg5.IsWhole) (arg6 : Memref sig .tc .vmem S1024x1024 .f32) (harg6 : arg6.IsWhole)
  (x0 : Vec Ideal S2048x1024 .bf16) (x1 : Vec Ideal S2048x1024 .bf16) (xs0 : Vec Ideal S1024x1024 .f32)

/-- The product of the transpose of one tile and another tile. -/
theorem tile (r : Fin 1024) (d : Fin 1024) : k0_pay1 (F := Ideal) x0 x1 (ix2 r d) = ∑ k : Fin 2048, x0 (ix2 k r) * x1 (ix2 k d) := by
  pointwise [k0_pay1]

/-- The first half of the sum sets the accumulator. -/
theorem A_acc (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  unfold k0_pay2
  simp only [View.readAt_eq_ld, harg3.read_unread, harg4.read_unread, View.ld_unit_zero (S := S2048x1024) hz,
    View.ld_unit_zero (S := S2048x1024) hz, shapeCast_self]

/-- The second half's result is the accumulator and the half's product. -/
theorem B_out (hc0 : ¬cond0_0 i) (hc1 : cond0_1 i) (hc2 : cond0_2 i) :
    out0_B_2 (F := Ideal) c i arg3 harg3 arg4 harg4 arg5 harg5 arg6 harg6 hc0 hc1 hc2 x0 x1 xs0 = truncf .bf16 (addf xs0 (k0_pay1 x0 x1)) bitsLt_bf16_f32 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero hz]
  rw [View.readCov_unit_zero _ hz]
  unfold k0_pay4 k0_pay3
  simp only [View.readAt_eq_ld, harg3.read_unread, harg4.read_unread, harg6.read_unread, View.ld_unit_zero (S := S2048x1024) hz,
    View.ld_unit_zero (S := S2048x1024) hz, View.ld_unit_zero (S := S1024x1024) hz, shapeCast_self]

/-- The block each window takes at a point: a block of each operand's columns and a half of the sum. -/
theorem idx : ∀ t : Fin cfg0.N,
    win0_0.index t = ![t.val % 2, t.val / 4] ∧ win0_1.index t = ![t.val % 2, t.val / 2 % 2] ∧ win0_2.index t = ![t.val / 4, t.val / 2 % 2] :=
  (by decide +kernel : ∀ t : Fin grid0.N, _)

variable (m : (ℓ : Loc nD τ sig) → Buf (Elt Ideal) ℓ) (e : Dev nD) (t : Fin cfg0.N)

theorem lt_8 : t.val < 8 := lt_of_lt_of_eq t.isLt Gen.N_0

/-- The first operand's entries. -/
abbrev X : ℕ → ℕ → EReal := Prod.ext (n := 4096) (m := 2048) (m ((e : Thread nD τ).loc main_arg0))
/-- The second operand's entries. -/
abbrev Y : ℕ → ℕ → EReal := Prod.ext (n := 4096) (m := 2048) (m ((e : Thread nD τ).loc main_arg1))

/-- The first operand's block. -/
theorem block_x (a : Fin 2048) (d : Fin 1024) : iblk (F := Ideal) m e 0 t (ix2 a d) = X m e (t.val % 2 * 2048 + a) (t.val / 4 * 1024 + d) := by
  have ht := lt_8 t
  have ha' := a.isLt
  have hd := d.isLt
  blk_simp [iblk, (idx t).1]
  refine Eq.trans (congrArg _ (?_ : _ = ix2 ⟨t.val % 2 * 2048 + a, by omega⟩ ⟨t.val / 4 * 1024 + d, by omega⟩)) ((congrFun (V_main_arg0 m e) _).trans (Prod.ext_ix2 (n := 4096) (m := 2048) (m ((e : Thread nD τ).loc main_arg0)) _ _).symm)
  blk_ext [(idx t).1]

/-- The second operand's block. -/
theorem block_y (a : Fin 2048) (d : Fin 1024) : iblk (F := Ideal) m e 1 t (ix2 a d) = Y m e (t.val % 2 * 2048 + a) (t.val / 2 % 2 * 1024 + d) := by
  have ht := lt_8 t
  have ha' := a.isLt
  have hd := d.isLt
  blk_simp [iblk, (idx t).2.1]
  refine Eq.trans (congrArg _ (?_ : _ = ix2 ⟨t.val % 2 * 2048 + a, by omega⟩ ⟨t.val / 2 % 2 * 1024 + d, by omega⟩)) ((congrFun (V_main_arg1 m e) _).trans (Prod.ext_ix2 (n := 4096) (m := 2048) (m ((e : Thread nD τ).loc main_arg1)) _ _).symm)
  blk_ext [(idx t).2.1]

/-- The first operand's block, at the tile's shape. -/
abbrev BX : Vec Ideal S2048x1024 .bf16 := iblk (F := Ideal) m e 0 t
/-- The second operand's block, at the tile's shape. -/
abbrev BY : Vec Ideal S2048x1024 .bf16 := iblk (F := Ideal) m e 1 t

/-- The summand at one point of the sum. -/
abbrev term (r d k : ℕ) : EReal := X m e k r * Y m e k d

/-- A point's own product is its half of the sum. -/
theorem part (r : Fin 1024) (d : Fin 1024) (k : Fin 2048) : BX m e t (ix2 k r) * BY m e t (ix2 k d)
    = term m e (t.val / 4 * 1024 + r) (t.val / 2 % 2 * 1024 + d) (t.val % 2 * 2048 + k) := by
  exact congrArg₂ (· * ·) (block_x m e t k r) (block_y m e t k d)

/-- After the first half the accumulator is that half of the sum. -/
theorem acc (h0 : t.val % 2 = 0) (r : Fin 1024) (d : Fin 1024) : (outsAt0 (F := Ideal) m e t.val t.isLt).2 (ix2 r d)
    = ∑ k ∈ range ((t.val % 2 + 1) * 2048), term m e (t.val / 4 * 1024 + r) (t.val / 2 % 2 * 1024 + d) k := by
  rw [outsAt0_A m e t h0 (by omega) (by omega)]
  dsimp only
  rw [A_acc, tile]
  exact Prod.sum_first _ _ (t.val % 2) h0 (part m e t r d)

/-- What the second half leaves is the whole sum. -/
theorem out (h : t.val % 2 = 1) (r : Fin 1024) (d : Fin 1024) : (outsAt0 (F := Ideal) m e t.val t.isLt).1 (ix2 r d)
    = ∑ k ∈ range 4096, term m e (t.val / 4 * 1024 + r) (t.val / 2 % 2 * 1024 + d) k := by
  have ht := t.isLt
  rw [outsAt0_B m e t (by omega) h h]
  dsimp only
  rw [B_out]
  refine (congrArg₂ (· + ·) (acc m e ⟨t.val - 1, by omega⟩ (by show (t.val - 1) % 2 = 0; omega) r d) (tile _ _ r d)).trans ?_
  dsimp only
  rw [show (t.val - 1) % 2 + 1 = t.val % 2 by omega, show (t.val - 1) / 4 = t.val / 4 by omega, show (t.val - 1) / 2 = t.val / 2 by omega]
  exact (Prod.sum_step _ _ (t.val % 2) (part m e t r d)).trans (by rw [h])

/-- The result after the run: the product of the first operand's transpose and the second operand. -/
theorem array : (dats (F := Ideal) m 0 e).arrAt 2 cfg0.N
    = fun i : S2048x2048.Idx => ∑ k ∈ range 4096, term m e (i 0).val (i 1).val k := by
  refine (dats (F := Ideal) m 0 e).arrAt_eq_of_cover 2 _ (fun t hf => ?_) (fun i => (Value.covered_iff2 i).2 (by
    have h0 : (i 0).val < 2048 := (i 0).isLt; have h1 : (i 1).val < 2048 := (i 1).isLt; omega))
  rw [Value.flushed2]
  funext y
  obtain ⟨r, d, rfl⟩ := Prod.pair (n := 1024) (m := 1024) y
  refine (out m e t ((flush0_2 t).mp hf) r d).trans ?_
  have e0 : (((cfg0.win 2).blk t).view.emb (ix2 r d : S1024x1024.Idx) 0).val = t.val / 4 * 1024 + r := by
    blk_simp [(idx t).2.2]
    try omega
  have e1 : (((cfg0.win 2).blk t).view.emb (ix2 r d : S1024x1024.Idx) 1).val = t.val / 2 % 2 * 1024 + d := by
    blk_simp [(idx t).2.2]
    try omega
  show _ = ∑ k ∈ range 4096, term m e (((cfg0.win 2).blk t).view.emb (ix2 r d : S1024x1024.Idx) 0).val (((cfg0.win 2).blk t).view.emb (ix2 r d : S1024x1024.Idx) 1).val k
  rw [e0, e1]

end Cert.OutDwSide

namespace Cert.OutDwPlain

open Finset Cert.OutDwRefIdeal Cert.OutDwRefIdeal.Gen Idealize.ShloMosaic Idealize.ShloMosaic.TcCoe Idealize.SL.Sem

/-- The plain product's entry. -/
theorem plain (x : Vec Ideal S4096x2048 .bf16) (y : Vec Ideal S4096x2048 .bf16) :
    truncf (F := Ideal) .bf16 (transpose S2048x2048 [1, 0] (Host.dotGeneral dot_S4096x2048_S4096x2048_S2048x2048_0_0_1_1_n_n none
      (extf .f32 y bitsLt_bf16_f32) (extf .f32 x bitsLt_bf16_f32)) transposes_S2048x2048_S2048x2048_1_0) bitsLt_bf16_f32
    = fun i : S2048x2048.Idx => ∑ k ∈ range 4096, Prod.ext (n := 4096) (m := 2048) x k (i 0).val * Prod.ext (n := 4096) (m := 2048) y k (i 1).val := by
  funext i
  obtain ⟨r, d, rfl⟩ := Prod.pair (n := 2048) (m := 2048) i
  refine Eq.trans (b := ∑ k : Fin 4096, x (ix2 k r) * y (ix2 k d)) ?_ ?_
  · refine Eq.trans (b := ∑ k : Fin 4096, y (ix2 k d) * x (ix2 k r)) ?_ (Finset.sum_congr rfl fun k _ => mul_comm _ _)
    pointwise
  · rw [sum_range]
    exact Finset.sum_congr rfl fun k _ => (congrArg₂ (· * ·) (Prod.ext_ix2 (n := 4096) (m := 2048) x k r) (Prod.ext_ix2 (n := 4096) (m := 2048) y k d)).symm

/-- The kernel's product is the reference's. -/
theorem algebraic : algebraic_OutDwIdeal_OutDwRefIdeal := by
  intro m ρ m' ρ' _ hagree
  refine ⟨_, Cert.OutDwIdeal.Value.run_blocks (F := Ideal) m ρ, ?_⟩
  refine (θ_run _ _ _).mono (fun _ h c => ?_) (Cert.OutDwRefIdeal.Value.run (F := Ideal) m' ρ')
  obtain ⟨e0, e1⟩ := hagree c
  obtain ⟨h0, hargs⟩ := h c
  refine ⟨h0.trans ((plain _ _).trans (Eq.trans ?_ (OutDwSide.array m c).symm)), hargs⟩
  rw [e0, e1]

end Cert.OutDwPlain

end
-- ==== Proof.UqDw.lean ====
module

public import proofs.«01_k».proof.Defs
public import proofs.«01_k».proof.Proof.Prod
public import proofs.«01_k».proof.Proof.Gen.UqDwIdeal.Value
public import proofs.«01_k».proof.Proof.Gen.UqDwRefIdeal.Run
public import Idealize.ShloMosaic.Lib.Pipeline.ValueKit
public import Idealize.ShloMosaic.Lib.Pipeline.ReadBack

@[expose] public section

set_option maxRecDepth 16384

noncomputable section

namespace Cert.UqDwSide

open Finset Cert.UqDwIdeal Cert.UqDwIdeal.Gen Idealize.ShloMosaic Idealize.ShloMosaic.TcCoe Idealize.SL.Sem

theorem hz : (![0, 0] : Fin 2 → Nat) = fun _ => 0 := by decide

variable (c : Dev nD) (i : grid0.Coords) (arg3 : Memref sig .tc .vmem S2048x512 .bf16) (harg3 : arg3.IsWhole) (arg4 : Memref sig .tc .vmem S2048x1024 .bf16) (harg4 : arg4.IsWhole)
  (arg5 : Memref sig .tc .vmem S512x1024 .bf16) (harg5 : arg5.IsWhole) (arg6 : Memref sig .tc .vmem S512x1024 .f32) (harg6 : arg6.IsWhole)
  (x0 : Vec Ideal S2048x512 .bf16) (x1 : Vec Ideal S2048x1024 .bf16) (xs0 : Vec Ideal S512x1024 .f32)

/-- The product of the transpose of one tile and another tile. -/
theorem tile (r : Fin 512) (d : Fin 1024) : k0_pay1 (F := Ideal) x0 x1 (ix2 r d) = ∑ k : Fin 2048, x0 (ix2 k r) * x1 (ix2 k d) := by
  pointwise [k0_pay1]

/-- The first half of the sum sets the accumulator. -/
theorem A_acc (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  unfold k0_pay2
  simp only [View.readAt_eq_ld, harg3.read_unread, harg4.read_unread, View.ld_unit_zero (S := S2048x512) hz,
    View.ld_unit_zero (S := S2048x1024) hz, shapeCast_self]

/-- The second half's result is the accumulator and the half's product. -/
theorem B_out (hc0 : ¬cond0_0 i) (hc1 : cond0_1 i) (hc2 : cond0_2 i) :
    out0_B_2 (F := Ideal) c i arg3 harg3 arg4 harg4 arg5 harg5 arg6 harg6 hc0 hc1 hc2 x0 x1 xs0 = truncf .bf16 (addf xs0 (k0_pay1 x0 x1)) bitsLt_bf16_f32 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero hz]
  rw [View.readCov_unit_zero _ hz]
  unfold k0_pay4 k0_pay3
  simp only [View.readAt_eq_ld, harg3.read_unread, harg4.read_unread, harg6.read_unread, View.ld_unit_zero (S := S2048x512) hz,
    View.ld_unit_zero (S := S2048x1024) hz, View.ld_unit_zero (S := S512x1024) hz, shapeCast_self]

/-- The block each window takes at a point: a block of each operand's columns and a half of the sum. -/
theorem idx : ∀ t : Fin cfg0.N,
    win0_0.index t = ![t.val % 2, t.val / 4] ∧ win0_1.index t = ![t.val % 2, t.val / 2 % 2] ∧ win0_2.index t = ![t.val / 4, t.val / 2 % 2] :=
  (by decide +kernel : ∀ t : Fin grid0.N, _)

variable (m : (ℓ : Loc nD τ sig) → Buf (Elt Ideal) ℓ) (e : Dev nD) (t : Fin cfg0.N)

theorem lt_4 : t.val < 4 := lt_of_lt_of_eq t.isLt Gen.N_0

/-- The first operand's entries. -/
abbrev X : ℕ → ℕ → EReal := Prod.ext (n := 4096) (m := 512) (m ((e : Thread nD τ).loc main_arg0))
/-- The second operand's entries. -/
abbrev Y : ℕ → ℕ → EReal := Prod.ext (n := 4096) (m := 2048) (m ((e : Thread nD τ).loc main_arg1))

/-- The first operand's block. -/
theorem block_x (a : Fin 2048) (d : Fin 512) : iblk (F := Ideal) m e 0 t (ix2 a d) = X m e (t.val % 2 * 2048 + a) (t.val / 4 * 512 + d) := by
  have ht := lt_4 t
  have ha' := a.isLt
  have hd := d.isLt
  blk_simp [iblk, (idx t).1]
  refine Eq.trans (congrArg _ (?_ : _ = ix2 ⟨t.val % 2 * 2048 + a, by omega⟩ ⟨t.val / 4 * 512 + d, by omega⟩)) ((congrFun (V_main_arg0 m e) _).trans (Prod.ext_ix2 (n := 4096) (m := 512) (m ((e : Thread nD τ).loc main_arg0)) _ _).symm)
  blk_ext [(idx t).1]

/-- The second operand's block. -/
theorem block_y (a : Fin 2048) (d : Fin 1024) : iblk (F := Ideal) m e 1 t (ix2 a d) = Y m e (t.val % 2 * 2048 + a) (t.val / 2 % 2 * 1024 + d) := by
  have ht := lt_4 t
  have ha' := a.isLt
  have hd := d.isLt
  blk_simp [iblk, (idx t).2.1]
  refine Eq.trans (congrArg _ (?_ : _ = ix2 ⟨t.val % 2 * 2048 + a, by omega⟩ ⟨t.val / 2 % 2 * 1024 + d, by omega⟩)) ((congrFun (V_main_arg1 m e) _).trans (Prod.ext_ix2 (n := 4096) (m := 2048) (m ((e : Thread nD τ).loc main_arg1)) _ _).symm)
  blk_ext [(idx t).2.1]

/-- The first operand's block, at the tile's shape. -/
abbrev BX : Vec Ideal S2048x512 .bf16 := iblk (F := Ideal) m e 0 t
/-- The second operand's block, at the tile's shape. -/
abbrev BY : Vec Ideal S2048x1024 .bf16 := iblk (F := Ideal) m e 1 t

/-- The summand at one point of the sum. -/
abbrev term (r d k : ℕ) : EReal := X m e k r * Y m e k d

/-- A point's own product is its half of the sum. -/
theorem part (r : Fin 512) (d : Fin 1024) (k : Fin 2048) : BX m e t (ix2 k r) * BY m e t (ix2 k d)
    = term m e (t.val / 4 * 512 + r) (t.val / 2 % 2 * 1024 + d) (t.val % 2 * 2048 + k) := by
  exact congrArg₂ (· * ·) (block_x m e t k r) (block_y m e t k d)

/-- After the first half the accumulator is that half of the sum. -/
theorem acc (h0 : t.val % 2 = 0) (r : Fin 512) (d : Fin 1024) : (outsAt0 (F := Ideal) m e t.val t.isLt).2 (ix2 r d)
    = ∑ k ∈ range ((t.val % 2 + 1) * 2048), term m e (t.val / 4 * 512 + r) (t.val / 2 % 2 * 1024 + d) k := by
  rw [outsAt0_A m e t h0 (by omega) (by omega)]
  dsimp only
  rw [A_acc, tile]
  exact Prod.sum_first _ _ (t.val % 2) h0 (part m e t r d)

/-- What the second half leaves is the whole sum. -/
theorem out (h : t.val % 2 = 1) (r : Fin 512) (d : Fin 1024) : (outsAt0 (F := Ideal) m e t.val t.isLt).1 (ix2 r d)
    = ∑ k ∈ range 4096, term m e (t.val / 4 * 512 + r) (t.val / 2 % 2 * 1024 + d) k := by
  have ht := t.isLt
  rw [outsAt0_B m e t (by omega) h h]
  dsimp only
  rw [B_out]
  refine (congrArg₂ (· + ·) (acc m e ⟨t.val - 1, by omega⟩ (by show (t.val - 1) % 2 = 0; omega) r d) (tile _ _ r d)).trans ?_
  dsimp only
  rw [show (t.val - 1) % 2 + 1 = t.val % 2 by omega, show (t.val - 1) / 4 = t.val / 4 by omega, show (t.val - 1) / 2 = t.val / 2 by omega]
  exact (Prod.sum_step _ _ (t.val % 2) (part m e t r d)).trans (by rw [h])

/-- The result after the run: the product of the first operand's transpose and the second operand. -/
theorem array : (dats (F := Ideal) m 0 e).arrAt 2 cfg0.N
    = fun i : S512x2048.Idx => ∑ k ∈ range 4096, term m e (i 0).val (i 1).val k := by
  refine (dats (F := Ideal) m 0 e).arrAt_eq_of_cover 2 _ (fun t hf => ?_) (fun i => (Value.covered_iff2 i).2 (by
    have h0 : (i 0).val < 512 := (i 0).isLt; have h1 : (i 1).val < 2048 := (i 1).isLt; omega))
  rw [Value.flushed2]
  funext y
  obtain ⟨r, d, rfl⟩ := Prod.pair (n := 512) (m := 1024) y
  refine (out m e t ((flush0_2 t).mp hf) r d).trans ?_
  have e0 : (((cfg0.win 2).blk t).view.emb (ix2 r d : S512x1024.Idx) 0).val = t.val / 4 * 512 + r := by
    blk_simp [(idx t).2.2]
    try omega
  have e1 : (((cfg0.win 2).blk t).view.emb (ix2 r d : S512x1024.Idx) 1).val = t.val / 2 % 2 * 1024 + d := by
    blk_simp [(idx t).2.2]
    try omega
  show _ = ∑ k ∈ range 4096, term m e (((cfg0.win 2).blk t).view.emb (ix2 r d : S512x1024.Idx) 0).val (((cfg0.win 2).blk t).view.emb (ix2 r d : S512x1024.Idx) 1).val k
  rw [e0, e1]

end Cert.UqDwSide

namespace Cert.UqDwPlain

open Finset Cert.UqDwRefIdeal Cert.UqDwRefIdeal.Gen Idealize.ShloMosaic Idealize.ShloMosaic.TcCoe Idealize.SL.Sem

/-- The plain product's entry. -/
theorem plain (x : Vec Ideal S4096x512 .bf16) (y : Vec Ideal S4096x2048 .bf16) :
    truncf (F := Ideal) .bf16 (transpose S512x2048 [1, 0] (Host.dotGeneral dot_S4096x2048_S4096x512_S2048x512_0_0_1_1_n_n none
      (extf .f32 y bitsLt_bf16_f32) (extf .f32 x bitsLt_bf16_f32)) transposes_S2048x512_S512x2048_1_0) bitsLt_bf16_f32
    = fun i : S512x2048.Idx => ∑ k ∈ range 4096, Prod.ext (n := 4096) (m := 512) x k (i 0).val * Prod.ext (n := 4096) (m := 2048) y k (i 1).val := by
  funext i
  obtain ⟨r, d, rfl⟩ := Prod.pair (n := 512) (m := 2048) i
  refine Eq.trans (b := ∑ k : Fin 4096, x (ix2 k r) * y (ix2 k d)) ?_ ?_
  · refine Eq.trans (b := ∑ k : Fin 4096, y (ix2 k d) * x (ix2 k r)) ?_ (Finset.sum_congr rfl fun k _ => mul_comm _ _)
    pointwise
  · rw [sum_range]
    exact Finset.sum_congr rfl fun k _ => (congrArg₂ (· * ·) (Prod.ext_ix2 (n := 4096) (m := 512) x k r) (Prod.ext_ix2 (n := 4096) (m := 2048) y k d)).symm

/-- The kernel's product is the reference's. -/
theorem algebraic : algebraic_UqDwIdeal_UqDwRefIdeal := by
  intro m ρ m' ρ' _ hagree
  refine ⟨_, Cert.UqDwIdeal.Value.run_blocks (F := Ideal) m ρ, ?_⟩
  refine (θ_run _ _ _).mono (fun _ h c => ?_) (Cert.UqDwRefIdeal.Value.run (F := Ideal) m' ρ')
  obtain ⟨e0, e1⟩ := hagree c
  obtain ⟨h0, hargs⟩ := h c
  refine ⟨h0.trans ((plain _ _).trans (Eq.trans ?_ (UqDwSide.array m c).symm)), hargs⟩
  rw [e0, e1]

end Cert.UqDwPlain

end
-- ==== Proof.UqDx.lean ====
module

public import proofs.«01_k».proof.Defs
public import proofs.«01_k».proof.Proof.Prod
public import proofs.«01_k».proof.Proof.Gen.UqDxIdeal.Value
public import proofs.«01_k».proof.Proof.Gen.UqDxRefIdeal.Run
public import Idealize.ShloMosaic.Lib.Pipeline.ValueKit
public import Idealize.ShloMosaic.Lib.Pipeline.ReadBack

@[expose] public section

set_option maxRecDepth 16384

noncomputable section

namespace Cert.UqDxSide

open Finset Cert.UqDxIdeal Cert.UqDxIdeal.Gen Idealize.ShloMosaic Idealize.ShloMosaic.TcCoe Idealize.SL.Sem

theorem hz : (![0, 0] : Fin 2 → Nat) = fun _ => 0 := by decide

/-- What a point leaves: the product of its two tiles. -/
theorem tile (x0 : Vec Ideal S512x2048 .bf16) (x1 : Vec Ideal S512x2048 .bf16) (r : Fin 512) (d : Fin 512) :
    out0_2 (F := Ideal) x0 x1 (ix2 r d) = ∑ k : Fin 2048, x0 (ix2 r k) * x1 (ix2 d k) := by
  unfold out0_2
  rw [View.canon_unit_zero hz, View.ld_unit_zero (S := S512x2048) hz, View.ld_unit_zero (S := S512x2048) hz]
  pointwise [k0_pay1]

/-- The block each window takes at a point. -/
theorem idx : ∀ t : Fin cfg0.N,
    win0_0.index t = ![t.val / 1, 0] ∧ win0_1.index t = ![t.val % 1, 0] ∧ win0_2.index t = ![t.val / 1, t.val % 1] :=
  (by decide +kernel : ∀ t : Fin grid0.N, _)

variable (m : (ℓ : Loc nD τ sig) → Buf (Elt Ideal) ℓ) (e : Dev nD) (t : Fin cfg0.N)

theorem lt : t.val < 8 := lt_of_lt_of_eq t.isLt Gen.N_0

/-- The entries of the cotangent. -/
abbrev X : ℕ → ℕ → EReal := Prod.ext (n := 4096) (m := 2048) (m ((e : Thread nD τ).loc main_arg0))
/-- The entries of the weight. -/
abbrev Y : ℕ → ℕ → EReal := Prod.ext (n := 512) (m := 2048) (m ((e : Thread nD τ).loc main_arg1))

/-- The first operand's block. -/
theorem block_x (a : Fin 512) (d : Fin 2048) : iblk (F := Ideal) m e 0 t (ix2 a d) = X m e (t.val / 1 * 512 + a) d := by
  have ht := lt t
  have ha := a.isLt
  have hd := d.isLt
  blk_simp [iblk, (idx t).1]
  refine Eq.trans (congrArg _ (?_ : _ = ix2 ⟨t.val / 1 * 512 + a, by omega⟩ ⟨d, by omega⟩)) ((congrFun (V_main_arg0 m e) _).trans (Prod.ext_ix2 (n := 4096) (m := 2048) (m ((e : Thread nD τ).loc main_arg0)) _ _).symm)
  blk_ext [(idx t).1]

/-- The second operand's block. -/
theorem block_y (a : Fin 512) (d : Fin 2048) : iblk (F := Ideal) m e 1 t (ix2 a d) = Y m e (t.val % 1 * 512 + a) d := by
  have ht := lt t
  have ha := a.isLt
  have hd := d.isLt
  blk_simp [iblk, (idx t).2.1]
  refine Eq.trans (congrArg _ (?_ : _ = ix2 ⟨t.val % 1 * 512 + a, by omega⟩ ⟨d, by omega⟩)) ((congrFun (V_main_arg1 m e) _).trans (Prod.ext_ix2 (n := 512) (m := 2048) (m ((e : Thread nD τ).loc main_arg1)) _ _).symm)
  blk_ext [(idx t).2.1]

/-- A point's block of the result is that block of the whole product. -/
theorem out (r : Fin 512) (d : Fin 512) : out0_2 (F := Ideal) (iblk m e 0 t) (iblk m e 1 t) (ix2 r d)
    = Prod.rows 2048 (X m e) (Y m e) (t.val / 1 * 512 + r) (t.val % 1 * 512 + d) :=
  (tile _ _ r d).trans (Finset.sum_congr rfl fun k _ => congrArg₂ (· * ·) (block_x m e t r k) (block_y m e t d k))

/-- Every index of the result is in a block written back. -/
theorem cover (i : S4096x512.Idx) : ∃ t : Fin cfg0.N, (cfg0.win 2).flush t = true ∧ i ∈ ((cfg0.win 2).blk t).view.set := by
  have h0 : (i 0).val < 4096 := (i 0).isLt
  have h1 : (i 1).val < 512 := (i 1).isLt
  obtain ⟨p, hp⟩ : ∃ p : Fin cfg0.N, p.val = 1 * ((i 0).val / 512) + (i 1).val / 512 := ⟨⟨_, lt_of_lt_of_eq (by omega) Gen.N_0.symm⟩, rfl⟩
  refine ⟨p, (by decide +kernel : ∀ t : Fin grid0.N, (cfg0.win 2).flush t = true) p, ?_⟩
  show i ∈ ((View.whole main_v0).slice (win0_2.rect p)).set
  rw [View.set_slice_whole, Rect.mem_set_unit]
  intro a
  show win0_2.index p a * S512x512.size a ≤ (i a).val ∧ (i a).val < win0_2.index p a * S512x512.size a + S512x512.size a
  rw [(idx p).2.2]
  match a with
  | ⟨0, _⟩ => show p.val / 1 * 512 ≤ (i 0).val ∧ (i 0).val < p.val / 1 * 512 + 512; omega
  | ⟨1, _⟩ => show p.val % 1 * 512 ≤ (i 1).val ∧ (i 1).val < p.val % 1 * 512 + 512; omega

/-- The result after the run: the product. -/
theorem array : (dats (F := Ideal) m 0 e).arrAt 2 cfg0.N = fun i : S4096x512.Idx => Prod.rows 2048 (X m e) (Y m e) (i 0).val (i 1).val := by
  refine (dats (F := Ideal) m 0 e).arrAt_eq_of_cover 2 _ (fun t hf => ?_) cover
  rw [Value.flushed2]
  funext y
  obtain ⟨r, d, rfl⟩ := Prod.pair (n := 512) (m := 512) y
  refine (out m e t r d).trans ?_
  have e0 : (((cfg0.win 2).blk t).view.emb (ix2 r d : S512x512.Idx) 0).val = t.val / 1 * 512 + r := by
    blk_simp [(idx t).2.2]
    try omega
  have e1 : (((cfg0.win 2).blk t).view.emb (ix2 r d : S512x512.Idx) 1).val = t.val % 1 * 512 + d := by
    blk_simp [(idx t).2.2]
    try omega
  show _ = Prod.rows 2048 (X m e) (Y m e) (((cfg0.win 2).blk t).view.emb (ix2 r d : S512x512.Idx) 0).val (((cfg0.win 2).blk t).view.emb (ix2 r d : S512x512.Idx) 1).val
  rw [e0, e1]

end Cert.UqDxSide

namespace Cert.UqDxPlain

open Finset Cert.UqDxRefIdeal Cert.UqDxRefIdeal.Gen Idealize.ShloMosaic Idealize.ShloMosaic.TcCoe Idealize.SL.Sem

/-- The plain product's entry. -/
theorem plain (x : Vec Ideal S4096x2048 .bf16) (y : Vec Ideal S512x2048 .bf16) :
    truncf (F := Ideal) .bf16 (Host.dotGeneral dot_S4096x2048_S512x2048_S4096x512_1_1_0_0_n_n none (extf .f32 x bitsLt_bf16_f32) (extf .f32 y bitsLt_bf16_f32)) bitsLt_bf16_f32
    = fun i : S4096x512.Idx => Prod.rows 2048 (Prod.ext (n := 4096) (m := 2048) x) (Prod.ext (n := 512) (m := 2048) y) (i 0).val (i 1).val := by
  funext i
  obtain ⟨r, d, rfl⟩ := Prod.pair (n := 4096) (m := 512) i
  refine Eq.trans (b := ∑ k : Fin 2048, x (ix2 r k) * y (ix2 d k)) ?_ (Prod.rows_ext (n := 4096) (m := 512) x y r d)
  pointwise

/-- The gradient of the query projection's operand: the call's result is the reference's. -/
theorem algebraic : algebraic_UqDxIdeal_UqDxRefIdeal := by
  intro m ρ m' ρ' _ hagree
  refine ⟨_, Cert.UqDxIdeal.Value.run_blocks (F := Ideal) m ρ, ?_⟩
  refine (θ_run _ _ _).mono (fun _ h c => ?_) (Cert.UqDxRefIdeal.Value.run (F := Ideal) m' ρ')
  obtain ⟨e0, e1⟩ := hagree c
  obtain ⟨h0, hargs⟩ := h c
  refine ⟨h0.trans ((plain _ _).trans (Eq.trans ?_ (UqDxSide.array m c).symm)), hargs⟩
  rw [e0, e1]

end Cert.UqDxPlain

end
-- ==== Proof.UkvDw.lean ====
module

public import proofs.«01_k».proof.Defs
public import proofs.«01_k».proof.Proof.Prod
public import proofs.«01_k».proof.Proof.Gen.UkvDwIdeal.Value
public import proofs.«01_k».proof.Proof.Gen.UkvDwRefIdeal.Run
public import Idealize.ShloMosaic.Lib.Pipeline.ValueKit
public import Idealize.ShloMosaic.Lib.Pipeline.ReadBack

@[expose] public section

set_option maxRecDepth 16384

noncomputable section

namespace Cert.UkvDwSide

open Finset Cert.UkvDwIdeal Cert.UkvDwIdeal.Gen Idealize.ShloMosaic Idealize.ShloMosaic.TcCoe Idealize.SL.Sem

theorem hz : (![0, 0] : Fin 2 → Nat) = fun _ => 0 := by decide

variable (c : Dev nD) (i : grid0.Coords) (arg3 : Memref sig .tc .vmem S2048x256 .bf16) (harg3 : arg3.IsWhole) (arg4 : Memref sig .tc .vmem S2048x1024 .bf16) (harg4 : arg4.IsWhole)
  (arg5 : Memref sig .tc .vmem S256x1024 .bf16) (harg5 : arg5.IsWhole) (arg6 : Memref sig .tc .vmem S256x1024 .f32) (harg6 : arg6.IsWhole)
  (x0 : Vec Ideal S2048x256 .bf16) (x1 : Vec Ideal S2048x1024 .bf16) (xs0 : Vec Ideal S256x1024 .f32)

/-- The product of the transpose of one tile and another tile. -/
theorem tile (r : Fin 256) (d : Fin 1024) : k0_pay1 (F := Ideal) x0 x1 (ix2 r d) = ∑ k : Fin 2048, x0 (ix2 k r) * x1 (ix2 k d) := by
  pointwise [k0_pay1]

/-- The first half of the sum sets the accumulator. -/
theorem A_acc (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero hz]
  unfold k0_pay2
  simp only [View.readAt_eq_ld, harg3.read_unread, harg4.read_unread, View.ld_unit_zero (S := S2048x256) hz,
    View.ld_unit_zero (S := S2048x1024) hz, shapeCast_self]

/-- The second half's result is the accumulator and the half's product. -/
theorem B_out (hc0 : ¬cond0_0 i) (hc1 : cond0_1 i) (hc2 : cond0_2 i) :
    out0_B_2 (F := Ideal) c i arg3 harg3 arg4 harg4 arg5 harg5 arg6 harg6 hc0 hc1 hc2 x0 x1 xs0 = truncf .bf16 (addf xs0 (k0_pay1 x0 x1)) bitsLt_bf16_f32 := by
  unfold out0_B_2
  rw [View.read_writes_eq_canon _ _ _ (cover0_B_2 c i arg3 harg3 arg4 harg4 arg5 harg5 arg6 harg6 hc0 hc1 hc2 x0 x1 xs0)]
  unfold kernelRun0_B
  dsimp only
  sl_unfold_words
  rw [View.canon_unit_zero hz]
  rw [View.readCov_unit_zero _ hz]
  unfold k0_pay4 k0_pay3
  simp only [View.readAt_eq_ld, harg3.read_unread, harg4.read_unread, harg6.read_unread, View.ld_unit_zero (S := S2048x256) hz,
    View.ld_unit_zero (S := S2048x1024) hz, View.ld_unit_zero (S := S256x1024) hz, shapeCast_self]

/-- The block each window takes at a point: a block of each operand's columns and a half of the sum. -/
theorem idx : ∀ t : Fin cfg0.N,
    win0_0.index t = ![t.val % 2, t.val / 4] ∧ win0_1.index t = ![t.val % 2, t.val / 2 % 2] ∧ win0_2.index t = ![t.val / 4, t.val / 2 % 2] :=
  (by decide +kernel : ∀ t : Fin grid0.N, _)

variable (m : (ℓ : Loc nD τ sig) → Buf (Elt Ideal) ℓ) (e : Dev nD) (t : Fin cfg0.N)

theorem lt_4 : t.val < 4 := lt_of_lt_of_eq t.isLt Gen.N_0

/-- The first operand's entries. -/
abbrev X : ℕ → ℕ → EReal := Prod.ext (n := 4096) (m := 256) (m ((e : Thread nD τ).loc main_arg0))
/-- The second operand's entries. -/
abbrev Y : ℕ → ℕ → EReal := Prod.ext (n := 4096) (m := 2048) (m ((e : Thread nD τ).loc main_arg1))

/-- The first operand's block. -/
theorem block_x (a : Fin 2048) (d : Fin 256) : iblk (F := Ideal) m e 0 t (ix2 a d) = X m e (t.val % 2 * 2048 + a) (t.val / 4 * 256 + d) := by
  have ht := lt_4 t
  have ha' := a.isLt
  have hd := d.isLt
  blk_simp [iblk, (idx t).1]
  refine Eq.trans (congrArg _ (?_ : _ = ix2 ⟨t.val % 2 * 2048 + a, by omega⟩ ⟨t.val / 4 * 256 + d, by omega⟩)) ((congrFun (V_main_arg0 m e) _).trans (Prod.ext_ix2 (n := 4096) (m := 256) (m ((e : Thread nD τ).loc main_arg0)) _ _).symm)
  blk_ext [(idx t).1]

/-- The second operand's block. -/
theorem block_y (a : Fin 2048) (d : Fin 1024) : iblk (F := Ideal) m e 1 t (ix2 a d) = Y m e (t.val % 2 * 2048 + a) (t.val / 2 % 2 * 1024 + d) := by
  have ht := lt_4 t
  have ha' := a.isLt
  have hd := d.isLt
  blk_simp [iblk, (idx t).2.1]
  refine Eq.trans (congrArg _ (?_ : _ = ix2 ⟨t.val % 2 * 2048 + a, by omega⟩ ⟨t.val / 2 % 2 * 1024 + d, by omega⟩)) ((congrFun (V_main_arg1 m e) _).trans (Prod.ext_ix2 (n := 4096) (m := 2048) (m ((e : Thread nD τ).loc main_arg1)) _ _).symm)
  blk_ext [(idx t).2.1]

/-- The first operand's block, at the tile's shape. -/
abbrev BX : Vec Ideal S2048x256 .bf16 := iblk (F := Ideal) m e 0 t
/-- The second operand's block, at the tile's shape. -/
abbrev BY : Vec Ideal S2048x1024 .bf16 := iblk (F := Ideal) m e 1 t

/-- The summand at one point of the sum. -/
abbrev term (r d k : ℕ) : EReal := X m e k r * Y m e k d

/-- A point's own product is its half of the sum. -/
theorem part (r : Fin 256) (d : Fin 1024) (k : Fin 2048) : BX m e t (ix2 k r) * BY m e t (ix2 k d)
    = term m e (t.val / 4 * 256 + r) (t.val / 2 % 2 * 1024 + d) (t.val % 2 * 2048 + k) := by
  exact congrArg₂ (· * ·) (block_x m e t k r) (block_y m e t k d)

/-- After the first half the accumulator is that half of the sum. -/
theorem acc (h0 : t.val % 2 = 0) (r : Fin 256) (d : Fin 1024) : (outsAt0 (F := Ideal) m e t.val t.isLt).2 (ix2 r d)
    = ∑ k ∈ range ((t.val % 2 + 1) * 2048), term m e (t.val / 4 * 256 + r) (t.val / 2 % 2 * 1024 + d) k := by
  rw [outsAt0_A m e t h0 (by omega) (by omega)]
  dsimp only
  rw [A_acc, tile]
  exact Prod.sum_first _ _ (t.val % 2) h0 (part m e t r d)

/-- What the second half leaves is the whole sum. -/
theorem out (h : t.val % 2 = 1) (r : Fin 256) (d : Fin 1024) : (outsAt0 (F := Ideal) m e t.val t.isLt).1 (ix2 r d)
    = ∑ k ∈ range 4096, term m e (t.val / 4 * 256 + r) (t.val / 2 % 2 * 1024 + d) k := by
  have ht := t.isLt
  rw [outsAt0_B m e t (by omega) h h]
  dsimp only
  rw [B_out]
  refine (congrArg₂ (· + ·) (acc m e ⟨t.val - 1, by omega⟩ (by show (t.val - 1) % 2 = 0; omega) r d) (tile _ _ r d)).trans ?_
  dsimp only
  rw [show (t.val - 1) % 2 + 1 = t.val % 2 by omega, show (t.val - 1) / 4 = t.val / 4 by omega, show (t.val - 1) / 2 = t.val / 2 by omega]
  exact (Prod.sum_step _ _ (t.val % 2) (part m e t r d)).trans (by rw [h])

/-- The result after the run: the product of the first operand's transpose and the second operand. -/
theorem array : (dats (F := Ideal) m 0 e).arrAt 2 cfg0.N
    = fun i : S256x2048.Idx => ∑ k ∈ range 4096, term m e (i 0).val (i 1).val k := by
  refine (dats (F := Ideal) m 0 e).arrAt_eq_of_cover 2 _ (fun t hf => ?_) (fun i => (Value.covered_iff2 i).2 (by
    have h0 : (i 0).val < 256 := (i 0).isLt; have h1 : (i 1).val < 2048 := (i 1).isLt; omega))
  rw [Value.flushed2]
  funext y
  obtain ⟨r, d, rfl⟩ := Prod.pair (n := 256) (m := 1024) y
  refine (out m e t ((flush0_2 t).mp hf) r d).trans ?_
  have e0 : (((cfg0.win 2).blk t).view.emb (ix2 r d : S256x1024.Idx) 0).val = t.val / 4 * 256 + r := by
    blk_simp [(idx t).2.2]
    try omega
  have e1 : (((cfg0.win 2).blk t).view.emb (ix2 r d : S256x1024.Idx) 1).val = t.val / 2 % 2 * 1024 + d := by
    blk_simp [(idx t).2.2]
    try omega
  show _ = ∑ k ∈ range 4096, term m e (((cfg0.win 2).blk t).view.emb (ix2 r d : S256x1024.Idx) 0).val (((cfg0.win 2).blk t).view.emb (ix2 r d : S256x1024.Idx) 1).val k
  rw [e0, e1]

end Cert.UkvDwSide

namespace Cert.UkvDwPlain

open Finset Cert.UkvDwRefIdeal Cert.UkvDwRefIdeal.Gen Idealize.ShloMosaic Idealize.ShloMosaic.TcCoe Idealize.SL.Sem

/-- The plain product's entry. -/
theorem plain (x : Vec Ideal S4096x256 .bf16) (y : Vec Ideal S4096x2048 .bf16) :
    truncf (F := Ideal) .bf16 (transpose S256x2048 [1, 0] (Host.dotGeneral dot_S4096x2048_S4096x256_S2048x256_0_0_1_1_n_n none
      (extf .f32 y bitsLt_bf16_f32) (extf .f32 x bitsLt_bf16_f32)) transposes_S2048x256_S256x2048_1_0) bitsLt_bf16_f32
    = fun i : S256x2048.Idx => ∑ k ∈ range 4096, Prod.ext (n := 4096) (m := 256) x k (i 0).val * Prod.ext (n := 4096) (m := 2048) y k (i 1).val := by
  funext i
  obtain ⟨r, d, rfl⟩ := Prod.pair (n := 256) (m := 2048) i
  refine Eq.trans (b := ∑ k : Fin 4096, x (ix2 k r) * y (ix2 k d)) ?_ ?_
  · refine Eq.trans (b := ∑ k : Fin 4096, y (ix2 k d) * x (ix2 k r)) ?_ (Finset.sum_congr rfl fun k _ => mul_comm _ _)
    pointwise
  · rw [sum_range]
    exact Finset.sum_congr rfl fun k _ => (congrArg₂ (· * ·) (Prod.ext_ix2 (n := 4096) (m := 256) x k r) (Prod.ext_ix2 (n := 4096) (m := 2048) y k d)).symm

/-- The kernel's product is the reference's. -/
theorem algebraic : algebraic_UkvDwIdeal_UkvDwRefIdeal := by
  intro m ρ m' ρ' _ hagree
  refine ⟨_, Cert.UkvDwIdeal.Value.run_blocks (F := Ideal) m ρ, ?_⟩
  refine (θ_run _ _ _).mono (fun _ h c => ?_) (Cert.UkvDwRefIdeal.Value.run (F := Ideal) m' ρ')
  obtain ⟨e0, e1⟩ := hagree c
  obtain ⟨h0, hargs⟩ := h c
  refine ⟨h0.trans ((plain _ _).trans (Eq.trans ?_ (UkvDwSide.array m c).symm)), hargs⟩
  rw [e0, e1]

end Cert.UkvDwPlain

end
-- ==== Proof.UkvDx.lean ====
module

public import proofs.«01_k».proof.Defs
public import proofs.«01_k».proof.Proof.Prod
public import proofs.«01_k».proof.Proof.Gen.UkvDxIdeal.Value
public import proofs.«01_k».proof.Proof.Gen.UkvDxRefIdeal.Run
public import Idealize.ShloMosaic.Lib.Pipeline.ValueKit
public import Idealize.ShloMosaic.Lib.Pipeline.ReadBack

@[expose] public section

set_option maxRecDepth 16384

noncomputable section

namespace Cert.UkvDxSide

open Finset Cert.UkvDxIdeal Cert.UkvDxIdeal.Gen Idealize.ShloMosaic Idealize.ShloMosaic.TcCoe Idealize.SL.Sem

theorem hz : (![0, 0] : Fin 2 → Nat) = fun _ => 0 := by decide

/-- What a point leaves: the product of its two tiles. -/
theorem tile (x0 : Vec Ideal S512x2048 .bf16) (x1 : Vec Ideal S256x2048 .bf16) (r : Fin 512) (d : Fin 256) :
    out0_2 (F := Ideal) x0 x1 (ix2 r d) = ∑ k : Fin 2048, x0 (ix2 r k) * x1 (ix2 d k) := by
  unfold out0_2
  rw [View.canon_unit_zero hz, View.ld_unit_zero (S := S512x2048) hz, View.ld_unit_zero (S := S256x2048) hz]
  pointwise [k0_pay1]

/-- The block each window takes at a point. -/
theorem idx : ∀ t : Fin cfg0.N,
    win0_0.index t = ![t.val / 1, 0] ∧ win0_1.index t = ![t.val % 1, 0] ∧ win0_2.index t = ![t.val / 1, t.val % 1] :=
  (by decide +kernel : ∀ t : Fin grid0.N, _)

variable (m : (ℓ : Loc nD τ sig) → Buf (Elt Ideal) ℓ) (e : Dev nD) (t : Fin cfg0.N)

theorem lt : t.val < 8 := lt_of_lt_of_eq t.isLt Gen.N_0

/-- The entries of the cotangent. -/
abbrev X : ℕ → ℕ → EReal := Prod.ext (n := 4096) (m := 2048) (m ((e : Thread nD τ).loc main_arg0))
/-- The entries of the weight. -/
abbrev Y : ℕ → ℕ → EReal := Prod.ext (n := 256) (m := 2048) (m ((e : Thread nD τ).loc main_arg1))

/-- The first operand's block. -/
theorem block_x (a : Fin 512) (d : Fin 2048) : iblk (F := Ideal) m e 0 t (ix2 a d) = X m e (t.val / 1 * 512 + a) d := by
  have ht := lt t
  have ha := a.isLt
  have hd := d.isLt
  blk_simp [iblk, (idx t).1]
  refine Eq.trans (congrArg _ (?_ : _ = ix2 ⟨t.val / 1 * 512 + a, by omega⟩ ⟨d, by omega⟩)) ((congrFun (V_main_arg0 m e) _).trans (Prod.ext_ix2 (n := 4096) (m := 2048) (m ((e : Thread nD τ).loc main_arg0)) _ _).symm)
  blk_ext [(idx t).1]

/-- The second operand's block. -/
theorem block_y (a : Fin 256) (d : Fin 2048) : iblk (F := Ideal) m e 1 t (ix2 a d) = Y m e (t.val % 1 * 256 + a) d := by
  have ht := lt t
  have ha := a.isLt
  have hd := d.isLt
  blk_simp [iblk, (idx t).2.1]
  refine Eq.trans (congrArg _ (?_ : _ = ix2 ⟨t.val % 1 * 256 + a, by omega⟩ ⟨d, by omega⟩)) ((congrFun (V_main_arg1 m e) _).trans (Prod.ext_ix2 (n := 256) (m := 2048) (m ((e : Thread nD τ).loc main_arg1)) _ _).symm)
  blk_ext [(idx t).2.1]

/-- A point's block of the result is that block of the whole product. -/
theorem out (r : Fin 512) (d : Fin 256) : out0_2 (F := Ideal) (iblk m e 0 t) (iblk m e 1 t) (ix2 r d)
    = Prod.rows 2048 (X m e) (Y m e) (t.val / 1 * 512 + r) (t.val % 1 * 256 + d) :=
  (tile _ _ r d).trans (Finset.sum_congr rfl fun k _ => congrArg₂ (· * ·) (block_x m e t r k) (block_y m e t d k))

/-- Every index of the result is in a block written back. -/
theorem cover (i : S4096x256.Idx) : ∃ t : Fin cfg0.N, (cfg0.win 2).flush t = true ∧ i ∈ ((cfg0.win 2).blk t).view.set := by
  have h0 : (i 0).val < 4096 := (i 0).isLt
  have h1 : (i 1).val < 256 := (i 1).isLt
  obtain ⟨p, hp⟩ : ∃ p : Fin cfg0.N, p.val = 1 * ((i 0).val / 512) + (i 1).val / 256 := ⟨⟨_, lt_of_lt_of_eq (by omega) Gen.N_0.symm⟩, rfl⟩
  refine ⟨p, (by decide +kernel : ∀ t : Fin grid0.N, (cfg0.win 2).flush t = true) p, ?_⟩
  show i ∈ ((View.whole main_v0).slice (win0_2.rect p)).set
  rw [View.set_slice_whole, Rect.mem_set_unit]
  intro a
  show win0_2.index p a * S512x256.size a ≤ (i a).val ∧ (i a).val < win0_2.index p a * S512x256.size a + S512x256.size a
  rw [(idx p).2.2]
  match a with
  | ⟨0, _⟩ => show p.val / 1 * 512 ≤ (i 0).val ∧ (i 0).val < p.val / 1 * 512 + 512; omega
  | ⟨1, _⟩ => show p.val % 1 * 256 ≤ (i 1).val ∧ (i 1).val < p.val % 1 * 256 + 256; omega

/-- The result after the run: the product. -/
theorem array : (dats (F := Ideal) m 0 e).arrAt 2 cfg0.N = fun i : S4096x256.Idx => Prod.rows 2048 (X m e) (Y m e) (i 0).val (i 1).val := by
  refine (dats (F := Ideal) m 0 e).arrAt_eq_of_cover 2 _ (fun t hf => ?_) cover
  rw [Value.flushed2]
  funext y
  obtain ⟨r, d, rfl⟩ := Prod.pair (n := 512) (m := 256) y
  refine (out m e t r d).trans ?_
  have e0 : (((cfg0.win 2).blk t).view.emb (ix2 r d : S512x256.Idx) 0).val = t.val / 1 * 512 + r := by
    blk_simp [(idx t).2.2]
    try omega
  have e1 : (((cfg0.win 2).blk t).view.emb (ix2 r d : S512x256.Idx) 1).val = t.val % 1 * 256 + d := by
    blk_simp [(idx t).2.2]
    try omega
  show _ = Prod.rows 2048 (X m e) (Y m e) (((cfg0.win 2).blk t).view.emb (ix2 r d : S512x256.Idx) 0).val (((cfg0.win 2).blk t).view.emb (ix2 r d : S512x256.Idx) 1).val
  rw [e0, e1]

end Cert.UkvDxSide

namespace Cert.UkvDxPlain

open Finset Cert.UkvDxRefIdeal Cert.UkvDxRefIdeal.Gen Idealize.ShloMosaic Idealize.ShloMosaic.TcCoe Idealize.SL.Sem

/-- The plain product's entry. -/
theorem plain (x : Vec Ideal S4096x2048 .bf16) (y : Vec Ideal S256x2048 .bf16) :
    truncf (F := Ideal) .bf16 (Host.dotGeneral dot_S4096x2048_S256x2048_S4096x256_1_1_0_0_n_n none (extf .f32 x bitsLt_bf16_f32) (extf .f32 y bitsLt_bf16_f32)) bitsLt_bf16_f32
    = fun i : S4096x256.Idx => Prod.rows 2048 (Prod.ext (n := 4096) (m := 2048) x) (Prod.ext (n := 256) (m := 2048) y) (i 0).val (i 1).val := by
  funext i
  obtain ⟨r, d, rfl⟩ := Prod.pair (n := 4096) (m := 256) i
  refine Eq.trans (b := ∑ k : Fin 2048, x (ix2 r k) * y (ix2 d k)) ?_ (Prod.rows_ext (n := 4096) (m := 256) x y r d)
  pointwise

/-- The gradient of the key and value projection's operand: the call's result is the reference's. -/
theorem algebraic : algebraic_UkvDxIdeal_UkvDxRefIdeal := by
  intro m ρ m' ρ' _ hagree
  refine ⟨_, Cert.UkvDxIdeal.Value.run_blocks (F := Ideal) m ρ, ?_⟩
  refine (θ_run _ _ _).mono (fun _ h c => ?_) (Cert.UkvDxRefIdeal.Value.run (F := Ideal) m' ρ')
  obtain ⟨e0, e1⟩ := hagree c
  obtain ⟨h0, hargs⟩ := h c
  refine ⟨h0.trans ((plain _ _).trans (Eq.trans ?_ (UkvDxSide.array m c).symm)), hargs⟩
  rw [e0, e1]

end Cert.UkvDxPlain

end
-- ==== Proof.InProj.lean ====
module

public import proofs.«01_k».proof.Defs
public import proofs.«01_k».proof.Proof.Prod
public import proofs.«01_k».proof.Proof.Gen.InProjIdeal.Value
public import proofs.«01_k».proof.Proof.Gen.InProjRefIdeal.Run
public import Idealize.ShloMosaic.Lib.Pipeline.ValueKit
public import Idealize.ShloMosaic.Lib.Pipeline.ReadBack

@[expose] public section

set_option maxRecDepth 16384

noncomputable section

namespace Cert.InProjSide

open Finset Cert.InProjIdeal Cert.InProjIdeal.Gen Idealize.ShloMosaic Idealize.ShloMosaic.TcCoe Idealize.SL.Sem

theorem hz : (![0, 0] : Fin 2 → Nat) = fun _ => 0 := by decide

/-- What a point leaves: the product of its two tiles. -/
theorem tile (x0 : Vec Ideal S1024x2048 .bf16) (x1 : Vec Ideal S1664x2048 .bf16) (r : Fin 1024) (d : Fin 1664) :
    out0_2 (F := Ideal) x0 x1 (ix2 r d) = ∑ k : Fin 2048, x0 (ix2 r k) * x1 (ix2 d k) := by
  unfold out0_2
  rw [View.canon_unit_zero hz, View.ld_unit_zero (S := S1024x2048) hz, View.ld_unit_zero (S := S1664x2048) hz]
  pointwise [k0_pay1]

/-- The block each window takes at a point. -/
theorem idx : ∀ t : Fin cfg0.N,
    win0_0.index t = ![t.val / 3, 0] ∧ win0_1.index t = ![t.val % 3, 0] ∧ win0_2.index t = ![t.val / 3, t.val % 3] :=
  (by decide +kernel : ∀ t : Fin grid0.N, _)

variable (m : (ℓ : Loc nD τ sig) → Buf (Elt Ideal) ℓ) (e : Dev nD) (t : Fin cfg0.N)

theorem lt : t.val < 12 := lt_of_lt_of_eq t.isLt Gen.N_0

/-- The entries of the normalised rows. -/
abbrev X : ℕ → ℕ → EReal := Prod.ext (n := 4096) (m := 2048) (m ((e : Thread nD τ).loc main_arg0))
/-- The entries of the transposed weight. -/
abbrev Y : ℕ → ℕ → EReal := Prod.ext (n := 4992) (m := 2048) (m ((e : Thread nD τ).loc main_arg1))

/-- The first operand's block. -/
theorem block_x (a : Fin 1024) (d : Fin 2048) : iblk (F := Ideal) m e 0 t (ix2 a d) = X m e (t.val / 3 * 1024 + a) d := by
  have ht := lt t
  have ha := a.isLt
  have hd := d.isLt
  blk_simp [iblk, (idx t).1]
  refine Eq.trans (congrArg _ (?_ : _ = ix2 ⟨t.val / 3 * 1024 + a, by omega⟩ ⟨d, by omega⟩)) ((congrFun (V_main_arg0 m e) _).trans (Prod.ext_ix2 (n := 4096) (m := 2048) (m ((e : Thread nD τ).loc main_arg0)) _ _).symm)
  blk_ext [(idx t).1]

/-- The second operand's block. -/
theorem block_y (a : Fin 1664) (d : Fin 2048) : iblk (F := Ideal) m e 1 t (ix2 a d) = Y m e (t.val % 3 * 1664 + a) d := by
  have ht := lt t
  have ha := a.isLt
  have hd := d.isLt
  blk_simp [iblk, (idx t).2.1]
  refine Eq.trans (congrArg _ (?_ : _ = ix2 ⟨t.val % 3 * 1664 + a, by omega⟩ ⟨d, by omega⟩)) ((congrFun (V_main_arg1 m e) _).trans (Prod.ext_ix2 (n := 4992) (m := 2048) (m ((e : Thread nD τ).loc main_arg1)) _ _).symm)
  blk_ext [(idx t).2.1]

/-- A point's block of the result is that block of the whole product. -/
theorem out (r : Fin 1024) (d : Fin 1664) : out0_2 (F := Ideal) (iblk m e 0 t) (iblk m e 1 t) (ix2 r d)
    = Prod.rows 2048 (X m e) (Y m e) (t.val / 3 * 1024 + r) (t.val % 3 * 1664 + d) :=
  (tile _ _ r d).trans (Finset.sum_congr rfl fun k _ => congrArg₂ (· * ·) (block_x m e t r k) (block_y m e t d k))

/-- Every index of the result is in a block written back. -/
theorem cover (i : S4096x4992.Idx) : ∃ t : Fin cfg0.N, (cfg0.win 2).flush t = true ∧ i ∈ ((cfg0.win 2).blk t).view.set := by
  have h0 : (i 0).val < 4096 := (i 0).isLt
  have h1 : (i 1).val < 4992 := (i 1).isLt
  obtain ⟨p, hp⟩ : ∃ p : Fin cfg0.N, p.val = 3 * ((i 0).val / 1024) + (i 1).val / 1664 := ⟨⟨_, lt_of_lt_of_eq (by omega) Gen.N_0.symm⟩, rfl⟩
  refine ⟨p, (by decide +kernel : ∀ t : Fin grid0.N, (cfg0.win 2).flush t = true) p, ?_⟩
  show i ∈ ((View.whole main_v0).slice (win0_2.rect p)).set
  rw [View.set_slice_whole, Rect.mem_set_unit]
  intro a
  show win0_2.index p a * S1024x1664.size a ≤ (i a).val ∧ (i a).val < win0_2.index p a * S1024x1664.size a + S1024x1664.size a
  rw [(idx p).2.2]
  match a with
  | ⟨0, _⟩ => show p.val / 3 * 1024 ≤ (i 0).val ∧ (i 0).val < p.val / 3 * 1024 + 1024; omega
  | ⟨1, _⟩ => show p.val % 3 * 1664 ≤ (i 1).val ∧ (i 1).val < p.val % 3 * 1664 + 1664; omega

/-- The result after the run: the product. -/
theorem array : (dats (F := Ideal) m 0 e).arrAt 2 cfg0.N = fun i : S4096x4992.Idx => Prod.rows 2048 (X m e) (Y m e) (i 0).val (i 1).val := by
  refine (dats (F := Ideal) m 0 e).arrAt_eq_of_cover 2 _ (fun t hf => ?_) cover
  rw [Value.flushed2]
  funext y
  obtain ⟨r, d, rfl⟩ := Prod.pair (n := 1024) (m := 1664) y
  refine (out m e t r d).trans ?_
  have e0 : (((cfg0.win 2).blk t).view.emb (ix2 r d : S1024x1664.Idx) 0).val = t.val / 3 * 1024 + r := by
    blk_simp [(idx t).2.2]
    try omega
  have e1 : (((cfg0.win 2).blk t).view.emb (ix2 r d : S1024x1664.Idx) 1).val = t.val % 3 * 1664 + d := by
    blk_simp [(idx t).2.2]
    try omega
  show _ = Prod.rows 2048 (X m e) (Y m e) (((cfg0.win 2).blk t).view.emb (ix2 r d : S1024x1664.Idx) 0).val (((cfg0.win 2).blk t).view.emb (ix2 r d : S1024x1664.Idx) 1).val
  rw [e0, e1]

end Cert.InProjSide

namespace Cert.InProjPlain

open Finset Cert.InProjRefIdeal Cert.InProjRefIdeal.Gen Idealize.ShloMosaic Idealize.ShloMosaic.TcCoe Idealize.SL.Sem

/-- The plain product's entry. -/
theorem plain (x : Vec Ideal S4096x2048 .bf16) (y : Vec Ideal S4992x2048 .bf16) :
    truncf (F := Ideal) .bf16 (Host.dotGeneral dot_S4096x2048_S2048x4992_S4096x4992_1_0_0_1_n_n none (extf .f32 x bitsLt_bf16_f32) (transpose S2048x4992 [1, 0] (extf .f32 y bitsLt_bf16_f32) transposes_S4992x2048_S2048x4992_1_0)) bitsLt_bf16_f32
    = fun i : S4096x4992.Idx => Prod.rows 2048 (Prod.ext (n := 4096) (m := 2048) x) (Prod.ext (n := 4992) (m := 2048) y) (i 0).val (i 1).val := by
  funext i
  obtain ⟨r, d, rfl⟩ := Prod.pair (n := 4096) (m := 4992) i
  refine Eq.trans (b := ∑ k : Fin 2048, x (ix2 r k) * y (ix2 d k)) ?_ (Prod.rows_ext (n := 4096) (m := 4992) x y r d)
  pointwise

/-- The input projection: the call's result is the reference's. -/
theorem algebraic : algebraic_InProjIdeal_InProjRefIdeal := by
  intro m ρ m' ρ' _ hagree
  refine ⟨_, Cert.InProjIdeal.Value.run_blocks (F := Ideal) m ρ, ?_⟩
  refine (θ_run _ _ _).mono (fun _ h c => ?_) (Cert.InProjRefIdeal.Value.run (F := Ideal) m' ρ')
  obtain ⟨e0, e1⟩ := hagree c
  obtain ⟨h0, hargs⟩ := h c
  refine ⟨h0.trans ((plain _ _).trans (Eq.trans ?_ (InProjSide.array m c).symm)), hargs⟩
  rw [e0, e1]

end Cert.InProjPlain

end
-- ==== Proof.OutProj.lean ====
module

public import proofs.«01_k».proof.Defs
public import proofs.«01_k».proof.Proof.Prod
public import proofs.«01_k».proof.Proof.Gen.OutProjIdeal.Value
public import proofs.«01_k».proof.Proof.Gen.OutProjRefIdeal.Run
public import Idealize.ShloMosaic.Lib.Pipeline.ValueKit
public import Idealize.ShloMosaic.Lib.Pipeline.ReadBack

@[expose] public section

set_option maxRecDepth 16384

noncomputable section

namespace Cert.OutProjSide

open Finset Cert.OutProjIdeal Cert.OutProjIdeal.Gen Idealize.ShloMosaic Idealize.ShloMosaic.TcCoe Idealize.SL.Sem

theorem hz : (![0, 0] : Fin 2 → Nat) = fun _ => 0 := by decide

/-- What a point leaves: the product of its two tiles. -/
theorem tile (x0 : Vec Ideal S1024x2048 .bf16) (x1 : Vec Ideal S2048x1024 .bf16) (r : Fin 1024) (d : Fin 1024) :
    out0_2 (F := Ideal) x0 x1 (ix2 r d) = ∑ k : Fin 2048, x0 (ix2 r k) * x1 (ix2 k d) := by
  unfold out0_2
  rw [View.canon_unit_zero hz, View.ld_unit_zero (S := S1024x2048) hz, View.ld_unit_zero (S := S2048x1024) hz]
  pointwise [k0_pay1]

/-- The block each window takes at a point. -/
theorem idx : ∀ t : Fin cfg0.N,
    win0_0.index t = ![t.val / 2, 0] ∧ win0_1.index t = ![0, t.val % 2] ∧ win0_2.index t = ![t.val / 2, t.val % 2] :=
  (by decide +kernel : ∀ t : Fin grid0.N, _)

variable (m : (ℓ : Loc nD τ sig) → Buf (Elt Ideal) ℓ) (e : Dev nD) (t : Fin cfg0.N)

theorem lt : t.val < 8 := lt_of_lt_of_eq t.isLt Gen.N_0

/-- The entries of the gated rows. -/
abbrev X : ℕ → ℕ → EReal := Prod.ext (n := 4096) (m := 2048) (m ((e : Thread nD τ).loc main_arg0))
/-- The entries of the weight. -/
abbrev Y : ℕ → ℕ → EReal := Prod.ext (n := 2048) (m := 2048) (m ((e : Thread nD τ).loc main_arg1))

/-- The first operand's block. -/
theorem block_x (a : Fin 1024) (d : Fin 2048) : iblk (F := Ideal) m e 0 t (ix2 a d) = X m e (t.val / 2 * 1024 + a) d := by
  have ht := lt t
  have ha := a.isLt
  have hd := d.isLt
  blk_simp [iblk, (idx t).1]
  refine Eq.trans (congrArg _ (?_ : _ = ix2 ⟨t.val / 2 * 1024 + a, by omega⟩ ⟨d, by omega⟩)) ((congrFun (V_main_arg0 m e) _).trans (Prod.ext_ix2 (n := 4096) (m := 2048) (m ((e : Thread nD τ).loc main_arg0)) _ _).symm)
  blk_ext [(idx t).1]

/-- The second operand's block. -/
theorem block_y (a : Fin 2048) (d : Fin 1024) : iblk (F := Ideal) m e 1 t (ix2 a d) = Y m e a (t.val % 2 * 1024 + d) := by
  have ht := lt t
  have ha := a.isLt
  have hd := d.isLt
  blk_simp [iblk, (idx t).2.1]
  refine Eq.trans (congrArg _ (?_ : _ = ix2 ⟨a, by omega⟩ ⟨t.val % 2 * 1024 + d, by omega⟩)) ((congrFun (V_main_arg1 m e) _).trans (Prod.ext_ix2 (n := 2048) (m := 2048) (m ((e : Thread nD τ).loc main_arg1)) _ _).symm)
  blk_ext [(idx t).2.1]

/-- A point's block of the result is that block of the whole product. -/
theorem out (r : Fin 1024) (d : Fin 1024) : out0_2 (F := Ideal) (iblk m e 0 t) (iblk m e 1 t) (ix2 r d)
    = Prod.cols 2048 (X m e) (Y m e) (t.val / 2 * 1024 + r) (t.val % 2 * 1024 + d) :=
  (tile _ _ r d).trans (Finset.sum_congr rfl fun k _ => congrArg₂ (· * ·) (block_x m e t r k) (block_y m e t k d))

/-- Every index of the result is in a block written back. -/
theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨p, hp⟩ : ∃ p : Fin cfg0.N, p.val = 2 * ((i 0).val / 1024) + (i 1).val / 1024 := ⟨⟨_, lt_of_lt_of_eq (by omega) Gen.N_0.symm⟩, rfl⟩
  refine ⟨p, (by decide +kernel : ∀ t : Fin grid0.N, (cfg0.win 2).flush t = true) p, ?_⟩
  show i ∈ ((View.whole main_v0).slice (win0_2.rect p)).set
  rw [View.set_slice_whole, Rect.mem_set_unit]
  intro a
  show win0_2.index p a * S1024x1024.size a ≤ (i a).val ∧ (i a).val < win0_2.index p a * S1024x1024.size a + S1024x1024.size a
  rw [(idx p).2.2]
  match a with
  | ⟨0, _⟩ => show p.val / 2 * 1024 ≤ (i 0).val ∧ (i 0).val < p.val / 2 * 1024 + 1024; omega
  | ⟨1, _⟩ => show p.val % 2 * 1024 ≤ (i 1).val ∧ (i 1).val < p.val % 2 * 1024 + 1024; omega

/-- The result after the run: the product. -/
theorem array : (dats (F := Ideal) m 0 e).arrAt 2 cfg0.N = fun i : S4096x2048.Idx => Prod.cols 2048 (X m e) (Y m e) (i 0).val (i 1).val := by
  refine (dats (F := Ideal) m 0 e).arrAt_eq_of_cover 2 _ (fun t hf => ?_) cover
  rw [Value.flushed2]
  funext y
  obtain ⟨r, d, rfl⟩ := Prod.pair (n := 1024) (m := 1024) y
  refine (out m e t r d).trans ?_
  have e0 : (((cfg0.win 2).blk t).view.emb (ix2 r d : S1024x1024.Idx) 0).val = t.val / 2 * 1024 + r := by
    blk_simp [(idx t).2.2]
    try omega
  have e1 : (((cfg0.win 2).blk t).view.emb (ix2 r d : S1024x1024.Idx) 1).val = t.val % 2 * 1024 + d := by
    blk_simp [(idx t).2.2]
    try omega
  show _ = Prod.cols 2048 (X m e) (Y m e) (((cfg0.win 2).blk t).view.emb (ix2 r d : S1024x1024.Idx) 0).val (((cfg0.win 2).blk t).view.emb (ix2 r d : S1024x1024.Idx) 1).val
  rw [e0, e1]

end Cert.OutProjSide

namespace Cert.OutProjPlain

open Finset Cert.OutProjRefIdeal Cert.OutProjRefIdeal.Gen Idealize.ShloMosaic Idealize.ShloMosaic.TcCoe Idealize.SL.Sem

/-- The plain product's entry. -/
theorem plain (x : Vec Ideal S4096x2048 .bf16) (y : Vec Ideal S2048x2048 .bf16) :
    truncf (F := Ideal) .bf16 (Host.dotGeneral dot_S4096x2048_S2048x2048_S4096x2048_1_0_0_1_n_n none (extf .f32 x bitsLt_bf16_f32) (extf .f32 y bitsLt_bf16_f32)) bitsLt_bf16_f32
    = fun i : S4096x2048.Idx => Prod.cols 2048 (Prod.ext (n := 4096) (m := 2048) x) (Prod.ext (n := 2048) (m := 2048) y) (i 0).val (i 1).val := by
  funext i
  obtain ⟨r, d, rfl⟩ := Prod.pair (n := 4096) (m := 2048) i
  refine Eq.trans (b := ∑ k : Fin 2048, x (ix2 r k) * y (ix2 k d)) ?_ (Prod.cols_ext (n := 4096) (m := 2048) x y r d)
  pointwise

/-- The output projection: the call's result is the reference's. -/
theorem algebraic : algebraic_OutProjIdeal_OutProjRefIdeal := by
  intro m ρ m' ρ' _ hagree
  refine ⟨_, Cert.OutProjIdeal.Value.run_blocks (F := Ideal) m ρ, ?_⟩
  refine (θ_run _ _ _).mono (fun _ h c => ?_) (Cert.OutProjRefIdeal.Value.run (F := Ideal) m' ρ')
  obtain ⟨e0, e1⟩ := hagree c
  obtain ⟨h0, hargs⟩ := h c
  refine ⟨h0.trans ((plain _ _).trans (Eq.trans ?_ (OutProjSide.array m c).symm)), hargs⟩
  rw [e0, e1]

end Cert.OutProjPlain

end
-- ==== Proof.Uq.lean ====
module

public import proofs.«01_k».proof.Defs
public import proofs.«01_k».proof.Proof.Prod
public import proofs.«01_k».proof.Proof.Gen.UqIdeal.Value
public import proofs.«01_k».proof.Proof.Gen.UqRefIdeal.Run
public import Idealize.ShloMosaic.Lib.Pipeline.ValueKit
public import Idealize.ShloMosaic.Lib.Pipeline.ReadBack

@[expose] public section

set_option maxRecDepth 16384

noncomputable section

namespace Cert.UqSide

open Finset Cert.UqIdeal Cert.UqIdeal.Gen Idealize.ShloMosaic Idealize.ShloMosaic.TcCoe Idealize.SL.Sem

theorem hz : (![0, 0] : Fin 2 → Nat) = fun _ => 0 := by decide

/-- What a point leaves: the product of its two tiles. -/
theorem tile (x0 : Vec Ideal S1024x512 .bf16) (x1 : Vec Ideal S512x1024 .bf16) (r : Fin 1024) (d : Fin 1024) :
    out0_2 (F := Ideal) x0 x1 (ix2 r d) = ∑ k : Fin 512, x0 (ix2 r k) * x1 (ix2 k d) := by
  unfold out0_2
  rw [View.canon_unit_zero hz, View.ld_unit_zero (S := S1024x512) hz, View.ld_unit_zero (S := S512x1024) hz]
  pointwise [k0_pay1]

/-- The block each window takes at a point. -/
theorem idx : ∀ t : Fin cfg0.N,
    win0_0.index t = ![t.val / 2, 0] ∧ win0_1.index t = ![0, t.val % 2] ∧ win0_2.index t = ![t.val / 2, t.val % 2] :=
  (by decide +kernel : ∀ t : Fin grid0.N, _)

variable (m : (ℓ : Loc nD τ sig) → Buf (Elt Ideal) ℓ) (e : Dev nD) (t : Fin cfg0.N)

theorem lt : t.val < 8 := lt_of_lt_of_eq t.isLt Gen.N_0

/-- The entries of the normalised query latents. -/
abbrev X : ℕ → ℕ → EReal := Prod.ext (n := 4096) (m := 512) (m ((e : Thread nD τ).loc main_arg0))
/-- The entries of the weight. -/
abbrev Y : ℕ → ℕ → EReal := Prod.ext (n := 512) (m := 2048) (m ((e : Thread nD τ).loc main_arg1))

/-- The first operand's block. -/
theorem block_x (a : Fin 1024) (d : Fin 512) : iblk (F := Ideal) m e 0 t (ix2 a d) = X m e (t.val / 2 * 1024 + a) d := by
  have ht := lt t
  have ha := a.isLt
  have hd := d.isLt
  blk_simp [iblk, (idx t).1]
  refine Eq.trans (congrArg _ (?_ : _ = ix2 ⟨t.val / 2 * 1024 + a, by omega⟩ ⟨d, by omega⟩)) ((congrFun (V_main_arg0 m e) _).trans (Prod.ext_ix2 (n := 4096) (m := 512) (m ((e : Thread nD τ).loc main_arg0)) _ _).symm)
  blk_ext [(idx t).1]

/-- The second operand's block. -/
theorem block_y (a : Fin 512) (d : Fin 1024) : iblk (F := Ideal) m e 1 t (ix2 a d) = Y m e a (t.val % 2 * 1024 + d) := by
  have ht := lt t
  have ha := a.isLt
  have hd := d.isLt
  blk_simp [iblk, (idx t).2.1]
  refine Eq.trans (congrArg _ (?_ : _ = ix2 ⟨a, by omega⟩ ⟨t.val % 2 * 1024 + d, by omega⟩)) ((congrFun (V_main_arg1 m e) _).trans (Prod.ext_ix2 (n := 512) (m := 2048) (m ((e : Thread nD τ).loc main_arg1)) _ _).symm)
  blk_ext [(idx t).2.1]

/-- A point's block of the result is that block of the whole product. -/
theorem out (r : Fin 1024) (d : Fin 1024) : out0_2 (F := Ideal) (iblk m e 0 t) (iblk m e 1 t) (ix2 r d)
    = Prod.cols 512 (X m e) (Y m e) (t.val / 2 * 1024 + r) (t.val % 2 * 1024 + d) :=
  (tile _ _ r d).trans (Finset.sum_congr rfl fun k _ => congrArg₂ (· * ·) (block_x m e t r k) (block_y m e t k d))

/-- Every index of the result is in a block written back. -/
theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨p, hp⟩ : ∃ p : Fin cfg0.N, p.val = 2 * ((i 0).val / 1024) + (i 1).val / 1024 := ⟨⟨_, lt_of_lt_of_eq (by omega) Gen.N_0.symm⟩, rfl⟩
  refine ⟨p, (by decide +kernel : ∀ t : Fin grid0.N, (cfg0.win 2).flush t = true) p, ?_⟩
  show i ∈ ((View.whole main_v0).slice (win0_2.rect p)).set
  rw [View.set_slice_whole, Rect.mem_set_unit]
  intro a
  show win0_2.index p a * S1024x1024.size a ≤ (i a).val ∧ (i a).val < win0_2.index p a * S1024x1024.size a + S1024x1024.size a
  rw [(idx p).2.2]
  match a with
  | ⟨0, _⟩ => show p.val / 2 * 1024 ≤ (i 0).val ∧ (i 0).val < p.val / 2 * 1024 + 1024; omega
  | ⟨1, _⟩ => show p.val % 2 * 1024 ≤ (i 1).val ∧ (i 1).val < p.val % 2 * 1024 + 1024; omega

/-- The result after the run: the product. -/
theorem array : (dats (F := Ideal) m 0 e).arrAt 2 cfg0.N = fun i : S4096x2048.Idx => Prod.cols 512 (X m e) (Y m e) (i 0).val (i 1).val := by
  refine (dats (F := Ideal) m 0 e).arrAt_eq_of_cover 2 _ (fun t hf => ?_) cover
  rw [Value.flushed2]
  funext y
  obtain ⟨r, d, rfl⟩ := Prod.pair (n := 1024) (m := 1024) y
  refine (out m e t r d).trans ?_
  have e0 : (((cfg0.win 2).blk t).view.emb (ix2 r d : S1024x1024.Idx) 0).val = t.val / 2 * 1024 + r := by
    blk_simp [(idx t).2.2]
    try omega
  have e1 : (((cfg0.win 2).blk t).view.emb (ix2 r d : S1024x1024.Idx) 1).val = t.val % 2 * 1024 + d := by
    blk_simp [(idx t).2.2]
    try omega
  show _ = Prod.cols 512 (X m e) (Y m e) (((cfg0.win 2).blk t).view.emb (ix2 r d : S1024x1024.Idx) 0).val (((cfg0.win 2).blk t).view.emb (ix2 r d : S1024x1024.Idx) 1).val
  rw [e0, e1]

end Cert.UqSide

namespace Cert.UqPlain

open Finset Cert.UqRefIdeal Cert.UqRefIdeal.Gen Idealize.ShloMosaic Idealize.ShloMosaic.TcCoe Idealize.SL.Sem

/-- The plain product's entry. -/
theorem plain (x : Vec Ideal S4096x512 .bf16) (y : Vec Ideal S512x2048 .bf16) :
    truncf (F := Ideal) .bf16 (Host.dotGeneral dot_S4096x512_S512x2048_S4096x2048_1_0_0_1_n_n none (extf .f32 x bitsLt_bf16_f32) (extf .f32 y bitsLt_bf16_f32)) bitsLt_bf16_f32
    = fun i : S4096x2048.Idx => Prod.cols 512 (Prod.ext (n := 4096) (m := 512) x) (Prod.ext (n := 512) (m := 2048) y) (i 0).val (i 1).val := by
  funext i
  obtain ⟨r, d, rfl⟩ := Prod.pair (n := 4096) (m := 2048) i
  refine Eq.trans (b := ∑ k : Fin 512, x (ix2 r k) * y (ix2 k d)) ?_ (Prod.cols_ext (n := 4096) (m := 2048) x y r d)
  pointwise

/-- The query projection: the call's result is the reference's. -/
theorem algebraic : algebraic_UqIdeal_UqRefIdeal := by
  intro m ρ m' ρ' _ hagree
  refine ⟨_, Cert.UqIdeal.Value.run_blocks (F := Ideal) m ρ, ?_⟩
  refine (θ_run _ _ _).mono (fun _ h c => ?_) (Cert.UqRefIdeal.Value.run (F := Ideal) m' ρ')
  obtain ⟨e0, e1⟩ := hagree c
  obtain ⟨h0, hargs⟩ := h c
  refine ⟨h0.trans ((plain _ _).trans (Eq.trans ?_ (UqSide.array m c).symm)), hargs⟩
  rw [e0, e1]

end Cert.UqPlain

end
-- ==== Proof.Ukv.lean ====
module

public import proofs.«01_k».proof.Defs
public import proofs.«01_k».proof.Proof.Prod
public import proofs.«01_k».proof.Proof.Gen.UkvIdeal.Value
public import proofs.«01_k».proof.Proof.Gen.UkvRefIdeal.Run
public import Idealize.ShloMosaic.Lib.Pipeline.ValueKit
public import Idealize.ShloMosaic.Lib.Pipeline.ReadBack

@[expose] public section

set_option maxRecDepth 16384

noncomputable section

namespace Cert.UkvSide

open Finset Cert.UkvIdeal Cert.UkvIdeal.Gen Idealize.ShloMosaic Idealize.ShloMosaic.TcCoe Idealize.SL.Sem

theorem hz : (![0, 0] : Fin 2 → Nat) = fun _ => 0 := by decide

/-- What a point leaves: the product of its two tiles. -/
theorem tile (x0 : Vec Ideal S512x256 .bf16) (x1 : Vec Ideal S256x1024 .bf16) (r : Fin 512) (d : Fin 1024) :
    out0_2 (F := Ideal) x0 x1 (ix2 r d) = ∑ k : Fin 256, x0 (ix2 r k) * x1 (ix2 k d) := by
  unfold out0_2
  rw [View.canon_unit_zero hz, View.ld_unit_zero (S := S512x256) hz, View.ld_unit_zero (S := S256x1024) hz]
  pointwise [k0_pay1]

/-- The block each window takes at a point. -/
theorem idx : ∀ t : Fin cfg0.N,
    win0_0.index t = ![t.val / 2, 0] ∧ win0_1.index t = ![0, t.val % 2] ∧ win0_2.index t = ![t.val / 2, t.val % 2] :=
  (by decide +kernel : ∀ t : Fin grid0.N, _)

variable (m : (ℓ : Loc nD τ sig) → Buf (Elt Ideal) ℓ) (e : Dev nD) (t : Fin cfg0.N)

theorem lt : t.val < 16 := lt_of_lt_of_eq t.isLt Gen.N_0

/-- The entries of the normalised key latents. -/
abbrev X : ℕ → ℕ → EReal := Prod.ext (n := 4096) (m := 256) (m ((e : Thread nD τ).loc main_arg0))
/-- The entries of the weight. -/
abbrev Y : ℕ → ℕ → EReal := Prod.ext (n := 256) (m := 2048) (m ((e : Thread nD τ).loc main_arg1))

/-- The first operand's block. -/
theorem block_x (a : Fin 512) (d : Fin 256) : iblk (F := Ideal) m e 0 t (ix2 a d) = X m e (t.val / 2 * 512 + a) d := by
  have ht := lt t
  have ha := a.isLt
  have hd := d.isLt
  blk_simp [iblk, (idx t).1]
  refine Eq.trans (congrArg _ (?_ : _ = ix2 ⟨t.val / 2 * 512 + a, by omega⟩ ⟨d, by omega⟩)) ((congrFun (V_main_arg0 m e) _).trans (Prod.ext_ix2 (n := 4096) (m := 256) (m ((e : Thread nD τ).loc main_arg0)) _ _).symm)
  blk_ext [(idx t).1]

/-- The second operand's block. -/
theorem block_y (a : Fin 256) (d : Fin 1024) : iblk (F := Ideal) m e 1 t (ix2 a d) = Y m e a (t.val % 2 * 1024 + d) := by
  have ht := lt t
  have ha := a.isLt
  have hd := d.isLt
  blk_simp [iblk, (idx t).2.1]
  refine Eq.trans (congrArg _ (?_ : _ = ix2 ⟨a, by omega⟩ ⟨t.val % 2 * 1024 + d, by omega⟩)) ((congrFun (V_main_arg1 m e) _).trans (Prod.ext_ix2 (n := 256) (m := 2048) (m ((e : Thread nD τ).loc main_arg1)) _ _).symm)
  blk_ext [(idx t).2.1]

/-- A point's block of the result is that block of the whole product. -/
theorem out (r : Fin 512) (d : Fin 1024) : out0_2 (F := Ideal) (iblk m e 0 t) (iblk m e 1 t) (ix2 r d)
    = Prod.cols 256 (X m e) (Y m e) (t.val / 2 * 512 + r) (t.val % 2 * 1024 + d) :=
  (tile _ _ r d).trans (Finset.sum_congr rfl fun k _ => congrArg₂ (· * ·) (block_x m e t r k) (block_y m e t k d))

/-- Every index of the result is in a block written back. -/
theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨p, hp⟩ : ∃ p : Fin cfg0.N, p.val = 2 * ((i 0).val / 512) + (i 1).val / 1024 := ⟨⟨_, lt_of_lt_of_eq (by omega) Gen.N_0.symm⟩, rfl⟩
  refine ⟨p, (by decide +kernel : ∀ t : Fin grid0.N, (cfg0.win 2).flush t = true) p, ?_⟩
  show i ∈ ((View.whole main_v0).slice (win0_2.rect p)).set
  rw [View.set_slice_whole, Rect.mem_set_unit]
  intro a
  show win0_2.index p a * S512x1024.size a ≤ (i a).val ∧ (i a).val < win0_2.index p a * S512x1024.size a + S512x1024.size a
  rw [(idx p).2.2]
  match a with
  | ⟨0, _⟩ => show p.val / 2 * 512 ≤ (i 0).val ∧ (i 0).val < p.val / 2 * 512 + 512; omega
  | ⟨1, _⟩ => show p.val % 2 * 1024 ≤ (i 1).val ∧ (i 1).val < p.val % 2 * 1024 + 1024; omega

/-- The result after the run: the product. -/
theorem array : (dats (F := Ideal) m 0 e).arrAt 2 cfg0.N = fun i : S4096x2048.Idx => Prod.cols 256 (X m e) (Y m e) (i 0).val (i 1).val := by
  refine (dats (F := Ideal) m 0 e).arrAt_eq_of_cover 2 _ (fun t hf => ?_) cover
  rw [Value.flushed2]
  funext y
  obtain ⟨r, d, rfl⟩ := Prod.pair (n := 512) (m := 1024) y
  refine (out m e t r d).trans ?_
  have e0 : (((cfg0.win 2).blk t).view.emb (ix2 r d : S512x1024.Idx) 0).val = t.val / 2 * 512 + r := by
    blk_simp [(idx t).2.2]
    try omega
  have e1 : (((cfg0.win 2).blk t).view.emb (ix2 r d : S512x1024.Idx) 1).val = t.val % 2 * 1024 + d := by
    blk_simp [(idx t).2.2]
    try omega
  show _ = Prod.cols 256 (X m e) (Y m e) (((cfg0.win 2).blk t).view.emb (ix2 r d : S512x1024.Idx) 0).val (((cfg0.win 2).blk t).view.emb (ix2 r d : S512x1024.Idx) 1).val
  rw [e0, e1]

end Cert.UkvSide

namespace Cert.UkvPlain

open Finset Cert.UkvRefIdeal Cert.UkvRefIdeal.Gen Idealize.ShloMosaic Idealize.ShloMosaic.TcCoe Idealize.SL.Sem

/-- The plain product's entry. -/
theorem plain (x : Vec Ideal S4096x256 .bf16) (y : Vec Ideal S256x2048 .bf16) :
    truncf (F := Ideal) .bf16 (Host.dotGeneral dot_S4096x256_S256x2048_S4096x2048_1_0_0_1_n_n none (extf .f32 x bitsLt_bf16_f32) (extf .f32 y bitsLt_bf16_f32)) bitsLt_bf16_f32
    = fun i : S4096x2048.Idx => Prod.cols 256 (Prod.ext (n := 4096) (m := 256) x) (Prod.ext (n := 256) (m := 2048) y) (i 0).val (i 1).val := by
  funext i
  obtain ⟨r, d, rfl⟩ := Prod.pair (n := 4096) (m := 2048) i
  refine Eq.trans (b := ∑ k : Fin 256, x (ix2 r k) * y (ix2 k d)) ?_ (Prod.cols_ext (n := 4096) (m := 2048) x y r d)
  pointwise

/-- The key and value projection: the call's result is the reference's. -/
theorem algebraic : algebraic_UkvIdeal_UkvRefIdeal := by
  intro m ρ m' ρ' _ hagree
  refine ⟨_, Cert.UkvIdeal.Value.run_blocks (F := Ideal) m ρ, ?_⟩
  refine (θ_run _ _ _).mono (fun _ h c => ?_) (Cert.UkvRefIdeal.Value.run (F := Ideal) m' ρ')
  obtain ⟨e0, e1⟩ := hagree c
  obtain ⟨h0, hargs⟩ := h c
  refine ⟨h0.trans ((plain _ _).trans (Eq.trans ?_ (UkvSide.array m c).symm)), hargs⟩
  rw [e0, e1]

end Cert.UkvPlain

end
-- ==== Proof.MemDw.lean ====
module

public import proofs.«01_k».proof.Defs
public import proofs.«01_k».proof.Proof.Prod
public import proofs.«01_k».proof.Proof.Gen.MemDwIdeal.Value
public import proofs.«01_k».proof.Proof.Gen.MemDwRefIdeal.Run
public import Idealize.ShloMosaic.Lib.Pipeline.ValueKit
public import Idealize.ShloMosaic.Lib.Pipeline.ReadBack

@[expose] public section

set_option maxRecDepth 16384

noncomputable section

namespace Cert.MemDwSide

open Finset Cert.MemDwIdeal Cert.MemDwIdeal.Gen Idealize.ShloMosaic Idealize.ShloMosaic.TcCoe Idealize.SL.Sem

theorem hz : (![0, 0] : Fin 2 → Nat) = fun _ => 0 := by decide

/-- What a point leaves: the product of its two tiles. -/
theorem tile (x0 : Vec Ideal S256x512 .bf16) (x1 : Vec Ideal S256x1024 .bf16) (r : Fin 512) (d : Fin 1024) :
    out0_2 (F := Ideal) x0 x1 (ix2 r d) = ∑ k : Fin 256, x0 (ix2 k r) * x1 (ix2 k d) := by
  unfold out0_2
  rw [View.canon_unit_zero hz, View.ld_unit_zero (S := S256x512) hz, View.ld_unit_zero (S := S256x1024) hz]
  pointwise [k0_pay1]

/-- The block each window takes at a point. -/
theorem idx : ∀ t : Fin cfg0.N,
    win0_0.index t = ![0, t.val / 1] ∧ win0_1.index t = ![0, t.val % 1] ∧ win0_2.index t = ![t.val / 1, t.val % 1] :=
  (by decide +kernel : ∀ t : Fin grid0.N, _)

variable (m : (ℓ : Loc nD τ sig) → Buf (Elt Ideal) ℓ) (e : Dev nD) (t : Fin cfg0.N)

theorem lt : t.val < 4 := lt_of_lt_of_eq t.isLt Gen.N_0

/-- The entries of the normalised memory. -/
abbrev X : ℕ → ℕ → EReal := Prod.ext (n := 256) (m := 2048) (m ((e : Thread nD τ).loc main_arg0))
/-- The entries of the cotangent. -/
abbrev Y : ℕ → ℕ → EReal := Prod.ext (n := 256) (m := 1024) (m ((e : Thread nD τ).loc main_arg1))

/-- The first operand's block. -/
theorem block_x (a : Fin 256) (d : Fin 512) : iblk (F := Ideal) m e 0 t (ix2 a d) = X m e a (t.val / 1 * 512 + d) := by
  have ht := lt t
  have ha := a.isLt
  have hd := d.isLt
  blk_simp [iblk, (idx t).1]
  refine Eq.trans (congrArg _ (?_ : _ = ix2 ⟨a, by omega⟩ ⟨t.val / 1 * 512 + d, by omega⟩)) ((congrFun (V_main_arg0 m e) _).trans (Prod.ext_ix2 (n := 256) (m := 2048) (m ((e : Thread nD τ).loc main_arg0)) _ _).symm)
  blk_ext [(idx t).1]

/-- The second operand's block. -/
theorem block_y (a : Fin 256) (d : Fin 1024) : iblk (F := Ideal) m e 1 t (ix2 a d) = Y m e a (t.val % 1 * 1024 + d) := by
  have ht := lt t
  have ha := a.isLt
  have hd := d.isLt
  blk_simp [iblk, (idx t).2.1]
  refine Eq.trans (congrArg _ (?_ : _ = ix2 ⟨a, by omega⟩ ⟨t.val % 1 * 1024 + d, by omega⟩)) ((congrFun (V_main_arg1 m e) _).trans (Prod.ext_ix2 (n := 256) (m := 1024) (m ((e : Thread nD τ).loc main_arg1)) _ _).symm)
  blk_ext [(idx t).2.1]

/-- A point's block of the result is that block of the whole product. -/
theorem out (r : Fin 512) (d : Fin 1024) : out0_2 (F := Ideal) (iblk m e 0 t) (iblk m e 1 t) (ix2 r d)
    = Prod.heads 256 (X m e) (Y m e) (t.val / 1 * 512 + r) (t.val % 1 * 1024 + d) :=
  (tile _ _ r d).trans (Finset.sum_congr rfl fun k _ => congrArg₂ (· * ·) (block_x m e t k r) (block_y m e t k d))

/-- Every index of the result is in a block written back. -/
theorem cover (i : S2048x1024.Idx) : ∃ t : Fin cfg0.N, (cfg0.win 2).flush t = true ∧ i ∈ ((cfg0.win 2).blk t).view.set := by
  have h0 : (i 0).val < 2048 := (i 0).isLt
  have h1 : (i 1).val < 1024 := (i 1).isLt
  obtain ⟨p, hp⟩ : ∃ p : Fin cfg0.N, p.val = 1 * ((i 0).val / 512) + (i 1).val / 1024 := ⟨⟨_, lt_of_lt_of_eq (by omega) Gen.N_0.symm⟩, rfl⟩
  refine ⟨p, (by decide +kernel : ∀ t : Fin grid0.N, (cfg0.win 2).flush t = true) p, ?_⟩
  show i ∈ ((View.whole main_v0).slice (win0_2.rect p)).set
  rw [View.set_slice_whole, Rect.mem_set_unit]
  intro a
  show win0_2.index p a * S512x1024.size a ≤ (i a).val ∧ (i a).val < win0_2.index p a * S512x1024.size a + S512x1024.size a
  rw [(idx p).2.2]
  match a with
  | ⟨0, _⟩ => show p.val / 1 * 512 ≤ (i 0).val ∧ (i 0).val < p.val / 1 * 512 + 512; omega
  | ⟨1, _⟩ => show p.val % 1 * 1024 ≤ (i 1).val ∧ (i 1).val < p.val % 1 * 1024 + 1024; omega

/-- The result after the run: the product. -/
theorem array : (dats (F := Ideal) m 0 e).arrAt 2 cfg0.N = fun i : S2048x1024.Idx => Prod.heads 256 (X m e) (Y m e) (i 0).val (i 1).val := by
  refine (dats (F := Ideal) m 0 e).arrAt_eq_of_cover 2 _ (fun t hf => ?_) cover
  rw [Value.flushed2]
  funext y
  obtain ⟨r, d, rfl⟩ := Prod.pair (n := 512) (m := 1024) y
  refine (out m e t r d).trans ?_
  have e0 : (((cfg0.win 2).blk t).view.emb (ix2 r d : S512x1024.Idx) 0).val = t.val / 1 * 512 + r := by
    blk_simp [(idx t).2.2]
    try omega
  have e1 : (((cfg0.win 2).blk t).view.emb (ix2 r d : S512x1024.Idx) 1).val = t.val % 1 * 1024 + d := by
    blk_simp [(idx t).2.2]
    try omega
  show _ = Prod.heads 256 (X m e) (Y m e) (((cfg0.win 2).blk t).view.emb (ix2 r d : S512x1024.Idx) 0).val (((cfg0.win 2).blk t).view.emb (ix2 r d : S512x1024.Idx) 1).val
  rw [e0, e1]

end Cert.MemDwSide

namespace Cert.MemDwPlain

open Finset Cert.MemDwRefIdeal Cert.MemDwRefIdeal.Gen Idealize.ShloMosaic Idealize.ShloMosaic.TcCoe Idealize.SL.Sem

/-- The plain product's entry. -/
theorem plain (x : Vec Ideal S256x2048 .bf16) (y : Vec Ideal S256x1024 .bf16) :
    truncf (F := Ideal) .bf16 (transpose S2048x1024 [1, 0] (Host.dotGeneral dot_S256x1024_S256x2048_S1024x2048_0_0_1_1_n_n none (extf .f32 y bitsLt_bf16_f32) (extf .f32 x bitsLt_bf16_f32)) transposes_S1024x2048_S2048x1024_1_0) bitsLt_bf16_f32
    = fun i : S2048x1024.Idx => Prod.heads 256 (Prod.ext (n := 256) (m := 2048) x) (Prod.ext (n := 256) (m := 1024) y) (i 0).val (i 1).val := by
  funext i
  obtain ⟨r, d, rfl⟩ := Prod.pair (n := 2048) (m := 1024) i
  refine Eq.trans (b := ∑ k : Fin 256, x (ix2 k r) * y (ix2 k d)) ?_ (Prod.heads_ext (n := 2048) (m := 1024) x y r d)
  refine Eq.trans (b := ∑ k : Fin 256, y (ix2 k d) * x (ix2 k r)) ?_ (Finset.sum_congr rfl fun k _ => mul_comm _ _)
  pointwise

/-- The gradient of the memory projection's weight: the call's result is the reference's. -/
theorem algebraic : algebraic_MemDwIdeal_MemDwRefIdeal := by
  intro m ρ m' ρ' _ hagree
  refine ⟨_, Cert.MemDwIdeal.Value.run_blocks (F := Ideal) m ρ, ?_⟩
  refine (θ_run _ _ _).mono (fun _ h c => ?_) (Cert.MemDwRefIdeal.Value.run (F := Ideal) m' ρ')
  obtain ⟨e0, e1⟩ := hagree c
  obtain ⟨h0, hargs⟩ := h c
  refine ⟨h0.trans ((plain _ _).trans (Eq.trans ?_ (MemDwSide.array m c).symm)), hargs⟩
  rw [e0, e1]

end Cert.MemDwPlain

end
-- ==== Proof.MemDx.lean ====
module

public import proofs.«01_k».proof.Defs
public import proofs.«01_k».proof.Proof.Prod
public import proofs.«01_k».proof.Proof.Gen.MemDxIdeal.Value
public import proofs.«01_k».proof.Proof.Gen.MemDxRefIdeal.Run
public import Idealize.ShloMosaic.Lib.Pipeline.ValueKit
public import Idealize.ShloMosaic.Lib.Pipeline.ReadBack

@[expose] public section

set_option maxRecDepth 16384

noncomputable section

namespace Cert.MemDxSide

open Finset Cert.MemDxIdeal Cert.MemDxIdeal.Gen Idealize.ShloMosaic Idealize.ShloMosaic.TcCoe Idealize.SL.Sem

theorem hz : (![0, 0] : Fin 2 → Nat) = fun _ => 0 := by decide

/-- What a point leaves: the product of its two tiles. -/
theorem tile (x0 : Vec Ideal S256x1024 .bf16) (x1 : Vec Ideal S1024x1024 .bf16) (r : Fin 256) (d : Fin 1024) :
    out0_2 (F := Ideal) x0 x1 (ix2 r d) = ∑ k : Fin 1024, x0 (ix2 r k) * x1 (ix2 d k) := by
  unfold out0_2
  rw [View.canon_unit_zero hz, View.ld_unit_zero (S := S256x1024) hz, View.ld_unit_zero (S := S1024x1024) hz]
  pointwise [k0_pay1]

/-- The block each window takes at a point. -/
theorem idx : ∀ t : Fin cfg0.N,
    win0_0.index t = ![t.val / 2, 0] ∧ win0_1.index t = ![t.val % 2, 0] ∧ win0_2.index t = ![t.val / 2, t.val % 2] :=
  (by decide +kernel : ∀ t : Fin grid0.N, _)

variable (m : (ℓ : Loc nD τ sig) → Buf (Elt Ideal) ℓ) (e : Dev nD) (t : Fin cfg0.N)

theorem lt : t.val < 2 := lt_of_lt_of_eq t.isLt Gen.N_0

/-- The entries of the cotangent. -/
abbrev X : ℕ → ℕ → EReal := Prod.ext (n := 256) (m := 1024) (m ((e : Thread nD τ).loc main_arg0))
/-- The entries of the weight. -/
abbrev Y : ℕ → ℕ → EReal := Prod.ext (n := 2048) (m := 1024) (m ((e : Thread nD τ).loc main_arg1))

/-- The first operand's block. -/
theorem block_x (a : Fin 256) (d : Fin 1024) : iblk (F := Ideal) m e 0 t (ix2 a d) = X m e (t.val / 2 * 256 + a) d := by
  have ht := lt t
  have ha := a.isLt
  have hd := d.isLt
  blk_simp [iblk, (idx t).1]
  refine Eq.trans (congrArg _ (?_ : _ = ix2 ⟨t.val / 2 * 256 + a, by omega⟩ ⟨d, by omega⟩)) ((congrFun (V_main_arg0 m e) _).trans (Prod.ext_ix2 (n := 256) (m := 1024) (m ((e : Thread nD τ).loc main_arg0)) _ _).symm)
  blk_ext [(idx t).1]

/-- The second operand's block. -/
theorem block_y (a : Fin 1024) (d : Fin 1024) : iblk (F := Ideal) m e 1 t (ix2 a d) = Y m e (t.val % 2 * 1024 + a) d := by
  have ht := lt t
  have ha := a.isLt
  have hd := d.isLt
  blk_simp [iblk, (idx t).2.1]
  refine Eq.trans (congrArg _ (?_ : _ = ix2 ⟨t.val % 2 * 1024 + a, by omega⟩ ⟨d, by omega⟩)) ((congrFun (V_main_arg1 m e) _).trans (Prod.ext_ix2 (n := 2048) (m := 1024) (m ((e : Thread nD τ).loc main_arg1)) _ _).symm)
  blk_ext [(idx t).2.1]

/-- A point's block of the result is that block of the whole product. -/
theorem out (r : Fin 256) (d : Fin 1024) : out0_2 (F := Ideal) (iblk m e 0 t) (iblk m e 1 t) (ix2 r d)
    = Prod.rows 1024 (X m e) (Y m e) (t.val / 2 * 256 + r) (t.val % 2 * 1024 + d) :=
  (tile _ _ r d).trans (Finset.sum_congr rfl fun k _ => congrArg₂ (· * ·) (block_x m e t r k) (block_y m e t d k))

/-- Every index of the result is in a block written back. -/
theorem cover (i : S256x2048.Idx) : ∃ t : Fin cfg0.N, (cfg0.win 2).flush t = true ∧ i ∈ ((cfg0.win 2).blk t).view.set := by
  have h0 : (i 0).val < 256 := (i 0).isLt
  have h1 : (i 1).val < 2048 := (i 1).isLt
  obtain ⟨p, hp⟩ : ∃ p : Fin cfg0.N, p.val = 2 * ((i 0).val / 256) + (i 1).val / 1024 := ⟨⟨_, lt_of_lt_of_eq (by omega) Gen.N_0.symm⟩, rfl⟩
  refine ⟨p, (by decide +kernel : ∀ t : Fin grid0.N, (cfg0.win 2).flush t = true) p, ?_⟩
  show i ∈ ((View.whole main_v0).slice (win0_2.rect p)).set
  rw [View.set_slice_whole, Rect.mem_set_unit]
  intro a
  show win0_2.index p a * S256x1024.size a ≤ (i a).val ∧ (i a).val < win0_2.index p a * S256x1024.size a + S256x1024.size a
  rw [(idx p).2.2]
  match a with
  | ⟨0, _⟩ => show p.val / 2 * 256 ≤ (i 0).val ∧ (i 0).val < p.val / 2 * 256 + 256; omega
  | ⟨1, _⟩ => show p.val % 2 * 1024 ≤ (i 1).val ∧ (i 1).val < p.val % 2 * 1024 + 1024; omega

/-- The result after the run: the product. -/
theorem array : (dats (F := Ideal) m 0 e).arrAt 2 cfg0.N = fun i : S256x2048.Idx => Prod.rows 1024 (X m e) (Y m e) (i 0).val (i 1).val := by
  refine (dats (F := Ideal) m 0 e).arrAt_eq_of_cover 2 _ (fun t hf => ?_) cover
  rw [Value.flushed2]
  funext y
  obtain ⟨r, d, rfl⟩ := Prod.pair (n := 256) (m := 1024) y
  refine (out m e t r d).trans ?_
  have e0 : (((cfg0.win 2).blk t).view.emb (ix2 r d : S256x1024.Idx) 0).val = t.val / 2 * 256 + r := by
    blk_simp [(idx t).2.2]
    try omega
  have e1 : (((cfg0.win 2).blk t).view.emb (ix2 r d : S256x1024.Idx) 1).val = t.val % 2 * 1024 + d := by
    blk_simp [(idx t).2.2]
    try omega
  show _ = Prod.rows 1024 (X m e) (Y m e) (((cfg0.win 2).blk t).view.emb (ix2 r d : S256x1024.Idx) 0).val (((cfg0.win 2).blk t).view.emb (ix2 r d : S256x1024.Idx) 1).val
  rw [e0, e1]

end Cert.MemDxSide

namespace Cert.MemDxPlain

open Finset Cert.MemDxRefIdeal Cert.MemDxRefIdeal.Gen Idealize.ShloMosaic Idealize.ShloMosaic.TcCoe Idealize.SL.Sem

/-- The plain product's entry. -/
theorem plain (x : Vec Ideal S256x1024 .bf16) (y : Vec Ideal S2048x1024 .bf16) :
    Host.dotGeneral (F := Ideal) dot_S256x1024_S2048x1024_S256x2048_1_1_0_0_n_n none (extf .f32 x bitsLt_bf16_f32) (extf .f32 y bitsLt_bf16_f32)
    = fun i : S256x2048.Idx => Prod.rows 1024 (Prod.ext (n := 256) (m := 1024) x) (Prod.ext (n := 2048) (m := 1024) y) (i 0).val (i 1).val := by
  funext i
  obtain ⟨r, d, rfl⟩ := Prod.pair (n := 256) (m := 2048) i
  refine Eq.trans (b := ∑ k : Fin 1024, x (ix2 r k) * y (ix2 d k)) ?_ (Prod.rows_ext (n := 256) (m := 2048) x y r d)

  pointwise

/-- The gradient of the memory projection's operand: the call's result is the reference's. -/
theorem algebraic : algebraic_MemDxIdeal_MemDxRefIdeal := by
  intro m ρ m' ρ' _ hagree
  refine ⟨_, Cert.MemDxIdeal.Value.run_blocks (F := Ideal) m ρ, ?_⟩
  refine (θ_run _ _ _).mono (fun _ h c => ?_) (Cert.MemDxRefIdeal.Value.run (F := Ideal) m' ρ')
  obtain ⟨e0, e1⟩ := hagree c
  obtain ⟨h0, hargs⟩ := h c
  refine ⟨h0.trans ((plain _ _).trans (Eq.trans ?_ (MemDxSide.array m c).symm)), hargs⟩
  rw [e0, e1]

end Cert.MemDxPlain

end
-- ==== Proof.MemKv.lean ====
module

public import proofs.«01_k».proof.Defs
public import proofs.«01_k».proof.Proof.Prod
public import proofs.«01_k».proof.Proof.Gen.MemKvIdeal.Value
public import proofs.«01_k».proof.Proof.Gen.MemKvRefIdeal.Run

@[expose] public section

set_option maxRecDepth 16384

noncomputable section

namespace Cert.MemKvPlain

open Finset Idealize.ShloMosaic Idealize.ShloMosaic.TcCoe Idealize.SL.Sem

section

open Cert.MemKvIdeal

/-- The call's one tile at an index. -/
theorem tile (x : Vec Ideal S256x2048 .bf16) (y : Vec Ideal S2048x1024 .bf16) (r : Fin 256) (d : Fin 1024) :
    Cert.MemKvIdeal.Value.G2 (F := Ideal) x y (ix2 r d) = ∑ k : Fin 2048, x (ix2 r k) * y (ix2 k d) := by
  pointwise [Cert.MemKvIdeal.Value.G2, Cert.MemKvIdeal.Gen.k0_pay1]

end

open Cert.MemKvRefIdeal Cert.MemKvRefIdeal.Gen

/-- The plain product is the call's one tile. -/
theorem plain (x : Vec Ideal S256x2048 .bf16) (y : Vec Ideal S2048x1024 .bf16) :
    truncf (F := Ideal) .bf16 (Host.dotGeneral dot_S256x2048_S2048x1024_S256x1024_1_0_0_1_n_n none (extf .f32 x bitsLt_bf16_f32) (extf .f32 y bitsLt_bf16_f32)) bitsLt_bf16_f32
    = Cert.MemKvIdeal.Value.G2 (F := Ideal) x y := by
  funext i
  obtain ⟨r, d, rfl⟩ := Prod.pair (n := 256) (m := 1024) i
  refine Eq.trans (b := ∑ k : Fin 2048, x (ix2 r k) * y (ix2 k d)) ?_ (tile x y r d).symm
  pointwise

/-- The memory projection: the call's result is the reference's. -/
theorem algebraic : algebraic_MemKvIdeal_MemKvRefIdeal := by
  intro m ρ m' ρ' _ hagree
  refine ⟨_, Cert.MemKvIdeal.Value.run (F := Ideal) m ρ, ?_⟩
  refine (θ_run _ _ _).mono (fun _ h c => ?_) (Cert.MemKvRefIdeal.Value.run (F := Ideal) m' ρ')
  obtain ⟨e0, e1⟩ := hagree c
  obtain ⟨h0, hargs⟩ := h c
  refine ⟨h0.trans ((plain _ _).trans ?_), hargs⟩
  rw [e0, e1]

end Cert.MemKvPlain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelSide
public import proofs.«01_k».proof.Proof.FwdSide
public import proofs.«01_k».proof.Proof.Gen.MlaFwd.Frame
public import proofs.«01_k».proof.Proof.Gen.MlaFwdIdeal.Frame
public import proofs.«01_k».proof.Proof.Gen.MlaFwdIdeal.Value
public import proofs.«01_k».proof.Proof.Gen.MlaFwdRefIdeal.Run
public import proofs.«01_k».proof.Proof.Gen.MlaFwdRefIdeal.Read
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gate
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Run
public import proofs.«01_k».proof.Proof.Conv
public import proofs.«01_k».proof.Proof.Gen.InDx.Frame
public import proofs.«01_k».proof.Proof.Gen.InDxIdeal.Frame
public import proofs.«01_k».proof.Proof.Gen.InDxIdeal.Value
public import proofs.«01_k».proof.Proof.Gen.InDxRefIdeal.Run
public import proofs.«01_k».proof.Proof.InDx
public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal.Run
public import proofs.«01_k».proof.Proof.InDw
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.OutDw
public import proofs.«01_k».proof.Proof.Gen.UqDw.Frame
public import proofs.«01_k».proof.Proof.Gen.UqDwIdeal.Frame
public import proofs.«01_k».proof.Proof.Gen.UqDwIdeal.Value
public import proofs.«01_k».proof.Proof.Gen.UqDwRefIdeal.Run
public import proofs.«01_k».proof.Proof.UqDw
public import proofs.«01_k».proof.Proof.Gen.UqDx.Frame
public import proofs.«01_k».proof.Proof.Gen.UqDxIdeal.Frame
public import proofs.«01_k».proof.Proof.Gen.UqDxIdeal.Value
public import proofs.«01_k».proof.Proof.Gen.UqDxRefIdeal.Run
public import proofs.«01_k».proof.Proof.UqDx
public import proofs.«01_k».proof.Proof.Gen.UkvDw.Frame
public import proofs.«01_k».proof.Proof.Gen.UkvDwIdeal.Frame
public import proofs.«01_k».proof.Proof.Gen.UkvDwIdeal.Value
public import proofs.«01_k».proof.Proof.Gen.UkvDwRefIdeal.Run
public import proofs.«01_k».proof.Proof.UkvDw
public import proofs.«01_k».proof.Proof.Gen.UkvDx.Frame
public import proofs.«01_k».proof.Proof.Gen.UkvDxIdeal.Frame
public import proofs.«01_k».proof.Proof.Gen.UkvDxIdeal.Value
public import proofs.«01_k».proof.Proof.Gen.UkvDxRefIdeal.Run
public import proofs.«01_k».proof.Proof.UkvDx
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.InProj
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.OutProj
public import proofs.«01_k».proof.Proof.Gen.Uq.Frame
public import proofs.«01_k».proof.Proof.Gen.UqIdeal.Frame
public import proofs.«01_k».proof.Proof.Gen.UqIdeal.Value
public import proofs.«01_k».proof.Proof.Gen.UqRefIdeal.Run
public import proofs.«01_k».proof.Proof.Uq
public import proofs.«01_k».proof.Proof.Gen.Ukv.Frame
public import proofs.«01_k».proof.Proof.Gen.UkvIdeal.Frame
public import proofs.«01_k».proof.Proof.Gen.UkvIdeal.Value
public import proofs.«01_k».proof.Proof.Gen.UkvRefIdeal.Run
public import proofs.«01_k».proof.Proof.Ukv
public import proofs.«01_k».proof.Proof.Gen.MemDw.Frame
public import proofs.«01_k».proof.Proof.Gen.MemDwIdeal.Frame
public import proofs.«01_k».proof.Proof.Gen.MemDwIdeal.Value
public import proofs.«01_k».proof.Proof.Gen.MemDwRefIdeal.Run
public import proofs.«01_k».proof.Proof.MemDw
public import proofs.«01_k».proof.Proof.Gen.MemDx.Frame
public import proofs.«01_k».proof.Proof.Gen.MemDxIdeal.Frame
public import proofs.«01_k».proof.Proof.Gen.MemDxIdeal.Value
public import proofs.«01_k».proof.Proof.Gen.MemDxRefIdeal.Run
public import proofs.«01_k».proof.Proof.MemDx
public import proofs.«01_k».proof.Proof.Gen.MemKv.Frame
public import proofs.«01_k».proof.Proof.Gen.MemKvIdeal.Frame
public import proofs.«01_k».proof.Proof.Gen.MemKvIdeal.Value
public import proofs.«01_k».proof.Proof.Gen.MemKvRefIdeal.Run
public import proofs.«01_k».proof.Proof.MemKv
public import Idealize.ShloMosaic.Adequacy
public import Idealize.ShloMosaic.Init

@[expose] public section

noncomputable section

namespace Cert.Proof

open Idealize.ShloMosaic Idealize.ShloMosaic.TcCoe Idealize.SL.Sem

/-- The kernel, as compiled, runs and leaves its arguments and semaphores as they were. -/
theorem kernel_frame : quiescent_Kernel := fun m ρ _ => Cert.Kernel.Gen.frame m ρ

/-- So does its idealization. -/
theorem ideal_frame : quiescent_KernelIdeal := fun m ρ _ => Cert.KernelIdeal.Gen.frame m ρ

/-- So does its idealization on finite arguments. -/
theorem ideal_frame_finite : quiescent_KernelIdeal_pre_finite := fun m ρ _ => Cert.KernelIdeal.Gen.frame m ρ

/-- So does the reference. -/
theorem reference_frame : quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- So does the reference on finite arguments. -/
theorem reference_frame_finite : quiescent_ReferenceIdeal_pre_finite := fun m ρ _ => reference_frame m ρ trivial

/-- The two scale factors are the constants they are named after. -/
theorem preserved : preserves_Kernel_KernelIdeal :=
  ⟨IdealRules.named_const.statement Cert.KernelIdeal.κ "scale_log2e" .f32 0x3DD53B95#32 (((Real.sqrt 192)⁻¹ * (Real.log 2)⁻¹ : ℝ) : EReal) rfl,
    IdealRules.named_const.statement Cert.KernelIdeal.κ "scale" .f32 0x3D93CD3A#32 (((Real.sqrt 192)⁻¹ : ℝ) : EReal) rfl⟩

/-- On finite arguments the kernel's results and the reference's are the same three arrays. -/
theorem algebraic : algebraic_KernelIdeal_ReferenceIdeal_pre_finite := by
  intro m ρ m' ρ' hpre hagree
  refine ⟨_, _, _, Cert.KernelIdeal.Value.run_blocks (F := Ideal) m ρ, ?_⟩
  refine (θ_run _ _ _).mono (fun _ h c => ?_) (Cert.ReferenceIdeal.Value.run (F := Ideal) m' ρ')
  obtain ⟨μ, g⟩ := Cert.Sides.given m c (hpre c)
  obtain ⟨rq, rkv, rp⟩ := Cert.Sides.reference _ _ _ _ _ (hpre c)
  obtain ⟨e0, e1, e2, e3, e4⟩ := hagree c
  obtain ⟨h0, h1, h2, hargs⟩ := h c
  refine ⟨h0.trans ?_, h1.trans ?_, h2.trans ?_, hargs⟩
  · refine (Cert.ReferenceIdeal.Read.val_main_v142_eq _).trans (Eq.trans ?_ (rq.trans (Cert.Step.array_q g).symm))
    rw [← e0, ← e1, ← e2, ← e3, ← e4]
  · refine (Cert.ReferenceIdeal.Read.val_main_v143_eq _).trans (Eq.trans ?_ (rkv.trans (Cert.Step.array_kv g).symm))
    rw [← e0, ← e1, ← e2, ← e3, ← e4]
  · refine (Cert.ReferenceIdeal.Read.val_main_v114_eq _).trans (Eq.trans ?_ (rp.trans (Cert.Step.array_p g).symm))
    rw [← e0, ← e1, ← e2, ← e3, ← e4]

/-- The call for the gradient through the output projection and the gate runs and leaves its arguments and semaphores as they were, -/
theorem gate_frame : quiescent_Gate := fun m ρ _ => Cert.Gate.Gen.frame m ρ

/-- and so does its idealization, -/
theorem gate_ideal_frame : quiescent_GateIdeal := fun m ρ _ => Cert.GateIdeal.Gen.frame m ρ

/-- and so does its reference. -/
theorem gate_reference_frame : quiescent_GateRefIdeal := fun m ρ _ =>
  (θ_run Cert.GateRefIdeal.defs _ _).mono (fun r h => ⟨fun c => (h c).2.2, sem_eq_zero_of_no_sems (by decide) r.2⟩)
    (Cert.GateRefIdeal.Value.run (F := Ideal) m ρ)

/-- The call for the gradient of the short convolution runs and leaves its arguments and semaphores as they were, -/
theorem conv_frame : quiescent_Conv := fun m ρ _ => Cert.Conv.Gen.frame m ρ

/-- and so does its idealization, -/
theorem conv_ideal_frame : quiescent_ConvIdeal := fun m ρ _ => Cert.ConvIdeal.Gen.frame m ρ

/-- and so does its reference. -/
theorem conv_reference_frame : quiescent_ConvRefIdeal := fun m ρ _ =>
  (θ_run Cert.ConvRefIdeal.defs _ _).mono (fun r h => ⟨fun c => (h c).2.2.2.2, sem_eq_zero_of_no_sems (by decide) r.2⟩)
    (Cert.ConvRefIdeal.Value.run (F := Ideal) m ρ)

/-- The call for the gradient of the input projection's operand runs and leaves its arguments and semaphores as they were, -/
theorem inDx_frame : quiescent_InDx := fun m ρ _ => Cert.InDx.Gen.frame m ρ

/-- and so does its idealization, -/
theorem inDx_ideal_frame : quiescent_InDxIdeal := fun m ρ _ => Cert.InDxIdeal.Gen.frame m ρ

/-- and so does its reference. -/
theorem inDx_reference_frame : quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)

/-- The call for the gradient of the input projection's weight runs and leaves its arguments and semaphores as they were, -/
theorem inDw_frame : quiescent_InDw := fun m ρ _ => Cert.InDw.Gen.frame m ρ

/-- and so does its idealization, -/
theorem inDw_ideal_frame : quiescent_InDwIdeal := fun m ρ _ => Cert.InDwIdeal.Gen.frame m ρ

/-- and so does its reference. -/
theorem inDw_reference_frame : quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

/-- The call for the gradient of the output projection's weight runs and leaves its arguments and semaphores as they were, -/
theorem outDw_frame : quiescent_OutDw := fun m ρ _ => Cert.OutDw.Gen.frame m ρ

/-- and so does its idealization, -/
theorem outDw_ideal_frame : quiescent_OutDwIdeal := fun m ρ _ => Cert.OutDwIdeal.Gen.frame m ρ

/-- and so does its reference. -/
theorem outDw_reference_frame : quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

/-- The call for the gradient of the query projection's weight runs and leaves its arguments and semaphores as they were, -/
theorem uqDw_frame : quiescent_UqDw := fun m ρ _ => Cert.UqDw.Gen.frame m ρ

/-- and so does its idealization, -/
theorem uqDw_ideal_frame : quiescent_UqDwIdeal := fun m ρ _ => Cert.UqDwIdeal.Gen.frame m ρ

/-- and so does its reference. -/
theorem uqDw_reference_frame : quiescent_UqDwRefIdeal := fun m ρ _ =>
  (θ_run Cert.UqDwRefIdeal.defs _ _).mono (fun r h => ⟨fun c => (h c).2, sem_eq_zero_of_no_sems (by decide) r.2⟩)
    (Cert.UqDwRefIdeal.Value.run (F := Ideal) m ρ)

/-- The call for the gradient of the query projection's operand runs and leaves its arguments and semaphores as they were, -/
theorem uqDx_frame : quiescent_UqDx := fun m ρ _ => Cert.UqDx.Gen.frame m ρ

/-- and so does its idealization, -/
theorem uqDx_ideal_frame : quiescent_UqDxIdeal := fun m ρ _ => Cert.UqDxIdeal.Gen.frame m ρ

/-- and so does its reference. -/
theorem uqDx_reference_frame : quiescent_UqDxRefIdeal := fun m ρ _ =>
  (θ_run Cert.UqDxRefIdeal.defs _ _).mono (fun r h => ⟨fun c => (h c).2, sem_eq_zero_of_no_sems (by decide) r.2⟩)
    (Cert.UqDxRefIdeal.Value.run (F := Ideal) m ρ)

/-- The call for the gradient of the key and value projection's weight runs and leaves its arguments and semaphores as they were, -/
theorem ukvDw_frame : quiescent_UkvDw := fun m ρ _ => Cert.UkvDw.Gen.frame m ρ

/-- and so does its idealization, -/
theorem ukvDw_ideal_frame : quiescent_UkvDwIdeal := fun m ρ _ => Cert.UkvDwIdeal.Gen.frame m ρ

/-- and so does its reference. -/
theorem ukvDw_reference_frame : quiescent_UkvDwRefIdeal := fun m ρ _ =>
  (θ_run Cert.UkvDwRefIdeal.defs _ _).mono (fun r h => ⟨fun c => (h c).2, sem_eq_zero_of_no_sems (by decide) r.2⟩)
    (Cert.UkvDwRefIdeal.Value.run (F := Ideal) m ρ)

/-- The call for the gradient of the key and value projection's operand runs and leaves its arguments and semaphores as they were, -/
theorem ukvDx_frame : quiescent_UkvDx := fun m ρ _ => Cert.UkvDx.Gen.frame m ρ

/-- and so does its idealization, -/
theorem ukvDx_ideal_frame : quiescent_UkvDxIdeal := fun m ρ _ => Cert.UkvDxIdeal.Gen.frame m ρ

/-- and so does its reference. -/
theorem ukvDx_reference_frame : quiescent_UkvDxRefIdeal := fun m ρ _ =>
  (θ_run Cert.UkvDxRefIdeal.defs _ _).mono (fun r h => ⟨fun c => (h c).2, sem_eq_zero_of_no_sems (by decide) r.2⟩)
    (Cert.UkvDxRefIdeal.Value.run (F := Ideal) m ρ)

/-- The call for the input projection runs and leaves its arguments and semaphores as they were, -/
theorem inProj_frame : quiescent_InProj := fun m ρ _ => Cert.InProj.Gen.frame m ρ

/-- and so does its idealization, -/
theorem inProj_ideal_frame : quiescent_InProjIdeal := fun m ρ _ => Cert.InProjIdeal.Gen.frame m ρ

/-- and so does its reference. -/
theorem inProj_reference_frame : quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The call for the output projection runs and leaves its arguments and semaphores as they were, -/
theorem outProj_frame : quiescent_OutProj := fun m ρ _ => Cert.OutProj.Gen.frame m ρ

/-- and so does its idealization, -/
theorem outProj_ideal_frame : quiescent_OutProjIdeal := fun m ρ _ => Cert.OutProjIdeal.Gen.frame m ρ

/-- and so does its reference. -/
theorem outProj_reference_frame : quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- The call for the query projection runs and leaves its arguments and semaphores as they were, -/
theorem uq_frame : quiescent_Uq := fun m ρ _ => Cert.Uq.Gen.frame m ρ

/-- and so does its idealization, -/
theorem uq_ideal_frame : quiescent_UqIdeal := fun m ρ _ => Cert.UqIdeal.Gen.frame m ρ

/-- and so does its reference. -/
theorem uq_reference_frame : quiescent_UqRefIdeal := fun m ρ _ =>
  (θ_run Cert.UqRefIdeal.defs _ _).mono (fun r h => ⟨fun c => (h c).2, sem_eq_zero_of_no_sems (by decide) r.2⟩)
    (Cert.UqRefIdeal.Value.run (F := Ideal) m ρ)

/-- The call for the key and value projection runs and leaves its arguments and semaphores as they were, -/
theorem ukv_frame : quiescent_Ukv := fun m ρ _ => Cert.Ukv.Gen.frame m ρ

/-- and so does its idealization, -/
theorem ukv_ideal_frame : quiescent_UkvIdeal := fun m ρ _ => Cert.UkvIdeal.Gen.frame m ρ

/-- and so does its reference. -/
theorem ukv_reference_frame : quiescent_UkvRefIdeal := fun m ρ _ =>
  (θ_run Cert.UkvRefIdeal.defs _ _).mono (fun r h => ⟨fun c => (h c).2, sem_eq_zero_of_no_sems (by decide) r.2⟩)
    (Cert.UkvRefIdeal.Value.run (F := Ideal) m ρ)

/-- The call for the gradient of the memory projection's weight runs and leaves its arguments and semaphores as they were, -/
theorem memDw_frame : quiescent_MemDw := fun m ρ _ => Cert.MemDw.Gen.frame m ρ

/-- and so does its idealization, -/
theorem memDw_ideal_frame : quiescent_MemDwIdeal := fun m ρ _ => Cert.MemDwIdeal.Gen.frame m ρ

/-- and so does its reference. -/
theorem memDw_reference_frame : quiescent_MemDwRefIdeal := fun m ρ _ =>
  (θ_run Cert.MemDwRefIdeal.defs _ _).mono (fun r h => ⟨fun c => (h c).2, sem_eq_zero_of_no_sems (by decide) r.2⟩)
    (Cert.MemDwRefIdeal.Value.run (F := Ideal) m ρ)

/-- The call for the gradient of the memory projection's operand runs and leaves its arguments and semaphores as they were, -/
theorem memDx_frame : quiescent_MemDx := fun m ρ _ => Cert.MemDx.Gen.frame m ρ

/-- and so does its idealization, -/
theorem memDx_ideal_frame : quiescent_MemDxIdeal := fun m ρ _ => Cert.MemDxIdeal.Gen.frame m ρ

/-- and so does its reference. -/
theorem memDx_reference_frame : quiescent_MemDxRefIdeal := fun m ρ _ =>
  (θ_run Cert.MemDxRefIdeal.defs _ _).mono (fun r h => ⟨fun c => (h c).2, sem_eq_zero_of_no_sems (by decide) r.2⟩)
    (Cert.MemDxRefIdeal.Value.run (F := Ideal) m ρ)

/-- The call for the memory projection runs and leaves its arguments and semaphores as they were, -/
theorem memKv_frame : quiescent_MemKv := fun m ρ _ => Cert.MemKv.Gen.frame m ρ

/-- and so does its idealization, -/
theorem memKv_ideal_frame : quiescent_MemKvIdeal := fun m ρ _ => Cert.MemKvIdeal.Gen.frame m ρ

/-- and so does its reference. -/
theorem memKv_reference_frame : quiescent_MemKvRefIdeal := fun m ρ _ =>
  (θ_run Cert.MemKvRefIdeal.defs _ _).mono (fun r h => ⟨fun c => (h c).2, sem_eq_zero_of_no_sems (by decide) r.2⟩)
    (Cert.MemKvRefIdeal.Value.run (F := Ideal) m ρ)

/-- The call for the forward attention runs and leaves its arguments and semaphores as they were, -/
theorem fwd_frame : quiescent_MlaFwd := fun m ρ _ => Cert.MlaFwd.Gen.frame m ρ

/-- and so does its idealization, -/
theorem fwd_ideal_frame : quiescent_MlaFwdIdeal := fun m ρ _ => Cert.MlaFwdIdeal.Gen.frame m ρ

/-- and so does its reference. -/
theorem fwd_reference_frame : quiescent_MlaFwdRefIdeal := fun m ρ _ =>
  (θ_run Cert.MlaFwdRefIdeal.defs _ _).mono (fun r h => ⟨fun c => (h c).2, sem_eq_zero_of_no_sems (by decide) r.2⟩)
    (Cert.MlaFwdRefIdeal.Value.run (F := Ideal) m ρ)

/-- Its two constants are the values they name. -/
theorem fwd_preserved : preserves_MlaFwd_MlaFwdIdeal :=
  ⟨IdealRules.named_const.statement Cert.MlaFwdIdeal.κ "scale_log2e" .f32 0x3DD53B95#32 (((Real.sqrt 192)⁻¹ * (Real.log 2)⁻¹ : ℝ) : EReal) rfl,
    IdealRules.named_const.statement Cert.MlaFwdIdeal.κ "log2e" .f32 0x3FB8AA3B#32 (((Real.log 2)⁻¹ : ℝ) : EReal) rfl⟩

/-- On finite arguments its result and its reference's are the same array. -/
theorem fwd_algebraic : algebraic_MlaFwdIdeal_MlaFwdRefIdeal_pre_finite_fwd := by
  intro m ρ m' ρ' hpre hagree
  refine ⟨fun c => _, (θ_run _ _ _).mono (fun _ h c => ⟨(h c).1, (h c).2.2⟩) (Cert.MlaFwdIdeal.Value.run_blocks (F := Ideal) m ρ), ?_⟩
  refine (θ_run _ _ _).mono (fun _ h c => ?_) (Cert.MlaFwdRefIdeal.Value.run (F := Ideal) m' ρ')
  have g := Cert.FwdSide.given m c (hpre c)
  have r := Cert.FwdSide.reference _ _ _ _ (hpre c)
  obtain ⟨e0, e1, e2, e3⟩ := hagree c
  obtain ⟨h0, hargs⟩ := h c
  refine ⟨h0.trans ?_, hargs⟩
  refine (Cert.MlaFwdRefIdeal.Read.val_main_v67_eq _ _).trans (Eq.trans ?_ (r.trans (Cert.FwdStep.array_o g).symm))
  rw [← e0, ← e1, ← e2, ← e3]

/-- All of the claims. -/
theorem claim : Cert.Claim :=
  ⟨Cert.Kernel.Gen.facts, Cert.KernelIdeal.Gen.facts, Cert.ReferenceIdeal.Gen.facts, Cert.Gate.Gen.facts, Cert.GateIdeal.Gen.facts,
    Cert.GateRefIdeal.Gen.facts, Cert.Conv.Gen.facts, Cert.ConvIdeal.Gen.facts, Cert.ConvRefIdeal.Gen.facts, Cert.InDx.Gen.facts,
    Cert.InDxIdeal.Gen.facts, Cert.InDxRefIdeal.Gen.facts, Cert.InDw.Gen.facts, Cert.InDwIdeal.Gen.facts, Cert.InDwRefIdeal.Gen.facts,
    Cert.OutDw.Gen.facts, Cert.OutDwIdeal.Gen.facts, Cert.OutDwRefIdeal.Gen.facts, Cert.UqDw.Gen.facts, Cert.UqDwIdeal.Gen.facts,
    Cert.UqDwRefIdeal.Gen.facts, Cert.UqDx.Gen.facts, Cert.UqDxIdeal.Gen.facts, Cert.UqDxRefIdeal.Gen.facts, Cert.UkvDw.Gen.facts,
    Cert.UkvDwIdeal.Gen.facts, Cert.UkvDwRefIdeal.Gen.facts, Cert.UkvDx.Gen.facts, Cert.UkvDxIdeal.Gen.facts, Cert.UkvDxRefIdeal.Gen.facts,
    Cert.InProj.Gen.facts, Cert.InProjIdeal.Gen.facts, Cert.InProjRefIdeal.Gen.facts, Cert.OutProj.Gen.facts, Cert.OutProjIdeal.Gen.facts,
    Cert.OutProjRefIdeal.Gen.facts, Cert.Uq.Gen.facts, Cert.UqIdeal.Gen.facts, Cert.UqRefIdeal.Gen.facts, Cert.Ukv.Gen.facts,
    Cert.UkvIdeal.Gen.facts, Cert.UkvRefIdeal.Gen.facts, Cert.MemDw.Gen.facts, Cert.MemDwIdeal.Gen.facts, Cert.MemDwRefIdeal.Gen.facts,
    Cert.MemDx.Gen.facts, Cert.MemDxIdeal.Gen.facts, Cert.MemDxRefIdeal.Gen.facts, Cert.MemKv.Gen.facts, Cert.MemKvIdeal.Gen.facts,
    Cert.MemKvRefIdeal.Gen.facts, Cert.MlaFwd.Gen.facts, Cert.MlaFwdIdeal.Gen.facts, Cert.MlaFwdRefIdeal.Gen.facts, Cert.Finite.facts,
    Cert.GateFinite.facts, Cert.FwdFinite.facts, kernel_frame, ideal_frame, ideal_frame_finite, reference_frame,
    reference_frame_finite, gate_frame, gate_ideal_frame, (fun m ρ _ => gate_ideal_frame m ρ trivial), gate_reference_frame,
    (fun m ρ _ => gate_reference_frame m ρ trivial), conv_frame, conv_ideal_frame, conv_reference_frame, inDx_frame, inDx_ideal_frame,
    inDx_reference_frame, inDw_frame, inDw_ideal_frame, inDw_reference_frame, outDw_frame, outDw_ideal_frame, outDw_reference_frame,
    uqDw_frame, uqDw_ideal_frame, uqDw_reference_frame, uqDx_frame, uqDx_ideal_frame, uqDx_reference_frame, ukvDw_frame, ukvDw_ideal_frame,
    ukvDw_reference_frame, ukvDx_frame, ukvDx_ideal_frame, ukvDx_reference_frame, inProj_frame, inProj_ideal_frame, inProj_reference_frame,
    outProj_frame, outProj_ideal_frame, outProj_reference_frame, uq_frame, uq_ideal_frame, uq_reference_frame, ukv_frame, ukv_ideal_frame,
    ukv_reference_frame, memDw_frame, memDw_ideal_frame, memDw_reference_frame, memDx_frame, memDx_ideal_frame, memDx_reference_frame,
    memKv_frame, memKv_ideal_frame, memKv_reference_frame, fwd_frame, fwd_ideal_frame, (fun m ρ _ => fwd_ideal_frame m ρ trivial),
    fwd_reference_frame, (fun m ρ _ => fwd_reference_frame m ρ trivial), preserved, algebraic, trivial, Cert.GatePlain.algebraic, trivial,
    Cert.ConvPlain.algebraic, trivial, Cert.InDxPlain.algebraic, trivial, Cert.InDwPlain.algebraic, trivial, Cert.OutDwPlain.algebraic,
    trivial, Cert.UqDwPlain.algebraic, trivial, Cert.UqDxPlain.algebraic, trivial, Cert.UkvDwPlain.algebraic, trivial,
    Cert.UkvDxPlain.algebraic, trivial, Cert.InProjPlain.algebraic, trivial, Cert.OutProjPlain.algebraic, trivial, Cert.UqPlain.algebraic,
    trivial, Cert.UkvPlain.algebraic, trivial, Cert.MemDwPlain.algebraic, trivial, Cert.MemDxPlain.algebraic, trivial,
    Cert.MemKvPlain.algebraic, fwd_preserved, fwd_algebraic⟩

end Cert.Proof

end
